-- ==== Defs.lean ====
def Pre_KernelIdeal (m : (ℓ : Loc Cert.KernelIdeal.nD Cert.KernelIdeal.τ Cert.KernelIdeal.sig) → Buf (Elt Ideal) ℓ) : Prop :=
  True

def Pre_KernelIdeal_positions_finite [hPre_positions_finite : Cert.Pre_positions_finite.Facts] (m : (ℓ : Loc Cert.KernelIdeal.nD Cert.KernelIdeal.τ Cert.KernelIdeal.sig) → Buf (Elt Ideal) ℓ) : Prop :=
  ∀ c : Dev Cert.KernelIdeal.nD,
    (Cert.Pre_positions_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_finite [hPre_positions_finite : Cert.Pre_positions_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Interp [hPre_first_words_in_table : Cert.Pre_first_words_in_table.Facts] (m : (ℓ : Loc Cert.Interp.nD Cert.Interp.τ Cert.Interp.sig) → Buf (Elt Bits) ℓ) : Prop :=
  ∀ c : Dev Cert.Interp.nD,
    (Cert.Pre_first_words_in_table.fn (F := Bits) (m ((c.tc : Thread Cert.Interp.nD Cert.Interp.τ).loc Cert.Interp.main_arg0)) (m ((c.tc : Thread Cert.Interp.nD Cert.Interp.τ).loc Cert.Interp.main_arg1))) = (fun _ => 1#1)

def Pre_InterpIdeal [hPre_first_words_in_table : Cert.Pre_first_words_in_table.Facts] (m : (ℓ : Loc Cert.InterpIdeal.nD Cert.InterpIdeal.τ Cert.InterpIdeal.sig) → Buf (Elt Ideal) ℓ) : Prop :=
  ∀ c : Dev Cert.InterpIdeal.nD,
    (Cert.Pre_first_words_in_table.fn (F := Ideal) (m ((c.tc : Thread Cert.InterpIdeal.nD Cert.InterpIdeal.τ).loc Cert.InterpIdeal.main_arg0)) (m ((c.tc : Thread Cert.InterpIdeal.nD Cert.InterpIdeal.τ).loc Cert.InterpIdeal.main_arg1))) = (fun _ => 1#1)

def Pre_InterpReferenceIdeal [hPre_first_words_in_table : Cert.Pre_first_words_in_table.Facts] (m : (ℓ : Loc Cert.InterpReferenceIdeal.nD Cert.InterpReferenceIdeal.τ Cert.InterpReferenceIdeal.sig) → Buf (Elt Ideal) ℓ) : Prop :=
  ∀ c : Dev Cert.InterpReferenceIdeal.nD,
    (Cert.Pre_first_words_in_table.fn (F := Ideal) (m ((c.tc : Thread Cert.InterpReferenceIdeal.nD Cert.InterpReferenceIdeal.τ).loc Cert.InterpReferenceIdeal.main_arg0)) (m ((c.tc : Thread Cert.InterpReferenceIdeal.nD Cert.InterpReferenceIdeal.τ).loc Cert.InterpReferenceIdeal.main_arg1))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_Knn (m : (ℓ : Loc Cert.Knn.nD Cert.Knn.τ Cert.Knn.sig) → Buf (Elt Bits) ℓ) : Prop :=
  True

def Pre_KnnIdeal (m : (ℓ : Loc Cert.KnnIdeal.nD Cert.KnnIdeal.τ Cert.KnnIdeal.sig) → Buf (Elt Ideal) ℓ) : Prop :=
  True

def Pre_KnnIdeal_finite [hPre_finite : Cert.Pre_finite.Facts] (m : (ℓ : Loc Cert.KnnIdeal.nD Cert.KnnIdeal.τ Cert.KnnIdeal.sig) → Buf (Elt Ideal) ℓ) : Prop :=
  ∀ c : Dev Cert.KnnIdeal.nD,
    (Cert.Pre_finite.fn (F := Ideal) (m ((c.tc : Thread Cert.KnnIdeal.nD Cert.KnnIdeal.τ).loc Cert.KnnIdeal.main_arg0)) (m ((c.tc : Thread Cert.KnnIdeal.nD Cert.KnnIdeal.τ).loc Cert.KnnIdeal.main_arg1))) = (fun _ => 1#1)

def Pre_KnnReferenceIdeal (m : (ℓ : Loc Cert.KnnReferenceIdeal.nD Cert.KnnReferenceIdeal.τ Cert.KnnReferenceIdeal.sig) → Buf (Elt Ideal) ℓ) : Prop :=
  True

def Pre_KnnReferenceIdeal_finite [hPre_finite : Cert.Pre_finite.Facts] (m : (ℓ : Loc Cert.KnnReferenceIdeal.nD Cert.KnnReferenceIdeal.τ Cert.KnnReferenceIdeal.sig) → Buf (Elt Ideal) ℓ) : Prop :=
  ∀ c : Dev Cert.KnnReferenceIdeal.nD,
    (Cert.Pre_finite.fn (F := Ideal) (m ((c.tc : Thread Cert.KnnReferenceIdeal.nD Cert.KnnReferenceIdeal.τ).loc Cert.KnnReferenceIdeal.main_arg0)) (m ((c.tc : Thread Cert.KnnReferenceIdeal.nD Cert.KnnReferenceIdeal.τ).loc Cert.KnnReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_positions_finite [hKernelIdeal : Cert.KernelIdeal.Facts] [hPre_positions_finite : Cert.Pre_positions_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positions_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_positions_finite [hReferenceIdeal : Cert.ReferenceIdeal.Facts] [hPre_positions_finite : Cert.Pre_positions_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Interp [hInterp : Cert.Interp.Facts] [hPre_first_words_in_table : Cert.Pre_first_words_in_table.Facts] : Prop :=
  ∀ (m : (ℓ : Loc Cert.Interp.nD Cert.Interp.τ Cert.Interp.sig) → Buf (Elt Bits) ℓ) (g : Dev Cert.Interp.nD → PrngReg), Pre_Interp m →
    θ_run (Cert.Interp.defs (F := Bits)) (Cert.Interp.threads (F := Bits)) ⟨m, fun _ => 0, g⟩ (fun r => (∀ c : Dev Cert.Interp.nD,
      r.2.mem ((c.tc : Thread Cert.Interp.nD Cert.Interp.τ).loc Cert.Interp.main_arg0) = m ((c.tc : Thread Cert.Interp.nD Cert.Interp.τ).loc Cert.Interp.main_arg0)
      ∧ r.2.mem ((c.tc : Thread Cert.Interp.nD Cert.Interp.τ).loc Cert.Interp.main_arg1) = m ((c.tc : Thread Cert.Interp.nD Cert.Interp.τ).loc Cert.Interp.main_arg1))
      ∧ r.2.sem = fun _ => 0)

def quiescent_InterpIdeal [hInterpIdeal : Cert.InterpIdeal.Facts] [hPre_first_words_in_table : Cert.Pre_first_words_in_table.Facts] : Prop :=
  ∀ (m : (ℓ : Loc Cert.InterpIdeal.nD Cert.InterpIdeal.τ Cert.InterpIdeal.sig) → Buf (Elt Ideal) ℓ) (g : Dev Cert.InterpIdeal.nD → PrngReg), Pre_InterpIdeal m →
    θ_run (Cert.InterpIdeal.defs (F := Ideal)) (Cert.InterpIdeal.threads (F := Ideal)) ⟨m, fun _ => 0, g⟩ (fun r => (∀ c : Dev Cert.InterpIdeal.nD,
      r.2.mem ((c.tc : Thread Cert.InterpIdeal.nD Cert.InterpIdeal.τ).loc Cert.InterpIdeal.main_arg0) = m ((c.tc : Thread Cert.InterpIdeal.nD Cert.InterpIdeal.τ).loc Cert.InterpIdeal.main_arg0)
      ∧ r.2.mem ((c.tc : Thread Cert.InterpIdeal.nD Cert.InterpIdeal.τ).loc Cert.InterpIdeal.main_arg1) = m ((c.tc : Thread Cert.InterpIdeal.nD Cert.InterpIdeal.τ).loc Cert.InterpIdeal.main_arg1))
      ∧ r.2.sem = fun _ => 0)

def quiescent_InterpReferenceIdeal [hInterpReferenceIdeal : Cert.InterpReferenceIdeal.Facts] [hPre_first_words_in_table : Cert.Pre_first_words_in_table.Facts] : Prop :=
  ∀ (m : (ℓ : Loc Cert.InterpReferenceIdeal.nD Cert.InterpReferenceIdeal.τ Cert.InterpReferenceIdeal.sig) → Buf (Elt Ideal) ℓ) (g : Dev Cert.InterpReferenceIdeal.nD → PrngReg), Pre_InterpReferenceIdeal m →
    θ_run (Cert.InterpReferenceIdeal.defs (F := Ideal)) (onTc (τ := Cert.InterpReferenceIdeal.τ) (Cert.InterpReferenceIdeal.main (F := Ideal))) ⟨m, fun _ => 0, g⟩ (fun r => (∀ c : Dev Cert.InterpReferenceIdeal.nD,
      r.2.mem ((c.tc : Thread Cert.InterpReferenceIdeal.nD Cert.InterpReferenceIdeal.τ).loc Cert.InterpReferenceIdeal.main_arg0) = m ((c.tc : Thread Cert.InterpReferenceIdeal.nD Cert.InterpReferenceIdeal.τ).loc Cert.InterpReferenceIdeal.main_arg0)
      ∧ r.2.mem ((c.tc : Thread Cert.InterpReferenceIdeal.nD Cert.InterpReferenceIdeal.τ).loc Cert.InterpReferenceIdeal.main_arg1) = m ((c.tc : Thread Cert.InterpReferenceIdeal.nD Cert.InterpReferenceIdeal.τ).loc Cert.InterpReferenceIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6))
      ∧ r.2.sem = fun _ => 0)

def quiescent_Knn [hKnn : Cert.Knn.Facts] : Prop :=
  ∀ (m : (ℓ : Loc Cert.Knn.nD Cert.Knn.τ Cert.Knn.sig) → Buf (Elt Bits) ℓ) (g : Dev Cert.Knn.nD → PrngReg), Pre_Knn m →
    θ_run (Cert.Knn.defs (F := Bits)) (onTc (τ := Cert.Knn.τ) (Cert.Knn.main (F := Bits))) ⟨m, fun _ => 0, g⟩ (fun r => (∀ c : Dev Cert.Knn.nD,
      r.2.mem ((c.tc : Thread Cert.Knn.nD Cert.Knn.τ).loc Cert.Knn.main_arg0) = m ((c.tc : Thread Cert.Knn.nD Cert.Knn.τ).loc Cert.Knn.main_arg0)
      ∧ r.2.mem ((c.tc : Thread Cert.Knn.nD Cert.Knn.τ).loc Cert.Knn.main_arg1) = m ((c.tc : Thread Cert.Knn.nD Cert.Knn.τ).loc Cert.Knn.main_arg1))
      ∧ r.2.sem = fun _ => 0)

def quiescent_KnnIdeal [hKnnIdeal : Cert.KnnIdeal.Facts] : Prop :=
  ∀ (m : (ℓ : Loc Cert.KnnIdeal.nD Cert.KnnIdeal.τ Cert.KnnIdeal.sig) → Buf (Elt Ideal) ℓ) (g : Dev Cert.KnnIdeal.nD → PrngReg), Pre_KnnIdeal m →
    θ_run (Cert.KnnIdeal.defs (F := Ideal)) (onTc (τ := Cert.KnnIdeal.τ) (Cert.KnnIdeal.main (F := Ideal))) ⟨m, fun _ => 0, g⟩ (fun r => (∀ c : Dev Cert.KnnIdeal.nD,
      r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0)
      ∧ r.2.mem ((c.tc : Thread Cert.KnnIdeal.nD Cert.KnnIdeal.τ).loc Cert.KnnIdeal.main_arg1) = m ((c.tc : Thread Cert.KnnIdeal.nD Cert.KnnIdeal.τ).loc Cert.KnnIdeal.main_arg1))
      ∧ r.2.sem = fun _ => 0)

def quiescent_KnnIdeal_pre_finite [hKnnIdeal : Cert.KnnIdeal.Facts] [hPre_finite : Cert.Pre_finite.Facts] : Prop :=
  ∀ (m : (ℓ : Loc Cert.KnnIdeal.nD Cert.KnnIdeal.τ Cert.KnnIdeal.sig) → Buf (Elt Ideal) ℓ) (g : Dev Cert.KnnIdeal.nD → PrngReg), Pre_KnnIdeal_finite m →
    θ_run (Cert.KnnIdeal.defs (F := Ideal)) (onTc (τ := Cert.KnnIdeal.τ) (Cert.KnnIdeal.main (F := Ideal))) ⟨m, fun _ => 0, g⟩ (fun r => (∀ c : Dev Cert.KnnIdeal.nD,
      r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0)
      ∧ r.2.mem ((c.tc : Thread Cert.KnnIdeal.nD Cert.KnnIdeal.τ).loc Cert.KnnIdeal.main_arg1) = m ((c.tc : Thread Cert.KnnIdeal.nD Cert.KnnIdeal.τ).loc Cert.KnnIdeal.main_arg1))
      ∧ r.2.sem = fun _ => 0)

def quiescent_KnnReferenceIdeal [hKnnReferenceIdeal : Cert.KnnReferenceIdeal.Facts] : Prop :=
  ∀ (m : (ℓ : Loc Cert.KnnReferenceIdeal.nD Cert.KnnReferenceIdeal.τ Cert.KnnReferenceIdeal.sig) → Buf (Elt Ideal) ℓ) (g : Dev Cert.KnnReferenceIdeal.nD → PrngReg), Pre_KnnReferenceIdeal m →
    θ_run (Cert.KnnReferenceIdeal.defs (F := Ideal)) (onTc (τ := Cert.KnnReferenceIdeal.τ) (Cert.KnnReferenceIdeal.main (F := Ideal))) ⟨m, fun _ => 0, g⟩ (fun r => (∀ c : Dev Cert.KnnReferenceIdeal.nD,
      r.2.mem ((c.tc : Thread Cert.KnnReferenceIdeal.nD Cert.KnnReferenceIdeal.τ).loc Cert.KnnReferenceIdeal.main_arg0) = m ((c.tc : Thread Cert.KnnReferenceIdeal.nD Cert.KnnReferenceIdeal.τ).loc Cert.KnnReferenceIdeal.main_arg0)
      ∧ r.2.mem ((c.tc : Thread Cert.KnnReferenceIdeal.nD Cert.KnnReferenceIdeal.τ).loc Cert.KnnReferenceIdeal.main_arg1) = m ((c.tc : Thread Cert.KnnReferenceIdeal.nD Cert.KnnReferenceIdeal.τ).loc Cert.KnnReferenceIdeal.main_arg1))
      ∧ r.2.sem = fun _ => 0)

def quiescent_KnnReferenceIdeal_pre_finite [hKnnReferenceIdeal : Cert.KnnReferenceIdeal.Facts] [hPre_finite : Cert.Pre_finite.Facts] : Prop :=
  ∀ (m : (ℓ : Loc Cert.KnnReferenceIdeal.nD Cert.KnnReferenceIdeal.τ Cert.KnnReferenceIdeal.sig) → Buf (Elt Ideal) ℓ) (g : Dev Cert.KnnReferenceIdeal.nD → PrngReg), Pre_KnnReferenceIdeal_finite m →
    θ_run (Cert.KnnReferenceIdeal.defs (F := Ideal)) (onTc (τ := Cert.KnnReferenceIdeal.τ) (Cert.KnnReferenceIdeal.main (F := Ideal))) ⟨m, fun _ => 0, g⟩ (fun r => (∀ c : Dev Cert.KnnReferenceIdeal.nD,
      r.2.mem ((c.tc : Thread Cert.KnnReferenceIdeal.nD Cert.KnnReferenceIdeal.τ).loc Cert.KnnReferenceIdeal.main_arg0) = m ((c.tc : Thread Cert.KnnReferenceIdeal.nD Cert.KnnReferenceIdeal.τ).loc Cert.KnnReferenceIdeal.main_arg0)
      ∧ r.2.mem ((c.tc : Thread Cert.KnnReferenceIdeal.nD Cert.KnnReferenceIdeal.τ).loc Cert.KnnReferenceIdeal.main_arg1) = m ((c.tc : Thread Cert.KnnReferenceIdeal.nD Cert.KnnReferenceIdeal.τ).loc Cert.KnnReferenceIdeal.main_arg1))
      ∧ r.2.sem = fun _ => 0)

def algebraic_KernelIdeal_ReferenceIdeal_pre_positions_finite [hKernelIdeal : Cert.KernelIdeal.Facts] [hReferenceIdeal : Cert.ReferenceIdeal.Facts] [hPre_positions_finite : Cert.Pre_positions_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positions_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Interp_InterpIdeal : Prop :=
  True

def algebraic_InterpIdeal_InterpReferenceIdeal [hInterpIdeal : Cert.InterpIdeal.Facts] [hInterpReferenceIdeal : Cert.InterpReferenceIdeal.Facts] [hPre_first_words_in_table : Cert.Pre_first_words_in_table.Facts] : Prop :=
  ∀ (m : (ℓ : Loc Cert.InterpIdeal.nD Cert.InterpIdeal.τ Cert.InterpIdeal.sig) → Buf (Elt Ideal) ℓ) (g : Dev Cert.InterpIdeal.nD → PrngReg)
    (m' : (ℓ : Loc Cert.InterpReferenceIdeal.nD Cert.InterpReferenceIdeal.τ Cert.InterpReferenceIdeal.sig) → Buf (Elt Ideal) ℓ) (g' : Dev Cert.InterpReferenceIdeal.nD → PrngReg), Pre_InterpIdeal m →
    (∀ c : Dev Cert.InterpIdeal.nD,
      m' ((c.tc : Thread Cert.InterpReferenceIdeal.nD Cert.InterpReferenceIdeal.τ).loc Cert.InterpReferenceIdeal.main_arg0) = m ((c.tc : Thread Cert.InterpIdeal.nD Cert.InterpIdeal.τ).loc Cert.InterpIdeal.main_arg0)
      ∧ m' ((c.tc : Thread Cert.InterpReferenceIdeal.nD Cert.InterpReferenceIdeal.τ).loc Cert.InterpReferenceIdeal.main_arg1) = m ((c.tc : Thread Cert.InterpIdeal.nD Cert.InterpIdeal.τ).loc Cert.InterpIdeal.main_arg1)) →
    ∃ (v0 : (c : Dev Cert.InterpIdeal.nD) → Buf (Elt Ideal) ((c.tc : Thread Cert.InterpIdeal.nD Cert.InterpIdeal.τ).loc Cert.InterpIdeal.main_v3)),
      θ_run (Cert.InterpIdeal.defs (F := Ideal)) (Cert.InterpIdeal.threads (F := Ideal)) ⟨m, fun _ => 0, g⟩ (fun r => ∀ c : Dev Cert.InterpIdeal.nD,
          r.2.mem ((c.tc : Thread Cert.InterpIdeal.nD Cert.InterpIdeal.τ).loc Cert.InterpIdeal.main_v3) = v0 c
          ∧ r.2.mem ((c.tc : Thread Cert.InterpIdeal.nD Cert.InterpIdeal.τ).loc Cert.InterpIdeal.main_arg0) = m ((c.tc : Thread Cert.InterpIdeal.nD Cert.InterpIdeal.τ).loc Cert.InterpIdeal.main_arg0)
          ∧ r.2.mem ((c.tc : Thread Cert.InterpIdeal.nD Cert.InterpIdeal.τ).loc Cert.InterpIdeal.main_arg1) = m ((c.tc : Thread Cert.InterpIdeal.nD Cert.InterpIdeal.τ).loc Cert.InterpIdeal.main_arg1))
      ∧ θ_run (Cert.InterpReferenceIdeal.defs (F := Ideal)) (onTc (τ := Cert.InterpReferenceIdeal.τ) (Cert.InterpReferenceIdeal.main (F := Ideal))) ⟨m', fun _ => 0, g'⟩ (fun r => ∀ c : Dev Cert.InterpReferenceIdeal.nD,
          r.2.mem ((c.tc : Thread Cert.InterpReferenceIdeal.nD Cert.InterpReferenceIdeal.τ).loc Cert.InterpReferenceIdeal.main_v23) = v0 c
          ∧ r.2.mem ((c.tc : Thread Cert.InterpReferenceIdeal.nD Cert.InterpReferenceIdeal.τ).loc Cert.InterpReferenceIdeal.main_arg0) = m' ((c.tc : Thread Cert.InterpReferenceIdeal.nD Cert.InterpReferenceIdeal.τ).loc Cert.InterpReferenceIdeal.main_arg0)
          ∧ r.2.mem ((c.tc : Thread Cert.InterpReferenceIdeal.nD Cert.InterpReferenceIdeal.τ).loc Cert.InterpReferenceIdeal.main_arg1) = m' ((c.tc : Thread Cert.InterpReferenceIdeal.nD Cert.InterpReferenceIdeal.τ).loc Cert.InterpReferenceIdeal.main_arg1))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)
      ∧ m' ((c.tc : Thread Cert.PrepReferenceIdeal.nD Cert.PrepReferenceIdeal.τ).loc Cert.PrepReferenceIdeal.main_arg5) = m ((c.tc : Thread Cert.PrepIdeal.nD Cert.PrepIdeal.τ).loc Cert.PrepIdeal.main_arg5)
      ∧ m' ((c.tc : Thread Cert.PrepReferenceIdeal.nD Cert.PrepReferenceIdeal.τ).loc Cert.PrepReferenceIdeal.main_arg6) = m ((c.tc : Thread Cert.PrepIdeal.nD Cert.PrepIdeal.τ).loc Cert.PrepIdeal.main_arg6)) →
    ∃ (v0 : (c : Dev Cert.PrepIdeal.nD) → Buf (Elt Ideal) ((c.tc : Thread Cert.PrepIdeal.nD Cert.PrepIdeal.τ).loc Cert.PrepIdeal.main_v5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v5) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v29) = v0 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6))

def preserves_Knn_KnnIdeal : Prop :=
  True

def algebraic_KnnIdeal_KnnReferenceIdeal_pre_finite [hKnnIdeal : Cert.KnnIdeal.Facts] [hKnnReferenceIdeal : Cert.KnnReferenceIdeal.Facts] [hPre_finite : Cert.Pre_finite.Facts] : Prop :=
  ∀ (m : (ℓ : Loc Cert.KnnIdeal.nD Cert.KnnIdeal.τ Cert.KnnIdeal.sig) → Buf (Elt Ideal) ℓ) (g : Dev Cert.KnnIdeal.nD → PrngReg)
    (m' : (ℓ : Loc Cert.KnnReferenceIdeal.nD Cert.KnnReferenceIdeal.τ Cert.KnnReferenceIdeal.sig) → Buf (Elt Ideal) ℓ) (g' : Dev Cert.KnnReferenceIdeal.nD → PrngReg), Pre_KnnIdeal_finite m →
    (∀ c : Dev Cert.KnnIdeal.nD,
      m' ((c.tc : Thread Cert.KnnReferenceIdeal.nD Cert.KnnReferenceIdeal.τ).loc Cert.KnnReferenceIdeal.main_arg0) = m ((c.tc : Thread Cert.KnnIdeal.nD Cert.KnnIdeal.τ).loc Cert.KnnIdeal.main_arg0)
      ∧ m' ((c.tc : Thread Cert.KnnReferenceIdeal.nD Cert.KnnReferenceIdeal.τ).loc Cert.KnnReferenceIdeal.main_arg1) = m ((c.tc : Thread Cert.KnnIdeal.nD Cert.KnnIdeal.τ).loc Cert.KnnIdeal.main_arg1)) →
    ∃ (v0 : (c : Dev Cert.KnnIdeal.nD) → Buf (Elt Ideal) ((c.tc : Thread Cert.KnnIdeal.nD Cert.KnnIdeal.τ).loc Cert.KnnIdeal.main_v1)),
      θ_run (Cert.KnnIdeal.defs (F := Ideal)) (onTc (τ := Cert.KnnIdeal.τ) (Cert.KnnIdeal.main (F := Ideal))) ⟨m, fun _ => 0, g⟩ (fun r => ∀ c : Dev Cert.KnnIdeal.nD,
          r.2.mem ((c.tc : Thread Cert.KnnIdeal.nD Cert.KnnIdeal.τ).loc Cert.KnnIdeal.main_v1) = v0 c
          ∧ r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0)
          ∧ r.2.mem ((c.tc : Thread Cert.KnnIdeal.nD Cert.KnnIdeal.τ).loc Cert.KnnIdeal.main_arg1) = m ((c.tc : Thread Cert.KnnIdeal.nD Cert.KnnIdeal.τ).loc Cert.KnnIdeal.main_arg1))
      ∧ θ_run (Cert.KnnReferenceIdeal.defs (F := Ideal)) (onTc (τ := Cert.KnnReferenceIdeal.τ) (Cert.KnnReferenceIdeal.main (F := Ideal))) ⟨m', fun _ => 0, g'⟩ (fun r => ∀ c : Dev Cert.KnnReferenceIdeal.nD,
          r.2.mem ((c.tc : Thread Cert.KnnReferenceIdeal.nD Cert.KnnReferenceIdeal.τ).loc Cert.KnnReferenceIdeal.main_v25) = v0 c
          ∧ r.2.mem ((c.tc : Thread Cert.KnnReferenceIdeal.nD Cert.KnnReferenceIdeal.τ).loc Cert.KnnReferenceIdeal.main_arg0) = m' ((c.tc : Thread Cert.KnnReferenceIdeal.nD Cert.KnnReferenceIdeal.τ).loc Cert.KnnReferenceIdeal.main_arg0)
          ∧ r.2.mem ((c.tc : Thread Cert.KnnReferenceIdeal.nD Cert.KnnReferenceIdeal.τ).loc Cert.KnnReferenceIdeal.main_arg1) = m' ((c.tc : Thread Cert.KnnReferenceIdeal.nD Cert.KnnReferenceIdeal.τ).loc Cert.KnnReferenceIdeal.main_arg1))

def Claim : Prop :=
  ∃ (hKernelIdeal : Cert.KernelIdeal.Facts) (hReferenceIdeal : Cert.ReferenceIdeal.Facts) (hInterp : Cert.Interp.Facts) (hInterpIdeal : Cert.InterpIdeal.Facts) (hInterpReferenceIdeal : Cert.InterpReferenceIdeal.Facts) (hPrep : Cert.Prep.Facts) (hPrepIdeal : Cert.PrepIdeal.Facts) (hPrepReferenceIdeal : Cert.PrepReferenceIdeal.Facts) (hKnn : Cert.Knn.Facts) (hKnnIdeal : Cert.KnnIdeal.Facts) (hKnnReferenceIdeal : Cert.KnnReferenceIdeal.Facts) (hPre_positions_finite : Cert.Pre_positions_finite.Facts) (hPre_first_words_in_table : Cert.Pre_first_words_in_table.Facts) (hPre_finite : Cert.Pre_finite.Facts),
    quiescent_KernelIdeal (hKernelIdeal := hKernelIdeal)
    ∧ quiescent_KernelIdeal_pre_positions_finite (hKernelIdeal := hKernelIdeal) (hPre_positions_finite := hPre_positions_finite)
    ∧ quiescent_ReferenceIdeal (hReferenceIdeal := hReferenceIdeal)
    ∧ quiescent_ReferenceIdeal_pre_positions_finite (hReferenceIdeal := hReferenceIdeal) (hPre_positions_finite := hPre_positions_finite)
    ∧ quiescent_Interp (hInterp := hInterp) (hPre_first_words_in_table := hPre_first_words_in_table)
    ∧ quiescent_InterpIdeal (hInterpIdeal := hInterpIdeal) (hPre_first_words_in_table := hPre_first_words_in_table)
    ∧ quiescent_InterpReferenceIdeal (hInterpReferenceIdeal := hInterpReferenceIdeal) (hPre_first_words_in_table := hPre_first_words_in_table)
    ∧ quiescent_Prep (hPrep := hPrep)
    ∧ quiescent_PrepIdeal (hPrepIdeal := hPrepIdeal)
    ∧ quiescent_PrepReferenceIdeal (hPrepReferenceIdeal := hPrepReferenceIdeal)
    ∧ quiescent_Knn (hKnn := hKnn)
    ∧ quiescent_KnnIdeal (hKnnIdeal := hKnnIdeal)
    ∧ quiescent_KnnIdeal_pre_finite (hKnnIdeal := hKnnIdeal) (hPre_finite := hPre_finite)
    ∧ quiescent_KnnReferenceIdeal (hKnnReferenceIdeal := hKnnReferenceIdeal)
    ∧ quiescent_KnnReferenceIdeal_pre_finite (hKnnReferenceIdeal := hKnnReferenceIdeal) (hPre_finite := hPre_finite)
    ∧ algebraic_KernelIdeal_ReferenceIdeal_pre_positions_finite (hKernelIdeal := hKernelIdeal) (hReferenceIdeal := hReferenceIdeal) (hPre_positions_finite := hPre_positions_finite)
    ∧ preserves_Interp_InterpIdeal
    ∧ algebraic_InterpIdeal_InterpReferenceIdeal (hInterpIdeal := hInterpIdeal) (hInterpReferenceIdeal := hInterpReferenceIdeal) (hPre_first_words_in_table := hPre_first_words_in_table)
    ∧ preserves_Prep_PrepIdeal
    ∧ algebraic_PrepIdeal_PrepReferenceIdeal (hPrepIdeal := hPrepIdeal) (hPrepReferenceIdeal := hPrepReferenceIdeal)
    ∧ preserves_Knn_KnnIdeal
    ∧ algebraic_KnnIdeal_KnnReferenceIdeal_pre_finite (hKnnIdeal := hKnnIdeal) (hKnnReferenceIdeal := hKnnReferenceIdeal) (hPre_finite := hPre_finite)
-- ==== Pre_finite.lean ====
abbrev S2x8192x3 : Shape := ⟨3, ![2, 8192, 3]⟩
abbrev S2x1024x3 : Shape := ⟨3, ![2, 1024, 3]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel
  bcast_S_S2x1024x3 : S_.BroadcastsInDim S2x1024x3 (![] : Fin 0 → Fin S2x1024x3.rank)
  reducesTo_S2x1024x3_S_d0_1_2 : S2x1024x3.ReducesTo [0, 1, 2] S_

variable [Facts]

def fn {F : FTy → Type} [FloatOps F] (main_arg0 : FVec F S2x8192x3 .f32) (main_arg1 : FVec F S2x1024x3 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x1024x3 .f32 := Host.absf main_arg1
  let main_cst_0 : FVec F S_ .f32 := constant S_ .f32 0x7F800000#32
  let main_v5 : FVec F S2x1024x3 .f32 := broadcastInDim S2x1024x3 ![] bcast_S_S2x1024x3 main_cst_0
  let main_v6 : IVec S2x1024x3 1 := cmpf .olt main_v4 main_v5
  let main_c_1 : IVec S_ 1 := constantI S_ 1 1#1
  let main_v7 : IVec S_ 1 := (fun x v => Host.reduce IntOp.andi x v reducesTo_S2x1024x3_S_d0_1_2 h_S_) main_v6 main_c_1
  let main_v8 : IVec S_ 1 := andi main_v3 main_v7
  main_v8
-- ==== Pre_first_words_in_table.lean ====
abbrev S2x8x8192 : Shape := ⟨3, ![2, 8, 8192]⟩
abbrev S2x1024x32 : Shape := ⟨3, ![2, 1024, 32]⟩
abbrev S2x3x8192 : Shape := ⟨3, ![2, 3, 8192]⟩
abbrev S_ : Shape := ⟨0, ![]⟩

class Facts : Prop where
  slices_S2x8x8192_S2x3x8192_0_3_0 : S2x8x8192.Slices ![0, 3, 0] S2x3x8192
  bcast_S_S2x3x8192 : S_.BroadcastsInDim S2x3x8192 (![] : Fin 0 → Fin S2x3x8192.rank)

variable [Facts]

def fn {F : FTy → Type} [FloatOps F] (main_arg0 : FVec F S2x8x8192 .f32) (main_arg1 : FVec F S2x1024x32 .f32) : IVec S2x3x8192 1 :=
  let main_v0 : FVec F S2x3x8192 .f32 := (extractStridedSlice S2x3x8192 ![0, 3, 0] · slices_S2x8x8192_S2x3x8192_0_3_0) main_arg0
  let main_v1 : IVec S2x3x8192 32 := fptosi 32 main_v0
  let main_c : IVec S_ 32 := constantI S_ 32 0#32
  let main_v2 : IVec S2x3x8192 32 := broadcastInDim S2x3x8192 ![] bcast_S_S2x3x8192 main_c
  let main_v3 : IVec S2x3x8192 1 := cmpi .sge main_v1 main_v2
  let main_c_0 : IVec S_ 32 := constantI S_ 32 33760#32
  let main_v4 : IVec S2x3x8192 32 := broadcastInDim S2x3x8192 ![] bcast_S_S2x3x8192 main_c_0
  let main_v5 : IVec S2x3x8192 1 := cmpi .sle main_v1 main_v4
  let main_v6 : IVec S2x3x8192 1 := andi main_v3 main_v5
  main_v6
-- ==== Pre_positions_finite.lean ====
abbrev S2x8192x32 : Shape := ⟨3, ![2, 8192, 32]⟩
abbrev S2x1024x64 : Shape := ⟨3, ![2, 1024, 64]⟩
abbrev S2x8192x3 : Shape := ⟨3, ![2, 8192, 3]⟩
abbrev S2x1024x3 : Shape := ⟨3, ![2, 1024, 3]⟩
abbrev S64x32 : Shape := ⟨2, ![64, 32]⟩
abbrev S32 : Shape := ⟨1, ![32]⟩
abbrev S32x32 : Shape := ⟨2, ![32, 32]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel
  bcast_S_S2x1024x3 : S_.BroadcastsInDim S2x1024x3 (![] : Fin 0 → Fin S2x1024x3.rank)
  reducesTo_S2x1024x3_S_d0_1_2 : S2x1024x3.ReducesTo [0, 1, 2] S_

variable [Facts]

def fn {F : FTy → Type} [FloatOps F] (main_arg0 : FVec F S2x8192x32 .f32) (main_arg1 : FVec F S2x1024x64 .f32) (main_arg2 : FVec F S2x8192x3 .f32) (main_arg3 : FVec F S2x1024x3 .f32) (main_arg4 : FVec F S64x32 .f32) (main_arg5 : FVec F S32 .f32) (main_arg6 : FVec F S32 .f32) (main_arg7 : FVec F S32 .f32) (main_arg8 : FVec F S32x32 .f32) (main_arg9 : FVec F S32 .f32) : IVec S_ 1 :=
  let main_v0 : FVec F S2x8192x3 .f32 := Host.absf main_arg2
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x1024x3 .f32 := Host.absf main_arg3
  let main_cst_0 : FVec F S_ .f32 := constant S_ .f32 0x7F800000#32
  let main_v5 : FVec F S2x1024x3 .f32 := broadcastInDim S2x1024x3 ![] bcast_S_S2x1024x3 main_cst_0
  let main_v6 : IVec S2x1024x3 1 := cmpf .olt main_v4 main_v5
  let main_c_1 : IVec S_ 1 := constantI S_ 1 1#1
  let main_v7 : IVec S_ 1 := (fun x v => Host.reduce IntOp.andi x v reducesTo_S2x1024x3_S_d0_1_2 h_S_) main_v6 main_c_1
  let main_v8 : IVec S_ 1 := andi main_v3 main_v7
  main_v8
-- ==== KernelIdeal.lean ====
abbrev S2x8192x32 : Shape := ⟨3, ![2, 8192, 32]⟩
abbrev S2x1024x64 : Shape := ⟨3, ![2, 1024, 64]⟩
abbrev S2x8192x3 : Shape := ⟨3, ![2, 8192, 3]⟩
abbrev S2x1024x3 : Shape := ⟨3, ![2, 1024, 3]⟩
abbrev S64x32 : Shape := ⟨2, ![64, 32]⟩
abbrev S32 : Shape := ⟨1, ![32]⟩
abbrev S32x32 : Shape := ⟨2, ![32, 32]⟩
abbrev S2048x64 : Shape := ⟨2, ![2048, 64]⟩
abbrev S1x32 : Shape := ⟨2, ![1, 32]⟩
abbrev S2048x32 : Shape := ⟨2, ![2048, 32]⟩
abbrev S2x3x8192 : Shape := ⟨3, ![2, 3, 8192]⟩
abbrev S2x8x8192 : Shape := ⟨3, ![2, 8, 8192]⟩
abbrev S1x1024x3 : Shape := ⟨3, ![1, 1024, 3]⟩
abbrev S1x3x1024 : Shape := ⟨3, ![1, 3, 1024]⟩
abbrev S1x8x1024 : Shape := ⟨3, ![1, 8, 1024]⟩
abbrev S1024x3 : Shape := ⟨2, ![1024, 3]⟩
abbrev S3x1024 : Shape := ⟨2, ![3, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩
abbrev S1x1x1024 : Shape := ⟨3, ![1, 1, 1024]⟩
abbrev S2x1024x32 : Shape := ⟨3, ![2, 1024, 32]⟩
abbrev S_ : Shape := ⟨0, ![]⟩
abbrev S2x1024x33 : Shape := ⟨3, ![2, 1024, 33]⟩
abbrev S67584 : Shape := ⟨1, ![67584]⟩
abbrev S2x32x8192 : Shape := ⟨3, ![2, 32, 8192]⟩
abbrev S8x512 : Shape := ⟨2, ![8, 512]⟩
abbrev S33792 : Shape := ⟨1, ![33792]⟩
abbrev S32x512 : Shape := ⟨2, ![32, 512]⟩
abbrev S1x8x512 : Shape := ⟨3, ![1, 8, 512]⟩
abbrev S16 : Shape := ⟨1, ![16]⟩
abbrev S1x16 : Shape := ⟨2, ![1, 16]⟩
abbrev S1x32x512 : Shape := ⟨3, ![1, 32, 512]⟩

abbrev nBuf : Table → Nat
  | .hbm => 25
  | .local .tc .vmem => 14
  | .local .scVector .vmem => 3
  | _ => 0

abbrev bufTy : (tb : Table) → Fin (nBuf tb) → BufTy
  | .hbm, ⟨0, _⟩ => ⟨S2x8192x32, .f32⟩
  | .hbm, ⟨1, _⟩ => ⟨S2x1024x64, .f32⟩
  | .hbm, ⟨2, _⟩ => ⟨S2x8192x3, .f32⟩
  | .hbm, ⟨3, _⟩ => ⟨S2x1024x3, .f32⟩
  | .hbm, ⟨4, _⟩ => ⟨S64x32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S2048x64, .f32⟩
  | .hbm, ⟨11, _⟩ => ⟨S1x32, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S2048x32, .f32⟩
  | .hbm, ⟨16, _⟩ => ⟨S2x3x8192, .f32⟩
  | .hbm, ⟨17, _⟩ => ⟨S2x8x8192, .f32⟩
  | .hbm, ⟨18, _⟩ => ⟨S2x1024x32, .f32⟩
  | .hbm, ⟨19, _⟩ => ⟨S_, .i32⟩
  | .hbm, ⟨20, _⟩ => ⟨S_, .f32⟩
  | .hbm, ⟨21, _⟩ => ⟨S2x1024x33, .f32⟩
  | .hbm, ⟨22, _⟩ => ⟨S67584, .f32⟩
  | .hbm, ⟨23, _⟩ => ⟨S2x32x8192, .f32⟩
  | .hbm, ⟨24, _⟩ => ⟨S2x8192x32, .f32⟩
  | .local .tc .vmem, ⟨0, _⟩ => ⟨S2048x64, .f32⟩
  | .local .tc .vmem, ⟨1, _⟩ => ⟨S64x32, .f32⟩
  | .local .tc .vmem, ⟨2, _⟩ => ⟨S1x32, .f32⟩
  | .local .tc .vmem, ⟨3, _⟩ => ⟨S1x32, .f32⟩
  | .local .tc .vmem, ⟨4, _⟩ => ⟨S1x32, .f32⟩
  | .local .tc .vmem, ⟨5, _⟩ => ⟨S32x32, .f32⟩
  | .local .tc .vmem, ⟨6, _⟩ => ⟨S1x32, .f32⟩
  | .local .tc .vmem, ⟨7, _⟩ => ⟨S2048x32, .f32⟩
  | .local .tc .vmem, ⟨8, _⟩ => ⟨S1x1024x3, .f32⟩
  | .local .tc .vmem, ⟨9, _⟩ => ⟨S1x1024x3, .f32⟩
  | .local .tc .vmem, ⟨10, _⟩ => ⟨S1x3x1024, .f32⟩
  | .local .tc .vmem, ⟨11, _⟩ => ⟨S1x3x1024, .f32⟩
  | .local .tc .vmem, ⟨12, _⟩ => ⟨S1x8x1024, .f32⟩
  | .local .tc .vmem, ⟨13, _⟩ => ⟨S1x8x1024, .f32⟩
  | .local .scVector .vmem, ⟨0, _⟩ => ⟨S8x512, .f32⟩
  | .local .scVector .vmem, ⟨1, _⟩ => ⟨S33792, .f32⟩
  | .local .scVector .vmem, ⟨2, _⟩ => ⟨S32x512, .f32⟩
  | _, _ => ⟨S2x8192x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v7_scv : Ref sig .scVector := ⟨.hbm, 17, rfl⟩
abbrev main_v10_scv : Ref sig .scVector := ⟨.hbm, 22, rfl⟩
abbrev main_v11_scv : Ref sig .scVector := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x3x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 16], ![false, false]⟩

def k2_off1 (i : grid2.Coords) : Fin 3 → Nat :=
  let arg0 : BitVec 32 := BitVec.ofNat 32 (i 0).val
  let c0_i32_2_r0 : BitVec 32 := 0#32
  let arg1 : BitVec 32 := BitVec.ofNat 32 (i 1).val
  let c512_i32 : BitVec 32 := 512#32
  let v0 : BitVec 32 := Scalar.muli arg1 c512_i32
  ![arg0.toNat, 0, v0.toNat]
def k2_off2 (i : grid2.Coords) : Fin 1 → Nat :=
  let arg0 : BitVec 32 := BitVec.ofNat 32 (i 0).val
  let c33792_i32 : BitVec 32 := 33792#32
  let v1 : BitVec 32 := Scalar.muli arg0 c33792_i32
  ![v1.toNat]
@[reducible] def k2_t1_loop : Scf.Loop 32 :=
  let c0_i32_0 : BitVec 32 := 0#32
  let c32_i32 : BitVec 32 := 32#32
  let v2 : BitVec 32 := Scalar.addi c0_i32_0 c32_i32
  let c1_i32 : BitVec 32 := 1#32
  ⟨c0_i32_0, v2, c1_i32⟩
def k2_mult1 (k2_t1 : Fin k2_t1_loop.trips) : BitVec 32 :=
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  v3
def k2_off3 (k2_t1 : Fin k2_t1_loop.trips) : Fin 2 → Nat :=
  let c0_i32_2 : BitVec 32 := 0#32
  let v5 : Index := Scalar.indexCast c0_i32_2
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v6 : Index := Scalar.indexCast v4
  ![0, v6.toNat]
def k2_off4 (k2_t1 : Fin k2_t1_loop.trips) : Fin 2 → Nat :=
  let c1_i32_3 : BitVec 32 := 1#32
  let v8 : Index := Scalar.indexCast c1_i32_3
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v9 : Index := Scalar.indexCast v4
  ![1, v9.toNat]
def k2_off5 (k2_t1 : Fin k2_t1_loop.trips) : Fin 2 → Nat :=
  let c2_i32 : BitVec 32 := 2#32
  let v11 : Index := Scalar.indexCast c2_i32
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v12 : Index := Scalar.indexCast v4
  ![2, v12.toNat]
def k2_off6 (k2_t1 : Fin k2_t1_loop.trips) : Fin 2 → Nat :=
  let c3_i32 : BitVec 32 := 3#32
  let v14 : Index := Scalar.indexCast c3_i32
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v15 : Index := Scalar.indexCast v4
  ![3, v15.toNat]
def k2_off7 (k2_t1 : Fin k2_t1_loop.trips) : Fin 2 → Nat :=
  let c4_i32 : BitVec 32 := 4#32
  let v18 : Index := Scalar.indexCast c4_i32
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v19 : Index := Scalar.indexCast v4
  ![4, v19.toNat]
def k2_off8 (k2_t1 : Fin k2_t1_loop.trips) : Fin 2 → Nat :=
  let c5_i32 : BitVec 32 := 5#32
  let v22 : Index := Scalar.indexCast c5_i32
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v23 : Index := Scalar.indexCast v4
  ![5, v23.toNat]

def k2_chk1 (v34 : IVec S16 32) : Prop :=
  (∀ a x, ((![v34] : Fin 1 → IVec S16 32) a x).toNat < S33792.size a)
theorem k2_idx1_inb : ∀ (v34 : IVec S16 32) (k2_hw1 : k2_chk1 v34), ∀ a x, ((![v34] : Fin 1 → IVec S16 32) a x).toNat < S33792.size a := fun v34 k2_hw1 => k2_hw1

def k2_chk2 (v38 : IVec S16 32) : Prop :=
  (∀ a x, ((![v38] : Fin 1 → IVec S16 32) a x).toNat < S33792.size a)
theorem k2_idx2_inb : ∀ (v38 : IVec S16 32) (k2_hw2 : k2_chk2 v38), ∀ a x, ((![v38] : Fin 1 → IVec S16 32) a x).toNat < S33792.size a := fun v38 k2_hw2 => k2_hw2

def k2_chk3 (v43 : IVec S16 32) : Prop :=
  (∀ a x, ((![v43] : Fin 1 → IVec S16 32) a x).toNat < S33792.size a)
theorem k2_idx3_inb : ∀ (v43 : IVec S16 32) (k2_hw3 : k2_chk3 v43), ∀ a x, ((![v43] : Fin 1 → IVec S16 32) a x).toNat < S33792.size a := fun v43 k2_hw3 => k2_hw3
def k2_off9 (k2_t1 : Fin k2_t1_loop.trips) : Fin 2 → Nat :=
  let c0_i32_7 : BitVec 32 := 0#32
  let v47 : Index := Scalar.indexCast c0_i32_7
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v48 : Index := Scalar.indexCast v4
  ![0, v48.toNat]

def k2_chk4 (v51 : IVec S16 32) : Prop :=
  (∀ a x, ((![v51] : Fin 1 → IVec S16 32) a x).toNat < S33792.size a)
theorem k2_idx4_inb : ∀ (v51 : IVec S16 32) (k2_hw4 : k2_chk4 v51), ∀ a x, ((![v51] : Fin 1 → IVec S16 32) a x).toNat < S33792.size a := fun v51 k2_hw4 => k2_hw4

def k2_chk5 (v55 : IVec S16 32) : Prop :=
  (∀ a x, ((![v55] : Fin 1 → IVec S16 32) a x).toNat < S33792.size a)
theorem k2_idx5_inb : ∀ (v55 : IVec S16 32) (k2_hw5 : k2_chk5 v55), ∀ a x, ((![v55] : Fin 1 → IVec S16 32) a x).toNat < S33792.size a := fun v55 k2_hw5 => k2_hw5

def k2_chk6 (v60 : IVec S16 32) : Prop :=
  (∀ a x, ((![v60] : Fin 1 → IVec S16 32) a x).toNat < S33792.size a)
theorem k2_idx6_inb : ∀ (v60 : IVec S16 32) (k2_hw6 : k2_chk6 v60), ∀ a x, ((![v60] : Fin 1 → IVec S16 32) a x).toNat < S33792.size a := fun v60 k2_hw6 => k2_hw6
def k2_off10 (k2_t1 : Fin k2_t1_loop.trips) : Fin 2 → Nat :=
  let c1_i32_11 : BitVec 32 := 1#32
  let v64 : Index := Scalar.indexCast c1_i32_11
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v65 : Index := Scalar.indexCast v4
  ![1, v65.toNat]

def k2_chk7 (v68 : IVec S16 32) : Prop :=
  (∀ a x, ((![v68] : Fin 1 → IVec S16 32) a x).toNat < S33792.size a)
theorem k2_idx7_inb : ∀ (v68 : IVec S16 32) (k2_hw7 : k2_chk7 v68), ∀ a x, ((![v68] : Fin 1 → IVec S16 32) a x).toNat < S33792.size a := fun v68 k2_hw7 => k2_hw7

def k2_chk8 (v72 : IVec S16 32) : Prop :=
  (∀ a x, ((![v72] : Fin 1 → IVec S16 32) a x).toNat < S33792.size a)
theorem k2_idx8_inb : ∀ (v72 : IVec S16 32) (k2_hw8 : k2_chk8 v72), ∀ a x, ((![v72] : Fin 1 → IVec S16 32) a x).toNat < S33792.size a := fun v72 k2_hw8 => k2_hw8

def k2_chk9 (v77 : IVec S16 32) : Prop :=
  (∀ a x, ((![v77] : Fin 1 → IVec S16 32) a x).toNat < S33792.size a)
theorem k2_idx9_inb : ∀ (v77 : IVec S16 32) (k2_hw9 : k2_chk9 v77), ∀ a x, ((![v77] : Fin 1 → IVec S16 32) a x).toNat < S33792.size a := fun v77 k2_hw9 => k2_hw9
def k2_off11 (k2_t1 : Fin k2_t1_loop.trips) : Fin 2 → Nat :=
  let c2_i32_15 : BitVec 32 := 2#32
  let v81 : Index := Scalar.indexCast c2_i32_15
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v82 : Index := Scalar.indexCast v4
  ![2, v82.toNat]

def k2_chk10 (v85 : IVec S16 32) : Prop :=
  (∀ a x, ((![v85] : Fin 1 → IVec S16 32) a x).toNat < S33792.size a)
theorem k2_idx10_inb : ∀ (v85 : IVec S16 32) (k2_hw10 : k2_chk10 v85), ∀ a x, ((![v85] : Fin 1 → IVec S16 32) a x).toNat < S33792.size a := fun v85 k2_hw10 => k2_hw10

def k2_chk11 (v89 : IVec S16 32) : Prop :=
  (∀ a x, ((![v89] : Fin 1 → IVec S16 32) a x).toNat < S33792.size a)
theorem k2_idx11_inb : ∀ (v89 : IVec S16 32) (k2_hw11 : k2_chk11 v89), ∀ a x, ((![v89] : Fin 1 → IVec S16 32) a x).toNat < S33792.size a := fun v89 k2_hw11 => k2_hw11

def k2_chk12 (v94 : IVec S16 32) : Prop :=
  (∀ a x, ((![v94] : Fin 1 → IVec S16 32) a x).toNat < S33792.size a)
theorem k2_idx12_inb : ∀ (v94 : IVec S16 32) (k2_hw12 : k2_chk12 v94), ∀ a x, ((![v94] : Fin 1 → IVec S16 32) a x).toNat < S33792.size a := fun v94 k2_hw12 => k2_hw12
def k2_off12 (k2_t1 : Fin k2_t1_loop.trips) : Fin 2 → Nat :=
  let c3_i32_19 : BitVec 32 := 3#32
  let v98 : Index := Scalar.indexCast c3_i32_19
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v99 : Index := Scalar.indexCast v4
  ![3, v99.toNat]

def k2_chk13 (v102 : IVec S16 32) : Prop :=
  (∀ a x, ((![v102] : Fin 1 → IVec S16 32) a x).toNat < S33792.size a)
theorem k2_idx13_inb : ∀ (v102 : IVec S16 32) (k2_hw13 : k2_chk13 v102), ∀ a x, ((![v102] : Fin 1 → IVec S16 32) a x).toNat < S33792.size a := fun v102 k2_hw13 => k2_hw13

def k2_chk14 (v106 : IVec S16 32) : Prop :=
  (∀ a x, ((![v106] : Fin 1 → IVec S16 32) a x).toNat < S33792.size a)
theorem k2_idx14_inb : ∀ (v106 : IVec S16 32) (k2_hw14 : k2_chk14 v106), ∀ a x, ((![v106] : Fin 1 → IVec S16 32) a x).toNat < S33792.size a := fun v106 k2_hw14 => k2_hw14

def k2_chk15 (v111 : IVec S16 32) : Prop :=
  (∀ a x, ((![v111] : Fin 1 → IVec S16 32) a x).toNat < S33792.size a)
theorem k2_idx15_inb : ∀ (v111 : IVec S16 32) (k2_hw15 : k2_chk15 v111), ∀ a x, ((![v111] : Fin 1 → IVec S16 32) a x).toNat < S33792.size a := fun v111 k2_hw15 => k2_hw15
def k2_off13 (k2_t1 : Fin k2_t1_loop.trips) : Fin 2 → Nat :=
  let c4_i32_23 : BitVec 32 := 4#32
  let v115 : Index := Scalar.indexCast c4_i32_23
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v116 : Index := Scalar.indexCast v4
  ![4, v116.toNat]

def k2_chk16 (v119 : IVec S16 32) : Prop :=
  (∀ a x, ((![v119] : Fin 1 → IVec S16 32) a x).toNat < S33792.size a)
theorem k2_idx16_inb : ∀ (v119 : IVec S16 32) (k2_hw16 : k2_chk16 v119), ∀ a x, ((![v119] : Fin 1 → IVec S16 32) a x).toNat < S33792.size a := fun v119 k2_hw16 => k2_hw16

def k2_chk17 (v123 : IVec S16 32) : Prop :=
  (∀ a x, ((![v123] : Fin 1 → IVec S16 32) a x).toNat < S33792.size a)
theorem k2_idx17_inb : ∀ (v123 : IVec S16 32) (k2_hw17 : k2_chk17 v123), ∀ a x, ((![v123] : Fin 1 → IVec S16 32) a x).toNat < S33792.size a := fun v123 k2_hw17 => k2_hw17

def k2_chk18 (v128 : IVec S16 32) : Prop :=
  (∀ a x, ((![v128] : Fin 1 → IVec S16 32) a x).toNat < S33792.size a)
theorem k2_idx18_inb : ∀ (v128 : IVec S16 32) (k2_hw18 : k2_chk18 v128), ∀ a x, ((![v128] : Fin 1 → IVec S16 32) a x).toNat < S33792.size a := fun v128 k2_hw18 => k2_hw18
def k2_off14 (k2_t1 : Fin k2_t1_loop.trips) : Fin 2 → Nat :=
  let c5_i32_27 : BitVec 32 := 5#32
  let v132 : Index := Scalar.indexCast c5_i32_27
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v133 : Index := Scalar.indexCast v4
  ![5, v133.toNat]

def k2_chk19 (v136 : IVec S16 32) : Prop :=
  (∀ a x, ((![v136] : Fin 1 → IVec S16 32) a x).toNat < S33792.size a)
theorem k2_idx19_inb : ∀ (v136 : IVec S16 32) (k2_hw19 : k2_chk19 v136), ∀ a x, ((![v136] : Fin 1 → IVec S16 32) a x).toNat < S33792.size a := fun v136 k2_hw19 => k2_hw19

def k2_chk20 (v140 : IVec S16 32) : Prop :=
  (∀ a x, ((![v140] : Fin 1 → IVec S16 32) a x).toNat < S33792.size a)
theorem k2_idx20_inb : ∀ (v140 : IVec S16 32) (k2_hw20 : k2_chk20 v140), ∀ a x, ((![v140] : Fin 1 → IVec S16 32) a x).toNat < S33792.size a := fun v140 k2_hw20 => k2_hw20

def k2_chk21 (v145 : IVec S16 32) : Prop :=
  (∀ a x, ((![v145] : Fin 1 → IVec S16 32) a x).toNat < S33792.size a)
theorem k2_idx21_inb : ∀ (v145 : IVec S16 32) (k2_hw21 : k2_chk21 v145), ∀ a x, ((![v145] : Fin 1 → IVec S16 32) a x).toNat < S33792.size a := fun v145 k2_hw21 => k2_hw21
def k2_off15 (k2_t1 : Fin k2_t1_loop.trips) : Fin 2 → Nat :=
  let c6_i32_30 : BitVec 32 := 6#32
  let v149 : Index := Scalar.indexCast c6_i32_30
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v150 : Index := Scalar.indexCast v4
  ![6, v150.toNat]

def k2_chk22 (v153 : IVec S16 32) : Prop :=
  (∀ a x, ((![v153] : Fin 1 → IVec S16 32) a x).toNat < S33792.size a)
theorem k2_idx22_inb : ∀ (v153 : IVec S16 32) (k2_hw22 : k2_chk22 v153), ∀ a x, ((![v153] : Fin 1 → IVec S16 32) a x).toNat < S33792.size a := fun v153 k2_hw22 => k2_hw22

def k2_chk23 (v157 : IVec S16 32) : Prop :=
  (∀ a x, ((![v157] : Fin 1 → IVec S16 32) a x).toNat < S33792.size a)
theorem k2_idx23_inb : ∀ (v157 : IVec S16 32) (k2_hw23 : k2_chk23 v157), ∀ a x, ((![v157] : Fin 1 → IVec S16 32) a x).toNat < S33792.size a := fun v157 k2_hw23 => k2_hw23

def k2_chk24 (v162 : IVec S16 32) : Prop :=
  (∀ a x, ((![v162] : Fin 1 → IVec S16 32) a x).toNat < S33792.size a)
theorem k2_idx24_inb : ∀ (v162 : IVec S16 32) (k2_hw24 : k2_chk24 v162), ∀ a x, ((![v162] : Fin 1 → IVec S16 32) a x).toNat < S33792.size a := fun v162 k2_hw24 => k2_hw24
def k2_off16 (k2_t1 : Fin k2_t1_loop.trips) : Fin 2 → Nat :=
  let c7_i32_33 : BitVec 32 := 7#32
  let v166 : Index := Scalar.indexCast c7_i32_33
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v167 : Index := Scalar.indexCast v4
  ![7, v167.toNat]

def k2_chk25 (v170 : IVec S16 32) : Prop :=
  (∀ a x, ((![v170] : Fin 1 → IVec S16 32) a x).toNat < S33792.size a)
theorem k2_idx25_inb : ∀ (v170 : IVec S16 32) (k2_hw25 : k2_chk25 v170), ∀ a x, ((![v170] : Fin 1 → IVec S16 32) a x).toNat < S33792.size a := fun v170 k2_hw25 => k2_hw25

def k2_chk26 (v174 : IVec S16 32) : Prop :=
  (∀ a x, ((![v174] : Fin 1 → IVec S16 32) a x).toNat < S33792.size a)
theorem k2_idx26_inb : ∀ (v174 : IVec S16 32) (k2_hw26 : k2_chk26 v174), ∀ a x, ((![v174] : Fin 1 → IVec S16 32) a x).toNat < S33792.size a := fun v174 k2_hw26 => k2_hw26

def k2_chk27 (v179 : IVec S16 32) : Prop :=
  (∀ a x, ((![v179] : Fin 1 → IVec S16 32) a x).toNat < S33792.size a)
theorem k2_idx27_inb : ∀ (v179 : IVec S16 32) (k2_hw27 : k2_chk27 v179), ∀ a x, ((![v179] : Fin 1 → IVec S16 32) a x).toNat < S33792.size a := fun v179 k2_hw27 => k2_hw27
def k2_off17 (k2_t1 : Fin k2_t1_loop.trips) : Fin 2 → Nat :=
  let c8_i32_36 : BitVec 32 := 8#32
  let v183 : Index := Scalar.indexCast c8_i32_36
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v184 : Index := Scalar.indexCast v4
  ![8, v184.toNat]

def k2_chk28 (v187 : IVec S16 32) : Prop :=
  (∀ a x, ((![v187] : Fin 1 → IVec S16 32) a x).toNat < S33792.size a)
theorem k2_idx28_inb : ∀ (v187 : IVec S16 32) (k2_hw28 : k2_chk28 v187), ∀ a x, ((![v187] : Fin 1 → IVec S16 32) a x).toNat < S33792.size a := fun v187 k2_hw28 => k2_hw28

def k2_chk29 (v191 : IVec S16 32) : Prop :=
  (∀ a x, ((![v191] : Fin 1 → IVec S16 32) a x).toNat < S33792.size a)
theorem k2_idx29_inb : ∀ (v191 : IVec S16 32) (k2_hw29 : k2_chk29 v191), ∀ a x, ((![v191] : Fin 1 → IVec S16 32) a x).toNat < S33792.size a := fun v191 k2_hw29 => k2_hw29

def k2_chk30 (v196 : IVec S16 32) : Prop :=
  (∀ a x, ((![v196] : Fin 1 → IVec S16 32) a x).toNat < S33792.size a)
theorem k2_idx30_inb : ∀ (v196 : IVec S16 32) (k2_hw30 : k2_chk30 v196), ∀ a x, ((![v196] : Fin 1 → IVec S16 32) a x).toNat < S33792.size a := fun v196 k2_hw30 => k2_hw30
def k2_off18 (k2_t1 : Fin k2_t1_loop.trips) : Fin 2 → Nat :=
  let c9_i32_39 : BitVec 32 := 9#32
  let v200 : Index := Scalar.indexCast c9_i32_39
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v201 : Index := Scalar.indexCast v4
  ![9, v201.toNat]

def k2_chk31 (v204 : IVec S16 32) : Prop :=
  (∀ a x, ((![v204] : Fin 1 → IVec S16 32) a x).toNat < S33792.size a)
theorem k2_idx31_inb : ∀ (v204 : IVec S16 32) (k2_hw31 : k2_chk31 v204), ∀ a x, ((![v204] : Fin 1 → IVec S16 32) a x).toNat < S33792.size a := fun v204 k2_hw31 => k2_hw31

def k2_chk32 (v208 : IVec S16 32) : Prop :=
  (∀ a x, ((![v208] : Fin 1 → IVec S16 32) a x).toNat < S33792.size a)
theorem k2_idx32_inb : ∀ (v208 : IVec S16 32) (k2_hw32 : k2_chk32 v208), ∀ a x, ((![v208] : Fin 1 → IVec S16 32) a x).toNat < S33792.size a := fun v208 k2_hw32 => k2_hw32

def k2_chk33 (v213 : IVec S16 32) : Prop :=
  (∀ a x, ((![v213] : Fin 1 → IVec S16 32) a x).toNat < S33792.size a)
theorem k2_idx33_inb : ∀ (v213 : IVec S16 32) (k2_hw33 : k2_chk33 v213), ∀ a x, ((![v213] : Fin 1 → IVec S16 32) a x).toNat < S33792.size a := fun v213 k2_hw33 => k2_hw33
def k2_off19 (k2_t1 : Fin k2_t1_loop.trips) : Fin 2 → Nat :=
  let c10_i32_42 : BitVec 32 := 10#32
  let v217 : Index := Scalar.indexCast c10_i32_42
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v218 : Index := Scalar.indexCast v4
  ![10, v218.toNat]

def k2_chk34 (v221 : IVec S16 32) : Prop :=
  (∀ a x, ((![v221] : Fin 1 → IVec S16 32) a x).toNat < S33792.size a)
theorem k2_idx34_inb : ∀ (v221 : IVec S16 32) (k2_hw34 : k2_chk34 v221), ∀ a x, ((![v221] : Fin 1 → IVec S16 32) a x).toNat < S33792.size a := fun v221 k2_hw34 => k2_hw34

def k2_chk35 (v225 : IVec S16 32) : Prop :=
  (∀ a x, ((![v225] : Fin 1 → IVec S16 32) a x).toNat < S33792.size a)
theorem k2_idx35_inb : ∀ (v225 : IVec S16 32) (k2_hw35 : k2_chk35 v225), ∀ a x, ((![v225] : Fin 1 → IVec S16 32) a x).toNat < S33792.size a := fun v225 k2_hw35 => k2_hw35

def k2_chk36 (v230 : IVec S16 32) : Prop :=
  (∀ a x, ((![v230] : Fin 1 → IVec S16 32) a x).toNat < S33792.size a)
theorem k2_idx36_inb : ∀ (v230 : IVec S16 32) (k2_hw36 : k2_chk36 v230), ∀ a x, ((![v230] : Fin 1 → IVec S16 32) a x).toNat < S33792.size a := fun v230 k2_hw36 => k2_hw36
def k2_off20 (k2_t1 : Fin k2_t1_loop.trips) : Fin 2 → Nat :=
  let c11_i32_45 : BitVec 32 := 11#32
  let v234 : Index := Scalar.indexCast c11_i32_45
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v235 : Index := Scalar.indexCast v4
  ![11, v235.toNat]

def k2_chk37 (v238 : IVec S16 32) : Prop :=
  (∀ a x, ((![v238] : Fin 1 → IVec S16 32) a x).toNat < S33792.size a)
theorem k2_idx37_inb : ∀ (v238 : IVec S16 32) (k2_hw37 : k2_chk37 v238), ∀ a x, ((![v238] : Fin 1 → IVec S16 32) a x).toNat < S33792.size a := fun v238 k2_hw37 => k2_hw37

def k2_chk38 (v242 : IVec S16 32) : Prop :=
  (∀ a x, ((![v242] : Fin 1 → IVec S16 32) a x).toNat < S33792.size a)
theorem k2_idx38_inb : ∀ (v242 : IVec S16 32) (k2_hw38 : k2_chk38 v242), ∀ a x, ((![v242] : Fin 1 → IVec S16 32) a x).toNat < S33792.size a := fun v242 k2_hw38 => k2_hw38

def k2_chk39 (v247 : IVec S16 32) : Prop :=
  (∀ a x, ((![v247] : Fin 1 → IVec S16 32) a x).toNat < S33792.size a)
theorem k2_idx39_inb : ∀ (v247 : IVec S16 32) (k2_hw39 : k2_chk39 v247), ∀ a x, ((![v247] : Fin 1 → IVec S16 32) a x).toNat < S33792.size a := fun v247 k2_hw39 => k2_hw39
def k2_off21 (k2_t1 : Fin k2_t1_loop.trips) : Fin 2 → Nat :=
  let c12_i32_48 : BitVec 32 := 12#32
  let v251 : Index := Scalar.indexCast c12_i32_48
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v252 : Index := Scalar.indexCast v4
  ![12, v252.toNat]

def k2_chk40 (v255 : IVec S16 32) : Prop :=
  (∀ a x, ((![v255] : Fin 1 → IVec S16 32) a x).toNat < S33792.size a)
theorem k2_idx40_inb : ∀ (v255 : IVec S16 32) (k2_hw40 : k2_chk40 v255), ∀ a x, ((![v255] : Fin 1 → IVec S16 32) a x).toNat < S33792.size a := fun v255 k2_hw40 => k2_hw40

def k2_chk41 (v259 : IVec S16 32) : Prop :=
  (∀ a x, ((![v259] : Fin 1 → IVec S16 32) a x).toNat < S33792.size a)
theorem k2_idx41_inb : ∀ (v259 : IVec S16 32) (k2_hw41 : k2_chk41 v259), ∀ a x, ((![v259] : Fin 1 → IVec S16 32) a x).toNat < S33792.size a := fun v259 k2_hw41 => k2_hw41

def k2_chk42 (v264 : IVec S16 32) : Prop :=
  (∀ a x, ((![v264] : Fin 1 → IVec S16 32) a x).toNat < S33792.size a)
theorem k2_idx42_inb : ∀ (v264 : IVec S16 32) (k2_hw42 : k2_chk42 v264), ∀ a x, ((![v264] : Fin 1 → IVec S16 32) a x).toNat < S33792.size a := fun v264 k2_hw42 => k2_hw42
def k2_off22 (k2_t1 : Fin k2_t1_loop.trips) : Fin 2 → Nat :=
  let c13_i32_51 : BitVec 32 := 13#32
  let v268 : Index := Scalar.indexCast c13_i32_51
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v269 : Index := Scalar.indexCast v4
  ![13, v269.toNat]

def k2_chk43 (v272 : IVec S16 32) : Prop :=
  (∀ a x, ((![v272] : Fin 1 → IVec S16 32) a x).toNat < S33792.size a)
theorem k2_idx43_inb : ∀ (v272 : IVec S16 32) (k2_hw43 : k2_chk43 v272), ∀ a x, ((![v272] : Fin 1 → IVec S16 32) a x).toNat < S33792.size a := fun v272 k2_hw43 => k2_hw43

def k2_chk44 (v276 : IVec S16 32) : Prop :=
  (∀ a x, ((![v276] : Fin 1 → IVec S16 32) a x).toNat < S33792.size a)
theorem k2_idx44_inb : ∀ (v276 : IVec S16 32) (k2_hw44 : k2_chk44 v276), ∀ a x, ((![v276] : Fin 1 → IVec S16 32) a x).toNat < S33792.size a := fun v276 k2_hw44 => k2_hw44

def k2_chk45 (v281 : IVec S16 32) : Prop :=
  (∀ a x, ((![v281] : Fin 1 → IVec S16 32) a x).toNat < S33792.size a)
theorem k2_idx45_inb : ∀ (v281 : IVec S16 32) (k2_hw45 : k2_chk45 v281), ∀ a x, ((![v281] : Fin 1 → IVec S16 32) a x).toNat < S33792.size a := fun v281 k2_hw45 => k2_hw45
def k2_off23 (k2_t1 : Fin k2_t1_loop.trips) : Fin 2 → Nat :=
  let c14_i32_54 : BitVec 32 := 14#32
  let v285 : Index := Scalar.indexCast c14_i32_54
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v286 : Index := Scalar.indexCast v4
  ![14, v286.toNat]

def k2_chk46 (v289 : IVec S16 32) : Prop :=
  (∀ a x, ((![v289] : Fin 1 → IVec S16 32) a x).toNat < S33792.size a)
theorem k2_idx46_inb : ∀ (v289 : IVec S16 32) (k2_hw46 : k2_chk46 v289), ∀ a x, ((![v289] : Fin 1 → IVec S16 32) a x).toNat < S33792.size a := fun v289 k2_hw46 => k2_hw46

def k2_chk47 (v293 : IVec S16 32) : Prop :=
  (∀ a x, ((![v293] : Fin 1 → IVec S16 32) a x).toNat < S33792.size a)
theorem k2_idx47_inb : ∀ (v293 : IVec S16 32) (k2_hw47 : k2_chk47 v293), ∀ a x, ((![v293] : Fin 1 → IVec S16 32) a x).toNat < S33792.size a := fun v293 k2_hw47 => k2_hw47

def k2_chk48 (v298 : IVec S16 32) : Prop :=
  (∀ a x, ((![v298] : Fin 1 → IVec S16 32) a x).toNat < S33792.size a)
theorem k2_idx48_inb : ∀ (v298 : IVec S16 32) (k2_hw48 : k2_chk48 v298), ∀ a x, ((![v298] : Fin 1 → IVec S16 32) a x).toNat < S33792.size a := fun v298 k2_hw48 => k2_hw48
def k2_off24 (k2_t1 : Fin k2_t1_loop.trips) : Fin 2 → Nat :=
  let c15_i32_57 : BitVec 32 := 15#32
  let v302 : Index := Scalar.indexCast c15_i32_57
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v303 : Index := Scalar.indexCast v4
  ![15, v303.toNat]

def k2_chk49 (v306 : IVec S16 32) : Prop :=
  (∀ a x, ((![v306] : Fin 1 → IVec S16 32) a x).toNat < S33792.size a)
theorem k2_idx49_inb : ∀ (v306 : IVec S16 32) (k2_hw49 : k2_chk49 v306), ∀ a x, ((![v306] : Fin 1 → IVec S16 32) a x).toNat < S33792.size a := fun v306 k2_hw49 => k2_hw49

def k2_chk50 (v310 : IVec S16 32) : Prop :=
  (∀ a x, ((![v310] : Fin 1 → IVec S16 32) a x).toNat < S33792.size a)
theorem k2_idx50_inb : ∀ (v310 : IVec S16 32) (k2_hw50 : k2_chk50 v310), ∀ a x, ((![v310] : Fin 1 → IVec S16 32) a x).toNat < S33792.size a := fun v310 k2_hw50 => k2_hw50

def k2_chk51 (v315 : IVec S16 32) : Prop :=
  (∀ a x, ((![v315] : Fin 1 → IVec S16 32) a x).toNat < S33792.size a)
theorem k2_idx51_inb : ∀ (v315 : IVec S16 32) (k2_hw51 : k2_chk51 v315), ∀ a x, ((![v315] : Fin 1 → IVec S16 32) a x).toNat < S33792.size a := fun v315 k2_hw51 => k2_hw51
def k2_off25 (k2_t1 : Fin k2_t1_loop.trips) : Fin 2 → Nat :=
  let c16_i32_61 : BitVec 32 := 16#32
  let v319 : Index := Scalar.indexCast c16_i32_61
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v320 : Index := Scalar.indexCast v4
  ![16, v320.toNat]

def k2_chk52 (v323 : IVec S16 32) : Prop :=
  (∀ a x, ((![v323] : Fin 1 → IVec S16 32) a x).toNat < S33792.size a)
theorem k2_idx52_inb : ∀ (v323 : IVec S16 32) (k2_hw52 : k2_chk52 v323), ∀ a x, ((![v323] : Fin 1 → IVec S16 32) a x).toNat < S33792.size a := fun v323 k2_hw52 => k2_hw52

def k2_chk53 (v327 : IVec S16 32) : Prop :=
  (∀ a x, ((![v327] : Fin 1 → IVec S16 32) a x).toNat < S33792.size a)
theorem k2_idx53_inb : ∀ (v327 : IVec S16 32) (k2_hw53 : k2_chk53 v327), ∀ a x, ((![v327] : Fin 1 → IVec S16 32) a x).toNat < S33792.size a := fun v327 k2_hw53 => k2_hw53

def k2_chk54 (v332 : IVec S16 32) : Prop :=
  (∀ a x, ((![v332] : Fin 1 → IVec S16 32) a x).toNat < S33792.size a)
theorem k2_idx54_inb : ∀ (v332 : IVec S16 32) (k2_hw54 : k2_chk54 v332), ∀ a x, ((![v332] : Fin 1 → IVec S16 32) a x).toNat < S33792.size a := fun v332 k2_hw54 => k2_hw54
def k2_off26 (k2_t1 : Fin k2_t1_loop.trips) : Fin 2 → Nat :=
  let c17_i32_64 : BitVec 32 := 17#32
  let v336 : Index := Scalar.indexCast c17_i32_64
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v337 : Index := Scalar.indexCast v4
  ![17, v337.toNat]

def k2_chk55 (v340 : IVec S16 32) : Prop :=
  (∀ a x, ((![v340] : Fin 1 → IVec S16 32) a x).toNat < S33792.size a)
theorem k2_idx55_inb : ∀ (v340 : IVec S16 32) (k2_hw55 : k2_chk55 v340), ∀ a x, ((![v340] : Fin 1 → IVec S16 32) a x).toNat < S33792.size a := fun v340 k2_hw55 => k2_hw55

def k2_chk56 (v344 : IVec S16 32) : Prop :=
  (∀ a x, ((![v344] : Fin 1 → IVec S16 32) a x).toNat < S33792.size a)
theorem k2_idx56_inb : ∀ (v344 : IVec S16 32) (k2_hw56 : k2_chk56 v344), ∀ a x, ((![v344] : Fin 1 → IVec S16 32) a x).toNat < S33792.size a := fun v344 k2_hw56 => k2_hw56

def k2_chk57 (v349 : IVec S16 32) : Prop :=
  (∀ a x, ((![v349] : Fin 1 → IVec S16 32) a x).toNat < S33792.size a)
theorem k2_idx57_inb : ∀ (v349 : IVec S16 32) (k2_hw57 : k2_chk57 v349), ∀ a x, ((![v349] : Fin 1 → IVec S16 32) a x).toNat < S33792.size a := fun v349 k2_hw57 => k2_hw57
def k2_off27 (k2_t1 : Fin k2_t1_loop.trips) : Fin 2 → Nat :=
  let c18_i32_67 : BitVec 32 := 18#32
  let v353 : Index := Scalar.indexCast c18_i32_67
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v354 : Index := Scalar.indexCast v4
  ![18, v354.toNat]

def k2_chk58 (v357 : IVec S16 32) : Prop :=
  (∀ a x, ((![v357] : Fin 1 → IVec S16 32) a x).toNat < S33792.size a)
theorem k2_idx58_inb : ∀ (v357 : IVec S16 32) (k2_hw58 : k2_chk58 v357), ∀ a x, ((![v357] : Fin 1 → IVec S16 32) a x).toNat < S33792.size a := fun v357 k2_hw58 => k2_hw58

def k2_chk59 (v361 : IVec S16 32) : Prop :=
  (∀ a x, ((![v361] : Fin 1 → IVec S16 32) a x).toNat < S33792.size a)
theorem k2_idx59_inb : ∀ (v361 : IVec S16 32) (k2_hw59 : k2_chk59 v361), ∀ a x, ((![v361] : Fin 1 → IVec S16 32) a x).toNat < S33792.size a := fun v361 k2_hw59 => k2_hw59

def k2_chk60 (v366 : IVec S16 32) : Prop :=
  (∀ a x, ((![v366] : Fin 1 → IVec S16 32) a x).toNat < S33792.size a)
theorem k2_idx60_inb : ∀ (v366 : IVec S16 32) (k2_hw60 : k2_chk60 v366), ∀ a x, ((![v366] : Fin 1 → IVec S16 32) a x).toNat < S33792.size a := fun v366 k2_hw60 => k2_hw60
def k2_off28 (k2_t1 : Fin k2_t1_loop.trips) : Fin 2 → Nat :=
  let c19_i32_70 : BitVec 32 := 19#32
  let v370 : Index := Scalar.indexCast c19_i32_70
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v371 : Index := Scalar.indexCast v4
  ![19, v371.toNat]

def k2_chk61 (v374 : IVec S16 32) : Prop :=
  (∀ a x, ((![v374] : Fin 1 → IVec S16 32) a x).toNat < S33792.size a)
theorem k2_idx61_inb : ∀ (v374 : IVec S16 32) (k2_hw61 : k2_chk61 v374), ∀ a x, ((![v374] : Fin 1 → IVec S16 32) a x).toNat < S33792.size a := fun v374 k2_hw61 => k2_hw61

def k2_chk62 (v378 : IVec S16 32) : Prop :=
  (∀ a x, ((![v378] : Fin 1 → IVec S16 32) a x).toNat < S33792.size a)
theorem k2_idx62_inb : ∀ (v378 : IVec S16 32) (k2_hw62 : k2_chk62 v378), ∀ a x, ((![v378] : Fin 1 → IVec S16 32) a x).toNat < S33792.size a := fun v378 k2_hw62 => k2_hw62

def k2_chk63 (v383 : IVec S16 32) : Prop :=
  (∀ a x, ((![v383] : Fin 1 → IVec S16 32) a x).toNat < S33792.size a)
theorem k2_idx63_inb : ∀ (v383 : IVec S16 32) (k2_hw63 : k2_chk63 v383), ∀ a x, ((![v383] : Fin 1 → IVec S16 32) a x).toNat < S33792.size a := fun v383 k2_hw63 => k2_hw63
def k2_off29 (k2_t1 : Fin k2_t1_loop.trips) : Fin 2 → Nat :=
  let c20_i32_73 : BitVec 32 := 20#32
  let v387 : Index := Scalar.indexCast c20_i32_73
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v388 : Index := Scalar.indexCast v4
  ![20, v388.toNat]

def k2_chk64 (v391 : IVec S16 32) : Prop :=
  (∀ a x, ((![v391] : Fin 1 → IVec S16 32) a x).toNat < S33792.size a)
theorem k2_idx64_inb : ∀ (v391 : IVec S16 32) (k2_hw64 : k2_chk64 v391), ∀ a x, ((![v391] : Fin 1 → IVec S16 32) a x).toNat < S33792.size a := fun v391 k2_hw64 => k2_hw64

def k2_chk65 (v395 : IVec S16 32) : Prop :=
  (∀ a x, ((![v395] : Fin 1 → IVec S16 32) a x).toNat < S33792.size a)
theorem k2_idx65_inb : ∀ (v395 : IVec S16 32) (k2_hw65 : k2_chk65 v395), ∀ a x, ((![v395] : Fin 1 → IVec S16 32) a x).toNat < S33792.size a := fun v395 k2_hw65 => k2_hw65

def k2_chk66 (v400 : IVec S16 32) : Prop :=
  (∀ a x, ((![v400] : Fin 1 → IVec S16 32) a x).toNat < S33792.size a)
theorem k2_idx66_inb : ∀ (v400 : IVec S16 32) (k2_hw66 : k2_chk66 v400), ∀ a x, ((![v400] : Fin 1 → IVec S16 32) a x).toNat < S33792.size a := fun v400 k2_hw66 => k2_hw66
def k2_off30 (k2_t1 : Fin k2_t1_loop.trips) : Fin 2 → Nat :=
  let c21_i32_76 : BitVec 32 := 21#32
  let v404 : Index := Scalar.indexCast c21_i32_76
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v405 : Index := Scalar.indexCast v4
  ![21, v405.toNat]

def k2_chk67 (v408 : IVec S16 32) : Prop :=
  (∀ a x, ((![v408] : Fin 1 → IVec S16 32) a x).toNat < S33792.size a)
theorem k2_idx67_inb : ∀ (v408 : IVec S16 32) (k2_hw67 : k2_chk67 v408), ∀ a x, ((![v408] : Fin 1 → IVec S16 32) a x).toNat < S33792.size a := fun v408 k2_hw67 => k2_hw67

def k2_chk68 (v412 : IVec S16 32) : Prop :=
  (∀ a x, ((![v412] : Fin 1 → IVec S16 32) a x).toNat < S33792.size a)
theorem k2_idx68_inb : ∀ (v412 : IVec S16 32) (k2_hw68 : k2_chk68 v412), ∀ a x, ((![v412] : Fin 1 → IVec S16 32) a x).toNat < S33792.size a := fun v412 k2_hw68 => k2_hw68

def k2_chk69 (v417 : IVec S16 32) : Prop :=
  (∀ a x, ((![v417] : Fin 1 → IVec S16 32) a x).toNat < S33792.size a)
theorem k2_idx69_inb : ∀ (v417 : IVec S16 32) (k2_hw69 : k2_chk69 v417), ∀ a x, ((![v417] : Fin 1 → IVec S16 32) a x).toNat < S33792.size a := fun v417 k2_hw69 => k2_hw69
def k2_off31 (k2_t1 : Fin k2_t1_loop.trips) : Fin 2 → Nat :=
  let c22_i32_79 : BitVec 32 := 22#32
  let v421 : Index := Scalar.indexCast c22_i32_79
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v422 : Index := Scalar.indexCast v4
  ![22, v422.toNat]

def k2_chk70 (v425 : IVec S16 32) : Prop :=
  (∀ a x, ((![v425] : Fin 1 → IVec S16 32) a x).toNat < S33792.size a)
theorem k2_idx70_inb : ∀ (v425 : IVec S16 32) (k2_hw70 : k2_chk70 v425), ∀ a x, ((![v425] : Fin 1 → IVec S16 32) a x).toNat < S33792.size a := fun v425 k2_hw70 => k2_hw70

def k2_chk71 (v429 : IVec S16 32) : Prop :=
  (∀ a x, ((![v429] : Fin 1 → IVec S16 32) a x).toNat < S33792.size a)
theorem k2_idx71_inb : ∀ (v429 : IVec S16 32) (k2_hw71 : k2_chk71 v429), ∀ a x, ((![v429] : Fin 1 → IVec S16 32) a x).toNat < S33792.size a := fun v429 k2_hw71 => k2_hw71

def k2_chk72 (v434 : IVec S16 32) : Prop :=
  (∀ a x, ((![v434] : Fin 1 → IVec S16 32) a x).toNat < S33792.size a)
theorem k2_idx72_inb : ∀ (v434 : IVec S16 32) (k2_hw72 : k2_chk72 v434), ∀ a x, ((![v434] : Fin 1 → IVec S16 32) a x).toNat < S33792.size a := fun v434 k2_hw72 => k2_hw72
def k2_off32 (k2_t1 : Fin k2_t1_loop.trips) : Fin 2 → Nat :=
  let c23_i32_82 : BitVec 32 := 23#32
  let v438 : Index := Scalar.indexCast c23_i32_82
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v439 : Index := Scalar.indexCast v4
  ![23, v439.toNat]

def k2_chk73 (v442 : IVec S16 32) : Prop :=
  (∀ a x, ((![v442] : Fin 1 → IVec S16 32) a x).toNat < S33792.size a)
theorem k2_idx73_inb : ∀ (v442 : IVec S16 32) (k2_hw73 : k2_chk73 v442), ∀ a x, ((![v442] : Fin 1 → IVec S16 32) a x).toNat < S33792.size a := fun v442 k2_hw73 => k2_hw73

def k2_chk74 (v446 : IVec S16 32) : Prop :=
  (∀ a x, ((![v446] : Fin 1 → IVec S16 32) a x).toNat < S33792.size a)
theorem k2_idx74_inb : ∀ (v446 : IVec S16 32) (k2_hw74 : k2_chk74 v446), ∀ a x, ((![v446] : Fin 1 → IVec S16 32) a x).toNat < S33792.size a := fun v446 k2_hw74 => k2_hw74

def k2_chk75 (v451 : IVec S16 32) : Prop :=
  (∀ a x, ((![v451] : Fin 1 → IVec S16 32) a x).toNat < S33792.size a)
theorem k2_idx75_inb : ∀ (v451 : IVec S16 32) (k2_hw75 : k2_chk75 v451), ∀ a x, ((![v451] : Fin 1 → IVec S16 32) a x).toNat < S33792.size a := fun v451 k2_hw75 => k2_hw75
def k2_off33 (k2_t1 : Fin k2_t1_loop.trips) : Fin 2 → Nat :=
  let c24_i32_85 : BitVec 32 := 24#32
  let v455 : Index := Scalar.indexCast c24_i32_85
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v456 : Index := Scalar.indexCast v4
  ![24, v456.toNat]

def k2_chk76 (v459 : IVec S16 32) : Prop :=
  (∀ a x, ((![v459] : Fin 1 → IVec S16 32) a x).toNat < S33792.size a)
theorem k2_idx76_inb : ∀ (v459 : IVec S16 32) (k2_hw76 : k2_chk76 v459), ∀ a x, ((![v459] : Fin 1 → IVec S16 32) a x).toNat < S33792.size a := fun v459 k2_hw76 => k2_hw76

def k2_chk77 (v463 : IVec S16 32) : Prop :=
  (∀ a x, ((![v463] : Fin 1 → IVec S16 32) a x).toNat < S33792.size a)
theorem k2_idx77_inb : ∀ (v463 : IVec S16 32) (k2_hw77 : k2_chk77 v463), ∀ a x, ((![v463] : Fin 1 → IVec S16 32) a x).toNat < S33792.size a := fun v463 k2_hw77 => k2_hw77

def k2_chk78 (v468 : IVec S16 32) : Prop :=
  (∀ a x, ((![v468] : Fin 1 → IVec S16 32) a x).toNat < S33792.size a)
theorem k2_idx78_inb : ∀ (v468 : IVec S16 32) (k2_hw78 : k2_chk78 v468), ∀ a x, ((![v468] : Fin 1 → IVec S16 32) a x).toNat < S33792.size a := fun v468 k2_hw78 => k2_hw78
def k2_off34 (k2_t1 : Fin k2_t1_loop.trips) : Fin 2 → Nat :=
  let c25_i32_88 : BitVec 32 := 25#32
  let v472 : Index := Scalar.indexCast c25_i32_88
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v473 : Index := Scalar.indexCast v4
  ![25, v473.toNat]

def k2_chk79 (v476 : IVec S16 32) : Prop :=
  (∀ a x, ((![v476] : Fin 1 → IVec S16 32) a x).toNat < S33792.size a)
theorem k2_idx79_inb : ∀ (v476 : IVec S16 32) (k2_hw79 : k2_chk79 v476), ∀ a x, ((![v476] : Fin 1 → IVec S16 32) a x).toNat < S33792.size a := fun v476 k2_hw79 => k2_hw79

def k2_chk80 (v480 : IVec S16 32) : Prop :=
  (∀ a x, ((![v480] : Fin 1 → IVec S16 32) a x).toNat < S33792.size a)
theorem k2_idx80_inb : ∀ (v480 : IVec S16 32) (k2_hw80 : k2_chk80 v480), ∀ a x, ((![v480] : Fin 1 → IVec S16 32) a x).toNat < S33792.size a := fun v480 k2_hw80 => k2_hw80

def k2_chk81 (v485 : IVec S16 32) : Prop :=
  (∀ a x, ((![v485] : Fin 1 → IVec S16 32) a x).toNat < S33792.size a)
theorem k2_idx81_inb : ∀ (v485 : IVec S16 32) (k2_hw81 : k2_chk81 v485), ∀ a x, ((![v485] : Fin 1 → IVec S16 32) a x).toNat < S33792.size a := fun v485 k2_hw81 => k2_hw81
def k2_off35 (k2_t1 : Fin k2_t1_loop.trips) : Fin 2 → Nat :=
  let c26_i32_91 : BitVec 32 := 26#32
  let v489 : Index := Scalar.indexCast c26_i32_91
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v490 : Index := Scalar.indexCast v4
  ![26, v490.toNat]

def k2_chk82 (v493 : IVec S16 32) : Prop :=
  (∀ a x, ((![v493] : Fin 1 → IVec S16 32) a x).toNat < S33792.size a)
theorem k2_idx82_inb : ∀ (v493 : IVec S16 32) (k2_hw82 : k2_chk82 v493), ∀ a x, ((![v493] : Fin 1 → IVec S16 32) a x).toNat < S33792.size a := fun v493 k2_hw82 => k2_hw82

def k2_chk83 (v497 : IVec S16 32) : Prop :=
  (∀ a x, ((![v497] : Fin 1 → IVec S16 32) a x).toNat < S33792.size a)
theorem k2_idx83_inb : ∀ (v497 : IVec S16 32) (k2_hw83 : k2_chk83 v497), ∀ a x, ((![v497] : Fin 1 → IVec S16 32) a x).toNat < S33792.size a := fun v497 k2_hw83 => k2_hw83

def k2_chk84 (v502 : IVec S16 32) : Prop :=
  (∀ a x, ((![v502] : Fin 1 → IVec S16 32) a x).toNat < S33792.size a)
theorem k2_idx84_inb : ∀ (v502 : IVec S16 32) (k2_hw84 : k2_chk84 v502), ∀ a x, ((![v502] : Fin 1 → IVec S16 32) a x).toNat < S33792.size a := fun v502 k2_hw84 => k2_hw84
def k2_off36 (k2_t1 : Fin k2_t1_loop.trips) : Fin 2 → Nat :=
  let c27_i32_94 : BitVec 32 := 27#32
  let v506 : Index := Scalar.indexCast c27_i32_94
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v507 : Index := Scalar.indexCast v4
  ![27, v507.toNat]

def k2_chk85 (v510 : IVec S16 32) : Prop :=
  (∀ a x, ((![v510] : Fin 1 → IVec S16 32) a x).toNat < S33792.size a)
theorem k2_idx85_inb : ∀ (v510 : IVec S16 32) (k2_hw85 : k2_chk85 v510), ∀ a x, ((![v510] : Fin 1 → IVec S16 32) a x).toNat < S33792.size a := fun v510 k2_hw85 => k2_hw85

def k2_chk86 (v514 : IVec S16 32) : Prop :=
  (∀ a x, ((![v514] : Fin 1 → IVec S16 32) a x).toNat < S33792.size a)
theorem k2_idx86_inb : ∀ (v514 : IVec S16 32) (k2_hw86 : k2_chk86 v514), ∀ a x, ((![v514] : Fin 1 → IVec S16 32) a x).toNat < S33792.size a := fun v514 k2_hw86 => k2_hw86

def k2_chk87 (v519 : IVec S16 32) : Prop :=
  (∀ a x, ((![v519] : Fin 1 → IVec S16 32) a x).toNat < S33792.size a)
theorem k2_idx87_inb : ∀ (v519 : IVec S16 32) (k2_hw87 : k2_chk87 v519), ∀ a x, ((![v519] : Fin 1 → IVec S16 32) a x).toNat < S33792.size a := fun v519 k2_hw87 => k2_hw87
def k2_off37 (k2_t1 : Fin k2_t1_loop.trips) : Fin 2 → Nat :=
  let c28_i32_97 : BitVec 32 := 28#32
  let v523 : Index := Scalar.indexCast c28_i32_97
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v524 : Index := Scalar.indexCast v4
  ![28, v524.toNat]

def k2_chk88 (v527 : IVec S16 32) : Prop :=
  (∀ a x, ((![v527] : Fin 1 → IVec S16 32) a x).toNat < S33792.size a)
theorem k2_idx88_inb : ∀ (v527 : IVec S16 32) (k2_hw88 : k2_chk88 v527), ∀ a x, ((![v527] : Fin 1 → IVec S16 32) a x).toNat < S33792.size a := fun v527 k2_hw88 => k2_hw88

def k2_chk89 (v531 : IVec S16 32) : Prop :=
  (∀ a x, ((![v531] : Fin 1 → IVec S16 32) a x).toNat < S33792.size a)
theorem k2_idx89_inb : ∀ (v531 : IVec S16 32) (k2_hw89 : k2_chk89 v531), ∀ a x, ((![v531] : Fin 1 → IVec S16 32) a x).toNat < S33792.size a := fun v531 k2_hw89 => k2_hw89

def k2_chk90 (v536 : IVec S16 32) : Prop :=
  (∀ a x, ((![v536] : Fin 1 → IVec S16 32) a x).toNat < S33792.size a)
theorem k2_idx90_inb : ∀ (v536 : IVec S16 32) (k2_hw90 : k2_chk90 v536), ∀ a x, ((![v536] : Fin 1 → IVec S16 32) a x).toNat < S33792.size a := fun v536 k2_hw90 => k2_hw90
def k2_off38 (k2_t1 : Fin k2_t1_loop.trips) : Fin 2 → Nat :=
  let c29_i32_100 : BitVec 32 := 29#32
  let v540 : Index := Scalar.indexCast c29_i32_100
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v541 : Index := Scalar.indexCast v4
  ![29, v541.toNat]

def k2_chk91 (v544 : IVec S16 32) : Prop :=
  (∀ a x, ((![v544] : Fin 1 → IVec S16 32) a x).toNat < S33792.size a)
theorem k2_idx91_inb : ∀ (v544 : IVec S16 32) (k2_hw91 : k2_chk91 v544), ∀ a x, ((![v544] : Fin 1 → IVec S16 32) a x).toNat < S33792.size a := fun v544 k2_hw91 => k2_hw91

def k2_chk92 (v548 : IVec S16 32) : Prop :=
  (∀ a x, ((![v548] : Fin 1 → IVec S16 32) a x).toNat < S33792.size a)
theorem k2_idx92_inb : ∀ (v548 : IVec S16 32) (k2_hw92 : k2_chk92 v548), ∀ a x, ((![v548] : Fin 1 → IVec S16 32) a x).toNat < S33792.size a := fun v548 k2_hw92 => k2_hw92

def k2_chk93 (v553 : IVec S16 32) : Prop :=
  (∀ a x, ((![v553] : Fin 1 → IVec S16 32) a x).toNat < S33792.size a)
theorem k2_idx93_inb : ∀ (v553 : IVec S16 32) (k2_hw93 : k2_chk93 v553), ∀ a x, ((![v553] : Fin 1 → IVec S16 32) a x).toNat < S33792.size a := fun v553 k2_hw93 => k2_hw93
def k2_off39 (k2_t1 : Fin k2_t1_loop.trips) : Fin 2 → Nat :=
  let c30_i32_103 : BitVec 32 := 30#32
  let v557 : Index := Scalar.indexCast c30_i32_103
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v558 : Index := Scalar.indexCast v4
  ![30, v558.toNat]

def k2_chk94 (v561 : IVec S16 32) : Prop :=
  (∀ a x, ((![v561] : Fin 1 → IVec S16 32) a x).toNat < S33792.size a)
theorem k2_idx94_inb : ∀ (v561 : IVec S16 32) (k2_hw94 : k2_chk94 v561), ∀ a x, ((![v561] : Fin 1 → IVec S16 32) a x).toNat < S33792.size a := fun v561 k2_hw94 => k2_hw94

def k2_chk95 (v565 : IVec S16 32) : Prop :=
  (∀ a x, ((![v565] : Fin 1 → IVec S16 32) a x).toNat < S33792.size a)
theorem k2_idx95_inb : ∀ (v565 : IVec S16 32) (k2_hw95 : k2_chk95 v565), ∀ a x, ((![v565] : Fin 1 → IVec S16 32) a x).toNat < S33792.size a := fun v565 k2_hw95 => k2_hw95

def k2_chk96 (v570 : IVec S16 32) : Prop :=
  (∀ a x, ((![v570] : Fin 1 → IVec S16 32) a x).toNat < S33792.size a)
theorem k2_idx96_inb : ∀ (v570 : IVec S16 32) (k2_hw96 : k2_chk96 v570), ∀ a x, ((![v570] : Fin 1 → IVec S16 32) a x).toNat < S33792.size a := fun v570 k2_hw96 => k2_hw96
def k2_off40 (k2_t1 : Fin k2_t1_loop.trips) : Fin 2 → Nat :=
  let c31_i32_106 : BitVec 32 := 31#32
  let v574 : Index := Scalar.indexCast c31_i32_106
  let c0_i32_0 : BitVec 32 := 0#32
  let c1_i32 : BitVec 32 := 1#32
  let arg8 : BitVec 32 := Scf.iv c0_i32_0 c1_i32 k2_t1
  let c16_i32 : BitVec 32 := 16#32
  let v3 : BitVec 32 := Scalar.muli arg8 c16_i32
  let v4 : BitVec 32 := v3
  let v575 : Index := Scalar.indexCast v4
  ![31, v575.toNat]
def k2_off41 (i : grid2.Coords) : Fin 3 → Nat :=
  let arg0 : BitVec 32 := BitVec.ofNat 32 (i 0).val
  let c0_i32_2_r2 : BitVec 32 := 0#32
  let arg1 : BitVec 32 := BitVec.ofNat 32 (i 1).val
  let c512_i32 : BitVec 32 := 512#32
  let v0 : BitVec 32 := Scalar.muli arg1 c512_i32
  ![arg0.toNat, 0, v0.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x8192x32 : Shape := ⟨3, ![2, 8192, 32]⟩
abbrev S2x1024x64 : Shape := ⟨3, ![2, 1024, 64]⟩
abbrev S2x8192x3 : Shape := ⟨3, ![2, 8192, 3]⟩
abbrev S2x1024x3 : Shape := ⟨3, ![2, 1024, 3]⟩
abbrev S64x32 : Shape := ⟨2, ![64, 32]⟩
abbrev S32 : Shape := ⟨1, ![32]⟩
abbrev S32x32 : Shape := ⟨2, ![32, 32]⟩
abbrev S2048x64 : Shape := ⟨2, ![2048, 64]⟩
abbrev S2048x32 : Shape := ⟨2, ![2048, 32]⟩
abbrev S1x32 : Shape := ⟨2, ![1, 32]⟩
abbrev S_ : Shape := ⟨0, ![]⟩
abbrev S2x1024x32 : Shape := ⟨3, ![2, 1024, 32]⟩
abbrev S2x3x1024 : Shape := ⟨3, ![2, 3, 1024]⟩
abbrev S2x8192x1024 : Shape := ⟨3, ![2, 8192, 1024]⟩
abbrev S2x8192 : Shape := ⟨2, ![2, 8192]⟩
abbrev S2x8192x1 : Shape := ⟨3, ![2, 8192, 1]⟩
abbrev S2x1024 : Shape := ⟨2, ![2, 1024]⟩
abbrev S2x1x1024 : Shape := ⟨3, ![2, 1, 1024]⟩
abbrev S2x1x1024x32 : Shape := ⟨4, ![2, 1, 1024, 32]⟩
abbrev S2x8192x3x1 : Shape := ⟨4, ![2, 8192, 3, 1]⟩
abbrev S1 : Shape := ⟨1, ![1]⟩
abbrev S1x1x1x1 : Shape := ⟨4, ![1, 1, 1, 1]⟩
abbrev S2x8192x3x32 : Shape := ⟨4, ![2, 8192, 3, 32]⟩
abbrev S16384x32 : Shape := ⟨2, ![16384, 32]⟩

abbrev nBuf : Space → Nat
  | .hbm => 132
  | .vmem => 0
  | .smem => 0
  | _ => 0

abbrev hbmTy0_0 (i : Nat) : BufTy := match i % 128 with
  | 0 => ⟨S2x8192x32, .f32⟩
  | 1 => ⟨S2x1024x64, .f32⟩
  | 2 => ⟨S2x8192x3, .f32⟩
  | 3 => ⟨S2x1024x3, .f32⟩
  | 4 => ⟨S64x32, .f32⟩
  | 5 => ⟨S32, .f32⟩
  | 6 => ⟨S32, .f32⟩
  | 7 => ⟨S32, .f32⟩
  | 8 => ⟨S32x32, .f32⟩
  | 9 => ⟨S32, .f32⟩
  | 10 => ⟨S2048x64, .f32⟩
  | 11 => ⟨S2048x32, .f32⟩
  | 12 => ⟨S1x32, .f32⟩
  | 13 => ⟨S2048x32, .f32⟩
  | 14 => ⟨S2048x32, .f32⟩
  | 15 => ⟨S_, .f32⟩
  | 16 => ⟨S32, .f32⟩
  | 17 => ⟨S_, .f32⟩
  | 18 => ⟨S32, .f32⟩
  | 19 => ⟨S32, .f32⟩
  | 20 => ⟨S_, .i32⟩
  | 21 => ⟨S_, .f32⟩
  | 22 => ⟨S32, .f32⟩
  | 23 => ⟨S1x32, .f32⟩
  | 24 => ⟨S_, .f32⟩
  | 25 => ⟨S1x32, .f32⟩
  | 26 => ⟨S1x32, .f32⟩
  | 27 => ⟨S2048x32, .f32⟩
  | 28 => ⟨S2048x32, .f32⟩
  | 29 => ⟨S2048x32, .f32⟩
  | 30 => ⟨S_, .f32⟩
  | 31 => ⟨S_, .f32⟩
  | 32 => ⟨S_, .f32⟩
  | 33 => ⟨S_, .f32⟩
  | 34 => ⟨S32, .f32⟩
  | 35 => ⟨S32, .f32⟩
  | 36 => ⟨S32, .f32⟩
  | 37 => ⟨S_, .f32⟩
  | 38 => ⟨S_, .i1⟩
  | 39 => ⟨S_, .f32⟩
  | 40 => ⟨S_, .f32⟩
  | 41 => ⟨S32, .f32⟩
  | 42 => ⟨S32, .f32⟩
  | 43 => ⟨S1x32, .f32⟩
  | 44 => ⟨S2048x32, .f32⟩
  | 45 => ⟨S2048x32, .f32⟩
  | 46 => ⟨S_, .f32⟩
  | 47 => ⟨S32, .f32⟩
  | 48 => ⟨S32, .f32⟩
  | 49 => ⟨S32, .f32⟩
  | 50 => ⟨S1x32, .f32⟩
  | 51 => ⟨S2048x32, .f32⟩
  | 52 => ⟨S2048x32, .f32⟩
  | 53 => ⟨S1x32, .f32⟩
  | 54 => ⟨S2048x32, .f32⟩
  | 55 => ⟨S2048x32, .f32⟩
  | 56 => ⟨S1x32, .f32⟩
  | 57 => ⟨S2048x32, .f32⟩
  | 58 => ⟨S2048x32, .f32⟩
  | 59 => ⟨S_, .f32⟩
  | 60 => ⟨S2048x32, .f32⟩
  | 61 => ⟨S2048x32, .f32⟩
  | 62 => ⟨S2x1024x32, .f32⟩
  | 63 => ⟨S2x3x1024, .f32⟩
  | 64 => ⟨S2x8192x1024, .f32⟩
  | 65 => ⟨S_, .f32⟩
  | 66 => ⟨S2x8192x1024, .f32⟩
  | 67 => ⟨S2x8192x1024, .f32⟩
  | 68 => ⟨S2x8192x3, .f32⟩
  | 69 => ⟨S_, .f32⟩
  | 70 => ⟨S2x8192, .f32⟩
  | 71 => ⟨S2x8192x1, .f32⟩
  | 72 => ⟨S2x8192x1024, .f32⟩
  | 73 => ⟨S2x8192x1024, .f32⟩
  | 74 => ⟨S2x1024x3, .f32⟩
  | 75 => ⟨S_, .f32⟩
  | 76 => ⟨S2x1024, .f32⟩
  | 77 => ⟨S2x1x1024, .f32⟩
  | 78 => ⟨S2x8192x1024, .f32⟩
  | 79 => ⟨S2x8192x1024, .f32⟩
  | 80 => ⟨S_, .f32⟩
  | 81 => ⟨S_, .f32⟩
  | 82 => ⟨S2x8192x1024, .f32⟩
  | 83 => ⟨S2x8192x1024, .f32⟩
  | 84 => ⟨S2x8192x1024, .f32⟩
  | 85 => ⟨S2x8192x3, .f32⟩
  | 86 => ⟨S2x8192x3, .i32⟩
  | 87 => ⟨S2x8192x3, .f32⟩
  | 88 => ⟨S_, .f32⟩
  | 89 => ⟨S2x8192x3, .f32⟩
  | 90 => ⟨S2x8192x3, .f32⟩
  | 91 => ⟨S2x1x1024x32, .f32⟩
  | 92 => ⟨S2x8192x3x1, .i32⟩
  | 93 => ⟨S_, .i32⟩
  | 94 => ⟨S2x8192x3x1, .i32⟩
  | 95 => ⟨S2x8192x3x1, .i1⟩
  | 96 => ⟨S_, .i32⟩
  | 97 => ⟨S2x8192x3x1, .i32⟩
  | 98 => ⟨S2x8192x3x1, .i32⟩
  | 99 => ⟨S2x8192x3x1, .i32⟩
  | 100 => ⟨S2x1024x32, .f32⟩
  | 101 => ⟨S1, .i32⟩
  | 102 => ⟨S_, .i32⟩
  | 103 => ⟨S2x8192x3x1, .i32⟩
  | 104 => ⟨S2x8192x3x1, .i1⟩
  | 105 => ⟨S1x1x1x1, .i32⟩
  | 106 => ⟨S2x8192x3x1, .i32⟩
  | 107 => ⟨S2x8192x3x1, .i1⟩
  | 108 => ⟨S2x8192x3x1, .i1⟩
  | 109 => ⟨S_, .i1⟩
  | 110 => ⟨S2x8192x3, .i1⟩
  | 111 => ⟨S2x8192x3x32, .f32⟩
  | 112 => ⟨S2x8192x3x32, .i1⟩
  | 113 => ⟨S_, .f32⟩
  | 114 => ⟨S2x8192x3x32, .f32⟩
  | 115 => ⟨S2x8192x3x32, .f32⟩
  | 116 => ⟨S2x8192x3x1, .f32⟩
  | 117 => ⟨S2x8192x3x32, .f32⟩
  | 118 => ⟨S2x8192x3x32, .f32⟩
  | 119 => ⟨S_, .f32⟩
  | 120 => ⟨S2x8192x32, .f32⟩
  | 121 => ⟨S_, .f32⟩
  | 122 => ⟨S2x8192, .f32⟩
  | 123 => ⟨S2x8192x1, .f32⟩
  | 124 => ⟨S2x8192x32, .f32⟩
  | 125 => ⟨S2x8192x32, .f32⟩
  | 126 => ⟨S16384x32, .f32⟩
  | 127 => ⟨S16384x32, .f32⟩
  | _ => ⟨S2x8192x32, .f32⟩

abbrev hbmTy0_1 (i : Nat) : BufTy := match i % 128 with
  | 0 => ⟨S1x32, .f32⟩
  | 1 => ⟨S16384x32, .f32⟩
  | 2 => ⟨S16384x32, .f32⟩
  | 3 => ⟨S2x8192x32, .f32⟩
  | _ => ⟨S2x8192x32, .f32⟩

abbrev hbmTy (i : Nat) : BufTy := match i / 128 with
  | 0 => hbmTy0_0 i
  | 1 => hbmTy0_1 i
  | _ => ⟨S2x8192x32, .f32⟩

abbrev bufTy : (tb : Table) → Fin (tcTables nBuf tb) → BufTy
  | .hbm, ⟨i, _⟩ => hbmTy i
  | _, _ => ⟨S2x8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_cst_3 : Ref sig .tc := ⟨.hbm, 37, rfl⟩
abbrev main_call0_v12 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_1 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_2 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_3 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_4 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_5 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_6 : Ref sig .tc := ⟨.hbm, 80, rfl⟩
abbrev main_call1_v0 : Ref sig .tc := ⟨.hbm, 81, rfl⟩
abbrev main_call1_v1 : Ref sig .tc := ⟨.hbm, 82, rfl⟩
abbrev main_v41 : Ref sig .tc := ⟨.hbm, 83, rfl⟩
abbrev main_v42 : Ref sig .tc := ⟨.hbm, 84, rfl⟩
abbrev main_values : Ref sig .tc := ⟨.hbm, 85, rfl⟩
abbrev main_indices : Ref sig .tc := ⟨.hbm, 86, rfl⟩
abbrev main_v43 : Ref sig .tc := ⟨.hbm, 87, rfl⟩
abbrev main_cst_7 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_call2_c : Ref sig .tc := ⟨.hbm, 93, rfl⟩
abbrev main_call2_v0 : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_c_1 : Ref sig .tc := ⟨.hbm, 101, rfl⟩
abbrev main_call2_c_2 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_c_3 : Ref sig .tc := ⟨.hbm, 109, rfl⟩
abbrev main_call2_v12 : Ref sig .tc := ⟨.hbm, 110, rfl⟩
abbrev main_call2_v13 : Ref sig .tc := ⟨.hbm, 111, rfl⟩
abbrev main_call2_v14 : Ref sig .tc := ⟨.hbm, 112, rfl⟩
abbrev main_call2_cst : Ref sig .tc := ⟨.hbm, 113, rfl⟩
abbrev main_call2_v15 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_cst_8 : Ref sig .tc := ⟨.hbm, 119, rfl⟩
abbrev main_v52 : Ref sig .tc := ⟨.hbm, 120, rfl⟩
abbrev main_cst_9 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩

abbrev nD : Nat := 1
abbrev τ : Topo := Topo.v7x

variable {F : FTy → Type} [FloatOps F]
-- ==== Interp.lean ====
abbrev S2x8x8192 : Shape := ⟨3, ![2, 8, 8192]⟩
abbrev S2x1024x32 : Shape := ⟨3, ![2, 1024, 32]⟩
abbrev S_ : Shape := ⟨0, ![]⟩
abbrev S2x1024x33 : Shape := ⟨3, ![2, 1024, 33]⟩
abbrev S67584 : Shape := ⟨1, ![67584]⟩
abbrev S2x32x8192 : Shape := ⟨3, ![2, 32, 8192]⟩
abbrev S8x512 : Shape := ⟨2, ![8, 512]⟩
abbrev S33792 : Shape := ⟨1, ![33792]⟩
abbrev S32x512 : Shape := ⟨2, ![32, 512]⟩
abbrev S1x8x512 : Shape := ⟨3, ![1, 8, 512]⟩
abbrev S16 : Shape := ⟨1, ![16]⟩
abbrev S1x16 : Shape := ⟨2, ![1, 16]⟩
abbrev S1x32x512 : Shape := ⟨3, ![1, 32, 512]⟩
abbrev S2x8192x32 : Shape := ⟨3, ![2, 8192, 32]⟩

abbrev nBuf : Table → Nat
  | .hbm => 8
  | .local .scVector .vmem => 3
  | _ => 0

abbrev bufTy : (tb : Table) → Fin (nBuf tb) → BufTy
  | .hbm, ⟨0, _⟩ => ⟨S2x8x8192, .f32⟩
  | .hbm, ⟨1, _⟩ => ⟨S2x1024x32, .f32⟩
  | .hbm, ⟨2, _⟩ => ⟨S_, .i32⟩
  | .hbm, ⟨3, _⟩ => ⟨S_, .f32⟩
  | .hbm, ⟨4, _⟩ => ⟨S2x1024x33, .f32⟩
  | .hbm, ⟨5, _⟩ => ⟨S67584, .f32⟩
  | .hbm, ⟨6, _⟩ => ⟨S2x32x8192, .f32⟩
  | .hbm, ⟨7, _⟩ => ⟨S2x8192x32, .f32⟩
  | .local .scVector .vmem, ⟨0, _⟩ => ⟨S8x512, .f32⟩
  | .local .scVector .vmem, ⟨1, _⟩ => ⟨S33792, .f32⟩
  | .local .scVector .vmem, ⟨2, _⟩ => ⟨S32x512, .f32⟩
  | _, _ => ⟨S2x8x8192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0_scv : Ref sig .scVector := ⟨.hbm, 0, rfl⟩
abbrev main_v1_scv : Ref sig .scVector := ⟨.hbm, 5, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg0 : BitVec 32 := BitVec.ofNat 32 (i 0).val
  let c0_i32_2_r0 : BitVec 32 := 0#32
  let arg1 : BitVec 32 := BitVec.ofNat 32 (i 1).val
  let c512_i32 : BitVec 32 := 512#32
  let v0 : BitVec 32 := Scalar.muli arg1 c512_i32
  ![arg0.toNat, 0, v0.toNat]
def k0_off2 (i : grid0.Coords) : Fin 1 → Nat :=
  let arg0 : BitVec 32 := BitVec.ofNat 32 (i 0).val
  let c33792_i32 : BitVec 32 := 33792#32
  let v1 : BitVec 32 := Scalar.muli arg0 c33792_i32
  ![v1.toNat]
@[reducible] def k0_t1_loop : Scf.Loop 32 :=
  let c0_i32_0 : BitVec 32 := 0#32
  let c32_i32 : BitVec 32 := 32#32
  let v2 : BitVec 32 := Scalar.addi c0_i32_0 c32_i32
  let c1_i32 : BitVec 32 := 1#32
  ⟨c0_i32_0, v2, c1_i32⟩
def k0_mult1 (k0_t1 : Fin k0_t1_loop.trips) : BitVec 32 :=
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  v3
def k0_off3 (k0_t1 : Fin k0_t1_loop.trips) : Fin 2 → Nat :=
  let c0_i32_2 : BitVec 32 := 0#32
  let v5 : Index := Scalar.indexCast c0_i32_2
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v6 : Index := Scalar.indexCast v4
  ![0, v6.toNat]
def k0_off4 (k0_t1 : Fin k0_t1_loop.trips) : Fin 2 → Nat :=
  let c1_i32_3 : BitVec 32 := 1#32
  let v8 : Index := Scalar.indexCast c1_i32_3
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v9 : Index := Scalar.indexCast v4
  ![1, v9.toNat]
def k0_off5 (k0_t1 : Fin k0_t1_loop.trips) : Fin 2 → Nat :=
  let c2_i32 : BitVec 32 := 2#32
  let v11 : Index := Scalar.indexCast c2_i32
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v12 : Index := Scalar.indexCast v4
  ![2, v12.toNat]
def k0_off6 (k0_t1 : Fin k0_t1_loop.trips) : Fin 2 → Nat :=
  let c3_i32 : BitVec 32 := 3#32
  let v14 : Index := Scalar.indexCast c3_i32
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v15 : Index := Scalar.indexCast v4
  ![3, v15.toNat]
def k0_off7 (k0_t1 : Fin k0_t1_loop.trips) : Fin 2 → Nat :=
  let c4_i32 : BitVec 32 := 4#32
  let v18 : Index := Scalar.indexCast c4_i32
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v19 : Index := Scalar.indexCast v4
  ![4, v19.toNat]
def k0_off8 (k0_t1 : Fin k0_t1_loop.trips) : Fin 2 → Nat :=
  let c5_i32 : BitVec 32 := 5#32
  let v22 : Index := Scalar.indexCast c5_i32
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v23 : Index := Scalar.indexCast v4
  ![5, v23.toNat]

def k0_chk1 (v34 : IVec S16 32) : Prop :=
  (∀ a x, ((![v34] : Fin 1 → IVec S16 32) a x).toNat < S33792.size a)
theorem k0_idx1_inb : ∀ (v34 : IVec S16 32) (k0_hw1 : k0_chk1 v34), ∀ a x, ((![v34] : Fin 1 → IVec S16 32) a x).toNat < S33792.size a := fun v34 k0_hw1 => k0_hw1

def k0_chk2 (v38 : IVec S16 32) : Prop :=
  (∀ a x, ((![v38] : Fin 1 → IVec S16 32) a x).toNat < S33792.size a)
theorem k0_idx2_inb : ∀ (v38 : IVec S16 32) (k0_hw2 : k0_chk2 v38), ∀ a x, ((![v38] : Fin 1 → IVec S16 32) a x).toNat < S33792.size a := fun v38 k0_hw2 => k0_hw2

def k0_chk3 (v43 : IVec S16 32) : Prop :=
  (∀ a x, ((![v43] : Fin 1 → IVec S16 32) a x).toNat < S33792.size a)
theorem k0_idx3_inb : ∀ (v43 : IVec S16 32) (k0_hw3 : k0_chk3 v43), ∀ a x, ((![v43] : Fin 1 → IVec S16 32) a x).toNat < S33792.size a := fun v43 k0_hw3 => k0_hw3
def k0_off9 (k0_t1 : Fin k0_t1_loop.trips) : Fin 2 → Nat :=
  let c0_i32_7 : BitVec 32 := 0#32
  let v47 : Index := Scalar.indexCast c0_i32_7
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v48 : Index := Scalar.indexCast v4
  ![0, v48.toNat]

def k0_chk4 (v51 : IVec S16 32) : Prop :=
  (∀ a x, ((![v51] : Fin 1 → IVec S16 32) a x).toNat < S33792.size a)
theorem k0_idx4_inb : ∀ (v51 : IVec S16 32) (k0_hw4 : k0_chk4 v51), ∀ a x, ((![v51] : Fin 1 → IVec S16 32) a x).toNat < S33792.size a := fun v51 k0_hw4 => k0_hw4

def k0_chk5 (v55 : IVec S16 32) : Prop :=
  (∀ a x, ((![v55] : Fin 1 → IVec S16 32) a x).toNat < S33792.size a)
theorem k0_idx5_inb : ∀ (v55 : IVec S16 32) (k0_hw5 : k0_chk5 v55), ∀ a x, ((![v55] : Fin 1 → IVec S16 32) a x).toNat < S33792.size a := fun v55 k0_hw5 => k0_hw5

def k0_chk6 (v60 : IVec S16 32) : Prop :=
  (∀ a x, ((![v60] : Fin 1 → IVec S16 32) a x).toNat < S33792.size a)
theorem k0_idx6_inb : ∀ (v60 : IVec S16 32) (k0_hw6 : k0_chk6 v60), ∀ a x, ((![v60] : Fin 1 → IVec S16 32) a x).toNat < S33792.size a := fun v60 k0_hw6 => k0_hw6
def k0_off10 (k0_t1 : Fin k0_t1_loop.trips) : Fin 2 → Nat :=
  let c1_i32_11 : BitVec 32 := 1#32
  let v64 : Index := Scalar.indexCast c1_i32_11
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v65 : Index := Scalar.indexCast v4
  ![1, v65.toNat]

def k0_chk7 (v68 : IVec S16 32) : Prop :=
  (∀ a x, ((![v68] : Fin 1 → IVec S16 32) a x).toNat < S33792.size a)
theorem k0_idx7_inb : ∀ (v68 : IVec S16 32) (k0_hw7 : k0_chk7 v68), ∀ a x, ((![v68] : Fin 1 → IVec S16 32) a x).toNat < S33792.size a := fun v68 k0_hw7 => k0_hw7

def k0_chk8 (v72 : IVec S16 32) : Prop :=
  (∀ a x, ((![v72] : Fin 1 → IVec S16 32) a x).toNat < S33792.size a)
theorem k0_idx8_inb : ∀ (v72 : IVec S16 32) (k0_hw8 : k0_chk8 v72), ∀ a x, ((![v72] : Fin 1 → IVec S16 32) a x).toNat < S33792.size a := fun v72 k0_hw8 => k0_hw8

def k0_chk9 (v77 : IVec S16 32) : Prop :=
  (∀ a x, ((![v77] : Fin 1 → IVec S16 32) a x).toNat < S33792.size a)
theorem k0_idx9_inb : ∀ (v77 : IVec S16 32) (k0_hw9 : k0_chk9 v77), ∀ a x, ((![v77] : Fin 1 → IVec S16 32) a x).toNat < S33792.size a := fun v77 k0_hw9 => k0_hw9
def k0_off11 (k0_t1 : Fin k0_t1_loop.trips) : Fin 2 → Nat :=
  let c2_i32_15 : BitVec 32 := 2#32
  let v81 : Index := Scalar.indexCast c2_i32_15
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v82 : Index := Scalar.indexCast v4
  ![2, v82.toNat]

def k0_chk10 (v85 : IVec S16 32) : Prop :=
  (∀ a x, ((![v85] : Fin 1 → IVec S16 32) a x).toNat < S33792.size a)
theorem k0_idx10_inb : ∀ (v85 : IVec S16 32) (k0_hw10 : k0_chk10 v85), ∀ a x, ((![v85] : Fin 1 → IVec S16 32) a x).toNat < S33792.size a := fun v85 k0_hw10 => k0_hw10

def k0_chk11 (v89 : IVec S16 32) : Prop :=
  (∀ a x, ((![v89] : Fin 1 → IVec S16 32) a x).toNat < S33792.size a)
theorem k0_idx11_inb : ∀ (v89 : IVec S16 32) (k0_hw11 : k0_chk11 v89), ∀ a x, ((![v89] : Fin 1 → IVec S16 32) a x).toNat < S33792.size a := fun v89 k0_hw11 => k0_hw11

def k0_chk12 (v94 : IVec S16 32) : Prop :=
  (∀ a x, ((![v94] : Fin 1 → IVec S16 32) a x).toNat < S33792.size a)
theorem k0_idx12_inb : ∀ (v94 : IVec S16 32) (k0_hw12 : k0_chk12 v94), ∀ a x, ((![v94] : Fin 1 → IVec S16 32) a x).toNat < S33792.size a := fun v94 k0_hw12 => k0_hw12
def k0_off12 (k0_t1 : Fin k0_t1_loop.trips) : Fin 2 → Nat :=
  let c3_i32_19 : BitVec 32 := 3#32
  let v98 : Index := Scalar.indexCast c3_i32_19
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v99 : Index := Scalar.indexCast v4
  ![3, v99.toNat]

def k0_chk13 (v102 : IVec S16 32) : Prop :=
  (∀ a x, ((![v102] : Fin 1 → IVec S16 32) a x).toNat < S33792.size a)
theorem k0_idx13_inb : ∀ (v102 : IVec S16 32) (k0_hw13 : k0_chk13 v102), ∀ a x, ((![v102] : Fin 1 → IVec S16 32) a x).toNat < S33792.size a := fun v102 k0_hw13 => k0_hw13

def k0_chk14 (v106 : IVec S16 32) : Prop :=
  (∀ a x, ((![v106] : Fin 1 → IVec S16 32) a x).toNat < S33792.size a)
theorem k0_idx14_inb : ∀ (v106 : IVec S16 32) (k0_hw14 : k0_chk14 v106), ∀ a x, ((![v106] : Fin 1 → IVec S16 32) a x).toNat < S33792.size a := fun v106 k0_hw14 => k0_hw14

def k0_chk15 (v111 : IVec S16 32) : Prop :=
  (∀ a x, ((![v111] : Fin 1 → IVec S16 32) a x).toNat < S33792.size a)
theorem k0_idx15_inb : ∀ (v111 : IVec S16 32) (k0_hw15 : k0_chk15 v111), ∀ a x, ((![v111] : Fin 1 → IVec S16 32) a x).toNat < S33792.size a := fun v111 k0_hw15 => k0_hw15
def k0_off13 (k0_t1 : Fin k0_t1_loop.trips) : Fin 2 → Nat :=
  let c4_i32_23 : BitVec 32 := 4#32
  let v115 : Index := Scalar.indexCast c4_i32_23
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v116 : Index := Scalar.indexCast v4
  ![4, v116.toNat]

def k0_chk16 (v119 : IVec S16 32) : Prop :=
  (∀ a x, ((![v119] : Fin 1 → IVec S16 32) a x).toNat < S33792.size a)
theorem k0_idx16_inb : ∀ (v119 : IVec S16 32) (k0_hw16 : k0_chk16 v119), ∀ a x, ((![v119] : Fin 1 → IVec S16 32) a x).toNat < S33792.size a := fun v119 k0_hw16 => k0_hw16

def k0_chk17 (v123 : IVec S16 32) : Prop :=
  (∀ a x, ((![v123] : Fin 1 → IVec S16 32) a x).toNat < S33792.size a)
theorem k0_idx17_inb : ∀ (v123 : IVec S16 32) (k0_hw17 : k0_chk17 v123), ∀ a x, ((![v123] : Fin 1 → IVec S16 32) a x).toNat < S33792.size a := fun v123 k0_hw17 => k0_hw17

def k0_chk18 (v128 : IVec S16 32) : Prop :=
  (∀ a x, ((![v128] : Fin 1 → IVec S16 32) a x).toNat < S33792.size a)
theorem k0_idx18_inb : ∀ (v128 : IVec S16 32) (k0_hw18 : k0_chk18 v128), ∀ a x, ((![v128] : Fin 1 → IVec S16 32) a x).toNat < S33792.size a := fun v128 k0_hw18 => k0_hw18
def k0_off14 (k0_t1 : Fin k0_t1_loop.trips) : Fin 2 → Nat :=
  let c5_i32_27 : BitVec 32 := 5#32
  let v132 : Index := Scalar.indexCast c5_i32_27
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v133 : Index := Scalar.indexCast v4
  ![5, v133.toNat]

def k0_chk19 (v136 : IVec S16 32) : Prop :=
  (∀ a x, ((![v136] : Fin 1 → IVec S16 32) a x).toNat < S33792.size a)
theorem k0_idx19_inb : ∀ (v136 : IVec S16 32) (k0_hw19 : k0_chk19 v136), ∀ a x, ((![v136] : Fin 1 → IVec S16 32) a x).toNat < S33792.size a := fun v136 k0_hw19 => k0_hw19

def k0_chk20 (v140 : IVec S16 32) : Prop :=
  (∀ a x, ((![v140] : Fin 1 → IVec S16 32) a x).toNat < S33792.size a)
theorem k0_idx20_inb : ∀ (v140 : IVec S16 32) (k0_hw20 : k0_chk20 v140), ∀ a x, ((![v140] : Fin 1 → IVec S16 32) a x).toNat < S33792.size a := fun v140 k0_hw20 => k0_hw20

def k0_chk21 (v145 : IVec S16 32) : Prop :=
  (∀ a x, ((![v145] : Fin 1 → IVec S16 32) a x).toNat < S33792.size a)
theorem k0_idx21_inb : ∀ (v145 : IVec S16 32) (k0_hw21 : k0_chk21 v145), ∀ a x, ((![v145] : Fin 1 → IVec S16 32) a x).toNat < S33792.size a := fun v145 k0_hw21 => k0_hw21
def k0_off15 (k0_t1 : Fin k0_t1_loop.trips) : Fin 2 → Nat :=
  let c6_i32_30 : BitVec 32 := 6#32
  let v149 : Index := Scalar.indexCast c6_i32_30
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v150 : Index := Scalar.indexCast v4
  ![6, v150.toNat]

def k0_chk22 (v153 : IVec S16 32) : Prop :=
  (∀ a x, ((![v153] : Fin 1 → IVec S16 32) a x).toNat < S33792.size a)
theorem k0_idx22_inb : ∀ (v153 : IVec S16 32) (k0_hw22 : k0_chk22 v153), ∀ a x, ((![v153] : Fin 1 → IVec S16 32) a x).toNat < S33792.size a := fun v153 k0_hw22 => k0_hw22

def k0_chk23 (v157 : IVec S16 32) : Prop :=
  (∀ a x, ((![v157] : Fin 1 → IVec S16 32) a x).toNat < S33792.size a)
theorem k0_idx23_inb : ∀ (v157 : IVec S16 32) (k0_hw23 : k0_chk23 v157), ∀ a x, ((![v157] : Fin 1 → IVec S16 32) a x).toNat < S33792.size a := fun v157 k0_hw23 => k0_hw23

def k0_chk24 (v162 : IVec S16 32) : Prop :=
  (∀ a x, ((![v162] : Fin 1 → IVec S16 32) a x).toNat < S33792.size a)
theorem k0_idx24_inb : ∀ (v162 : IVec S16 32) (k0_hw24 : k0_chk24 v162), ∀ a x, ((![v162] : Fin 1 → IVec S16 32) a x).toNat < S33792.size a := fun v162 k0_hw24 => k0_hw24
def k0_off16 (k0_t1 : Fin k0_t1_loop.trips) : Fin 2 → Nat :=
  let c7_i32_33 : BitVec 32 := 7#32
  let v166 : Index := Scalar.indexCast c7_i32_33
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v167 : Index := Scalar.indexCast v4
  ![7, v167.toNat]

def k0_chk25 (v170 : IVec S16 32) : Prop :=
  (∀ a x, ((![v170] : Fin 1 → IVec S16 32) a x).toNat < S33792.size a)
theorem k0_idx25_inb : ∀ (v170 : IVec S16 32) (k0_hw25 : k0_chk25 v170), ∀ a x, ((![v170] : Fin 1 → IVec S16 32) a x).toNat < S33792.size a := fun v170 k0_hw25 => k0_hw25

def k0_chk26 (v174 : IVec S16 32) : Prop :=
  (∀ a x, ((![v174] : Fin 1 → IVec S16 32) a x).toNat < S33792.size a)
theorem k0_idx26_inb : ∀ (v174 : IVec S16 32) (k0_hw26 : k0_chk26 v174), ∀ a x, ((![v174] : Fin 1 → IVec S16 32) a x).toNat < S33792.size a := fun v174 k0_hw26 => k0_hw26

def k0_chk27 (v179 : IVec S16 32) : Prop :=
  (∀ a x, ((![v179] : Fin 1 → IVec S16 32) a x).toNat < S33792.size a)
theorem k0_idx27_inb : ∀ (v179 : IVec S16 32) (k0_hw27 : k0_chk27 v179), ∀ a x, ((![v179] : Fin 1 → IVec S16 32) a x).toNat < S33792.size a := fun v179 k0_hw27 => k0_hw27
def k0_off17 (k0_t1 : Fin k0_t1_loop.trips) : Fin 2 → Nat :=
  let c8_i32_36 : BitVec 32 := 8#32
  let v183 : Index := Scalar.indexCast c8_i32_36
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v184 : Index := Scalar.indexCast v4
  ![8, v184.toNat]

def k0_chk28 (v187 : IVec S16 32) : Prop :=
  (∀ a x, ((![v187] : Fin 1 → IVec S16 32) a x).toNat < S33792.size a)
theorem k0_idx28_inb : ∀ (v187 : IVec S16 32) (k0_hw28 : k0_chk28 v187), ∀ a x, ((![v187] : Fin 1 → IVec S16 32) a x).toNat < S33792.size a := fun v187 k0_hw28 => k0_hw28

def k0_chk29 (v191 : IVec S16 32) : Prop :=
  (∀ a x, ((![v191] : Fin 1 → IVec S16 32) a x).toNat < S33792.size a)
theorem k0_idx29_inb : ∀ (v191 : IVec S16 32) (k0_hw29 : k0_chk29 v191), ∀ a x, ((![v191] : Fin 1 → IVec S16 32) a x).toNat < S33792.size a := fun v191 k0_hw29 => k0_hw29

def k0_chk30 (v196 : IVec S16 32) : Prop :=
  (∀ a x, ((![v196] : Fin 1 → IVec S16 32) a x).toNat < S33792.size a)
theorem k0_idx30_inb : ∀ (v196 : IVec S16 32) (k0_hw30 : k0_chk30 v196), ∀ a x, ((![v196] : Fin 1 → IVec S16 32) a x).toNat < S33792.size a := fun v196 k0_hw30 => k0_hw30
def k0_off18 (k0_t1 : Fin k0_t1_loop.trips) : Fin 2 → Nat :=
  let c9_i32_39 : BitVec 32 := 9#32
  let v200 : Index := Scalar.indexCast c9_i32_39
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v201 : Index := Scalar.indexCast v4
  ![9, v201.toNat]

def k0_chk31 (v204 : IVec S16 32) : Prop :=
  (∀ a x, ((![v204] : Fin 1 → IVec S16 32) a x).toNat < S33792.size a)
theorem k0_idx31_inb : ∀ (v204 : IVec S16 32) (k0_hw31 : k0_chk31 v204), ∀ a x, ((![v204] : Fin 1 → IVec S16 32) a x).toNat < S33792.size a := fun v204 k0_hw31 => k0_hw31

def k0_chk32 (v208 : IVec S16 32) : Prop :=
  (∀ a x, ((![v208] : Fin 1 → IVec S16 32) a x).toNat < S33792.size a)
theorem k0_idx32_inb : ∀ (v208 : IVec S16 32) (k0_hw32 : k0_chk32 v208), ∀ a x, ((![v208] : Fin 1 → IVec S16 32) a x).toNat < S33792.size a := fun v208 k0_hw32 => k0_hw32

def k0_chk33 (v213 : IVec S16 32) : Prop :=
  (∀ a x, ((![v213] : Fin 1 → IVec S16 32) a x).toNat < S33792.size a)
theorem k0_idx33_inb : ∀ (v213 : IVec S16 32) (k0_hw33 : k0_chk33 v213), ∀ a x, ((![v213] : Fin 1 → IVec S16 32) a x).toNat < S33792.size a := fun v213 k0_hw33 => k0_hw33
def k0_off19 (k0_t1 : Fin k0_t1_loop.trips) : Fin 2 → Nat :=
  let c10_i32_42 : BitVec 32 := 10#32
  let v217 : Index := Scalar.indexCast c10_i32_42
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v218 : Index := Scalar.indexCast v4
  ![10, v218.toNat]

def k0_chk34 (v221 : IVec S16 32) : Prop :=
  (∀ a x, ((![v221] : Fin 1 → IVec S16 32) a x).toNat < S33792.size a)
theorem k0_idx34_inb : ∀ (v221 : IVec S16 32) (k0_hw34 : k0_chk34 v221), ∀ a x, ((![v221] : Fin 1 → IVec S16 32) a x).toNat < S33792.size a := fun v221 k0_hw34 => k0_hw34

def k0_chk35 (v225 : IVec S16 32) : Prop :=
  (∀ a x, ((![v225] : Fin 1 → IVec S16 32) a x).toNat < S33792.size a)
theorem k0_idx35_inb : ∀ (v225 : IVec S16 32) (k0_hw35 : k0_chk35 v225), ∀ a x, ((![v225] : Fin 1 → IVec S16 32) a x).toNat < S33792.size a := fun v225 k0_hw35 => k0_hw35

def k0_chk36 (v230 : IVec S16 32) : Prop :=
  (∀ a x, ((![v230] : Fin 1 → IVec S16 32) a x).toNat < S33792.size a)
theorem k0_idx36_inb : ∀ (v230 : IVec S16 32) (k0_hw36 : k0_chk36 v230), ∀ a x, ((![v230] : Fin 1 → IVec S16 32) a x).toNat < S33792.size a := fun v230 k0_hw36 => k0_hw36
def k0_off20 (k0_t1 : Fin k0_t1_loop.trips) : Fin 2 → Nat :=
  let c11_i32_45 : BitVec 32 := 11#32
  let v234 : Index := Scalar.indexCast c11_i32_45
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v235 : Index := Scalar.indexCast v4
  ![11, v235.toNat]

def k0_chk37 (v238 : IVec S16 32) : Prop :=
  (∀ a x, ((![v238] : Fin 1 → IVec S16 32) a x).toNat < S33792.size a)
theorem k0_idx37_inb : ∀ (v238 : IVec S16 32) (k0_hw37 : k0_chk37 v238), ∀ a x, ((![v238] : Fin 1 → IVec S16 32) a x).toNat < S33792.size a := fun v238 k0_hw37 => k0_hw37

def k0_chk38 (v242 : IVec S16 32) : Prop :=
  (∀ a x, ((![v242] : Fin 1 → IVec S16 32) a x).toNat < S33792.size a)
theorem k0_idx38_inb : ∀ (v242 : IVec S16 32) (k0_hw38 : k0_chk38 v242), ∀ a x, ((![v242] : Fin 1 → IVec S16 32) a x).toNat < S33792.size a := fun v242 k0_hw38 => k0_hw38

def k0_chk39 (v247 : IVec S16 32) : Prop :=
  (∀ a x, ((![v247] : Fin 1 → IVec S16 32) a x).toNat < S33792.size a)
theorem k0_idx39_inb : ∀ (v247 : IVec S16 32) (k0_hw39 : k0_chk39 v247), ∀ a x, ((![v247] : Fin 1 → IVec S16 32) a x).toNat < S33792.size a := fun v247 k0_hw39 => k0_hw39
def k0_off21 (k0_t1 : Fin k0_t1_loop.trips) : Fin 2 → Nat :=
  let c12_i32_48 : BitVec 32 := 12#32
  let v251 : Index := Scalar.indexCast c12_i32_48
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v252 : Index := Scalar.indexCast v4
  ![12, v252.toNat]

def k0_chk40 (v255 : IVec S16 32) : Prop :=
  (∀ a x, ((![v255] : Fin 1 → IVec S16 32) a x).toNat < S33792.size a)
theorem k0_idx40_inb : ∀ (v255 : IVec S16 32) (k0_hw40 : k0_chk40 v255), ∀ a x, ((![v255] : Fin 1 → IVec S16 32) a x).toNat < S33792.size a := fun v255 k0_hw40 => k0_hw40

def k0_chk41 (v259 : IVec S16 32) : Prop :=
  (∀ a x, ((![v259] : Fin 1 → IVec S16 32) a x).toNat < S33792.size a)
theorem k0_idx41_inb : ∀ (v259 : IVec S16 32) (k0_hw41 : k0_chk41 v259), ∀ a x, ((![v259] : Fin 1 → IVec S16 32) a x).toNat < S33792.size a := fun v259 k0_hw41 => k0_hw41

def k0_chk42 (v264 : IVec S16 32) : Prop :=
  (∀ a x, ((![v264] : Fin 1 → IVec S16 32) a x).toNat < S33792.size a)
theorem k0_idx42_inb : ∀ (v264 : IVec S16 32) (k0_hw42 : k0_chk42 v264), ∀ a x, ((![v264] : Fin 1 → IVec S16 32) a x).toNat < S33792.size a := fun v264 k0_hw42 => k0_hw42
def k0_off22 (k0_t1 : Fin k0_t1_loop.trips) : Fin 2 → Nat :=
  let c13_i32_51 : BitVec 32 := 13#32
  let v268 : Index := Scalar.indexCast c13_i32_51
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v269 : Index := Scalar.indexCast v4
  ![13, v269.toNat]

def k0_chk43 (v272 : IVec S16 32) : Prop :=
  (∀ a x, ((![v272] : Fin 1 → IVec S16 32) a x).toNat < S33792.size a)
theorem k0_idx43_inb : ∀ (v272 : IVec S16 32) (k0_hw43 : k0_chk43 v272), ∀ a x, ((![v272] : Fin 1 → IVec S16 32) a x).toNat < S33792.size a := fun v272 k0_hw43 => k0_hw43

def k0_chk44 (v276 : IVec S16 32) : Prop :=
  (∀ a x, ((![v276] : Fin 1 → IVec S16 32) a x).toNat < S33792.size a)
theorem k0_idx44_inb : ∀ (v276 : IVec S16 32) (k0_hw44 : k0_chk44 v276), ∀ a x, ((![v276] : Fin 1 → IVec S16 32) a x).toNat < S33792.size a := fun v276 k0_hw44 => k0_hw44

def k0_chk45 (v281 : IVec S16 32) : Prop :=
  (∀ a x, ((![v281] : Fin 1 → IVec S16 32) a x).toNat < S33792.size a)
theorem k0_idx45_inb : ∀ (v281 : IVec S16 32) (k0_hw45 : k0_chk45 v281), ∀ a x, ((![v281] : Fin 1 → IVec S16 32) a x).toNat < S33792.size a := fun v281 k0_hw45 => k0_hw45
def k0_off23 (k0_t1 : Fin k0_t1_loop.trips) : Fin 2 → Nat :=
  let c14_i32_54 : BitVec 32 := 14#32
  let v285 : Index := Scalar.indexCast c14_i32_54
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v286 : Index := Scalar.indexCast v4
  ![14, v286.toNat]

def k0_chk46 (v289 : IVec S16 32) : Prop :=
  (∀ a x, ((![v289] : Fin 1 → IVec S16 32) a x).toNat < S33792.size a)
theorem k0_idx46_inb : ∀ (v289 : IVec S16 32) (k0_hw46 : k0_chk46 v289), ∀ a x, ((![v289] : Fin 1 → IVec S16 32) a x).toNat < S33792.size a := fun v289 k0_hw46 => k0_hw46

def k0_chk47 (v293 : IVec S16 32) : Prop :=
  (∀ a x, ((![v293] : Fin 1 → IVec S16 32) a x).toNat < S33792.size a)
theorem k0_idx47_inb : ∀ (v293 : IVec S16 32) (k0_hw47 : k0_chk47 v293), ∀ a x, ((![v293] : Fin 1 → IVec S16 32) a x).toNat < S33792.size a := fun v293 k0_hw47 => k0_hw47

def k0_chk48 (v298 : IVec S16 32) : Prop :=
  (∀ a x, ((![v298] : Fin 1 → IVec S16 32) a x).toNat < S33792.size a)
theorem k0_idx48_inb : ∀ (v298 : IVec S16 32) (k0_hw48 : k0_chk48 v298), ∀ a x, ((![v298] : Fin 1 → IVec S16 32) a x).toNat < S33792.size a := fun v298 k0_hw48 => k0_hw48
def k0_off24 (k0_t1 : Fin k0_t1_loop.trips) : Fin 2 → Nat :=
  let c15_i32_57 : BitVec 32 := 15#32
  let v302 : Index := Scalar.indexCast c15_i32_57
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v303 : Index := Scalar.indexCast v4
  ![15, v303.toNat]

def k0_chk49 (v306 : IVec S16 32) : Prop :=
  (∀ a x, ((![v306] : Fin 1 → IVec S16 32) a x).toNat < S33792.size a)
theorem k0_idx49_inb : ∀ (v306 : IVec S16 32) (k0_hw49 : k0_chk49 v306), ∀ a x, ((![v306] : Fin 1 → IVec S16 32) a x).toNat < S33792.size a := fun v306 k0_hw49 => k0_hw49

def k0_chk50 (v310 : IVec S16 32) : Prop :=
  (∀ a x, ((![v310] : Fin 1 → IVec S16 32) a x).toNat < S33792.size a)
theorem k0_idx50_inb : ∀ (v310 : IVec S16 32) (k0_hw50 : k0_chk50 v310), ∀ a x, ((![v310] : Fin 1 → IVec S16 32) a x).toNat < S33792.size a := fun v310 k0_hw50 => k0_hw50

def k0_chk51 (v315 : IVec S16 32) : Prop :=
  (∀ a x, ((![v315] : Fin 1 → IVec S16 32) a x).toNat < S33792.size a)
theorem k0_idx51_inb : ∀ (v315 : IVec S16 32) (k0_hw51 : k0_chk51 v315), ∀ a x, ((![v315] : Fin 1 → IVec S16 32) a x).toNat < S33792.size a := fun v315 k0_hw51 => k0_hw51
def k0_off25 (k0_t1 : Fin k0_t1_loop.trips) : Fin 2 → Nat :=
  let c16_i32_61 : BitVec 32 := 16#32
  let v319 : Index := Scalar.indexCast c16_i32_61
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v320 : Index := Scalar.indexCast v4
  ![16, v320.toNat]

def k0_chk52 (v323 : IVec S16 32) : Prop :=
  (∀ a x, ((![v323] : Fin 1 → IVec S16 32) a x).toNat < S33792.size a)
theorem k0_idx52_inb : ∀ (v323 : IVec S16 32) (k0_hw52 : k0_chk52 v323), ∀ a x, ((![v323] : Fin 1 → IVec S16 32) a x).toNat < S33792.size a := fun v323 k0_hw52 => k0_hw52

def k0_chk53 (v327 : IVec S16 32) : Prop :=
  (∀ a x, ((![v327] : Fin 1 → IVec S16 32) a x).toNat < S33792.size a)
theorem k0_idx53_inb : ∀ (v327 : IVec S16 32) (k0_hw53 : k0_chk53 v327), ∀ a x, ((![v327] : Fin 1 → IVec S16 32) a x).toNat < S33792.size a := fun v327 k0_hw53 => k0_hw53

def k0_chk54 (v332 : IVec S16 32) : Prop :=
  (∀ a x, ((![v332] : Fin 1 → IVec S16 32) a x).toNat < S33792.size a)
theorem k0_idx54_inb : ∀ (v332 : IVec S16 32) (k0_hw54 : k0_chk54 v332), ∀ a x, ((![v332] : Fin 1 → IVec S16 32) a x).toNat < S33792.size a := fun v332 k0_hw54 => k0_hw54
def k0_off26 (k0_t1 : Fin k0_t1_loop.trips) : Fin 2 → Nat :=
  let c17_i32_64 : BitVec 32 := 17#32
  let v336 : Index := Scalar.indexCast c17_i32_64
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v337 : Index := Scalar.indexCast v4
  ![17, v337.toNat]

def k0_chk55 (v340 : IVec S16 32) : Prop :=
  (∀ a x, ((![v340] : Fin 1 → IVec S16 32) a x).toNat < S33792.size a)
theorem k0_idx55_inb : ∀ (v340 : IVec S16 32) (k0_hw55 : k0_chk55 v340), ∀ a x, ((![v340] : Fin 1 → IVec S16 32) a x).toNat < S33792.size a := fun v340 k0_hw55 => k0_hw55

def k0_chk56 (v344 : IVec S16 32) : Prop :=
  (∀ a x, ((![v344] : Fin 1 → IVec S16 32) a x).toNat < S33792.size a)
theorem k0_idx56_inb : ∀ (v344 : IVec S16 32) (k0_hw56 : k0_chk56 v344), ∀ a x, ((![v344] : Fin 1 → IVec S16 32) a x).toNat < S33792.size a := fun v344 k0_hw56 => k0_hw56

def k0_chk57 (v349 : IVec S16 32) : Prop :=
  (∀ a x, ((![v349] : Fin 1 → IVec S16 32) a x).toNat < S33792.size a)
theorem k0_idx57_inb : ∀ (v349 : IVec S16 32) (k0_hw57 : k0_chk57 v349), ∀ a x, ((![v349] : Fin 1 → IVec S16 32) a x).toNat < S33792.size a := fun v349 k0_hw57 => k0_hw57
def k0_off27 (k0_t1 : Fin k0_t1_loop.trips) : Fin 2 → Nat :=
  let c18_i32_67 : BitVec 32 := 18#32
  let v353 : Index := Scalar.indexCast c18_i32_67
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v354 : Index := Scalar.indexCast v4
  ![18, v354.toNat]

def k0_chk58 (v357 : IVec S16 32) : Prop :=
  (∀ a x, ((![v357] : Fin 1 → IVec S16 32) a x).toNat < S33792.size a)
theorem k0_idx58_inb : ∀ (v357 : IVec S16 32) (k0_hw58 : k0_chk58 v357), ∀ a x, ((![v357] : Fin 1 → IVec S16 32) a x).toNat < S33792.size a := fun v357 k0_hw58 => k0_hw58

def k0_chk59 (v361 : IVec S16 32) : Prop :=
  (∀ a x, ((![v361] : Fin 1 → IVec S16 32) a x).toNat < S33792.size a)
theorem k0_idx59_inb : ∀ (v361 : IVec S16 32) (k0_hw59 : k0_chk59 v361), ∀ a x, ((![v361] : Fin 1 → IVec S16 32) a x).toNat < S33792.size a := fun v361 k0_hw59 => k0_hw59

def k0_chk60 (v366 : IVec S16 32) : Prop :=
  (∀ a x, ((![v366] : Fin 1 → IVec S16 32) a x).toNat < S33792.size a)
theorem k0_idx60_inb : ∀ (v366 : IVec S16 32) (k0_hw60 : k0_chk60 v366), ∀ a x, ((![v366] : Fin 1 → IVec S16 32) a x).toNat < S33792.size a := fun v366 k0_hw60 => k0_hw60
def k0_off28 (k0_t1 : Fin k0_t1_loop.trips) : Fin 2 → Nat :=
  let c19_i32_70 : BitVec 32 := 19#32
  let v370 : Index := Scalar.indexCast c19_i32_70
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v371 : Index := Scalar.indexCast v4
  ![19, v371.toNat]

def k0_chk61 (v374 : IVec S16 32) : Prop :=
  (∀ a x, ((![v374] : Fin 1 → IVec S16 32) a x).toNat < S33792.size a)
theorem k0_idx61_inb : ∀ (v374 : IVec S16 32) (k0_hw61 : k0_chk61 v374), ∀ a x, ((![v374] : Fin 1 → IVec S16 32) a x).toNat < S33792.size a := fun v374 k0_hw61 => k0_hw61

def k0_chk62 (v378 : IVec S16 32) : Prop :=
  (∀ a x, ((![v378] : Fin 1 → IVec S16 32) a x).toNat < S33792.size a)
theorem k0_idx62_inb : ∀ (v378 : IVec S16 32) (k0_hw62 : k0_chk62 v378), ∀ a x, ((![v378] : Fin 1 → IVec S16 32) a x).toNat < S33792.size a := fun v378 k0_hw62 => k0_hw62

def k0_chk63 (v383 : IVec S16 32) : Prop :=
  (∀ a x, ((![v383] : Fin 1 → IVec S16 32) a x).toNat < S33792.size a)
theorem k0_idx63_inb : ∀ (v383 : IVec S16 32) (k0_hw63 : k0_chk63 v383), ∀ a x, ((![v383] : Fin 1 → IVec S16 32) a x).toNat < S33792.size a := fun v383 k0_hw63 => k0_hw63
def k0_off29 (k0_t1 : Fin k0_t1_loop.trips) : Fin 2 → Nat :=
  let c20_i32_73 : BitVec 32 := 20#32
  let v387 : Index := Scalar.indexCast c20_i32_73
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v388 : Index := Scalar.indexCast v4
  ![20, v388.toNat]

def k0_chk64 (v391 : IVec S16 32) : Prop :=
  (∀ a x, ((![v391] : Fin 1 → IVec S16 32) a x).toNat < S33792.size a)
theorem k0_idx64_inb : ∀ (v391 : IVec S16 32) (k0_hw64 : k0_chk64 v391), ∀ a x, ((![v391] : Fin 1 → IVec S16 32) a x).toNat < S33792.size a := fun v391 k0_hw64 => k0_hw64

def k0_chk65 (v395 : IVec S16 32) : Prop :=
  (∀ a x, ((![v395] : Fin 1 → IVec S16 32) a x).toNat < S33792.size a)
theorem k0_idx65_inb : ∀ (v395 : IVec S16 32) (k0_hw65 : k0_chk65 v395), ∀ a x, ((![v395] : Fin 1 → IVec S16 32) a x).toNat < S33792.size a := fun v395 k0_hw65 => k0_hw65

def k0_chk66 (v400 : IVec S16 32) : Prop :=
  (∀ a x, ((![v400] : Fin 1 → IVec S16 32) a x).toNat < S33792.size a)
theorem k0_idx66_inb : ∀ (v400 : IVec S16 32) (k0_hw66 : k0_chk66 v400), ∀ a x, ((![v400] : Fin 1 → IVec S16 32) a x).toNat < S33792.size a := fun v400 k0_hw66 => k0_hw66
def k0_off30 (k0_t1 : Fin k0_t1_loop.trips) : Fin 2 → Nat :=
  let c21_i32_76 : BitVec 32 := 21#32
  let v404 : Index := Scalar.indexCast c21_i32_76
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v405 : Index := Scalar.indexCast v4
  ![21, v405.toNat]

def k0_chk67 (v408 : IVec S16 32) : Prop :=
  (∀ a x, ((![v408] : Fin 1 → IVec S16 32) a x).toNat < S33792.size a)
theorem k0_idx67_inb : ∀ (v408 : IVec S16 32) (k0_hw67 : k0_chk67 v408), ∀ a x, ((![v408] : Fin 1 → IVec S16 32) a x).toNat < S33792.size a := fun v408 k0_hw67 => k0_hw67

def k0_chk68 (v412 : IVec S16 32) : Prop :=
  (∀ a x, ((![v412] : Fin 1 → IVec S16 32) a x).toNat < S33792.size a)
theorem k0_idx68_inb : ∀ (v412 : IVec S16 32) (k0_hw68 : k0_chk68 v412), ∀ a x, ((![v412] : Fin 1 → IVec S16 32) a x).toNat < S33792.size a := fun v412 k0_hw68 => k0_hw68

def k0_chk69 (v417 : IVec S16 32) : Prop :=
  (∀ a x, ((![v417] : Fin 1 → IVec S16 32) a x).toNat < S33792.size a)
theorem k0_idx69_inb : ∀ (v417 : IVec S16 32) (k0_hw69 : k0_chk69 v417), ∀ a x, ((![v417] : Fin 1 → IVec S16 32) a x).toNat < S33792.size a := fun v417 k0_hw69 => k0_hw69
def k0_off31 (k0_t1 : Fin k0_t1_loop.trips) : Fin 2 → Nat :=
  let c22_i32_79 : BitVec 32 := 22#32
  let v421 : Index := Scalar.indexCast c22_i32_79
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v422 : Index := Scalar.indexCast v4
  ![22, v422.toNat]

def k0_chk70 (v425 : IVec S16 32) : Prop :=
  (∀ a x, ((![v425] : Fin 1 → IVec S16 32) a x).toNat < S33792.size a)
theorem k0_idx70_inb : ∀ (v425 : IVec S16 32) (k0_hw70 : k0_chk70 v425), ∀ a x, ((![v425] : Fin 1 → IVec S16 32) a x).toNat < S33792.size a := fun v425 k0_hw70 => k0_hw70

def k0_chk71 (v429 : IVec S16 32) : Prop :=
  (∀ a x, ((![v429] : Fin 1 → IVec S16 32) a x).toNat < S33792.size a)
theorem k0_idx71_inb : ∀ (v429 : IVec S16 32) (k0_hw71 : k0_chk71 v429), ∀ a x, ((![v429] : Fin 1 → IVec S16 32) a x).toNat < S33792.size a := fun v429 k0_hw71 => k0_hw71

def k0_chk72 (v434 : IVec S16 32) : Prop :=
  (∀ a x, ((![v434] : Fin 1 → IVec S16 32) a x).toNat < S33792.size a)
theorem k0_idx72_inb : ∀ (v434 : IVec S16 32) (k0_hw72 : k0_chk72 v434), ∀ a x, ((![v434] : Fin 1 → IVec S16 32) a x).toNat < S33792.size a := fun v434 k0_hw72 => k0_hw72
def k0_off32 (k0_t1 : Fin k0_t1_loop.trips) : Fin 2 → Nat :=
  let c23_i32_82 : BitVec 32 := 23#32
  let v438 : Index := Scalar.indexCast c23_i32_82
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v439 : Index := Scalar.indexCast v4
  ![23, v439.toNat]

def k0_chk73 (v442 : IVec S16 32) : Prop :=
  (∀ a x, ((![v442] : Fin 1 → IVec S16 32) a x).toNat < S33792.size a)
theorem k0_idx73_inb : ∀ (v442 : IVec S16 32) (k0_hw73 : k0_chk73 v442), ∀ a x, ((![v442] : Fin 1 → IVec S16 32) a x).toNat < S33792.size a := fun v442 k0_hw73 => k0_hw73

def k0_chk74 (v446 : IVec S16 32) : Prop :=
  (∀ a x, ((![v446] : Fin 1 → IVec S16 32) a x).toNat < S33792.size a)
theorem k0_idx74_inb : ∀ (v446 : IVec S16 32) (k0_hw74 : k0_chk74 v446), ∀ a x, ((![v446] : Fin 1 → IVec S16 32) a x).toNat < S33792.size a := fun v446 k0_hw74 => k0_hw74

def k0_chk75 (v451 : IVec S16 32) : Prop :=
  (∀ a x, ((![v451] : Fin 1 → IVec S16 32) a x).toNat < S33792.size a)
theorem k0_idx75_inb : ∀ (v451 : IVec S16 32) (k0_hw75 : k0_chk75 v451), ∀ a x, ((![v451] : Fin 1 → IVec S16 32) a x).toNat < S33792.size a := fun v451 k0_hw75 => k0_hw75
def k0_off33 (k0_t1 : Fin k0_t1_loop.trips) : Fin 2 → Nat :=
  let c24_i32_85 : BitVec 32 := 24#32
  let v455 : Index := Scalar.indexCast c24_i32_85
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v456 : Index := Scalar.indexCast v4
  ![24, v456.toNat]

def k0_chk76 (v459 : IVec S16 32) : Prop :=
  (∀ a x, ((![v459] : Fin 1 → IVec S16 32) a x).toNat < S33792.size a)
theorem k0_idx76_inb : ∀ (v459 : IVec S16 32) (k0_hw76 : k0_chk76 v459), ∀ a x, ((![v459] : Fin 1 → IVec S16 32) a x).toNat < S33792.size a := fun v459 k0_hw76 => k0_hw76

def k0_chk77 (v463 : IVec S16 32) : Prop :=
  (∀ a x, ((![v463] : Fin 1 → IVec S16 32) a x).toNat < S33792.size a)
theorem k0_idx77_inb : ∀ (v463 : IVec S16 32) (k0_hw77 : k0_chk77 v463), ∀ a x, ((![v463] : Fin 1 → IVec S16 32) a x).toNat < S33792.size a := fun v463 k0_hw77 => k0_hw77

def k0_chk78 (v468 : IVec S16 32) : Prop :=
  (∀ a x, ((![v468] : Fin 1 → IVec S16 32) a x).toNat < S33792.size a)
theorem k0_idx78_inb : ∀ (v468 : IVec S16 32) (k0_hw78 : k0_chk78 v468), ∀ a x, ((![v468] : Fin 1 → IVec S16 32) a x).toNat < S33792.size a := fun v468 k0_hw78 => k0_hw78
def k0_off34 (k0_t1 : Fin k0_t1_loop.trips) : Fin 2 → Nat :=
  let c25_i32_88 : BitVec 32 := 25#32
  let v472 : Index := Scalar.indexCast c25_i32_88
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v473 : Index := Scalar.indexCast v4
  ![25, v473.toNat]

def k0_chk79 (v476 : IVec S16 32) : Prop :=
  (∀ a x, ((![v476] : Fin 1 → IVec S16 32) a x).toNat < S33792.size a)
theorem k0_idx79_inb : ∀ (v476 : IVec S16 32) (k0_hw79 : k0_chk79 v476), ∀ a x, ((![v476] : Fin 1 → IVec S16 32) a x).toNat < S33792.size a := fun v476 k0_hw79 => k0_hw79

def k0_chk80 (v480 : IVec S16 32) : Prop :=
  (∀ a x, ((![v480] : Fin 1 → IVec S16 32) a x).toNat < S33792.size a)
theorem k0_idx80_inb : ∀ (v480 : IVec S16 32) (k0_hw80 : k0_chk80 v480), ∀ a x, ((![v480] : Fin 1 → IVec S16 32) a x).toNat < S33792.size a := fun v480 k0_hw80 => k0_hw80

def k0_chk81 (v485 : IVec S16 32) : Prop :=
  (∀ a x, ((![v485] : Fin 1 → IVec S16 32) a x).toNat < S33792.size a)
theorem k0_idx81_inb : ∀ (v485 : IVec S16 32) (k0_hw81 : k0_chk81 v485), ∀ a x, ((![v485] : Fin 1 → IVec S16 32) a x).toNat < S33792.size a := fun v485 k0_hw81 => k0_hw81
def k0_off35 (k0_t1 : Fin k0_t1_loop.trips) : Fin 2 → Nat :=
  let c26_i32_91 : BitVec 32 := 26#32
  let v489 : Index := Scalar.indexCast c26_i32_91
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v490 : Index := Scalar.indexCast v4
  ![26, v490.toNat]

def k0_chk82 (v493 : IVec S16 32) : Prop :=
  (∀ a x, ((![v493] : Fin 1 → IVec S16 32) a x).toNat < S33792.size a)
theorem k0_idx82_inb : ∀ (v493 : IVec S16 32) (k0_hw82 : k0_chk82 v493), ∀ a x, ((![v493] : Fin 1 → IVec S16 32) a x).toNat < S33792.size a := fun v493 k0_hw82 => k0_hw82

def k0_chk83 (v497 : IVec S16 32) : Prop :=
  (∀ a x, ((![v497] : Fin 1 → IVec S16 32) a x).toNat < S33792.size a)
theorem k0_idx83_inb : ∀ (v497 : IVec S16 32) (k0_hw83 : k0_chk83 v497), ∀ a x, ((![v497] : Fin 1 → IVec S16 32) a x).toNat < S33792.size a := fun v497 k0_hw83 => k0_hw83

def k0_chk84 (v502 : IVec S16 32) : Prop :=
  (∀ a x, ((![v502] : Fin 1 → IVec S16 32) a x).toNat < S33792.size a)
theorem k0_idx84_inb : ∀ (v502 : IVec S16 32) (k0_hw84 : k0_chk84 v502), ∀ a x, ((![v502] : Fin 1 → IVec S16 32) a x).toNat < S33792.size a := fun v502 k0_hw84 => k0_hw84
def k0_off36 (k0_t1 : Fin k0_t1_loop.trips) : Fin 2 → Nat :=
  let c27_i32_94 : BitVec 32 := 27#32
  let v506 : Index := Scalar.indexCast c27_i32_94
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v507 : Index := Scalar.indexCast v4
  ![27, v507.toNat]

def k0_chk85 (v510 : IVec S16 32) : Prop :=
  (∀ a x, ((![v510] : Fin 1 → IVec S16 32) a x).toNat < S33792.size a)
theorem k0_idx85_inb : ∀ (v510 : IVec S16 32) (k0_hw85 : k0_chk85 v510), ∀ a x, ((![v510] : Fin 1 → IVec S16 32) a x).toNat < S33792.size a := fun v510 k0_hw85 => k0_hw85

def k0_chk86 (v514 : IVec S16 32) : Prop :=
  (∀ a x, ((![v514] : Fin 1 → IVec S16 32) a x).toNat < S33792.size a)
theorem k0_idx86_inb : ∀ (v514 : IVec S16 32) (k0_hw86 : k0_chk86 v514), ∀ a x, ((![v514] : Fin 1 → IVec S16 32) a x).toNat < S33792.size a := fun v514 k0_hw86 => k0_hw86

def k0_chk87 (v519 : IVec S16 32) : Prop :=
  (∀ a x, ((![v519] : Fin 1 → IVec S16 32) a x).toNat < S33792.size a)
theorem k0_idx87_inb : ∀ (v519 : IVec S16 32) (k0_hw87 : k0_chk87 v519), ∀ a x, ((![v519] : Fin 1 → IVec S16 32) a x).toNat < S33792.size a := fun v519 k0_hw87 => k0_hw87
def k0_off37 (k0_t1 : Fin k0_t1_loop.trips) : Fin 2 → Nat :=
  let c28_i32_97 : BitVec 32 := 28#32
  let v523 : Index := Scalar.indexCast c28_i32_97
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v524 : Index := Scalar.indexCast v4
  ![28, v524.toNat]

def k0_chk88 (v527 : IVec S16 32) : Prop :=
  (∀ a x, ((![v527] : Fin 1 → IVec S16 32) a x).toNat < S33792.size a)
theorem k0_idx88_inb : ∀ (v527 : IVec S16 32) (k0_hw88 : k0_chk88 v527), ∀ a x, ((![v527] : Fin 1 → IVec S16 32) a x).toNat < S33792.size a := fun v527 k0_hw88 => k0_hw88

def k0_chk89 (v531 : IVec S16 32) : Prop :=
  (∀ a x, ((![v531] : Fin 1 → IVec S16 32) a x).toNat < S33792.size a)
theorem k0_idx89_inb : ∀ (v531 : IVec S16 32) (k0_hw89 : k0_chk89 v531), ∀ a x, ((![v531] : Fin 1 → IVec S16 32) a x).toNat < S33792.size a := fun v531 k0_hw89 => k0_hw89

def k0_chk90 (v536 : IVec S16 32) : Prop :=
  (∀ a x, ((![v536] : Fin 1 → IVec S16 32) a x).toNat < S33792.size a)
theorem k0_idx90_inb : ∀ (v536 : IVec S16 32) (k0_hw90 : k0_chk90 v536), ∀ a x, ((![v536] : Fin 1 → IVec S16 32) a x).toNat < S33792.size a := fun v536 k0_hw90 => k0_hw90
def k0_off38 (k0_t1 : Fin k0_t1_loop.trips) : Fin 2 → Nat :=
  let c29_i32_100 : BitVec 32 := 29#32
  let v540 : Index := Scalar.indexCast c29_i32_100
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v541 : Index := Scalar.indexCast v4
  ![29, v541.toNat]

def k0_chk91 (v544 : IVec S16 32) : Prop :=
  (∀ a x, ((![v544] : Fin 1 → IVec S16 32) a x).toNat < S33792.size a)
theorem k0_idx91_inb : ∀ (v544 : IVec S16 32) (k0_hw91 : k0_chk91 v544), ∀ a x, ((![v544] : Fin 1 → IVec S16 32) a x).toNat < S33792.size a := fun v544 k0_hw91 => k0_hw91

def k0_chk92 (v548 : IVec S16 32) : Prop :=
  (∀ a x, ((![v548] : Fin 1 → IVec S16 32) a x).toNat < S33792.size a)
theorem k0_idx92_inb : ∀ (v548 : IVec S16 32) (k0_hw92 : k0_chk92 v548), ∀ a x, ((![v548] : Fin 1 → IVec S16 32) a x).toNat < S33792.size a := fun v548 k0_hw92 => k0_hw92

def k0_chk93 (v553 : IVec S16 32) : Prop :=
  (∀ a x, ((![v553] : Fin 1 → IVec S16 32) a x).toNat < S33792.size a)
theorem k0_idx93_inb : ∀ (v553 : IVec S16 32) (k0_hw93 : k0_chk93 v553), ∀ a x, ((![v553] : Fin 1 → IVec S16 32) a x).toNat < S33792.size a := fun v553 k0_hw93 => k0_hw93
def k0_off39 (k0_t1 : Fin k0_t1_loop.trips) : Fin 2 → Nat :=
  let c30_i32_103 : BitVec 32 := 30#32
  let v557 : Index := Scalar.indexCast c30_i32_103
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v558 : Index := Scalar.indexCast v4
  ![30, v558.toNat]

def k0_chk94 (v561 : IVec S16 32) : Prop :=
  (∀ a x, ((![v561] : Fin 1 → IVec S16 32) a x).toNat < S33792.size a)
theorem k0_idx94_inb : ∀ (v561 : IVec S16 32) (k0_hw94 : k0_chk94 v561), ∀ a x, ((![v561] : Fin 1 → IVec S16 32) a x).toNat < S33792.size a := fun v561 k0_hw94 => k0_hw94

def k0_chk95 (v565 : IVec S16 32) : Prop :=
  (∀ a x, ((![v565] : Fin 1 → IVec S16 32) a x).toNat < S33792.size a)
theorem k0_idx95_inb : ∀ (v565 : IVec S16 32) (k0_hw95 : k0_chk95 v565), ∀ a x, ((![v565] : Fin 1 → IVec S16 32) a x).toNat < S33792.size a := fun v565 k0_hw95 => k0_hw95

def k0_chk96 (v570 : IVec S16 32) : Prop :=
  (∀ a x, ((![v570] : Fin 1 → IVec S16 32) a x).toNat < S33792.size a)
theorem k0_idx96_inb : ∀ (v570 : IVec S16 32) (k0_hw96 : k0_chk96 v570), ∀ a x, ((![v570] : Fin 1 → IVec S16 32) a x).toNat < S33792.size a := fun v570 k0_hw96 => k0_hw96
def k0_off40 (k0_t1 : Fin k0_t1_loop.trips) : Fin 2 → Nat :=
  let c31_i32_106 : BitVec 32 := 31#32
  let v574 : Index := Scalar.indexCast c31_i32_106
  let c0_i32_0 : BitVec 32 := 0#32
  let c1_i32 : BitVec 32 := 1#32
  let arg8 : BitVec 32 := Scf.iv c0_i32_0 c1_i32 k0_t1
  let c16_i32 : BitVec 32 := 16#32
  let v3 : BitVec 32 := Scalar.muli arg8 c16_i32
  let v4 : BitVec 32 := v3
  let v575 : Index := Scalar.indexCast v4
  ![31, v575.toNat]
def k0_off41 (i : grid0.Coords) : Fin 3 → Nat :=
  let arg0 : BitVec 32 := BitVec.ofNat 32 (i 0).val
  let c0_i32_2_r2 : BitVec 32 := 0#32
  let arg1 : BitVec 32 := BitVec.ofNat 32 (i 1).val
  let c512_i32 : BitVec 32 := 512#32
  let v0 : BitVec 32 := Scalar.muli arg1 c512_i32
  ![arg0.toNat, 0, v0.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== InterpReferenceIdeal.lean ====
abbrev S2x8x8192 : Shape := ⟨3, ![2, 8, 8192]⟩
abbrev S2x1024x32 : Shape := ⟨3, ![2, 1024, 32]⟩
abbrev S2x3x8192 : Shape := ⟨3, ![2, 3, 8192]⟩
abbrev S_ : Shape := ⟨0, ![]⟩
abbrev S2x1024x33 : Shape := ⟨3, ![2, 1024, 33]⟩
abbrev S2x33792 : Shape := ⟨2, ![2, 33792]⟩
abbrev S2x8192 : Shape := ⟨2, ![2, 8192]⟩
abbrev S2x1x8192 : Shape := ⟨3, ![2, 1, 8192]⟩
abbrev S2x3x8192x1 : Shape := ⟨4, ![2, 3, 8192, 1]⟩
abbrev S32 : Shape := ⟨1, ![32]⟩
abbrev S1x1x1x32 : Shape := ⟨4, ![1, 1, 1, 32]⟩
abbrev S2x3x8192x32 : Shape := ⟨4, ![2, 3, 8192, 32]⟩
abbrev S2x786432 : Shape := ⟨2, ![2, 786432]⟩
abbrev S2x786432x1 : Shape := ⟨3, ![2, 786432, 1]⟩
abbrev S1 : Shape := ⟨1, ![1]⟩
abbrev S1x1x1 : Shape := ⟨3, ![1, 1, 1]⟩
abbrev S2x8192x32 : Shape := ⟨3, ![2, 8192, 32]⟩

abbrev nBuf : Space → Nat
  | .hbm => 52
  | .vmem => 0
  | .smem => 0
  | _ => 0

abbrev bufTy : (tb : Table) → Fin (tcTables nBuf tb) → BufTy
  | .hbm, ⟨0, _⟩ => ⟨S2x8x8192, .f32⟩
  | .hbm, ⟨1, _⟩ => ⟨S2x1024x32, .f32⟩
  | .hbm, ⟨2, _⟩ => ⟨S2x3x8192, .f32⟩
  | .hbm, ⟨3, _⟩ => ⟨S2x3x8192, .f32⟩
  | .hbm, ⟨4, _⟩ => ⟨S2x3x8192, .i32⟩
  | .hbm, ⟨5, _⟩ => ⟨S_, .i32⟩
  | .hbm, ⟨6, _⟩ => ⟨S_, .f32⟩
  | .hbm, ⟨7, _⟩ => ⟨S2x1024x33, .f32⟩
  | .hbm, ⟨8, _⟩ => ⟨S2x33792, .f32⟩
  | .hbm, ⟨9, _⟩ => ⟨S_, .f32⟩
  | .hbm, ⟨10, _⟩ => ⟨S2x8192, .f32⟩
  | .hbm, ⟨11, _⟩ => ⟨S_, .f32⟩
  | .hbm, ⟨12, _⟩ => ⟨S2x8192, .f32⟩
  | .hbm, ⟨13, _⟩ => ⟨S2x8192, .f32⟩
  | .hbm, ⟨14, _⟩ => ⟨S2x1x8192, .f32⟩
  | .hbm, ⟨15, _⟩ => ⟨S2x3x8192, .f32⟩
  | .hbm, ⟨16, _⟩ => ⟨S2x3x8192, .f32⟩
  | .hbm, ⟨17, _⟩ => ⟨S2x3x8192x1, .i32⟩
  | .hbm, ⟨18, _⟩ => ⟨S32, .i32⟩
  | .hbm, ⟨19, _⟩ => ⟨S1x1x1x32, .i32⟩
  | .hbm, ⟨20, _⟩ => ⟨S2x3x8192x32, .i32⟩
  | .hbm, ⟨21, _⟩ => ⟨S2x3x8192x32, .i32⟩
  | .hbm, ⟨22, _⟩ => ⟨S2x3x8192x32, .i32⟩
  | .hbm, ⟨23, _⟩ => ⟨S2x786432, .i32⟩
  | .hbm, ⟨24, _⟩ => ⟨S_, .i32⟩
  | .hbm, ⟨25, _⟩ => ⟨S2x786432, .i32⟩
  | .hbm, ⟨26, _⟩ => ⟨S2x786432, .i1⟩
  | .hbm, ⟨27, _⟩ => ⟨S_, .i32⟩
  | .hbm, ⟨28, _⟩ => ⟨S2x786432, .i32⟩
  | .hbm, ⟨29, _⟩ => ⟨S2x786432, .i32⟩
  | .hbm, ⟨30, _⟩ => ⟨S2x786432, .i32⟩
  | .hbm, ⟨31, _⟩ => ⟨S2x786432x1, .i32⟩
  | .hbm, ⟨32, _⟩ => ⟨S1, .i32⟩
  | .hbm, ⟨33, _⟩ => ⟨S_, .i32⟩
  | .hbm, ⟨34, _⟩ => ⟨S2x786432x1, .i32⟩
  | .hbm, ⟨35, _⟩ => ⟨S2x786432x1, .i1⟩
  | .hbm, ⟨36, _⟩ => ⟨S1x1x1, .i32⟩
  | .hbm, ⟨37, _⟩ => ⟨S2x786432x1, .i32⟩
  | .hbm, ⟨38, _⟩ => ⟨S2x786432x1, .i1⟩
  | .hbm, ⟨39, _⟩ => ⟨S2x786432x1, .i1⟩
  | .hbm, ⟨40, _⟩ => ⟨S_, .i1⟩
  | .hbm, ⟨41, _⟩ => ⟨S2x786432, .i1⟩
  | .hbm, ⟨42, _⟩ => ⟨S2x786432, .f32⟩
  | .hbm, ⟨43, _⟩ => ⟨S_, .f32⟩
  | .hbm, ⟨44, _⟩ => ⟨S2x786432, .f32⟩
  | .hbm, ⟨45, _⟩ => ⟨S2x786432, .f32⟩
  | .hbm, ⟨46, _⟩ => ⟨S2x3x8192x32, .f32⟩
  | .hbm, ⟨47, _⟩ => ⟨S2x3x8192x1, .f32⟩
  | .hbm, ⟨48, _⟩ => ⟨S2x3x8192x32, .f32⟩
  | .hbm, ⟨49, _⟩ => ⟨S2x3x8192x32, .f32⟩
  | .hbm, ⟨50, _⟩ => ⟨S_, .f32⟩
  | .hbm, ⟨51, _⟩ => ⟨S2x8192x32, .f32⟩
  | _, _ => ⟨S2x8x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_1 : Ref sig .tc := ⟨.hbm, 50, rfl⟩
abbrev main_v23 : Ref sig .tc := ⟨.hbm, 51, rfl⟩

abbrev nD : Nat := 1
abbrev τ : Topo := Topo.v7x

variable {F : FTy → Type} [FloatOps F]
-- ==== Prep.lean ====
abbrev S2x1024x64 : Shape := ⟨3, ![2, 1024, 64]⟩
abbrev S64x32 : Shape := ⟨2, ![64, 32]⟩
abbrev S32 : Shape := ⟨1, ![32]⟩
abbrev S32x32 : Shape := ⟨2, ![32, 32]⟩
abbrev S2048x64 : Shape := ⟨2, ![2048, 64]⟩
abbrev S1x32 : Shape := ⟨2, ![1, 32]⟩
abbrev S2048x32 : Shape := ⟨2, ![2048, 32]⟩

abbrev nBuf : Space → Nat
  | .hbm => 13
  | .vmem => 8
  | .smem => 0
  | _ => 0

abbrev bufTy : (tb : Table) → Fin (tcTables nBuf tb) → BufTy
  | .hbm, ⟨0, _⟩ => ⟨S2x1024x64, .f32⟩
  | .hbm, ⟨1, _⟩ => ⟨S64x32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S2048x64, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S1x32, .f32⟩
  | .hbm, ⟨12, _⟩ => ⟨S2048x32, .f32⟩
  | .local _ .vmem, ⟨0, _⟩ => ⟨S2048x64, .f32⟩
  | .local _ .vmem, ⟨1, _⟩ => ⟨S64x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S32x32, .f32⟩
  | .local _ .vmem, ⟨6, _⟩ => ⟨S1x32, .f32⟩
  | .local _ .vmem, ⟨7, _⟩ => ⟨S2048x32, .f32⟩
  | _, _ => ⟨S2x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== PrepReferenceIdeal.lean ====
abbrev S2x1024x64 : Shape := ⟨3, ![2, 1024, 64]⟩
abbrev S64x32 : Shape := ⟨2, ![64, 32]⟩
abbrev S32 : Shape := ⟨1, ![32]⟩
abbrev S32x32 : Shape := ⟨2, ![32, 32]⟩
abbrev S2048x64 : Shape := ⟨2, ![2048, 64]⟩
abbrev S2048x32 : Shape := ⟨2, ![2048, 32]⟩
abbrev S1x32 : Shape := ⟨2, ![1, 32]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S2x1024x64, .f32⟩
  | .hbm, ⟨1, _⟩ => ⟨S64x32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S2048x64, .f32⟩
  | .hbm, ⟨8, _⟩ => ⟨S2048x32, .f32⟩
  | .hbm, ⟨9, _⟩ => ⟨S1x32, .f32⟩
  | .hbm, ⟨10, _⟩ => ⟨S2048x32, .f32⟩
  | .hbm, ⟨11, _⟩ => ⟨S2048x32, .f32⟩
  | .hbm, ⟨12, _⟩ => ⟨S_, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .i32⟩
  | .hbm, ⟨18, _⟩ => ⟨S_, .f32⟩
  | .hbm, ⟨19, _⟩ => ⟨S32, .f32⟩
  | .hbm, ⟨20, _⟩ => ⟨S1x32, .f32⟩
  | .hbm, ⟨21, _⟩ => ⟨S_, .f32⟩
  | .hbm, ⟨22, _⟩ => ⟨S1x32, .f32⟩
  | .hbm, ⟨23, _⟩ => ⟨S1x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S1x32, .f32⟩
  | .hbm, ⟨41, _⟩ => ⟨S2048x32, .f32⟩
  | .hbm, ⟨42, _⟩ => ⟨S2048x32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S32, .f32⟩
  | .hbm, ⟨47, _⟩ => ⟨S1x32, .f32⟩
  | .hbm, ⟨48, _⟩ => ⟨S2048x32, .f32⟩
  | .hbm, ⟨49, _⟩ => ⟨S2048x32, .f32⟩
  | .hbm, ⟨50, _⟩ => ⟨S1x32, .f32⟩
  | .hbm, ⟨51, _⟩ => ⟨S2048x32, .f32⟩
  | .hbm, ⟨52, _⟩ => ⟨S2048x32, .f32⟩
  | .hbm, ⟨53, _⟩ => ⟨S1x32, .f32⟩
  | .hbm, ⟨54, _⟩ => ⟨S2048x32, .f32⟩
  | .hbm, ⟨55, _⟩ => ⟨S2048x32, .f32⟩
  | .hbm, ⟨56, _⟩ => ⟨S_, .f32⟩
  | .hbm, ⟨57, _⟩ => ⟨S2048x32, .f32⟩
  | .hbm, ⟨58, _⟩ => ⟨S2048x32, .f32⟩
  | .hbm, ⟨59, _⟩ => ⟨S2048x32, .f32⟩
  | .hbm, ⟨60, _⟩ => ⟨S1x32, .f32⟩
  | .hbm, ⟨61, _⟩ => ⟨S2048x32, .f32⟩
  | .hbm, ⟨62, _⟩ => ⟨S2048x32, .f32⟩
  | _, _ => ⟨S2x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_cst_3 : Ref sig .tc := ⟨.hbm, 34, rfl⟩
abbrev main_call0_v12 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_1 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_2 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩

abbrev nD : Nat := 1
abbrev τ : Topo := Topo.v7x

variable {F : FTy → Type} [FloatOps F]
-- ==== Knn.lean ====
abbrev S2x8192x3 : Shape := ⟨3, ![2, 8192, 3]⟩
abbrev S2x1024x3 : Shape := ⟨3, ![2, 1024, 3]⟩
abbrev S2x3x8192 : Shape := ⟨3, ![2, 3, 8192]⟩
abbrev S2x8x8192 : Shape := ⟨3, ![2, 8, 8192]⟩
abbrev S1x1024x3 : Shape := ⟨3, ![1, 1024, 3]⟩
abbrev S1x3x1024 : Shape := ⟨3, ![1, 3, 1024]⟩
abbrev S1x8x1024 : Shape := ⟨3, ![1, 8, 1024]⟩
abbrev S1024x3 : Shape := ⟨2, ![1024, 3]⟩
abbrev S3x1024 : Shape := ⟨2, ![3, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩
abbrev S1x1x1024 : Shape := ⟨3, ![1, 1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2x8192x3, .f32⟩
  | .hbm, ⟨1, _⟩ => ⟨S2x1024x3, .f32⟩
  | .hbm, ⟨2, _⟩ => ⟨S2x3x8192, .f32⟩
  | .hbm, ⟨3, _⟩ => ⟨S2x8x8192, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x8x1024, .f32⟩
  | .local _ .vmem, ⟨5, _⟩ => ⟨S1x8x1024, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KnnReferenceIdeal.lean ====
abbrev S2x8192x3 : Shape := ⟨3, ![2, 8192, 3]⟩
abbrev S2x1024x3 : Shape := ⟨3, ![2, 1024, 3]⟩
abbrev S2x3x1024 : Shape := ⟨3, ![2, 3, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S2x1024 : Shape := ⟨2, ![2, 1024]⟩
abbrev S2x1x1024 : Shape := ⟨3, ![2, 1, 1024]⟩
abbrev S2x3x8192 : Shape := ⟨3, ![2, 3, 8192]⟩
abbrev S2x2x8192 : Shape := ⟨3, ![2, 2, 8192]⟩
abbrev S2x8x8192 : Shape := ⟨3, ![2, 8, 8192]⟩

abbrev nBuf : Space → Nat
  | .hbm => 39
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x1024x3, .f32⟩
  | .hbm, ⟨2, _⟩ => ⟨S2x3x1024, .f32⟩
  | .hbm, ⟨3, _⟩ => ⟨S2x8192x1024, .f32⟩
  | .hbm, ⟨4, _⟩ => ⟨S_, .f32⟩
  | .hbm, ⟨5, _⟩ => ⟨S2x8192x1024, .f32⟩
  | .hbm, ⟨6, _⟩ => ⟨S2x8192x1024, .f32⟩
  | .hbm, ⟨7, _⟩ => ⟨S2x8192x3, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S2x8192x1024, .f32⟩
  | .hbm, ⟨12, _⟩ => ⟨S2x8192x1024, .f32⟩
  | .hbm, ⟨13, _⟩ => ⟨S2x1024x3, .f32⟩
  | .hbm, ⟨14, _⟩ => ⟨S_, .f32⟩
  | .hbm, ⟨15, _⟩ => ⟨S2x1024, .f32⟩
  | .hbm, ⟨16, _⟩ => ⟨S2x1x1024, .f32⟩
  | .hbm, ⟨17, _⟩ => ⟨S2x8192x1024, .f32⟩
  | .hbm, ⟨18, _⟩ => ⟨S2x8192x1024, .f32⟩
  | .hbm, ⟨19, _⟩ => ⟨S_, .f32⟩
  | .hbm, ⟨20, _⟩ => ⟨S_, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S2x8192x3, .f32⟩
  | .hbm, ⟨25, _⟩ => ⟨S2x8192x3, .i32⟩
  | .hbm, ⟨26, _⟩ => ⟨S2x8192x3, .f32⟩
  | .hbm, ⟨27, _⟩ => ⟨S_, .f32⟩
  | .hbm, ⟨28, _⟩ => ⟨S2x8192x3, .f32⟩
  | .hbm, ⟨29, _⟩ => ⟨S2x8192x3, .f32⟩
  | .hbm, ⟨30, _⟩ => ⟨S2x3x8192, .f32⟩
  | .hbm, ⟨31, _⟩ => ⟨S_, .i32⟩
  | .hbm, ⟨32, _⟩ => ⟨S2x8192x3, .i32⟩
  | .hbm, ⟨33, _⟩ => ⟨S2x8192x3, .i32⟩
  | .hbm, ⟨34, _⟩ => ⟨S2x3x8192, .i32⟩
  | .hbm, ⟨35, _⟩ => ⟨S2x3x8192, .f32⟩
  | .hbm, ⟨36, _⟩ => ⟨S_, .f32⟩
  | .hbm, ⟨37, _⟩ => ⟨S2x2x8192, .f32⟩
  | .hbm, ⟨38, _⟩ => ⟨S2x8x8192, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_v15 : Ref sig .tc := ⟨.hbm, 23, rfl⟩
abbrev main_values : Ref sig .tc := ⟨.hbm, 24, rfl⟩
abbrev main_indices : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Proof.InterpIdealFold.lean ====
/- One trip of the interpolation loop, as a recursion over the output rows. -/
module

public import proofs.«01_k».proof.Proof.Gen.InterpIdeal
public import proofs.«01_k».proof.Proof.Gen.InterpIdeal.Skeleton

@[expose] public section

noncomputable section

namespace Cert.InterpIdeal.Fold

open Idealize.ShloMosaic Idealize.SL.Sem Cert.InterpIdeal Cert.InterpIdeal.Gen

variable {F : FTy → Type} [FloatOps F]

/-- Where one trip's sixteen columns start in row `d`. -/
def off (d : Nat) (t : Fin k0_t1_loop.trips) : Fin 2 → Nat :=
  ![d, (Scalar.indexCast (Scalar.muli (Scf.iv 0#32 1#32 t) 16#32)).toNat]

theorem off_eq (d : Nat) (t : Fin k0_t1_loop.trips) : off d t = ![d, 16 * t.val] := by
  have h := k0_off9_eq t
  have h1 : (k0_off9 t) 1 = 16 * t.val := by rw [h]; rfl
  unfold off
  congr 2

theorem off_inb {d : Nat} (hd : d < 32) (t : Fin k0_t1_loop.trips) :
    ∀ a, off d t a + S1x16.size a ≤ S32x512.size a := by
  have ht : t.val < 32 := t.isLt
  rw [off_eq]
  intro a
  match a with
  | 0 => show d + 1 ≤ 32; omega
  | 1 => show 16 * t.val + 16 ≤ 512; omega

/-- The table positions of output row `d`: the first words, moved on by `d`. -/
def posn (v : IVec S16 32) (d : Nat) : IVec S16 32 := addi v (broadcast S16 (BitVec.ofNat 32 d))

section
variable (i : grid0.Coords) (arg6 : Memref sig .scVector .vmem S33792 .f32) (arg7 : Memref sig .scVector .vmem S32x512 .f32)

/-- What one trip does for output row `d`: three gathers from the table, the weighted sum, the store. -/
def row (v17 v21 v25 : IVec S16 32) (v30 v31 v32 : FVec F S16 .f32) (t : Fin k0_t1_loop.trips) (d : Nat) (hd : d < 32) :
    Prog (TpuEff nD τ sig (Elt F) Λ₀ (.scVector ((i 0).castLE hcore0) ((i 1).castLE hsub0))) PUnit := do
  have h1 : k0_chk1 (posn v17 d) := (← Prog.lift (TpuEff.assume (k0_chk1 (posn v17 d)) (k0_chk1.dec (posn v17 d)))).down
  let g1 : Vec F S16 .f32 ← SparseCore.vectorLoadIdx arg6 ![posn v17 d] (k0_idx1_inb _ h1) (View.loads_vmem h_S33792)
  have h2 : k0_chk1 (posn v21 d) := (← Prog.lift (TpuEff.assume (k0_chk1 (posn v21 d)) (k0_chk1.dec (posn v21 d)))).down
  let g2 : Vec F S16 .f32 ← SparseCore.vectorLoadIdx arg6 ![posn v21 d] (k0_idx1_inb _ h2) (View.loads_vmem h_S33792)
  have h3 : k0_chk1 (posn v25 d) := (← Prog.lift (TpuEff.assume (k0_chk1 (posn v25 d)) (k0_chk1.dec (posn v25 d)))).down
  let g3 : Vec F S16 .f32 ← SparseCore.vectorLoadIdx arg6 ![posn v25 d] (k0_idx1_inb _ h3) (View.loads_vmem h_S33792)
  let _ : Vec F S1x16 .f32 ← Prog.lift (.load arg7 (Rect.unit (s := S32x512) (off d t) S1x16.size (off_inb hd t)).toLoadRect (View.loadsAt_vmem h_S1x16))
  Prog.lift (.store arg7 (Rect.unit (s := S32x512) (off d t) S1x16.size (off_inb hd t))
    (shapeCast S1x16 (addf (addf (mulf v30 g1) (mulf v31 g2)) (mulf v32 g3)) shapeCasts_S16_S1x16) Finset.univ
    (View.stores_vmem_bits_univ h_S1x16 rfl) (.inl rfl))

/-- The rows from `d` on, `n` of them. -/
def rows (v17 v21 v25 : IVec S16 32) (v30 v31 v32 : FVec F S16 .f32) (t : Fin k0_t1_loop.trips) : (n d : Nat) → d + n ≤ 32 →
    Prog (TpuEff nD τ sig (Elt F) Λ₀ (.scVector ((i 0).castLE hcore0) ((i 1).castLE hsub0))) PUnit
  | 0, _, _ => pure ⟨⟩
  | n + 1, d, h => do
    row i arg6 arg7 v17 v21 v25 v30 v31 v32 t d (by omega)
    rows v17 v21 v25 v30 v31 v32 t n (d + 1) (by omega)

end

/-- The whole trip: the sixteen queries' weights and first words, then every output row. -/
def trip (i : grid0.Coords) (arg5 : Memref sig .scVector .vmem S8x512 .f32) (arg6 : Memref sig .scVector .vmem S33792 .f32)
    (arg7 : Memref sig .scVector .vmem S32x512 .f32) (t : Fin k0_t1_loop.trips) :
    Prog (TpuEff nD τ sig (Elt F) Λ₀ (.scVector ((i 0).castLE hcore0) ((i 1).castLE hsub0))) PUnit := do
  let a0 : Vec F S1x16 .f32 ← Prog.lift (.load arg5 (Rect.unit (s := S8x512) (k0_off3 t) S1x16.size (k0_off3_inb t)).toLoadRect (View.loadsAt_vmem h_S1x16))
  let a1 : Vec F S1x16 .f32 ← Prog.lift (.load arg5 (Rect.unit (s := S8x512) (k0_off4 t) S1x16.size (k0_off4_inb t)).toLoadRect (View.loadsAt_vmem h_S1x16))
  let a2 : Vec F S1x16 .f32 ← Prog.lift (.load arg5 (Rect.unit (s := S8x512) (k0_off5 t) S1x16.size (k0_off5_inb t)).toLoadRect (View.loadsAt_vmem h_S1x16))
  let a3 : Vec F S1x16 .f32 ← Prog.lift (.load arg5 (Rect.unit (s := S8x512) (k0_off6 t) S1x16.size (k0_off6_inb t)).toLoadRect (View.loadsAt_vmem h_S1x16))
  let a4 : Vec F S1x16 .f32 ← Prog.lift (.load arg5 (Rect.unit (s := S8x512) (k0_off7 t) S1x16.size (k0_off7_inb t)).toLoadRect (View.loadsAt_vmem h_S1x16))
  let a5 : Vec F S1x16 .f32 ← Prog.lift (.load arg5 (Rect.unit (s := S8x512) (k0_off8 t) S1x16.size (k0_off8_inb t)).toLoadRect (View.loadsAt_vmem h_S1x16))
  have w0 : FVec F S16 .f32 := shapeCast S16 a0 shapeCasts_S1x16_S16
  have w1 : FVec F S16 .f32 := shapeCast S16 a1 shapeCasts_S1x16_S16
  have w2 : FVec F S16 .f32 := shapeCast S16 a2 shapeCasts_S1x16_S16
  have r : FVec F S16 .f32 := divf (broadcast S16 (Scalar.ofBits .f32 0x3F800000#32)) (addf (addf w0 w1) w2)
  rows i arg6 arg7 (fptosi 32 (shapeCast S16 a3 shapeCasts_S1x16_S16 : FVec F S16 .f32)) (fptosi 32 (shapeCast S16 a4 shapeCasts_S1x16_S16 : FVec F S16 .f32))
    (fptosi 32 (shapeCast S16 a5 shapeCasts_S1x16_S16 : FVec F S16 .f32)) (mulf w0 r) (mulf w1 r) (mulf w2 r) t 32 0 (by omega)

set_option maxRecDepth 100000 in
set_option maxHeartbeats 4000000 in
/-- The printed trip is that recursion. -/
theorem body_eq (i : grid0.Coords) (arg2 : Memref sig .scVector .hbm S2x8x8192 .f32) (harg2 : arg2.IsWhole) (arg3 : Memref sig .scVector .hbm S67584 .f32) (harg3 : arg3.IsWhole) (arg4 : Memref sig .scVector .hbm S2x32x8192 .f32) (harg4 : arg4.IsWhole) (arg5 : Memref sig .scVector .vmem S8x512 .f32) (harg5 : arg5.IsWhole) (arg6 : Memref sig .scVector .vmem S33792 .f32) (harg6 : arg6.IsWhole) (arg7 : Memref sig .scVector .vmem S32x512 .f32) (harg7 : arg7.IsWhole) (v3_r0 v3_r1 v3_r2 : DmaSems sig S_)
    (t : Fin k0_t1_loop.trips) (x : Unit) :
    k0_t1_body (F := F) i arg2 harg2 arg3 harg3 arg4 harg4 arg5 harg5 arg6 harg6 arg7 harg7 v3_r0 v3_r1 v3_r2 t x = trip i arg5 arg6 arg7 t := rfl

end Cert.InterpIdeal.Fold

end
-- ==== Proof.InterpIdealTrip.lean ====
/- What one trip of the interpolation loop leaves in the tile's result rows. -/
module

public import proofs.«01_k».proof.Proof.InterpIdealFold
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Writes
public import Idealize.ShloMosaic.Lib.ValueLayout

@[expose] public section

noncomputable section

namespace Cert.InterpIdeal.Trip

open Cert.InterpIdeal Cert.InterpIdeal.Gen Cert.InterpIdeal.Fold
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The result, element by element -/

/-- A table position's value; a position past the table reads its first word. -/
def tab {N : Nat} (hN : 0 < N) (z : (⟨1, ![N]⟩ : Shape).Idx → F .f32) (b : BitVec 32) : F .f32 :=
  if h : b.toNat < N then z (ix1 ⟨b.toNat, h⟩) else z (ix1 ⟨0, hN⟩)

/-- One interpolated value from three weights, the three first words and the table. -/
def mix (w0 w1 w2 : F .f32) (p0 p1 p2 : BitVec 32) (z : BitVec 32 → F .f32) (d : Nat) : F .f32 :=
  let r := FloatOps.divf (FloatOps.ofBits .f32 0x3F800000#32) (FloatOps.addf (FloatOps.addf w0 w1) w2)
  FloatOps.addf (FloatOps.addf (FloatOps.mulf (FloatOps.mulf w0 r) (z (p0 + BitVec.ofNat 32 d)))
    (FloatOps.mulf (FloatOps.mulf w1 r) (z (p1 + BitVec.ofNat 32 d)))) (FloatOps.mulf (FloatOps.mulf w2 r) (z (p2 + BitVec.ofNat 32 d)))

theorem pos33792 : 0 < 33792 := by decide

/-- A tile's results from its weights' slice and its table. -/
def tileOut (w : S8x512.Idx → F .f32) (z : S33792.Idx → F .f32) (y : S32x512.Idx) : F .f32 :=
  mix (w (ix2 (0 : Fin 8) (y 1))) (w (ix2 (1 : Fin 8) (y 1))) (w (ix2 (2 : Fin 8) (y 1)))
    (FloatOps.fptosi 32 (w (ix2 (3 : Fin 8) (y 1)))) (FloatOps.fptosi 32 (w (ix2 (4 : Fin 8) (y 1)))) (FloatOps.fptosi 32 (w (ix2 (5 : Fin 8) (y 1))))
    (tab pos33792 z) (y 0).val

/-- Every first word leaves its row inside the table. -/
def FirstOk (w : S8x512.Idx → F .f32) : Prop := ∀ (k : Fin 8) (n : Fin 512), 3 ≤ k.val → k.val < 6 →
  (FloatOps.fptosi 32 (w (ix2 k n)) : BitVec 32).toNat ≤ 33760

theorem posn_lt {v : IVec S16 32} {d : Nat} (hd : d < 32) (h : ∀ x, (v x).toNat ≤ 33760) :
    k0_chk1 (posn v d) := by
  intro a x
  have ha : a = (0 : Fin 1) := Subsingleton.elim _ _
  subst ha
  show ((v x) + BitVec.ofNat 32 d).toNat < 33792
  have := h x
  rw [BitVec.toNat_add, BitVec.toNat_ofNat]
  omega

/-! ## The stores -/

/-- The tile's scratches: its weights' slice, its table, its results. -/
abbrev sW : Memref sig .scVector .vmem S8x512 .f32 := Memref.whole cc0_scratch0
abbrev sZ : Memref sig .scVector .vmem S33792 .f32 := Memref.whole cc0_scratch1
abbrev sO : Memref sig .scVector .vmem S32x512 .f32 := Memref.whole cc0_scratch2

abbrev rowRect (d : Nat) (hd : d < 32) (t : Fin k0_t1_loop.trips) : Rect S32x512 :=
  Rect.unit (s := S32x512) (off d t) S1x16.size (off_inb hd t)

/-- The results written so far: the columns of the earlier trips, and of this one the rows below `d`. -/
def Written (G f : S32x512.Idx → F .f32) (t d : Nat) : Prop :=
  ∀ y : S32x512.Idx, ((y 1).val < 16 * t ∨ ((y 1).val < 16 * t + 16 ∧ (y 0).val < d)) → f y = G y

theorem written_next {G f : S32x512.Idx → F .f32} {t : Nat} (h : Written G f t 32) : Written G f (t + 1) 0 := by
  intro y hy
  have h0 : (y 0).val < 32 := (y 0).isLt
  exact h y (by omega)

theorem written_row (G f : S32x512.Idx → F .f32) (t : Fin k0_t1_loop.trips) (d : Nat) (hd : d < 32) (h : Written G f t d)
    (w : S1x16.Idx → F .f32)
    (hw : ∀ (x : Fin 16), w (ix2 (0 : Fin 1) x) = G (ix2 ⟨d, hd⟩ ⟨16 * t.val + x.val, by have := t.isLt; have : k0_t1_loop.trips = 32 := rfl; have := x.isLt; omega⟩)) :
    Written G (sO.view.writes (Elt F) f [⟨rowRect d hd t, w⟩]) t (d + 1) := by
  intro y hy
  have hlt : (y 1).val < 512 := (y 1).isLt
  show sO.view.read (Elt F) (sO.view.writes (Elt F) f [⟨rowRect d hd t, w⟩]) y = G y
  have o0 : off d t 0 = d := by rw [off_eq]; rfl
  have o1 : off d t 1 = 16 * t.val := by rw [off_eq]; rfl
  by_cases hc : (y 0).val = d ∧ 16 * t.val ≤ (y 1).val ∧ (y 1).val < 16 * t.val + 16
  · obtain ⟨h0, h1, h2⟩ := hc
    have hx : (y 1).val - 16 * t.val < 16 := by omega
    refine (View.read_writes_cons_hit_of_coords (Val := Elt F) sO.view f (rowRect d hd t) w [] (ix2 (0 : Fin 1) (⟨(y 1).val - 16 * t.val, hx⟩ : Fin 16)) y ?_).trans ?_
    · intro a
      match a with
      | 0 => show (y 0).val = off d t 0 + 1 * 0; omega
      | 1 => show (y 1).val = off d t 1 + 1 * ((y 1).val - 16 * t.val); omega
    · refine (hw _).trans (congrArg G ?_)
      refine Eq.trans ?_ (eq_ix2 y).symm
      congr 1
      · exact Fin.ext h0.symm
      · exact Fin.ext (by show 16 * t.val + ((y 1).val - 16 * t.val) = (y 1).val; omega)
  · have hold : f y = G y := h y (by omega)
    by_cases h0 : (y 0).val = d
    · refine (View.read_writes_cons_miss_of_axis (Val := Elt F) sO.view f ⟨rowRect d hd t, w⟩ [] y 1 (16 * t.val) 16 o1 rfl rfl (by omega)).trans hold
    · refine (View.read_writes_cons_miss_of_axis (Val := Elt F) sO.view f ⟨rowRect d hd t, w⟩ [] y 0 d 1 o0 rfl rfl (by omega)).trans hold

/-- A gathered value is the table's at the first word moved on by the row. -/
theorem gather_eq (z : S33792.Idx → F .f32) (v : IVec S16 32) (d : Nat) (h : k0_chk1 (posn v d)) (x : Fin 16) :
    loadIdx (F := F) (e := .f32) z ![posn v d] (k0_idx1_inb _ h) (ix1 x) = tab pos33792 z (v (ix1 x) + BitVec.ofNat 32 d) := by
  have hx : (v (ix1 x) + BitVec.ofNat 32 d).toNat < 33792 := h 0 (ix1 x)
  unfold tab
  rw [dif_pos hx]
  refine congrArg z (funext fun a => ?_)
  match a with
  | ⟨0, _⟩ => rfl

/-- A load of sixteen of the slice's values, at one of them. -/
theorem load_eq (w : S8x512.Idx → F .f32) (k : Fin 8) (t : Fin k0_t1_loop.trips) (o : Fin 2 → Nat) (ho : o = ![k.val, 16 * t.val])
    (inb : ∀ a, o a + S1x16.size a ≤ S8x512.size a) (x : Fin 16) (hx : 16 * t.val + x.val < 512) :
    (shapeCast S16 (sW.view.readAt (Elt F) (Rect.unit (s := S8x512) o S1x16.size inb).toLoadRect w) shapeCasts_S1x16_S16 : FVec F S16 .f32) (ix1 x)
      = w (ix2 k ⟨16 * t.val + x.val, hx⟩) := by
  subst ho
  refine (shapeCast_1a_a_apply _ _ x).trans (congrArg w (funext fun a => Fin.ext ?_))
  match a with
  | ⟨0, _⟩ => show k.val + 1 * 0 = k.val; omega
  | ⟨1, _⟩ => show 16 * t.val + 1 * x.val = 16 * t.val + x.val; omega

/-! ## One row, every row -/

abbrev 𝒱₀ : Variants := Variants.none
abbrev UU : Type := URounds (GSem nD τ sig) ℕ × Counters

local notation "𝕄" => MT nD τ sig (HIx 1) (Elt F) ℕ UU ℕ
/-- The tile at grid coordinates `i` of device `e`. -/
abbrev at_ (e : Dev nD) (i : grid0.Coords) : Thread nD τ := V e ((i 0).castLE hcore0) ((i 1).castLE hsub0)

section
variable (e : Dev nD) (i : grid0.Coords) (E : Set ℕ)

theorem wp_row (Q : PUnit.{1} → sProp 𝕄) (G f : S32x512.Idx → F .f32) (z : S33792.Idx → F .f32) (v17 v21 v25 : IVec S16 32) (v30 v31 v32 : FVec F S16 .f32)
    (t : Fin k0_t1_loop.trips) (d : Nat) (hd : d < 32) (h17 : ∀ x, (v17 x).toNat ≤ 33760) (h21 : ∀ x, (v21 x).toNat ≤ 33760) (h25 : ∀ x, (v25 x).toNat ≤ 33760)
    (hG : ∀ x : Fin 16, FloatOps.addf (FloatOps.addf (FloatOps.mulf (v30 (ix1 x)) (tab pos33792 z (v17 (ix1 x) + BitVec.ofNat 32 d)))
        (FloatOps.mulf (v31 (ix1 x)) (tab pos33792 z (v21 (ix1 x) + BitVec.ofNat 32 d)))) (FloatOps.mulf (v32 (ix1 x)) (tab pos33792 z (v25 (ix1 x) + BitVec.ofNat 32 d)))
      = G (ix2 ⟨d, hd⟩ ⟨16 * t.val + x.val, by have := t.isLt; have : k0_t1_loop.trips = 32 := rfl; have := x.isLt; omega⟩))
    (hf : Written G f t d) (k : PUnit.{1} → Prog (TpuEff nD τ sig (Elt F) Λ₀ (.scVector ((i 0).castLE hcore0) ((i 1).castLE hsub0))) PUnit) :
    iprop((sZ.view.loc (at_ e i) ↦[Finset.univ]{fullShare} z) ∗ (sO.view.loc (at_ e i) ↦[Finset.univ]{fullShare} f))
      ⊢ iprop((∀ f' : S32x512.Idx → F .f32, ⌜Written G f' t (d + 1)⌝ -∗ (sZ.view.loc (at_ e i) ↦[Finset.univ]{fullShare} z)
            -∗ (sO.view.loc (at_ e i) ↦[Finset.univ]{fullShare} f') -∗ wp frame (wpE (defs₀ (F := F)) 𝒱₀ (at_ e i) none) E (k ⟨⟩) Q)
          -∗ wp frame (wpE (defs₀ (F := F)) 𝒱₀ (at_ e i) none) E (row i sZ sO v17 v21 v25 v30 v31 v32 t d hd >>= k) Q) := by
  have c17 := posn_lt hd h17
  have c21 := posn_lt hd h21
  have c25 := posn_lt hd h25
  iintro ⟨Hz, Ho⟩ Hk
  unfold row
  simp only [Prog.lift, Prog.bind_op, Prog.bind_ret, Prog.pure_eq_ret, Prog.bind_assoc]
  rw [wp_assume_of _ _ _ _ c17]
  iapply (SparseCore.wp_vectorLoadIdx 𝒱₀ (at_ e i) none E (base := sZ) (S := Finset.univ) (q := fullShare) (Finset.subset_univ _)) $$ Hz; iintro Hz
  rw [wp_assume_of _ _ _ _ c21]
  iapply (SparseCore.wp_vectorLoadIdx 𝒱₀ (at_ e i) none E (base := sZ) (S := Finset.univ) (q := fullShare) (Finset.subset_univ _)) $$ Hz; iintro Hz
  rw [wp_assume_of _ _ _ _ c25]
  iapply (SparseCore.wp_vectorLoadIdx 𝒱₀ (at_ e i) none E (base := sZ) (S := Finset.univ) (q := fullShare) (Finset.subset_univ _)) $$ Hz; iintro Hz
  iapply (wp_load 𝒱₀ (at_ e i) none E (m := sO) (S := Finset.univ) (Finset.subset_univ _)) $$ Ho; iintro Ho
  iapply (wp_store_writes₀ 𝒱₀ (at_ e i) none E (m := sO) (r := rowRect d hd t) (S := Finset.univ) (Finset.subset_univ _)) $$ Ho; iintro Ho
  iapply Hk $$ [] Hz Ho
  ipureintro
  refine written_row G f t d hd hf (shapeCast S1x16 _ shapeCasts_S16_S1x16) fun x => ?_
  refine (shapeCast_a_1a_apply _ _ 0 x).trans (Eq.trans ?_ (hG x))
  rw [← gather_eq z v17 d c17 x, ← gather_eq z v21 d c21 x, ← gather_eq z v25 d c25 x]
  have hz : (sZ.access (Rect.whole S33792)).read (Elt F) z = z := Memref.read_access_whole (Elt F) cc0_scratch1 z
  rw [hz]
  rfl

theorem wp_rows (Q : PUnit.{1} → sProp 𝕄) (G : S32x512.Idx → F .f32) (z : S33792.Idx → F .f32) (v17 v21 v25 : IVec S16 32) (v30 v31 v32 : FVec F S16 .f32)
    (t : Fin k0_t1_loop.trips) (h17 : ∀ x, (v17 x).toNat ≤ 33760) (h21 : ∀ x, (v21 x).toNat ≤ 33760) (h25 : ∀ x, (v25 x).toNat ≤ 33760)
    (hG : ∀ (d : Nat) (hd : d < 32) (x : Fin 16), FloatOps.addf (FloatOps.addf (FloatOps.mulf (v30 (ix1 x)) (tab pos33792 z (v17 (ix1 x) + BitVec.ofNat 32 d)))
        (FloatOps.mulf (v31 (ix1 x)) (tab pos33792 z (v21 (ix1 x) + BitVec.ofNat 32 d)))) (FloatOps.mulf (v32 (ix1 x)) (tab pos33792 z (v25 (ix1 x) + BitVec.ofNat 32 d)))
      = G (ix2 ⟨d, hd⟩ ⟨16 * t.val + x.val, by have := t.isLt; have : k0_t1_loop.trips = 32 := rfl; have := x.isLt; omega⟩)) :
    ∀ (n d : Nat) (h : d + n ≤ 32) (f : S32x512.Idx → F .f32), Written G f t d →
    iprop((sZ.view.loc (at_ e i) ↦[Finset.univ]{fullShare} z) ∗ (sO.view.loc (at_ e i) ↦[Finset.univ]{fullShare} f))
      ⊢ iprop((∀ f' : S32x512.Idx → F .f32, ⌜Written G f' t (d + n)⌝ -∗ (sZ.view.loc (at_ e i) ↦[Finset.univ]{fullShare} z)
            -∗ (sO.view.loc (at_ e i) ↦[Finset.univ]{fullShare} f') -∗ Q ⟨⟩)
          -∗ wp frame (wpE (defs₀ (F := F)) 𝒱₀ (at_ e i) none) E (rows i sZ sO v17 v21 v25 v30 v31 v32 t n d h) Q) := by
  intro n
  induction n with
  | zero =>
    intro d h f hf
    iintro ⟨Hz, Ho⟩ Hk
    unfold rows
    rw [Prog.pure_eq_ret, wp_ret]
    imodintro
    iapply Hk $$ [] Hz Ho
    ipureintro
    exact hf
  | succ n ih =>
    intro d h f hf
    iintro ⟨Hz, Ho⟩ Hk
    unfold rows
    iapply (wp_row e i E Q G f z v17 v21 v25 v30 v31 v32 t d (Nat.lt_of_lt_of_le (Nat.lt_add_of_pos_right (Nat.succ_pos n)) h) h17 h21 h25 (hG d _) hf _) $$ [Hz Ho]
    · isplitl [Hz]; · iexact Hz
      iexact Ho
    iintro %f' %hf' Hz Ho
    iapply (ih (d + 1) _ f' hf') $$ [Hz Ho]
    · isplitl [Hz]; · iexact Hz
      iexact Ho
    rw [show d + 1 + n = d + (n + 1) by omega]
    iexact Hk

/-! ## One trip -/

/-- Before trip `t`: the slice and the table as they are, the results' earlier columns written. -/
def inv (w : S8x512.Idx → F .f32) (z : S33792.Idx → F .f32) (t : Nat) (_ : Unit) : sProp 𝕄 :=
  iprop((sW.view.loc (at_ e i) ↦[Finset.univ]{fullShare} w) ∗ (sZ.view.loc (at_ e i) ↦[Finset.univ]{fullShare} z)
    ∗ ∃ f : S32x512.Idx → F .f32, ⌜Written (tileOut w z) f t 0⌝ ∗ (sO.view.loc (at_ e i) ↦[Finset.univ]{fullShare} f))

theorem wp_trip (w : S8x512.Idx → F .f32) (z : S33792.Idx → F .f32) (hw : FirstOk w) (t : Fin k0_t1_loop.trips) (x : Unit) :
    inv e i w z t.val x ⊢ wp frame (wpE (defs₀ (F := F)) 𝒱₀ (at_ e i) none) E (trip i sW sZ sO t) (fun _ => inv e i w z (t.val + 1) ⟨⟩) := by
  have h32 : t.val < 32 := t.isLt
  have hc : ∀ x : Fin 16, 16 * t.val + x.val < 512 := fun x => by have := x.isLt; omega
  have l0 := fun x => load_eq w 0 t _ (k0_off3_eq t) (k0_off3_inb t) x (hc x)
  have l1 := fun x => load_eq w 1 t _ (k0_off4_eq t) (k0_off4_inb t) x (hc x)
  have l2 := fun x => load_eq w 2 t _ (k0_off5_eq t) (k0_off5_inb t) x (hc x)
  have l3 := fun x => load_eq w 3 t _ (k0_off6_eq t) (k0_off6_inb t) x (hc x)
  have l4 := fun x => load_eq w 4 t _ (k0_off7_eq t) (k0_off7_inb t) x (hc x)
  have l5 := fun x => load_eq w 5 t _ (k0_off8_eq t) (k0_off8_inb t) x (hc x)
  unfold inv
  iintro ⟨Hw, Hz, %f, %hf, Ho⟩
  unfold trip
  simp only [Prog.lift, Prog.bind_op, Prog.bind_ret, Prog.pure_eq_ret, Prog.bind_assoc]
  iapply (wp_load 𝒱₀ (at_ e i) none E (m := sW) (S := Finset.univ) (Finset.subset_univ _)) $$ Hw; iintro Hw
  iapply (wp_load 𝒱₀ (at_ e i) none E (m := sW) (S := Finset.univ) (Finset.subset_univ _)) $$ Hw; iintro Hw
  iapply (wp_load 𝒱₀ (at_ e i) none E (m := sW) (S := Finset.univ) (Finset.subset_univ _)) $$ Hw; iintro Hw
  iapply (wp_load 𝒱₀ (at_ e i) none E (m := sW) (S := Finset.univ) (Finset.subset_univ _)) $$ Hw; iintro Hw
  iapply (wp_load 𝒱₀ (at_ e i) none E (m := sW) (S := Finset.univ) (Finset.subset_univ _)) $$ Hw; iintro Hw
  iapply (wp_load 𝒱₀ (at_ e i) none E (m := sW) (S := Finset.univ) (Finset.subset_univ _)) $$ Hw; iintro Hw
  have hR := fun v17 v21 v25 v30 v31 v32 a b c g =>
    wp_rows (F := F) e i E (fun _ => inv e i w z (t.val + 1) ⟨⟩) (tileOut w z) z v17 v21 v25 v30 v31 v32 t a b c g 32 0 (by omega) f hf
  iapply (hR _ _ _ _ _ _ ?a ?b ?c ?g) $$ [Hz Ho]
  case a => intro x; rw [eq_ix1 x]; exact (congrArg (fun b : F .f32 => (FloatOps.fptosi 32 b : BitVec 32).toNat) (l3 (x 0))).trans_le (hw 3 _ (by decide) (by decide))
  case b => intro x; rw [eq_ix1 x]; exact (congrArg (fun b : F .f32 => (FloatOps.fptosi 32 b : BitVec 32).toNat) (l4 (x 0))).trans_le (hw 4 _ (by decide) (by decide))
  case c => intro x; rw [eq_ix1 x]; exact (congrArg (fun b : F .f32 => (FloatOps.fptosi 32 b : BitVec 32).toNat) (l5 (x 0))).trans_le (hw 5 _ (by decide) (by decide))
  case g =>
    intro d hd x
    show _ = mix (w (ix2 0 ⟨16 * t.val + x.val, hc x⟩)) (w (ix2 1 ⟨16 * t.val + x.val, hc x⟩)) (w (ix2 2 ⟨16 * t.val + x.val, hc x⟩))
      (FloatOps.fptosi 32 (w (ix2 3 ⟨16 * t.val + x.val, hc x⟩))) (FloatOps.fptosi 32 (w (ix2 4 ⟨16 * t.val + x.val, hc x⟩)))
      (FloatOps.fptosi 32 (w (ix2 5 ⟨16 * t.val + x.val, hc x⟩))) (tab pos33792 z) d
    rw [← l0 x, ← l1 x, ← l2 x, ← l3 x, ← l4 x, ← l5 x]
    rfl
  · isplitl [Hz]; · iexact Hz
    iexact Ho
  iintro %f' %hf' Hz Ho
  unfold inv
  isplitl [Hw]; · iexact Hw
  isplitl [Hz]; · iexact Hz
  iexists f'
  isplitr
  · ipureintro
    exact written_next hf'
  · iexact Ho

end

end Cert.InterpIdeal.Trip

end
-- ==== Proof.InterpIdealTile.lean ====
/- One tile's task: its weights and its table copied in, the rows computed, its block of the result copied out. -/
module

public import proofs.«01_k».proof.Proof.InterpIdealTrip

@[expose] public section

noncomputable section

namespace Cert.InterpIdeal.Tile

open Cert.InterpIdeal Cert.InterpIdeal.Gen Cert.InterpIdeal.Fold Cert.InterpIdeal.Trip
open Idealize.ShloMosaic Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What the call computes -/

/-- Batch `b`'s table in the flat array of both. -/
def tabOf (z : S67584.Idx → F .f32) (b : Fin 2) : S33792.Idx → F .f32 :=
  fun p => z (ix1 ⟨33792 * b.val + (p 0).val, by have := b.isLt; have : (p 0).val < 33792 := (p 0).isLt; omega⟩)

/-- A tile's columns of the weights. -/
def colsOf (w : S2x8x8192.Idx → F .f32) (b : Fin 2) (s : Fin 16) : S8x512.Idx → F .f32 :=
  fun p => w (ix3 b (p 0) ⟨512 * s.val + (p 1).val, by have := s.isLt; have : (p 1).val < 512 := (p 1).isLt; omega⟩)

/-- The call's result. -/
def interpOut [FloatOps F] (w : S2x8x8192.Idx → F .f32) (z : S67584.Idx → F .f32) (y : S2x32x8192.Idx) : F .f32 :=
  mix (w (ix3 (y 0) (0 : Fin 8) (y 2))) (w (ix3 (y 0) (1 : Fin 8) (y 2))) (w (ix3 (y 0) (2 : Fin 8) (y 2)))
    (FloatOps.fptosi 32 (w (ix3 (y 0) (3 : Fin 8) (y 2)))) (FloatOps.fptosi 32 (w (ix3 (y 0) (4 : Fin 8) (y 2))))
    (FloatOps.fptosi 32 (w (ix3 (y 0) (5 : Fin 8) (y 2)))) (tab pos33792 (tabOf z (y 0))) (y 1).val

/-- Every first word of the weights' array leaves its row inside the table. -/
def WordsOk [FloatOps F] (w : S2x8x8192.Idx → F .f32) : Prop := ∀ (b : Fin 2) (k : Fin 8) (n : Fin 8192), 3 ≤ k.val → k.val < 6 →
  (FloatOps.fptosi 32 (w (ix3 b k n)) : BitVec 32).toNat ≤ 33760

theorem firstOk [FloatOps F] {w : S2x8x8192.Idx → F .f32} (h : WordsOk w) (b : Fin 2) (s : Fin 16) : FirstOk (colsOf w b s) :=
  fun k n h3 h6 => h b k _ h3 h6

/-! ## The tile's slices -/

variable (d : Dev nD) (L : grid0.Coords)

abbrev cV (L : grid0.Coords) : Fin τ.nSC := (L 0).castLE hcore0
abbrev jV (L : grid0.Coords) : Fin τ.nSub := (L 1).castLE hsub0
abbrev bL (L : grid0.Coords) : Fin 2 := Fin.cast (show grid0.bound 0 = 2 from rfl) (L 0)
abbrev sL (L : grid0.Coords) : Fin 16 := Fin.cast (show grid0.bound 1 = 16 from rfl) (L 1)

abbrev wV : Memref sig .scVector .hbm S2x8x8192 .f32 := Memref.whole main_arg0_scv
abbrev zV : Memref sig .scVector .hbm S67584 .f32 := Memref.whole main_v1_scv
abbrev oV : Memref sig .scVector .hbm S2x32x8192 .f32 := Memref.whole main_v2_scv

abbrev wSl : Memref sig .scVector .hbm S8x512 .f32 :=
  (wV.slice (Rect.unit (s := S2x8x8192) (k0_off1 L) S1x8x512.size (k0_off1_inb L)) (fun _ => rfl)).squeeze S8x512 squeezes_S1x8x512_S8x512
abbrev zSl : Memref sig .scVector .hbm S33792 .f32 :=
  zV.slice (Rect.unit (s := S67584) (k0_off2 L) S33792.size (k0_off2_inb L)) (fun _ => rfl)
abbrev oSl : Memref sig .scVector .hbm S32x512 .f32 :=
  (oV.slice (Rect.unit (s := S2x32x8192) (k0_off41 L) S1x32x512.size (k0_off41_inb L)) (fun _ => rfl)).squeeze S32x512 squeezes_S1x32x512_S32x512

abbrev wLoc (d : Dev nD) : Loc nD τ sig := (SparseCore.T d).loc main_arg0
abbrev zLoc (d : Dev nD) : Loc nD τ sig := (SparseCore.T d).loc main_v1
abbrev oLoc (d : Dev nD) : Loc nD τ sig := (SparseCore.T d).loc main_v2

/-- The tile's block of the result. -/
abbrev oSet : Finset S2x32x8192.Idx := (oSl L).view.set

theorem wSl_emb (k : Fin 8) (n : Fin 512) :
    (wSl L).view.emb (ix2 k n) = ix3 (bL L) k ⟨512 * (sL L).val + n.val, by have := (sL L).isLt; have := n.isLt; omega⟩ := by
  show (Rect.unit (s := S2x8x8192) (k0_off1 L) S1x8x512.size (k0_off1_inb L)).emb (Shape.reshapeEquiv _ (ix2 k n)) = _
  rw [reshapeEquiv_ix2_1ab]
  funext a
  apply Fin.ext
  have e := congrFun (k0_off1_eq L) a
  match a with
  | 0 => show k0_off1 L 0 + 1 * 0 = _; rw [e]; rfl
  | 1 => show k0_off1 L 1 + 1 * k.val = _; rw [e]; show 0 + 1 * k.val = k.val; omega
  | 2 => show k0_off1 L 2 + 1 * n.val = _; rw [e]; show 512 * (L 1).val + 1 * n.val = 512 * (L 1).val + n.val; omega

theorem oSl_emb (k : Fin 32) (n : Fin 512) :
    (oSl L).view.emb (ix2 k n) = ix3 (bL L) k ⟨512 * (sL L).val + n.val, by have := (sL L).isLt; have := n.isLt; omega⟩ := by
  show (Rect.unit (s := S2x32x8192) (k0_off41 L) S1x32x512.size (k0_off41_inb L)).emb (Shape.reshapeEquiv _ (ix2 k n)) = _
  rw [reshapeEquiv_ix2_1ab]
  funext a
  apply Fin.ext
  have e := congrFun (k0_off41_eq L) a
  match a with
  | 0 => show k0_off41 L 0 + 1 * 0 = _; rw [e]; rfl
  | 1 => show k0_off41 L 1 + 1 * k.val = _; rw [e]; show 0 + 1 * k.val = k.val; omega
  | 2 => show k0_off41 L 2 + 1 * n.val = _; rw [e]; show 512 * (L 1).val + 1 * n.val = 512 * (L 1).val + n.val; omega

theorem zSl_emb (p : Fin 33792) :
    (zSl L).view.emb (ix1 p) = ix1 ⟨33792 * (bL L).val + p.val, by have := (bL L).isLt; have := p.isLt; omega⟩ := by
  show (Rect.unit (s := S67584) (k0_off2 L) S33792.size (k0_off2_inb L)).emb (ix1 p) = _
  funext a
  apply Fin.ext
  have e := congrFun (k0_off2_eq L) a
  match a with
  | 0 => show k0_off2 L 0 + 1 * p.val = _; rw [e]; show 33792 * (L 0).val + 1 * p.val = 33792 * (L 0).val + p.val; omega

theorem read_wSl (w : S2x8x8192.Idx → F .f32) : (wSl L).view.read (Elt F) w = colsOf w (bL L) (sL L) := by
  funext x
  rw [eq_ix2 x]
  exact ((View.read_apply _ _).trans (cast_eq _ _)).trans (congrArg w (wSl_emb L (x 0) (x 1)))

theorem read_zSl (z : S67584.Idx → F .f32) : (zSl L).view.read (Elt F) z = tabOf z (bL L) := by
  funext x
  rw [eq_ix1 x]
  exact ((View.read_apply _ _).trans (cast_eq _ _)).trans (congrArg z (zSl_emb L (x 0)))

/-! ## The tile's own cells and buffers -/

abbrev cell0 (d : Dev nD) (L : grid0.Coords) : GSem nD τ sig := (at_ d L, .dma cc0_scoped0.sem)
abbrev cell1 (d : Dev nD) (L : grid0.Coords) : GSem nD τ sig := (at_ d L, .dma cc0_scoped1.sem)
abbrev cell2 (d : Dev nD) (L : grid0.Coords) : GSem nD τ sig := (at_ d L, .dma cc0_scoped2.sem)

theorem ownSems0_at :
    (ownSems0 (at_ d L) : sProp 𝕄)
      = iprop(semVal (cell0 d L) 0 ∗ semVal (cell1 d L) 0 ∗ semVal (cell2 d L) 0
          ∗ bigSep ((((ownCells (at_ d L)).erase (cell0 d L)).erase (cell1 d L)).erase (cell2 d L)) fun g => semVal g 0) := by
  have h10 : cell1 d L ≠ cell0 d L := fun e => absurd (congrArg Prod.snd e) (show (SemLoc.dma cc0_scoped1.sem : SemLoc sig) ≠ .dma cc0_scoped0.sem by decide)
  have h20 : cell2 d L ≠ cell0 d L := fun e => absurd (congrArg Prod.snd e) (show (SemLoc.dma cc0_scoped2.sem : SemLoc sig) ≠ .dma cc0_scoped0.sem by decide)
  have h21 : cell2 d L ≠ cell1 d L := fun e => absurd (congrArg Prod.snd e) (show (SemLoc.dma cc0_scoped2.sem : SemLoc sig) ≠ .dma cc0_scoped1.sem by decide)
  have m0 : cell0 d L ∈ ownCells (at_ d L) := mem_ownCells.mpr ⟨rfl, show (SemLoc.dma cc0_scoped0.sem : SemLoc sig).isScoped .scVector = true by decide⟩
  have m1 : cell1 d L ∈ ownCells (at_ d L) := mem_ownCells.mpr ⟨rfl, show (SemLoc.dma cc0_scoped1.sem : SemLoc sig).isScoped .scVector = true by decide⟩
  have m2 : cell2 d L ∈ ownCells (at_ d L) := mem_ownCells.mpr ⟨rfl, show (SemLoc.dma cc0_scoped2.sem : SemLoc sig).isScoped .scVector = true by decide⟩
  unfold SparseCore.Cfg.ownSems0
  rw [SparseCore.bigSep_erase' m0, SparseCore.bigSep_erase' (Finset.mem_erase.mpr ⟨h10, m1⟩),
    SparseCore.bigSep_erase' (Finset.mem_erase.mpr ⟨h21, Finset.mem_erase.mpr ⟨h20, m2⟩⟩)]

abbrev ref0 (L : grid0.Coords) : DevRef τ sig := (Proc.scVector (cV L) (jV L)).devRef cc0_scratch0
abbrev ref1 (L : grid0.Coords) : DevRef τ sig := (Proc.scVector (cV L) (jV L)).devRef cc0_scratch1
abbrev ref2 (L : grid0.Coords) : DevRef τ sig := (Proc.scVector (cV L) (jV L)).devRef cc0_scratch2

theorem ownBufs_at :
    (ownBufs (at_ d L) : sProp 𝕄)
      = iprop((∃ f, (at_ d L).loc cc0_scratch0 ↦{fullShare} f) ∗ (∃ f, (at_ d L).loc cc0_scratch1 ↦{fullShare} f)
          ∗ (∃ f, (at_ d L).loc cc0_scratch2 ↦{fullShare} f)
          ∗ bigSep ((((ownRefs (τ := τ) (.scVector (cV L) (jV L))).erase (ref0 L)).erase (ref1 L)).erase (ref2 L))
              fun b => iprop(∃ f, ((d, b) : Loc nD τ sig) ↦{fullShare} f)) := by
  have h10 : ref1 L ≠ ref0 L := fun e => absurd (Proc.devRef_injective _ e) (show (cc0_scratch1 : Ref sig .scVector) ≠ cc0_scratch0 by decide)
  have h20 : ref2 L ≠ ref0 L := fun e => absurd (Proc.devRef_injective _ e) (show (cc0_scratch2 : Ref sig .scVector) ≠ cc0_scratch0 by decide)
  have h21 : ref2 L ≠ ref1 L := fun e => absurd (Proc.devRef_injective _ e) (show (cc0_scratch2 : Ref sig .scVector) ≠ cc0_scratch1 by decide)
  have m0 : ref0 L ∈ ownRefs (τ := τ) (.scVector (cV L) (jV L)) := SparseCore.Cfg.mem_ownRefs_of_owner (p := Proc.scVector (cV L) (jV L)) (b := ref0 L) rfl
  have m1 : ref1 L ∈ ownRefs (τ := τ) (.scVector (cV L) (jV L)) := SparseCore.Cfg.mem_ownRefs_of_owner (p := Proc.scVector (cV L) (jV L)) (b := ref1 L) rfl
  have m2 : ref2 L ∈ ownRefs (τ := τ) (.scVector (cV L) (jV L)) := SparseCore.Cfg.mem_ownRefs_of_owner (p := Proc.scVector (cV L) (jV L)) (b := ref2 L) rfl
  unfold SparseCore.Cfg.ownBufs
  refine (SparseCore.bigSep_erase' m0).trans ?_
  rw [SparseCore.bigSep_erase' (Finset.mem_erase.mpr ⟨h10, m1⟩),
    SparseCore.bigSep_erase' (Finset.mem_erase.mpr ⟨h21, Finset.mem_erase.mpr ⟨h20, m2⟩⟩)]

/-! ## The task -/

theorem set_wV : wV.view.set = Finset.univ := View.set_whole _

variable [FloatOps F]

/-- What a task takes: shares of the weights and the tables, its own block of the result. -/
abbrev goes (d : Dev nD) (q : PosShare TreeShare) (I : Finset S2x32x8192.Idx) (w : S2x8x8192.Idx → F .f32) (z : S67584.Idx → F .f32)
    (o : S2x32x8192.Idx → F .f32) : sProp 𝕄 :=
  iprop((wLoc d ↦{q} w) ∗ (zLoc d ↦{q} z) ∗ (oLoc d ↦[I]{fullShare} o))

theorem written_zero (G f : S32x512.Idx → F .f32) : Written G f 0 0 := fun y h => by
  rcases h with h | ⟨-, h⟩
  · exact absurd h (by omega)
  · exact absurd h (by omega)

theorem written_all {G f : S32x512.Idx → F .f32} (h : Written G f 32 0) : f = G := by
  funext y
  refine h y ?_
  have : (y 1).val < 512 := (y 1).isLt
  omega

theorem write_oSl (w : S2x8x8192.Idx → F .f32) (z : S67584.Idx → F .f32) (o : S2x32x8192.Idx → F .f32) (p : S32x512.Idx → F .f32)
    (hp : p = tileOut (colsOf w (bL L) (sL L)) (tabOf z (bL L))) (y : S2x32x8192.Idx) (hy : y ∈ oSet L) :
    (oSl L).view.writes (Elt F) o [⟨Rect.whole S32x512, p⟩] y = interpOut w z y := by
  subst hp
  obtain ⟨x, -, rfl⟩ := Finset.mem_map.mp hy
  have h := View.read_writes_cons_emb (Val := Elt F) (oSl L).view o (Rect.whole S32x512) (tileOut (colsOf w (bL L) (sL L)) (tabOf z (bL L))) [] x
  rw [show (Rect.whole S32x512).emb x = x from Rect.emb_whole_apply S32x512 x] at h
  refine (((View.read_apply _ _).trans (cast_eq _ _)).symm.trans h).trans ?_
  rw [eq_ix2 x]
  exact (congrArg (interpOut w z) (oSl_emb L (x 0) (x 1))).symm

set_option maxRecDepth 16384 in
set_option maxHeartbeats 4000000 in
theorem tile_body (w : S2x8x8192.Idx → F .f32) (z : S67584.Idx → F .f32) (o : S2x32x8192.Idx → F .f32) (hw : WordsOk w) (q : PosShare TreeShare)
    (O : CellTallies nD τ sig (HIx 1)) (W : Waits sig (HIx 1)) :
    iprop(Transfers.MayWaits (at_ d L) (default : HIx 1) O ∗ goes d q (oSet L) w z o ∗ ownBufs (at_ d L) ∗ ownSems0 (at_ d L) ∗ owes (at_ d L) O W)
      ⊢ wp frame (wpE (defs₀ (F := F)) 𝒱₀ (at_ d L) none) Set.univ
          (cc0__sc_interp_body L wV (Memref.isWhole_whole _) zV (Memref.isWhole_whole _) oV (Memref.isWhole_whole _)
            sW (Memref.isWhole_whole _) sZ (Memref.isWhole_whole _) sO (Memref.isWhole_whole _) cc0_scoped0 cc0_scoped1 cc0_scoped2)
          fun _ => iprop(goes d q (oSet L) w z (interpOut w z) ∗ ownBufs (at_ d L) ∗ ownSems0 (at_ d L)
            ∗ ∃ W', ⌜∀ p ∈ W', p ∈ W ∨ p.2 = none⌝ ∗ owes (at_ d L) O W') := by
  simp only [cc0__sc_interp_body_eq_skeleton]; unfold cc0__sc_interp_body_skel
  rw [ownSems0_at, ownBufs_at]
  iintro ⟨Hmw, ⟨Hw, Hz, Ho⟩, ⟨⟨%f0, H0⟩, ⟨%f1, H1⟩, ⟨%f2, H2⟩, Hbufs⟩, ⟨HsA, HsB, HsC, Hsems⟩, HO⟩
  ihave Hw := (Entails.of_eq (show (wLoc d ↦{q} w : sProp 𝕄) = (wV.view.loc (at_ d L) ↦{q} w) from rfl)) $$ Hw
  ihave Hz := (Entails.of_eq (show (zLoc d ↦{q} z : sProp 𝕄) = (zV.view.loc (at_ d L) ↦{q} z) from rfl)) $$ Hz
  ihave Ho := (Entails.of_eq (show (oLoc d ↦[oSet L]{fullShare} o : sProp 𝕄) = ((oSl L).view.loc (at_ d L) ↦[(oSl L).view.set]{fullShare} o) from rfl)) $$ Ho
  ihave H0 := (Entails.of_eq (show ((at_ d L).loc cc0_scratch0 ↦{fullShare} f0 : sProp 𝕄) = (sW.view.loc (at_ d L) ↦{fullShare} f0) from rfl)) $$ H0
  ihave H1 := (Entails.of_eq (show ((at_ d L).loc cc0_scratch1 ↦{fullShare} f1 : sProp 𝕄) = (sZ.view.loc (at_ d L) ↦{fullShare} f1) from rfl)) $$ H1
  ihave H2 := (Entails.of_eq (show ((at_ d L).loc cc0_scratch2 ↦{fullShare} f2 : sProp 𝕄) = (sO.view.loc (at_ d L) ↦{fullShare} f2) from rfl)) $$ H2
  sl_exec
  ihave H0 := (Entails.of_eq (show (sW.view.loc (at_ d L) ↦{fullShare} View.write (Elt F) sW.view f0 (tile_body.sl.dma0 L w) Finset.univ : sProp 𝕄)
      = (sW.view.loc (at_ d L) ↦[Finset.univ]{fullShare} colsOf w (bL L) (sL L)) by
    rw [← read_wSl L w]; exact congrArg (fun f => (sW.view.loc (at_ d L) ↦{fullShare} f : sProp 𝕄)) (View.write_whole_univ _ _ _))) $$ H0
  ihave H1 := (Entails.of_eq (show (sZ.view.loc (at_ d L) ↦{fullShare} View.write (Elt F) sZ.view f1 (tile_body.sl.dma0_1 L z) Finset.univ : sProp 𝕄)
      = (sZ.view.loc (at_ d L) ↦[Finset.univ]{fullShare} tabOf z (bL L)) by
    rw [← read_zSl L z]; exact congrArg (fun f => (sZ.view.loc (at_ d L) ↦{fullShare} f : sProp 𝕄)) (View.write_whole_univ _ _ _))) $$ H1
  sl_for (inv d L (colsOf w (bL L) (sL L)) (tabOf z (bL L))) $$ [H0 H1 H2]
  case region =>
    intro k acc
    show _ ⊢ wp _ _ _ (k0_t1_body L wV (Memref.isWhole_whole _) zV (Memref.isWhole_whole _) oV (Memref.isWhole_whole _)
      sW (Memref.isWhole_whole _) sZ (Memref.isWhole_whole _) sO (Memref.isWhole_whole _) cc0_scoped0 cc0_scoped1 cc0_scoped2 k acc) _
    rw [body_eq]
    exact wp_trip d L Set.univ _ _ (firstOk hw _ _) k acc
  · unfold Trip.inv
    isplitl [H0]; · iexact H0
    isplitl [H1]; · iexact H1
    iexists f2
    isplitr
    · ipureintro; exact written_zero _ _
    · iexact H2
  iintro %acc HI
  unfold Trip.inv
  icases HI with ⟨H0, H1, %f, %hf, H2⟩
  have hfe : f = tileOut (colsOf w (bL L) (sL L)) (tabOf z (bL L)) := written_all hf
  subst hfe
  sl_exec
  sl_step
  isplitl [Hw Hz Ho]
  · isplitl [Hw]; · iexact Hw
    isplitl [Hz]; · iexact Hz
    iapply (Entails.of_eq (show ((oSl L).view.loc (at_ d L) ↦[(oSl L).view.set]{fullShare} _ : sProp 𝕄) = (oLoc d ↦[oSet L]{fullShare} interpOut w z)
      from pointsTo_congr fun y hy => write_oSl L w z o (tile_body.sl.dma0_2 L w z) rfl y hy)) $$ Ho
  isplitl [H0 H1 H2 Hbufs]
  · isplitl [H0]; · iexists _; iexact H0
    isplitl [H1]; · iexists _; iexact H1
    isplitl [H2]; · iexists _; iexact H2
    iexact Hbufs
  isplitl [HsA HsB HsC Hsems]
  · isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.InterpIdeal.Tile

end
-- ==== Proof.InterpIdealLaunch.lean ====
/- The SparseCore call as the launch sees it: what its handshakes carry, its tasks' obligation, its operands' split. -/
module

public import proofs.«01_k».proof.Proof.InterpIdealTile

@[expose] public section

noncomputable section

namespace Cert.InterpIdeal.Launch

open Cert.InterpIdeal Cert.InterpIdeal.Gen Cert.InterpIdeal.Trip Cert.InterpIdeal.Tile
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTok shareTokN pointsTo_toks)

variable {F : FTy → Type}

/-! ## The program -/

abbrev Regions : Nat := 0
abbrev ΛP : Labels := Pipeline.Sig Λ₀ (Fin Regions) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb (URounds (GSem nD τ sig) ℕ) (MT nD τ sig (HIx 1) (Elt F) ℕ UU ℕ) := embL

/-! ## The result's blocks -/

/-- A tile's grid point. -/
def pt (c : Fin 2) (s : Fin 16) : grid0.Coords :=
  fun | 0 => c | 1 => s | ⟨_ + 2, h⟩ => absurd h (Nat.not_lt.2 (Nat.le_add_left _ _))

theorem mem_oSet (c : Fin 2) (s : Fin 16) (y : S2x32x8192.Idx) : y ∈ oSet (pt c s) ↔ y 0 = c ∧ (y 2).val / 512 = s.val := by
  have h2 : (y 2).val < 8192 := (y 2).isLt
  have h1 : (y 1).val < 32 := (y 1).isLt
  constructor
  · intro hy
    obtain ⟨x, -, rfl⟩ := Finset.mem_map.mp hy
    rw [eq_ix2 x]
    erw [oSl_emb (pt c s) (x 0) (x 1)]
    have hx : (x 1).val < 512 := (x 1).isLt
    refine ⟨rfl, ?_⟩
    show (512 * s.val + (x 1).val) / 512 = s.val
    omega
  · rintro ⟨h0, hs⟩
    refine Finset.mem_map.mpr ⟨ix2 (⟨(y 1).val, h1⟩ : Fin 32) (⟨(y 2).val - 512 * s.val, by omega⟩ : Fin 512), Finset.mem_univ _, ?_⟩
    refine (oSl_emb (pt c s) _ _).trans ?_
    refine Eq.trans ?_ (eq_ix3 y).symm
    congr 1
    · exact h0.symm
    · apply Fin.ext
      show 512 * s.val + ((y 2).val - 512 * s.val) = (y 2).val
      omega

/-- The share of the weights and the tables that a tile reads. -/
abbrev tok (c : Fin 2) (s : Fin 16) : PosShare TreeShare := shareTokN fullShare (finProdFinEquiv (c, s)).val

theorem toks_eq {ℓ : Loc nD τ sig} (f : Buf (Elt F) ℓ) :
    (ℓ ↦{fullShare} f : sProp 𝕄) = iprop((ℓ ↦{shareDrop fullShare 32} f)
      ∗ bigSep Finset.univ fun p : Fin 2 × Fin 16 => ℓ ↦{tok p.1 p.2} f) := by
  rw [BI.Entails.antisymm (pointsTo_toks (S := Finset.univ) (f := f) fullShare 32).1 (pointsTo_toks (S := Finset.univ) (f := f) fullShare 32).2,
    bigSep_univ_equiv (finProdFinEquiv : Fin 2 × Fin 16 ≃ Fin 32)]

theorem blocks_eq (d : Dev nD) (f : Buf (Elt F) (oLoc d)) :
    (oLoc d ↦{fullShare} f : sProp 𝕄) = bigSep Finset.univ fun p : Fin 2 × Fin 16 => oLoc d ↦[oSet (pt p.1 p.2)]{fullShare} f := by
  have hcov : (Finset.univ : Finset (Fin 2 × Fin 16)).biUnion (fun p => oSet (pt p.1 p.2)) = Finset.univ := by
    refine Finset.eq_univ_iff_forall.mpr fun y => Finset.mem_biUnion.mpr ?_
    have h2 : (y 2).val < 8192 := (y 2).isLt
    exact ⟨(y 0, ⟨(y 2).val / 512, by omega⟩), Finset.mem_univ _, (mem_oSet _ _ _).mpr ⟨rfl, rfl⟩⟩
  have hdis : ∀ p ∈ (Finset.univ : Finset (Fin 2 × Fin 16)), ∀ p' ∈ (Finset.univ : Finset (Fin 2 × Fin 16)), p ≠ p' →
      Disjoint (oSet (pt p.1 p.2)) (oSet (pt p'.1 p'.2)) := by
    intro p _ p' _ hne
    refine Finset.disjoint_left.mpr fun y h h' => hne ?_
    obtain ⟨a, b⟩ := (mem_oSet _ _ _).mp h
    obtain ⟨a', b'⟩ := (mem_oSet _ _ _).mp h'
    exact Prod.ext (a.symm.trans a') (Fin.ext (b.symm.trans b'))
  rw [← pointsTo_biUnion Finset.univ (ℓ := oLoc d) (fun p : Fin 2 × Fin 16 => oSet (pt p.1 p.2)) hdis, hcov]

variable [FloatOps F]

/-! ## What the handshakes carry -/

variable (w : Dev nD → S2x8x8192.Idx → F .f32) (z : Dev nD → S67584.Idx → F .f32) (o : Dev nD → S2x32x8192.Idx → F .f32)

abbrev piece (d : Dev nD) (c : Fin 2) (s : Fin 16) (f : S2x32x8192.Idx → F .f32) : sProp 𝕄 :=
  goes d (tok c s) (oSet (pt c s)) (w d) (z d) f

abbrev core (c : Fin ((K (F := F)).nCore 0)) : Fin 2 := ⟨c.val, c.isLt⟩
abbrev sub (i : Fin ((K (F := F)).nSub 0)) : Fin 16 := ⟨i.val, i.isLt⟩

abbrev pieces (d : Dev nD) (c : Fin ((K (F := F)).nCore 0)) (f : S2x32x8192.Idx → F .f32) : sProp 𝕄 :=
  bigSep Finset.univ fun i : Fin ((K (F := F)).nSub 0) => piece w z d (core c) (sub i) f

/-- Each SparseCore takes its tiles' pieces together, each tile its own, and brings back its block computed. -/
def P : (K (F := F)).Pay (nD := nD) (Val := Elt F) (Name := ℕ) (U := UU) where
  st := fun q d c => match q with | 0 => pieces w z d c (o d)
  dn := fun q d c => match q with | 0 => pieces w z d c (interpOut (w d) (z d))
  go := fun q d c i => match q with | 0 => piece w z d (core c) (sub i) (o d)
  td := fun q d c i => match q with | 0 => piece w z d (core c) (sub i) (interpOut (w d) (z d))
  x := fun _ _ => iprop(emp)

instance P_storable : (P (F := F) w z o).IsStorable where
  st q d c := match q with | 0 => (inferInstance : BI.Storable (upEmb : UEmb _ 𝕄) (pieces w z d c (o d)))
  dn q d c := match q with | 0 => (inferInstance : BI.Storable (upEmb : UEmb _ 𝕄) (pieces w z d c (interpOut (w d) (z d))))
  go q d c i := match q with | 0 => (inferInstance : BI.Storable (upEmb : UEmb _ 𝕄) (piece w z d (core c) (sub i) (o d)))
  td q d c i := match q with | 0 => (inferInstance : BI.Storable (upEmb : UEmb _ 𝕄) (piece w z d (core c) (sub i) (interpOut (w d) (z d))))

/-! ## The tasks -/

theorem defs₀_vector (c : Fin τ.nSC) (s : Fin τ.nSub) :
    defs₀ (F := F) (.scVector c s) 0 ()
      = SparseCore.onTile hcore0 hsub0 (fun c s => cc0__sc_interp_body (pt c s)
          wV (Memref.isWhole_whole _) zV (Memref.isWhole_whole _) oV (Memref.isWhole_whole _)
          sW (Memref.isWhole_whole _) sZ (Memref.isWhole_whole _) sO (Memref.isWhole_whole _) cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task with what the launch gives a subcore beside it. -/
theorem tile_task (d : Dev nD) (c : Fin 2) (s : Fin 16) (hF : (K (F := F)).Facts) (hw : ∀ d, WordsOk (w d)) (O : CellTallies nD τ sig (HIx 1))
    (W : Waits sig (HIx 1)) (hO : ∀ g, O g none = 0) :
    iprop(levAts (K (F := F)).L (K (F := F)).lev ∗ emp ∗ piece w z d c s (o d)
        ∗ scopedBufs (at_ d (pt c s)) ∗ scopedSems0 (at_ d (pt c s)) ∗ owes (at_ d (pt c s)) O W)
      ⊢ wp frame (wpE (defs₀ (F := F)) 𝒱₀ (at_ d (pt c s)) none) Set.univ
          (cc0__sc_interp_body (pt c s) wV (Memref.isWhole_whole _) zV (Memref.isWhole_whole _) oV (Memref.isWhole_whole _)
            sW (Memref.isWhole_whole _) sZ (Memref.isWhole_whole _) sO (Memref.isWhole_whole _) cc0_scoped0 cc0_scoped1 cc0_scoped2)
          fun _ => iprop(piece w z d c s (interpOut (w d) (z d)) ∗ scopedBufs (at_ d (pt c s)) ∗ scopedSems0 (at_ d (pt c s))
            ∗ ∃ W', ⌜∀ p ∈ W', p ∈ W ∨ p.2 = none⌝ ∗ owes (at_ d (pt c s)) O W') := by
  rw [(K (F := F)).scopedBufs_V hF d (cV (pt c s)) (jV (pt c s)), SparseCore.Cfg.scopedSems0_V (Val := Elt F) d (cV (pt c s)) (jV (pt c s))]
  refine BIBase.Entails.trans ?_ (tile_body d (pt c s) (w d) (z d) (o d) (hw d) (tok c s) O W)
  iintro ⟨#Hlv, -, Hp, Hb, Hs, HO⟩
  isplitr
  · iapply (show levAts (K (F := F)).L (K (F := F)).lev ⊢ Transfers.MayWaits (at_ d (pt c s)) (default : HIx 1) O from
      (K (F := F)).mayWaits_none (thr := at_ d (pt c s)) hO)
    iexact Hlv
  isplitl [Hp]; · iexact Hp
  isplitl [Hb]; · iexact Hb
  isplitl [Hs]; · iexact Hs
  iexact HO

set_option maxRecDepth 16384 in
theorem tileObl (hF : (K (F := F)).Facts) (hw : ∀ d, WordsOk (w d)) : (K (F := F)).TileObl (D (F := F)) 𝒱 (P w z o) v₀ 0 := by
  intro d c i O W hO _ _
  simp only [show (P w z o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task w z o d (core c) (sub i) hF hw O W hO).trans (wp_mono frame _ _ fun _ => obl_post)

theorem vecSplit : (K (F := F)).VecSplit' (P w z o) 0 := by
  intro d c
  show pieces w z d c (o d) ⊢ |={Set.univ}=> iprop(pieces w z d c (o d) ∗ (pieces w z d c (interpOut (w d) (z d)) -∗ pieces w z d c (interpOut (w d) (z d))))
  iintro H; imodintro
  isplitl [H]; · iexact H
  iintro H; iexact H

/-! ## The operands dealt to the tiles and joined again -/

theorem pieces_all (d : Dev nD) (f : S2x32x8192.Idx → F .f32) :
    (bigSep Finset.univ fun c : Fin ((K (F := F)).nCore 0) => pieces w z d c f)
      = iprop((bigSep Finset.univ fun p : Fin 2 × Fin 16 => wLoc d ↦{tok p.1 p.2} w d)
          ∗ (bigSep Finset.univ fun p : Fin 2 × Fin 16 => zLoc d ↦{tok p.1 p.2} z d)
          ∗ bigSep Finset.univ fun p : Fin 2 × Fin 16 => oLoc d ↦[oSet (pt p.1 p.2)]{fullShare} f) := by
  rw [← bigSep_sep', ← bigSep_sep', bigSep_univ_prod]

/-- What stays behind while the call runs. -/
abbrev rest (d : Dev nD) : sProp 𝕄 := iprop((wLoc d ↦{shareDrop fullShare 32} w d) ∗ (zLoc d ↦{shareDrop fullShare 32} z d))

theorem deal (d : Dev nD) : iprop((wLoc d ↦{fullShare} w d) ∗ (zLoc d ↦{fullShare} z d) ∗ (oLoc d ↦{fullShare} o d))
    ⊢ iprop(rest w z d ∗ bigSep Finset.univ fun c : Fin ((K (F := F)).nCore 0) => (P w z o).st 0 d c) := by
  show _ ⊢ iprop(rest w z d ∗ bigSep Finset.univ fun c : Fin ((K (F := F)).nCore 0) => pieces w z d c (o d))
  rw [pieces_all, toks_eq (F := F) (ℓ := wLoc d), toks_eq (F := F) (ℓ := zLoc d), blocks_eq]
  iintro ⟨⟨Hw, Hws⟩, ⟨Hz, Hzs⟩, Ho⟩
  isplitl [Hw Hz]
  · isplitl [Hw] <;> iassumption
  isplitl [Hws]; · iexact Hws
  isplitl [Hzs]; · iexact Hzs
  iexact Ho

theorem join (d : Dev nD) : iprop(rest w z d ∗ bigSep Finset.univ fun c : Fin ((K (F := F)).nCore 0) => (P w z o).dn 0 d c)
    ⊢ iprop((wLoc d ↦{fullShare} w d) ∗ (zLoc d ↦{fullShare} z d) ∗ (oLoc d ↦{fullShare} interpOut (w d) (z d))) := by
  show iprop(rest w z d ∗ bigSep Finset.univ fun c : Fin ((K (F := F)).nCore 0) => pieces w z d c (interpOut (w d) (z d))) ⊢ _
  rw [pieces_all, toks_eq (F := F) (ℓ := wLoc d), toks_eq (F := F) (ℓ := zLoc d), blocks_eq]
  iintro ⟨⟨Hw, Hz⟩, Hws, Hzs, Ho⟩
  isplitl [Hw Hws]
  · isplitl [Hw] <;> iassumption
  isplitl [Hz Hzs]
  · isplitl [Hz] <;> iassumption
  iexact Ho

/-! ## The ghost state at launch -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P w z o).x q thr) := by
  have hx : (bigSep Finset.univ fun thr : Thread nD τ => bigSep Finset.univ fun q : Fin 1 => (P (F := F) w z o).x q thr) = (iprop(emp) : sProp 𝕄) :=
    (bigSep_congr fun _ _ => bigSep_univ_of_subsingleton (0 : Fin 1)).trans (bigSep_emp_const _)
  unfold u₀
  rw [hx, show (bigSep (Finset.univ : Finset (Dev nD)) fun _ => iprop(emp)) = (iprop(emp) : sProp 𝕄) from bigSep_emp_const _]
  iintro Hu
  ihave H := (ownU_pair (initOf (K (F := F)).hsCells (K (F := F)).hsToks) (1 : Counters)) $$ Hu
  icases H with ⟨HH, -⟩
  imodintro
  isplitl [HH]; · iexact HH
  isplitr <;> iempintro

end Cert.InterpIdeal.Launch

end
-- ==== Proof.InterpIdealRun.lean ====
/- The program with the SparseCore call alone: @main on the TensorCore and the whole run. -/
module

public import proofs.«01_k».proof.Proof.InterpIdealLaunch

@[expose] public section

noncomputable section

namespace Cert.InterpIdeal.Run

open Cert.InterpIdeal Cert.InterpIdeal.Gen Cert.InterpIdeal.Trip Cert.InterpIdeal.Tile Cert.InterpIdeal.Launch
open Idealize.ShloMosaic Idealize.ShloMosaic.ValueIdx
open Idealize.ShloMosaic.SparseCore (S V)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the host operations compute -/

/-- The table padded to an odd row length and laid flat. -/
def flat (x : S2x1024x32.Idx → F .f32) : S67584.Idx → F .f32 :=
  shapeCast S67584 (pad S2x1024x33 ![0, 0, 0] ![0, 0, 1] ![0, 0, 0] x (sitofp .f32 (constantI S_ 32 0#32) : S_.Idx → F .f32)
    pads_S2x1024x32_S2x1024x33_000_000_010 h_S_) shapeCasts_S2x1024x33_S67584

abbrev aLoc (d : Dev nD) : Loc nD τ sig := (SparseCore.T d).loc main_arg1
abbrev rLoc (d : Dev nD) : Loc nD τ sig := (SparseCore.T d).loc main_v3

abbrev wF (d : Dev nD) : S2x8x8192.Idx → F .f32 := m (wLoc d)
abbrev zF (d : Dev nD) : S67584.Idx → F .f32 := flat (m (aLoc d))
abbrev oF (d : Dev nD) : S2x32x8192.Idx → F .f32 := m (oLoc d)

/-- The program's result. -/
def result (w : S2x8x8192.Idx → F .f32) (x : S2x1024x32.Idx → F .f32) : S2x8192x32.Idx → F .f32 :=
  transpose S2x8192x32 [0, 2, 1] (interpOut w (flat x)) transposes_S2x32x8192_S2x8192x32_0_2_1

/-! ## @main on the TensorCore -/

abbrev before : List (HloOp τ sig (Elt F)) :=
  [StableHlo.nullary main_c (constantI S_ 32 0#32),
   StableHlo.TRef.unary (.of main_c : StableHlo.TRef sig ⟨S_, .i32⟩) main_call0.v0 (sitofp .f32),
   StableHlo.TRef.binary (.of main_arg1 : StableHlo.TRef sig ⟨S2x1024x32, .f32⟩) main_call0.v0 main_call0.v1
     (fun x v => pad S2x1024x33 ![0, 0, 0] ![0, 0, 1] ![0, 0, 0] x v pads_S2x1024x32_S2x1024x33_000_000_010 h_S_),
   StableHlo.reshape main_v0 main_v1 (rfl : (.f32 : EltTy) = .f32) shapeCasts_S2x1024x33_S67584]

abbrev opOut : HloOp τ sig (Elt F) :=
  StableHlo.unary main_v2 main_v3 ((transpose S2x8192x32 [0, 2, 1] · transposes_S2x32x8192_S2x8192x32_0_2_1) : (⟨S2x32x8192, .f32⟩ : BufTy).Contents (Elt F) → (⟨S2x8192x32, .f32⟩ : BufTy).Contents (Elt F))

theorem main_eq (d : Dev nD) : main (F := F) d
    = (StableHlo.seq (before (F := F)) >>= fun _ => ((K (F := F)).run d 0 >>= fun _ => (hlo rfl (opOut (F := F)) fun _ => .ret (⟨⟩ : PUnit.{1})) >>= fun _ => pure ⟨⟩)) := rfl

abbrev r (b : Ref sig .tc) : DevRef τ sig := Proc.devRef .tc b

/-- The TensorCore's arrays. -/
abbrev all8 : Finset (DevRef τ sig) := {r main_arg0, r main_arg1, r main_c, r main_call0_v0, r main_v0, r main_v1, r main_v2, r main_v3}

theorem held_all8 (d : Dev nD) (W : Valuation τ sig (Elt F)) :
    (held (SparseCore.T d) all8 W : sProp 𝕄)
      = iprop((wLoc d ↦{fullShare} W (r main_arg0)) ∗ (aLoc d ↦{fullShare} W (r main_arg1)) ∗ ((SparseCore.T d).loc main_c ↦{fullShare} W (r main_c))
          ∗ ((SparseCore.T d).loc main_call0_v0 ↦{fullShare} W (r main_call0_v0)) ∗ ((SparseCore.T d).loc main_v0 ↦{fullShare} W (r main_v0))
          ∗ (zLoc d ↦{fullShare} W (r main_v1)) ∗ (oLoc d ↦{fullShare} W (r main_v2)) ∗ (rLoc d ↦{fullShare} W (r main_v3))) := by
  unfold held all8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (SparseCore.T d) all8 (V0 m d) := by
  rw [held_all8]
  unfold unscopedBufs
  rw [show (Finset.univ.filter fun b : Ref sig .tc => ¬ b.isScoped) = {main_arg0, main_arg1, main_c, main_call0_v0, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-- Before the call. -/
def V1 (d : Dev nD) : Valuation τ sig (Elt F) := StableHlo.after (before (F := F)) (V0 m d)

theorem V1_w (d : Dev nD) : V1 m d (r main_arg0) = m (wLoc d) := by
  unfold V1
  after_results
  rfl
theorem V1_a (d : Dev nD) : V1 m d (r main_arg1) = m (aLoc d) := by
  unfold V1
  after_results
  rfl
theorem V1_o (d : Dev nD) : V1 m d (r main_v2) = m (oLoc d) := by
  unfold V1
  after_results
  rfl
theorem V1_z (d : Dev nD) : V1 m d (r main_v1) = zF m d := by
  unfold V1
  after_results
  rfl

/-- After the call. -/
def V2 (d : Dev nD) : Valuation τ sig (Elt F) := Function.update (V1 m d) (r main_v2) (interpOut (wF m d) (zF m d))

theorem V2_o (d : Dev nD) : V2 m d (r main_v2) = interpOut (wF m d) (zF m d) := Function.update_self _ _ _
theorem V2_ne (d : Dev nD) {b : DevRef τ sig} (h : b ≠ r main_v2) : V2 m d b = V1 m d b := Function.update_of_ne h _ _

theorem held_V1 (d : Dev nD) :
    (held (SparseCore.T d) all8 (StableHlo.after (before (F := F)) (V0 m d)) : sProp 𝕄)
      = iprop((wLoc d ↦{fullShare} wF m d) ∗ (aLoc d ↦{fullShare} m (aLoc d)) ∗ ((SparseCore.T d).loc main_c ↦{fullShare} V1 m d (r main_c))
          ∗ ((SparseCore.T d).loc main_call0_v0 ↦{fullShare} V1 m d (r main_call0_v0)) ∗ ((SparseCore.T d).loc main_v0 ↦{fullShare} V1 m d (r main_v0))
          ∗ (zLoc d ↦{fullShare} zF m d) ∗ (oLoc d ↦{fullShare} oF m d) ∗ (rLoc d ↦{fullShare} V1 m d (r main_v3))) := by
  show held (SparseCore.T d) all8 (V1 m d) = _
  rw [held_all8, V1_w, V1_a, V1_z, V1_o]

theorem held_V2 (d : Dev nD) :
    (held (SparseCore.T d) all8 (V2 m d) : sProp 𝕄)
      = iprop((wLoc d ↦{fullShare} wF m d) ∗ (aLoc d ↦{fullShare} m (aLoc d)) ∗ ((SparseCore.T d).loc main_c ↦{fullShare} V1 m d (r main_c))
          ∗ ((SparseCore.T d).loc main_call0_v0 ↦{fullShare} V1 m d (r main_call0_v0)) ∗ ((SparseCore.T d).loc main_v0 ↦{fullShare} V1 m d (r main_v0))
          ∗ (zLoc d ↦{fullShare} zF m d) ∗ (oLoc d ↦{fullShare} interpOut (wF m d) (zF m d)) ∗ (rLoc d ↦{fullShare} V1 m d (r main_v3))) := by
  rw [held_all8, V2_o, V2_ne m d (by decide), V2_ne m d (by decide), V2_ne m d (by decide), V2_ne m d (by decide), V2_ne m d (by decide),
    V2_ne m d (by decide), V2_ne m d (by decide), V1_w, V1_a, V1_z]

theorem held_V3 (d : Dev nD) :
    (held (SparseCore.T d) all8 ((opOut (F := F)).result (V2 m d)) : sProp 𝕄)
      ⊢ iprop((wLoc d ↦{fullShare} wF m d) ∗ (aLoc d ↦{fullShare} m (aLoc d)) ∗ (rLoc d ↦{fullShare} result (wF m d) (m (aLoc d)))) := by
  rw [held_all8, (opOut (F := F)).result_of_not_mem (V2 m d) (b := r main_arg0) (show r main_arg0 ∉ ({r main_v3} : Finset (DevRef τ sig)) by decide),
    (opOut (F := F)).result_of_not_mem (V2 m d) (b := r main_arg1) (show r main_arg1 ∉ ({r main_v3} : Finset (DevRef τ sig)) by decide),
    V2_ne m d (by decide), V2_ne m d (by decide), V1_w, V1_a,
    show (opOut (F := F)).result (V2 m d) (r main_v3) = result (wF m d) (m (aLoc d)) from (StableHlo.unary_result _ _ _ _ _ _).trans (by rw [V2_o]; rfl)]
  iintro ⟨Hw, Ha, -, -, -, -, -, Hr⟩
  isplitl [Hw]; · iexact Hw
  isplitl [Ha]; · iexact Ha
  iexact Hr

theorem before_bufs : ∀ op ∈ before (F := F), op.bufs ⊆ all8 := by
  intro op h
  simp only [before, List.mem_cons, List.not_mem_nil, or_false] at h
  rcases h with rfl | rfl | rfl | rfl
  · show ({r main_c} : Finset (DevRef τ sig)) ⊆ all8; decide
  · show ({r main_c, r main_call0_v0} : Finset (DevRef τ sig)) ⊆ all8; decide
  · show ({r main_arg1, r main_call0_v0, r main_v0} : Finset (DevRef τ sig)) ⊆ all8; decide
  · show ({r main_v0, r main_v1} : Finset (DevRef τ sig)) ⊆ all8; decide

theorem before_fresh : ∀ op ∈ before (F := F), op.fresh = ∅ := by
  intro op h
  simp only [before, List.mem_cons, List.not_mem_nil, or_false] at h
  rcases h with rfl | rfl | rfl | rfl <;> rfl

theorem out_bufs : (opOut (F := F)).bufs ⊆ all8 := show ({r main_v2, r main_v3} : Finset (DevRef τ sig)) ⊆ all8 by decide

/-- What @main leaves. -/
abbrev FIN (d : Dev nD) : sProp 𝕄 :=
  iprop((wLoc d ↦{fullShare} wF m d) ∗ (aLoc d ↦{fullShare} m (aLoc d)) ∗ (rLoc d ↦{fullShare} result (wF m d) (m (aLoc d))))

abbrev PP := P (F := F) (wF m) (zF m) (oF m)

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d all8 _ (before (F := F)) before_bufs before_fresh (V0 m d)) $$ [Hb Hheld]
  · isplitl [Hb] <;> iassumption
  iintro ⟨Hb, Hheld⟩
  ihave Hh := (Entails.of_eq (held_V1 m d)) $$ Hheld
  icases Hh with ⟨Hw, Ha, Hc, Hp, Hv, Hz, Ho, Hr⟩
  ihave Hd := (deal (wF m) (zF m) (oF m) d) $$ [Hw Hz Ho]
  · isplitl [Hw]; · iexact Hw
    isplitl [Hz] <;> iassumption
  icases Hd with ⟨Hrest, Hops⟩
  simp only [wp_bind, wp_pure]
  iapply ((K (F := F)).wp_run (D (F := F)) 𝒱 (EH := EH) (P := PP m) κ d 0) $$ [Hst Hops Hrest Hb Ha Hc Hp Hv Hr Hts]
  isplitr; · iexact Hctx
  isplitl [Hst]; · iexact Hst
  isplitl [Hops]; · iexact Hops
  iintro ⟨Hst, Hdn⟩
  ihave Hj := (join (wF m) (zF m) (oF m) d) $$ [Hrest Hdn]
  · isplitl [Hrest] <;> iassumption
  icases Hj with ⟨Hw, Hz, Ho⟩
  iapply (wp_hlo_within 𝒱 (SparseCore.T d) none Set.univ (op := opOut) (S := all8) out_bufs (V := V2 m d)) $$ [Hb Hw Ha Hc Hp Hv Hz Ho Hr]
  · isplitl [Hb]; · iexact Hb
    rw [held_V2]
    isplitl [Hw]; · iexact Hw
    isplitl [Ha]; · iexact Ha
    isplitl [Hc]; · iexact Hc
    isplitl [Hp]; · iexact Hp
    isplitl [Hv]; · iexact Hv
    isplitl [Hz]; · iexact Hz
    isplitl [Ho]; · iexact Ho
    iexact Hr
  iintro ⟨Hb, Hheld⟩
  ihave Hf := (held_V3 m d) $$ Hheld
  rw [wp_ret]; imodintro; imodintro
  isplitl [Hst]; · iexact Hst
  isplitl [Hf]; · iexact Hf
  isplitl [Hb] <;> iassumption

/-- What the final state of device `d` is. -/
def fq (d : Dev nD) (s' : Phys nD τ sig (Elt F)) : Prop :=
  s'.mem.mem (wLoc d) = m (wLoc d) ∧ s'.mem.mem (aLoc d) = m (aLoc d) ∧ s'.mem.mem (rLoc d) = result (m (wLoc d)) (m (aLoc d))

set_option maxRecDepth 16384 in
theorem hfin (d : Dev nD) (s' : Phys nD τ sig (Elt F)) : iprop(FIN m d ∗ SI s') ⊢ (⌜fq m d s'⌝ : sProp 𝕄) := by
  iintro ⟨⟨Hw, Ha, Hr⟩, HSI⟩
  ihave H := (persistent_entails_right (SI_pointsTo_agree (st := s') (ℓ := wLoc d) (I := Finset.univ) (q := fullShare) (f := wF m d))) $$ [HSI Hw]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := rLoc d) (I := Finset.univ) (q := fullShare) (f := result (wF m d) (m (aLoc d)))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- What every run ends with. -/
def QC : PUnit × MemSt nD τ sig (Elt F) → Prop := fun r =>
  (∀ c : Dev nD, r.2.mem (wLoc c) = m (wLoc c) ∧ r.2.mem (aLoc c) = m (aLoc c) ∧ r.2.mem (rLoc c) = result (m (wLoc c)) (m (aLoc c))) ∧ r.2.sem = fun _ => 0

theorem run_main [∀ e, Nonempty (Elt F e)] (hw : ∀ d, WordsOk (m (wLoc d))) :
    θ_run (Cert.InterpIdeal.defs (F := F)) (Cert.InterpIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (wF m) (zF m) (oF m) facts hw)
    (fun q _ => match q with | 0 => SparseCore.Cfg.VecSplit.of_plain (vecSplit (wF m) (zF m) (oF m)))
    m ρ main (fun _ => iprop(emp)) (FIN m) (u₀ (F := F)) (sep_elim_left.trans (hu₀ (wF m) (zF m) (oF m))) (hmain m ρ) (fq m) (hfin m) (QC m) (fun _ h hz => ⟨h, hz⟩)

end Cert.InterpIdeal.Run

end
-- ==== Proof.InterpPre.lean ====
/- What the precondition says of the indices. -/
module

public import proofs.«01_k».proof.Pre_first_words_in_table
public import proofs.«01_k».proof.Proof.Gen.Pre_first_words_in_table
public import Idealize.ShloMosaic.Lib.ValueIdxCore

@[expose] public section

noncomputable section

namespace Cert.InterpPre

open Idealize.ShloMosaic Idealize.ShloMosaic.ValueIdx Idealize.SL.Sem

/-! ## The precondition -/

theorem andi_ofBool (a b : Bool) : IntOp.andi (BitVec.ofBool a) (BitVec.ofBool b) = BitVec.ofBool (a && b) := by
  cases a <;> cases b <;> rfl

theorem ofBool_eq_one (a : Bool) : BitVec.ofBool a = 1#1 ↔ a = true := by cases a <;> decide

/-- The precondition at one element: its word lies in the table, 31 words before the table's last one at most. -/
theorem word_le {F : FTy → Type} [FloatOps F] (w : Cert.Pre_first_words_in_table.S2x8x8192.Idx → F .f32)
    (x : Cert.Pre_first_words_in_table.S2x1024x32.Idx → F .f32)
    (h : Cert.Pre_first_words_in_table.fn w x = fun _ => 1#1) (b : Fin 2) (k : Fin 8) (n : Fin 8192) (hk : 3 ≤ k.val) (hk' : k.val < 6) :
    (FloatOps.fptosi 32 (w (ix3 b k n)) : BitVec 32).toNat ≤ 33760 := by
  have e := congrFun h (ix3 b (⟨k.val - 3, by omega⟩ : Fin 3) n)
  have hi : (extractStridedSlice Cert.Pre_first_words_in_table.S2x3x8192 ![0, 3, 0] w
      Cert.Pre_first_words_in_table.Facts.slices_S2x8x8192_S2x3x8192_0_3_0) (ix3 b (⟨k.val - 3, by omega⟩ : Fin 3) n) = w (ix3 b k n) := by
    unfold extractStridedSlice
    refine congrArg w (funext fun a => Fin.ext ?_)
    match a with
    | ⟨0, _⟩ => show 0 + b.val = b.val; omega
    | ⟨1, _⟩ => show 3 + (k.val - 3) = k.val; omega
    | ⟨2, _⟩ => show 0 + n.val = n.val; omega
  simp only [Cert.Pre_first_words_in_table.fn, andi, cmpi, broadcastInDim, constantI, fptosi] at e
  rw [hi] at e
  generalize (FloatOps.fptosi 32 (w (ix3 b k n)) : BitVec 32) = v at e ⊢
  simp only [IntOp.cmpi, andi_ofBool, ofBool_eq_one, Bool.and_eq_true, BitVec.sle_eq_decide, BitVec.slt_eq_decide, decide_eq_true_eq,
    BitVec.toInt_eq_toNat_cond, BitVec.toNat_ofNat, Nat.reducePow, Nat.reduceMod] at e
  omega

end Cert.InterpPre

end
-- ==== Proof.InterpRef.lean ====
/- The reference's result, its operations named. -/
module

public import proofs.«01_k».proof.Proof.Gen.InterpReferenceIdeal
public import proofs.«01_k».proof.Proof.Gen.InterpReferenceIdeal.Run
public import Idealize.ShloMosaic.PureOps.Ideal

@[expose] public section

noncomputable section

namespace Cert.InterpRef

open Idealize.ShloMosaic Idealize.SL.Sem
open Cert.InterpReferenceIdeal Cert.InterpReferenceIdeal.Gen

section Ref

variable (w : S2x8x8192.Idx → Ideal .f32) (x : S2x1024x32.Idx → Ideal .f32)

def first : IVec S2x3x8192 32 := fptosi 32 (extractStridedSlice S2x3x8192 ![0, 3, 0] w slices_S2x8x8192_S2x3x8192_0_3_0)

def words : IVec S2x3x8192x32 32 :=
  addi (broadcastInDim S2x3x8192x32 ![0, 1, 2, 3] bcast_S2x3x8192x1_S2x3x8192x32_0_1_2_3
      (broadcastInDim S2x3x8192x1 ![0, 1, 2] bcast_S2x3x8192_S2x3x8192x1_0_1_2 (first w)))
    (broadcastInDim S2x3x8192x32 ![0, 1, 2, 3] bcast_S1x1x1x32_S2x3x8192x32_0_1_2_3
      (broadcastInDim S1x1x1x32 ![3] bcast_S32_S1x1x1x32_3 (iotaInDim S32 32 0)))

def line : IVec S2x786432 32 := shapeCast _ (words w) shapeCasts_S2x3x8192x32_S2x786432

def wrapped : IVec S2x786432x1 32 :=
  shapeCast _ (select (cmpi .slt (line w) (broadcastInDim S2x786432 ![] bcast_S_S2x786432 (constantI S_ 32 0#32)))
    (addi (line w) (broadcastInDim S2x786432 ![] bcast_S_S2x786432 (constantI S_ 32 33792#32))) (line w)) shapeCasts_S2x786432_S2x786432x1

def inside : IVec S2x786432 1 :=
  Host.reduce IntOp.andi (andi (cmpi .sge (wrapped w) (broadcastInDim S2x786432x1 ![] bcast_S_S2x786432x1 (constantI S_ 32 0#32)))
    (cmpi .sle (wrapped w) (broadcastInDim S2x786432x1 ![0, 1, 2] bcast_S1x1x1_S2x786432x1_0_1_2 (broadcastInDim S1x1x1 ![2] bcast_S1_S1x1x1_2 (constantI S1 32 33791#32)))))
    (constantI S_ 1 1#1) reducesTo_S2x786432x1_S2x786432_d2 h_S_

def table : S2x33792.Idx → Ideal .f32 :=
  shapeCast _ (pad S2x1024x33 ![0, 0, 0] ![0, 0, 1] ![0, 0, 0] x (sitofp .f32 (constantI S_ 32 0#32)) pads_S2x1024x32_S2x1024x33_000_000_010 h_S_)
    shapeCasts_S2x1024x33_S2x33792

def taken : S2x786432.Idx → Ideal .f32 :=
  select (inside w) (Host.gather gather_S2x33792_S2x786432x1_S2x786432_n_1_0_0_1_2_11 (table x) (wrapped w))
    (broadcastInDim S2x786432 ![] bcast_S_S2x786432 (constant S_ .f32 0x7FC00000#32))

def weight : S2x3x8192.Idx → Ideal .f32 :=
  mulf (extractStridedSlice S2x3x8192 ![0, 0, 0] w slices_S2x8x8192_S2x3x8192_0_0_0)
    (broadcastInDim S2x3x8192 ![0, 1, 2] bcast_S2x1x8192_S2x3x8192_0_1_2 (broadcastInDim S2x1x8192 ![0, 2] bcast_S2x8192_S2x1x8192_0_2
      (Host.divf (broadcastInDim S2x8192 ![] bcast_S_S2x8192 (constant S_ .f32 0x3F800000#32))
        (Host.reduceAdd (extractStridedSlice S2x3x8192 ![0, 0, 0] w slices_S2x8x8192_S2x3x8192_0_0_0) (constant S_ .f32 0x00000000#32) reducesTo_S2x3x8192_S2x8192_d1 h_S_))))

def refOut : S2x8192x32.Idx → Ideal .f32 :=
  Host.reduceAdd (mulf (shapeCast _ (taken w x) shapeCasts_S2x786432_S2x3x8192x32 : S2x3x8192x32.Idx → Ideal .f32)
    (broadcastInDim S2x3x8192x32 ![0, 1, 2, 3] bcast_S2x3x8192x1_S2x3x8192x32_0_1_2_3 (broadcastInDim S2x3x8192x1 ![0, 1, 2] bcast_S2x3x8192_S2x3x8192x1_0_1_2 (weight w))))
    (constant S_ .f32 0x00000000#32) reducesTo_S2x3x8192x32_S2x8192x32_d1 h_S_

theorem res_eq (m : (ℓ : Loc nD τ sig) → Buf (Elt Ideal) ℓ) (c : Dev nD) :
    Cert.InterpReferenceIdeal.Value.res_main_v23 m c
      = refOut (m ((c.tc : Thread nD τ).loc main_arg0)) (m ((c.tc : Thread nD τ).loc main_arg1)) := rfl

end Ref

end Cert.InterpRef

end
-- ==== Proof.InterpValue.lean ====
/- The reference's result read at an element. -/
module

public import proofs.«01_k».proof.Proof.InterpRef
public import Idealize.ShloMosaic.Lib.Pointwise
public import Idealize.ShloMosaic.Lib.IdealHost

@[expose] public section

noncomputable section

namespace Cert.InterpRef

open Idealize.ShloMosaic Idealize.SL.Sem
open Cert.InterpReferenceIdeal Cert.InterpReferenceIdeal.Gen

variable (w : S2x8x8192.Idx → Ideal .f32) (x : S2x1024x32.Idx → Ideal .f32)

theorem first_apply (b : Fin 2) (k : Fin 3) (n : Fin 8192) :
    first w (ix3 b k n) = FloatOps.fptosi 32 (w (ix3 b (⟨3 + k.val, by omega⟩ : Fin 8) n)) := by
  unfold first
  pointwise []
  try rfl

theorem words_apply (b : Fin 2) (k : Fin 3) (n : Fin 8192) (d : Fin 32) :
    words w (ix4 b k n d) = FloatOps.fptosi 32 (w (ix3 b (⟨3 + k.val, by omega⟩ : Fin 8) n)) + BitVec.ofNat 32 d.val := by
  rw [← first_apply]
  unfold words
  generalize first w = f
  pointwise []
  try rfl

theorem weight_apply (b : Fin 2) (k : Fin 3) (n : Fin 8192) :
    weight w (ix3 b k n) = w (ix3 b (⟨k.val, by omega⟩ : Fin 8) n)
      * Ideal.div 1 (∑ j : Fin 3, w (ix3 b (⟨j.val, by omega⟩ : Fin 8) n)) := by
  unfold weight
  pointwise []
  try rfl

theorem wrapped_eq (h : ∀ b p, (line w (ix2 b p)).toNat ≤ 33791) :
    wrapped w = shapeCast _ (line w) shapeCasts_S2x786432_S2x786432x1 := by
  unfold wrapped
  refine congrArg (fun v => shapeCast _ v shapeCasts_S2x786432_S2x786432x1) (funext fun i => ?_)
  have hi := h (i 0) (i 1)
  rw [← eq_ix2 i] at hi
  generalize line w = f at hi ⊢
  pointwise []
  have hc : IntOp.cmpi .slt (f i) 0#32 = 0#1 := by
    generalize f i = v at hi ⊢
    simp only [IntOp.cmpi, BitVec.slt_eq_decide, BitVec.toInt_eq_toNat_cond, BitVec.toNat_ofNat, Nat.reducePow, Nat.reduceMod]
    rw [decide_eq_false (by omega)]
    rfl
  rw [hc]
  rfl

theorem wrapped_apply (h : ∀ b p, (line w (ix2 b p)).toNat ≤ 33791) (b : Fin 2) (p : Fin 786432) (z : Fin 1) :
    wrapped w (ix3 b p z) = line w (ix2 b p) := by
  rw [wrapped_eq w h]
  generalize line w = f
  pointwise []
  try rfl

theorem fold_ones {ι : Type} (s : Finset ι) : s.fold IntOp.andi (1#1) (fun _ => (1#1 : BitVec 1)) = 1#1 := by
  classical
  induction s using Finset.induction_on with
  | empty => rfl
  | insert a s ha ih => rw [Finset.fold_insert ha, ih]; rfl

theorem inside_eq (h : ∀ b p, (line w (ix2 b p)).toNat ≤ 33791) : inside w = fun _ => 1#1 := by
  unfold inside
  have e : andi (cmpi .sge (wrapped w) (broadcastInDim S2x786432x1 ![] bcast_S_S2x786432x1 (constantI S_ 32 0#32)))
    (cmpi .sle (wrapped w) (broadcastInDim S2x786432x1 ![0, 1, 2] bcast_S1x1x1_S2x786432x1_0_1_2 (broadcastInDim S1x1x1 ![2] bcast_S1_S1x1x1_2 (constantI S1 32 33791#32))))
      = fun _ => 1#1 := by
    funext i
    rw [eq_ix3 i]
    have hv := wrapped_apply w h (i 0) (i 1) (i 2)
    have hi := h (i 0) (i 1)
    rw [← hv] at hi
    show IntOp.andi (IntOp.cmpi .sge (wrapped w (ix3 (i 0) (i 1) (i 2))) 0#32) (IntOp.cmpi .sle (wrapped w (ix3 (i 0) (i 1) (i 2))) 33791#32) = 1#1
    generalize wrapped w (ix3 (i 0) (i 1) (i 2)) = v at hi ⊢
    simp only [IntOp.cmpi, BitVec.sle_eq_decide, BitVec.toInt_eq_toNat_cond, BitVec.toNat_ofNat, Nat.reducePow, Nat.reduceMod]
    rw [decide_eq_true (by omega), decide_eq_true (by omega)]
    rfl
  rw [e]
  funext j
  rw [Host.reduce_eq_fold]
  exact fold_ones _

/-- The batched gather along the columns, read at `(b, p)`: row `b` of the operand at column `idx[b, p, 0]`, read signed and clamped. -/
theorem gather_apply {α : Type} (v : S2x33792.Idx → α) (idx : IVec S2x786432x1 32) (b : Fin 2) (p : Fin 786432) :
    Host.gather gather_S2x33792_S2x786432x1_S2x786432_n_1_0_0_1_2_11 v idx (ix2 b p)
      = v (ix2 b ⟨min (idx (ix3 b p 0)).toInt.toNat (33792 - 1), by omega⟩) := by
  unfold Host.gather
  congr 1
  funext a
  refine Fin.ext ?_
  show (gather_S2x33792_S2x786432x1_S2x786432_n_1_0_0_1_2_11).start (ix2 b p) idx a + (gather_S2x33792_S2x786432x1_S2x786432_n_1_0_0_1_2_11).batchCoord (ix2 b p) a
      + (gather_S2x33792_S2x786432x1_S2x786432_n_1_0_0_1_2_11).offCoord (ix2 b p) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (gather_S2x33792_S2x786432x1_S2x786432_n_1_0_0_1_2_11).operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S2x33792_S2x786432x1_S2x786432_n_1_0_0_1_2_11).startIndexMap from List.mem_singleton.mpr rfl)]
    have hsi : (gather_S2x33792_S2x786432x1_S2x786432_n_1_0_0_1_2_11).siIdx (ix2 b p) ⟨List.idxOf (1 : Fin 2) (gather_S2x33792_S2x786432x1_S2x786432_n_1_0_0_1_2_11).startIndexMap,
        List.idxOf_lt_length_iff.2 (List.mem_singleton.mpr rfl)⟩ = ix3 b p 0 := by
      funext b; refine Fin.ext ?_
      match b with
      | ⟨0, _⟩ => rfl
      | ⟨1, _⟩ => rfl
      | ⟨2, _⟩ => rfl
    rw [hsi]
    rfl

theorem ones_select {s : Shape} {α : Type} (u v : s.Idx → α) : select (fun _ => 1#1) u v = u := rfl

theorem taken_apply (h : ∀ b p, (line w (ix2 b p)).toNat ≤ 33791) (b : Fin 2) (p : Fin 786432) :
    taken w x (ix2 b p) = table x (ix2 b ⟨(line w (ix2 b p)).toNat, Nat.lt_of_le_of_lt (h b p) (by omega)⟩) := by
  have hv : (wrapped w (ix3 b p 0)).toInt.toNat = (line w (ix2 b p)).toNat ∧ (line w (ix2 b p)).toNat ≤ 33791 := by
    rw [wrapped_apply w h]
    have hi := h b p
    generalize line w (ix2 b p) = v at hi ⊢
    rw [BitVec.toInt_eq_toNat_cond]
    constructor
    · split <;> omega
    · exact hi
  have hm : min (wrapped w (ix3 b p 0)).toInt.toNat (33792 - 1) = (line w (ix2 b p)).toNat := by omega
  unfold taken
  rw [inside_eq w h]
  generalize wrapped w = q at hm ⊢
  generalize table x = t
  rw [ones_select, gather_apply]
  exact congrArg t (congrArg (ix2 b) (Fin.ext hm))

theorem line_apply (b : Fin 2) (k : Fin 3) (n : Fin 8192) (d : Fin 32) :
    line w (ix2 b (⟨k.val * 262144 + n.val * 32 + d.val, by omega⟩ : Fin 786432)) = words w (ix4 b k n d) := by
  unfold line
  generalize words w = f
  show f (Shape.reshapeEquiv _ _) = _
  refine congrArg f (Shape.reshapeEquiv_eq_of_rowMajor _ ?_)
  rw [Shape.rowMajor_val_four, Shape.rowMajor_val_two]
  show ((b.val * 3 + k.val) * 8192 + n.val) * 32 + d.val = b.val * 786432 + (k.val * 262144 + n.val * 32 + d.val)
  omega

theorem line_le (h : ∀ (b : Fin 2) (k : Fin 3) (n : Fin 8192), (FloatOps.fptosi 32 (w (ix3 b (⟨3 + k.val, by omega⟩ : Fin 8) n)) : BitVec 32).toNat ≤ 33760) (b : Fin 2) (p : Fin 786432) :
    (line w (ix2 b p)).toNat ≤ 33791 := by
  obtain ⟨k, n, d, hp⟩ : ∃ (k : Fin 3) (n : Fin 8192) (d : Fin 32), p.val = k.val * 262144 + n.val * 32 + d.val := by
    have h3 : p.val / 262144 < 3 := by omega
    have h8 : p.val / 32 % 8192 < 8192 := by omega
    have h32 : p.val % 32 < 32 := by omega
    refine ⟨⟨p.val / 262144, h3⟩, ⟨p.val / 32 % 8192, h8⟩, ⟨p.val % 32, h32⟩, ?_⟩
    dsimp only
    omega
  have hq : k.val * 262144 + n.val * 32 + d.val < 786432 := by omega
  have e : p = ⟨k.val * 262144 + n.val * 32 + d.val, hq⟩ := Fin.ext hp
  rw [e, line_apply, words_apply]
  have hh := h b k n
  rw [BitVec.toNat_add, BitVec.toNat_ofNat]
  refine (Nat.mod_le _ _).trans ?_
  have h2 : d.val % 2 ^ 32 ≤ 31 := (Nat.mod_le _ _).trans (by omega)
  exact (Nat.add_le_add hh h2).trans (by omega)

theorem sum_apply (y : S2x3x8192x32.Idx → Ideal .f32) (b : Fin 2) (n : Fin 8192) (d : Fin 32) :
    Host.reduceAdd y (constant S_ .f32 0x00000000#32) reducesTo_S2x3x8192x32_S2x8192x32_d1 h_S_ (ix3 b n d) = ∑ k : Fin 3, y (ix4 b k n d) := by
  pointwise []

theorem cast_apply (t : S2x786432.Idx → Ideal .f32) (b : Fin 2) (k : Fin 3) (n : Fin 8192) (d : Fin 32) :
    (shapeCast S2x3x8192x32 t shapeCasts_S2x786432_S2x3x8192x32 : S2x3x8192x32.Idx → Ideal .f32) (ix4 b k n d)
      = t (ix2 b (⟨k.val * 262144 + n.val * 32 + d.val, by omega⟩ : Fin 786432)) := by
  show t (Shape.reshapeEquiv _ _) = _
  refine congrArg t (Shape.reshapeEquiv_eq_of_rowMajor _ ?_)
  rw [Shape.rowMajor_val_four, Shape.rowMajor_val_two]
  show b.val * 786432 + (k.val * 262144 + n.val * 32 + d.val) = ((b.val * 3 + k.val) * 8192 + n.val) * 32 + d.val
  omega

theorem spread_apply (g : S2x3x8192.Idx → Ideal .f32) (b : Fin 2) (k : Fin 3) (n : Fin 8192) (d : Fin 32) :
    broadcastInDim S2x3x8192x32 ![0, 1, 2, 3] bcast_S2x3x8192x1_S2x3x8192x32_0_1_2_3 (broadcastInDim S2x3x8192x1 ![0, 1, 2] bcast_S2x3x8192_S2x3x8192x1_0_1_2 g) (ix4 b k n d)
      = g (ix3 b k n) := by
  pointwise []

theorem refOut_sum (b : Fin 2) (n : Fin 8192) (d : Fin 32) :
    refOut w x (ix3 b n d) = ∑ k : Fin 3, taken w x (ix2 b (⟨k.val * 262144 + n.val * 32 + d.val, by omega⟩ : Fin 786432)) * weight w (ix3 b k n) := by
  unfold refOut
  rw [sum_apply]
  refine Finset.sum_congr rfl fun k _ => ?_
  rw [mulf_apply, cast_apply, spread_apply]
  rfl

end Cert.InterpRef

end
-- ==== Proof.InterpEqual.lean ====
/- The call's result is the reference's, element by element. -/
module

public import proofs.«01_k».proof.Proof.InterpIdealRun
public import proofs.«01_k».proof.Proof.InterpValue
public import Idealize.ShloMosaic.Lib.Pointwise.IndexBridge

@[expose] public section

noncomputable section

namespace Cert.InterpRef

open Idealize.ShloMosaic Idealize.SL.Sem
open Cert.InterpReferenceIdeal Cert.InterpReferenceIdeal.Gen

variable (w : S2x8x8192.Idx → Ideal .f32) (x : S2x1024x32.Idx → Ideal .f32)

/-- The reference's table at a word is the call's table there. -/
theorem table_apply (b : Fin 2) (v : BitVec 32) (hv : v.toNat < 33792) :
    table x (ix2 b ⟨v.toNat, hv⟩)
      = Cert.InterpIdeal.Trip.tab Cert.InterpIdeal.Trip.pos33792 (Cert.InterpIdeal.Tile.tabOf (Cert.InterpIdeal.Run.flat x) b) v := by
  unfold Cert.InterpIdeal.Trip.tab Cert.InterpIdeal.Tile.tabOf Cert.InterpIdeal.Run.flat table
  rw [dif_pos hv]
  show (pad S2x1024x33 ![0, 0, 0] ![0, 0, 1] ![0, 0, 0] x (sitofp .f32 (constantI S_ 32 0#32)) pads_S2x1024x32_S2x1024x33_000_000_010 h_S_)
      (Shape.reshapeEquiv _ _)
    = (pad S2x1024x33 ![0, 0, 0] ![0, 0, 1] ![0, 0, 0] x (sitofp .f32 (constantI S_ 32 0#32)) pads_S2x1024x32_S2x1024x33_000_000_010 h_S_)
      (Shape.reshapeEquiv _ _)
  refine congrArg _ (Shape.reshapeEquiv_eq_of_rowMajor _ ?_)
  rw [Shape.rowMajor_reshapeEquiv, Shape.rowMajor_val_one, Shape.rowMajor_val_two]
  show 33792 * b.val + v.toNat = b.val * 33792 + v.toNat
  omega

/-- One of the three rows at one position: what the reference takes is what the call reads. -/
theorem row_apply (h : Cert.InterpIdeal.Tile.WordsOk w) (b : Fin 2) (k : Fin 3) (n : Fin 8192) (d : Fin 32) :
    taken w x (ix2 b (⟨k.val * 262144 + n.val * 32 + d.val, by omega⟩ : Fin 786432))
      = Cert.InterpIdeal.Trip.tab Cert.InterpIdeal.Trip.pos33792 (Cert.InterpIdeal.Tile.tabOf (Cert.InterpIdeal.Run.flat x) b)
        (FloatOps.fptosi 32 (w (ValueIdx.ix3 b (⟨3 + k.val, by omega⟩ : Fin 8) n)) + BitVec.ofNat 32 d.val) := by
  have h' : ∀ (b : Fin 2) (k : Fin 3) (n : Fin 8192), (FloatOps.fptosi 32 (w (ix3 b (⟨3 + k.val, by omega⟩ : Fin 8) n)) : BitVec 32).toNat ≤ 33760 :=
    fun b k n => by
      rw [ix3_eq_valueIdx]
      exact h b ⟨3 + k.val, by omega⟩ n (Nat.le_add_right 3 k.val) (by show 3 + k.val < 6; omega)
  have hl := line_le w h'
  have hb := hl b ⟨k.val * 262144 + n.val * 32 + d.val, by omega⟩
  rw [taken_apply w x hl, table_apply, line_apply, words_apply, ix3_eq_valueIdx]

theorem mix_eq (a0 a1 a2 z0 z1 z2 : Ideal .f32) :
    FloatOps.addf (FloatOps.addf (FloatOps.mulf (FloatOps.mulf a0 (FloatOps.divf (FloatOps.ofBits .f32 0x3F800000#32) (FloatOps.addf (FloatOps.addf a0 a1) a2))) z0)
      (FloatOps.mulf (FloatOps.mulf a1 (FloatOps.divf (FloatOps.ofBits .f32 0x3F800000#32) (FloatOps.addf (FloatOps.addf a0 a1) a2))) z1))
      (FloatOps.mulf (FloatOps.mulf a2 (FloatOps.divf (FloatOps.ofBits .f32 0x3F800000#32) (FloatOps.addf (FloatOps.addf a0 a1) a2))) z2)
    = z0 * (a0 * Ideal.div 1 (a0 + a1 + a2)) + z1 * (a1 * Ideal.div 1 (a0 + a1 + a2)) + z2 * (a2 * Ideal.div 1 (a0 + a1 + a2)) := by
  show (a0 * Ideal.div (Ideal.ofBits .f32 0x3F800000#32) (a0 + a1 + a2)) * z0 + (a1 * Ideal.div (Ideal.ofBits .f32 0x3F800000#32) (a0 + a1 + a2)) * z1
    + (a2 * Ideal.div (Ideal.ofBits .f32 0x3F800000#32) (a0 + a1 + a2)) * z2 = _
  rw [Ideal.ofBits_one_f32, mul_comm _ z0, mul_comm _ z1, mul_comm _ z2]

theorem result_apply (h : Cert.InterpIdeal.Tile.WordsOk w) (b : Fin 2) (n : Fin 8192) (d : Fin 32) :
    Cert.InterpIdeal.Run.result w x (ix3 b n d) = refOut w x (ix3 b n d) := by
  rw [refOut_sum, Fin.sum_univ_three, row_apply w x h, row_apply w x h, row_apply w x h, weight_apply, weight_apply, weight_apply, Fin.sum_univ_three]
  have e : Cert.InterpIdeal.Run.result w x (ix3 b n d) = Cert.InterpIdeal.Tile.interpOut w (Cert.InterpIdeal.Run.flat x) (ix3 b d n) := by
    unfold Cert.InterpIdeal.Run.result
    generalize Cert.InterpIdeal.Tile.interpOut w (Cert.InterpIdeal.Run.flat x) = t
    pointwise []
  rw [e]
  unfold Cert.InterpIdeal.Tile.interpOut Cert.InterpIdeal.Trip.mix
  simp only [ix3_eq_valueIdx]
  exact mix_eq _ _ _ _ _ _

theorem result_eq (h : Cert.InterpIdeal.Tile.WordsOk w) : Cert.InterpIdeal.Run.result w x = refOut w x :=
  funext fun i => (congrArg (Cert.InterpIdeal.Run.result w x) (eq_ix3 i)).trans
    ((result_apply w x h (i 0) (i 1) (i 2)).trans (congrArg (refOut w x) (eq_ix3 i)).symm)

end Cert.InterpRef

end
-- ==== Proof.PrepKernel.lean ====
/- The preparing call's block, its operations named in the same stages as the reference's. -/
module

public import proofs.«01_k».proof.Proof.Gen.PrepIdeal.Skeleton
public import Idealize.ShloMosaic.PureOps.Ideal

@[expose] public section

noncomputable section

namespace Cert.PrepKernel

open Idealize.ShloMosaic Idealize.SL.Sem
open Cert.PrepIdeal Cert.PrepIdeal.Gen

/-- The first linear layer. -/
def hidden (v0 : Vec Ideal S2048x64 .f32) (v2 : Vec Ideal S64x32 .f32) (v4 : Vec Ideal S1x32 .f32) : FVec Ideal S2048x32 .f32 :=
  have v1 : FVec Ideal S2048x64 .f32 := shapeCast S2048x64 v0 shapeCasts_S2048x64_S2048x64
  have cst : FVec Ideal S2048x32 .f32 := constant S2048x32 .f32 0x00000000#32
  have v3 : FVec Ideal S2048x32 .f32 := matmul dot_S2048x64_S64x32_S2048x32_1_0_0_1_n_n none (φ₁ := .f32) (φ₂ := .f32) v1 v2 cst
  have v5 : FVec Ideal S1x32 .f32 := shapeCast S1x32 v4 shapeCasts_S1x32_S1x32
  have v6 : FVec Ideal S2048x32 .f32 := broadcastTo S2048x32 v5 broadcasts_S1x32_S2048x32
  have v7 : FVec Ideal S2048x32 .f32 := addf v3 v6
  v7

/-- The normalized layer, its negative part dropped. -/
def active (v7 : FVec Ideal S2048x32 .f32) (v26 v30 : Vec Ideal S1x32 .f32) : FVec Ideal S2048x32 .f32 :=
  have v8 : FVec Ideal S32 .f32 := multiReduction .add [0] S32 v7 0x00000000#32 reduces_S2048x32_S32 (.inl rfl) rfl
  have v9 : FVec Ideal S1x32 .f32 := shapeCast S1x32 v8 shapeCasts_S32_S1x32
  have cst_6 : Ideal .f32 := Scalar.ofBits .f32 0x45000000#32
  have v10 : FVec Ideal S1x32 .f32 := broadcast S1x32 cst_6
  have v11 : FVec Ideal S1x32 .f32 := divf v9 v10
  have v12 : FVec Ideal S2048x32 .f32 := broadcastTo S2048x32 v11 broadcasts_S1x32_S2048x32
  have v13 : FVec Ideal S2048x32 .f32 := subf v7 v12
  have v14 : FVec Ideal S2048x32 .f32 := mulf v13 v13
  have v15 : FVec Ideal S32 .f32 := multiReduction .add [0] S32 v14 0x00000000#32 reduces_S2048x32_S32 (.inl rfl) rfl
  have v16 : FVec Ideal S1x32 .f32 := shapeCast S1x32 v15 shapeCasts_S32_S1x32
  have cst_8 : Ideal .f32 := Scalar.ofBits .f32 0x45000000#32
  have v17 : FVec Ideal S1x32 .f32 := broadcast S1x32 cst_8
  have v18 : FVec Ideal S1x32 .f32 := divf v16 v17
  have v19 : FVec Ideal S2048x32 .f32 := broadcastTo S2048x32 v11 broadcasts_S1x32_S2048x32
  have v20 : FVec Ideal S2048x32 .f32 := subf v7 v19
  have cst_9 : Ideal .f32 := Scalar.ofBits .f32 0x3727C5AC#32
  have v21 : FVec Ideal S1x32 .f32 := broadcast S1x32 cst_9
  have v22 : FVec Ideal S1x32 .f32 := addf v18 v21
  have v23 : FVec Ideal S1x32 .f32 := sqrt v22
  have v24 : FVec Ideal S2048x32 .f32 := broadcastTo S2048x32 v23 broadcasts_S1x32_S2048x32
  have v25 : FVec Ideal S2048x32 .f32 := divf v20 v24
  have v27 : FVec Ideal S1x32 .f32 := shapeCast S1x32 v26 shapeCasts_S1x32_S1x32
  have v28 : FVec Ideal S2048x32 .f32 := broadcastTo S2048x32 v27 broadcasts_S1x32_S2048x32
  have v29 : FVec Ideal S2048x32 .f32 := mulf v25 v28
  have v31 : FVec Ideal S1x32 .f32 := shapeCast S1x32 v30 shapeCasts_S1x32_S1x32
  have v32 : FVec Ideal S2048x32 .f32 := broadcastTo S2048x32 v31 broadcasts_S1x32_S2048x32
  have v33 : FVec Ideal S2048x32 .f32 := addf v29 v32
  have cst_14 : Ideal .f32 := Scalar.ofBits .f32 0x00000000#32
  have v34 : FVec Ideal S2048x32 .f32 := broadcast S2048x32 cst_14
  have v35 : FVec Ideal S2048x32 .f32 := maximumf v33 v34
  v35

/-- The second linear layer. -/
def layer (v35 : FVec Ideal S2048x32 .f32) (v36 : Vec Ideal S32x32 .f32) (v38 : Vec Ideal S1x32 .f32) : FVec Ideal S2048x32 .f32 :=
  have cst_17 : FVec Ideal S2048x32 .f32 := constant S2048x32 .f32 0x00000000#32
  have v37 : FVec Ideal S2048x32 .f32 := matmul dot_S2048x32_S32x32_S2048x32_1_0_0_1_n_n none (φ₁ := .f32) (φ₂ := .f32) v35 v36 cst_17
  k0_pay1 v37 v38

theorem pay_eq (v0 : Vec Ideal S2048x64 .f32) (v2 : Vec Ideal S64x32 .f32) (v4 v26 v30 : Vec Ideal S1x32 .f32)
    (v36 : Vec Ideal S32x32 .f32) (v38 : Vec Ideal S1x32 .f32) :
    k0_pay1 (k0_pay2 v0 v2 v4 v26 v30 v36) v38 = layer (active (hidden v0 v2 v4) v26 v30) v36 v38 := rfl

end Cert.PrepKernel

end
-- ==== Proof.PrepRef.lean ====
/- The reference of the preparing call, its operations named. -/
module

public import proofs.«01_k».proof.Proof.Gen.PrepReferenceIdeal
public import proofs.«01_k».proof.Proof.Gen.PrepReferenceIdeal.Run
public import Idealize.ShloMosaic.PureOps.Ideal

@[expose] public section

noncomputable section

namespace Cert.PrepRef

open Idealize.ShloMosaic Idealize.SL.Sem
open Cert.PrepReferenceIdeal Cert.PrepReferenceIdeal.Gen

/-- The first linear layer. -/
def hidden (x : S2x1024x64.Idx → Ideal .f32) (ws : S64x32.Idx → Ideal .f32) (bs : S32.Idx → Ideal .f32) : S2048x32.Idx → Ideal .f32 :=
  addf (Host.dotGeneral dot_S2048x64_S64x32_S2048x32_1_0_0_1_n_n none (shapeCast _ x shapeCasts_S2x1024x64_S2048x64) ws) (broadcastInDim S2048x32 ![0, 1] bcast_S1x32_S2048x32_0_1 (broadcastInDim S1x32 ![1] bcast_S32_S1x32_1 bs))

/-- The batch mean of each feature. -/
def mean (h : S2048x32.Idx → Ideal .f32) : S32.Idx → Ideal .f32 :=
  Host.divf (Host.reduceAdd h (constant S_ .f32 0x00000000#32) reducesTo_S2048x32_S32_d0 h_S_) (broadcastInDim S32 ![] bcast_S_S32 (constant S_ .f32 0x45000000#32))

/-- The batch variance of each feature. -/
def variance (h : S2048x32.Idx → Ideal .f32) : S32.Idx → Ideal .f32 :=
  select (broadcastInDim S32 ![] bcast_S_S32 (cmpf .ogt (subf (constant S_ .f32 0x45000000#32) (sitofp .f32 (constantI S_ 32 0#32)) : S_.Idx → Ideal .f32) (constant S_ .f32 0x00000000#32))) (Host.divf (Host.reduceAdd (mulf (subf h (broadcastInDim S2048x32 ![0, 1] bcast_S1x32_S2048x32_0_1 (Host.divf (broadcastInDim S1x32 ![1] bcast_S32_S1x32_1 (Host.reduceAdd h (constant S_ .f32 0x00000000#32) reducesTo_S2048x32_S32_d0 h_S_)) (broadcastInDim S1x32 ![] bcast_S_S1x32 (constant S_ .f32 0x45000000#32))))) (subf h (broadcastInDim S2048x32 ![0, 1] bcast_S1x32_S2048x32_0_1 (Host.divf (broadcastInDim S1x32 ![1] bcast_S32_S1x32_1 (Host.reduceAdd h (constant S_ .f32 0x00000000#32) reducesTo_S2048x32_S32_d0 h_S_)) (broadcastInDim S1x32 ![] bcast_S_S1x32 (constant S_ .f32 0x45000000#32)))))) (constant S_ .f32 0x00000000#32) reducesTo_S2048x32_S32_d0 h_S_) (broadcastInDim S32 ![] bcast_S_S32 (subf (constant S_ .f32 0x45000000#32) (sitofp .f32 (constantI S_ 32 0#32))))) (broadcastInDim S32 ![] bcast_S_S32 (id (constant S_ .f32 0x7FC00000#32)))

/-- The normalized layer, its negative part dropped. -/
def active (h : S2048x32.Idx → Ideal .f32) (g be : S32.Idx → Ideal .f32) : S2048x32.Idx → Ideal .f32 :=
  maximumf (addf (mulf (Host.divf (subf h (broadcastInDim S2048x32 ![0, 1] bcast_S1x32_S2048x32_0_1 (broadcastInDim S1x32 ![1] bcast_S32_S1x32_1 (mean h)))) (broadcastInDim S2048x32 ![0, 1] bcast_S1x32_S2048x32_0_1 (broadcastInDim S1x32 ![1] bcast_S32_S1x32_1 (Host.sqrt (addf (variance h) (broadcastInDim S32 ![] bcast_S_S32 (constant S_ .f32 0x3727C5AC#32))))))) (broadcastInDim S2048x32 ![0, 1] bcast_S1x32_S2048x32_0_1 (broadcastInDim S1x32 ![1] bcast_S32_S1x32_1 g))) (broadcastInDim S2048x32 ![0, 1] bcast_S1x32_S2048x32_0_1 (broadcastInDim S1x32 ![1] bcast_S32_S1x32_1 be))) (broadcastInDim S2048x32 ![] bcast_S_S2048x32 (constant S_ .f32 0x00000000#32))

/-- The second linear layer. -/
def layer (a : S2048x32.Idx → Ideal .f32) (wm : S32x32.Idx → Ideal .f32) (bm : S32.Idx → Ideal .f32) : S2048x32.Idx → Ideal .f32 :=
  addf (Host.dotGeneral dot_S2048x32_S32x32_S2048x32_1_0_0_1_n_n none a wm) (broadcastInDim S2048x32 ![0, 1] bcast_S1x32_S2048x32_0_1 (broadcastInDim S1x32 ![1] bcast_S32_S1x32_1 bm))

def refOut (x : S2x1024x64.Idx → Ideal .f32) (ws : S64x32.Idx → Ideal .f32) (bs g be : S32.Idx → Ideal .f32)
    (wm : S32x32.Idx → Ideal .f32) (bm : S32.Idx → Ideal .f32) : S2048x32.Idx → Ideal .f32 :=
  layer (active (hidden x ws bs) g be) wm bm

theorem res_eq (m : (ℓ : Loc nD τ sig) → Buf (Elt Ideal) ℓ) (c : Dev nD) :
    Cert.PrepReferenceIdeal.Value.res_main_v29 m c
      = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := rfl

end Cert.PrepRef

end
-- ==== Proof.PrepEqual.lean ====
/- The preparing call's block is the reference's result, stage by stage. -/
module

public import proofs.«01_k».proof.Proof.PrepKernel
public import proofs.«01_k».proof.Proof.PrepRef
public import Idealize.ShloMosaic.Lib.Pointwise
public import Idealize.ShloMosaic.Lib.Pointwise.IndexBridge
public import Idealize.ShloMosaic.Lib.IdealHost

@[expose] public section

set_option maxRecDepth 16384

noncomputable section

namespace Cert.PrepEqual

open Idealize.ShloMosaic Idealize.SL.Sem
open Cert.PrepReferenceIdeal Cert.PrepReferenceIdeal.Gen

theorem hidden_eq (x : S2x1024x64.Idx → Ideal .f32) (ws : S64x32.Idx → Ideal .f32) (bs : S32.Idx → Ideal .f32) :
    Cert.PrepKernel.hidden (shapeCast _ x Cert.PrepIdeal.Gen.shapeCasts_S2x1024x64_S2048x64) ws (shapeCast _ bs Cert.PrepIdeal.Gen.shapeCasts_S32_S1x32)
      = Cert.PrepRef.hidden x ws bs := by
  have e : shapeCast _ x Cert.PrepIdeal.Gen.shapeCasts_S2x1024x64_S2048x64 = shapeCast S2048x64 x shapeCasts_S2x1024x64_S2048x64 := rfl
  funext i
  rw [eq_ix2 i]
  unfold Cert.PrepRef.hidden
  rw [e]
  generalize (shapeCast S2048x64 x shapeCasts_S2x1024x64_S2048x64) = y
  pointwise! [Cert.PrepKernel.hidden]

theorem layer_eq (a : S2048x32.Idx → Ideal .f32) (wm : S32x32.Idx → Ideal .f32) (bm : S32.Idx → Ideal .f32) :
    Cert.PrepKernel.layer a wm (shapeCast _ bm Cert.PrepIdeal.Gen.shapeCasts_S32_S1x32) = Cert.PrepRef.layer a wm bm := by
  funext i
  rw [eq_ix2 i]
  pointwise! [Cert.PrepKernel.layer, Cert.PrepRef.layer, Cert.PrepIdeal.Gen.k0_pay1]

theorem active_eq (h : S2048x32.Idx → Ideal .f32) (g be : S32.Idx → Ideal .f32) :
    Cert.PrepKernel.active h (shapeCast _ g Cert.PrepIdeal.Gen.shapeCasts_S32_S1x32) (shapeCast _ be Cert.PrepIdeal.Gen.shapeCasts_S32_S1x32)
      = Cert.PrepRef.active h g be := by
  funext i
  rw [eq_ix2 i]
  pointwise [Cert.PrepKernel.active, Cert.PrepRef.active, Cert.PrepRef.variance, Cert.PrepRef.mean]
  have e0 : FloatOps.sitofp (F := Ideal) FTy.f32 0#32 = 0 := by
    show (((0#32).toInt : ℝ) : EReal) = 0
    simp
  have e1 : Ideal.ofBits FTy.f32 1157627904#32 = ((2048 : ℝ) : EReal) := by
    simp [Ideal.ofBits, Ideal.ieee, -EReal.coe_mul]; norm_num
  have e2 : (0 : EReal) < ((2048 : ℝ) : EReal) := by exact_mod_cast (by norm_num : (0 : ℝ) < 2048)
  rw [e0, sub_zero, e1, if_pos e2]

end Cert.PrepEqual

end
-- ==== Proof.PrepRun.lean ====
/- The preparing call's result array as one function of its arguments. -/
module

public import proofs.«01_k».proof.Proof.Gen.PrepIdeal.Value
public import proofs.«01_k».proof.Proof.PrepEqual

@[expose] public section

noncomputable section

namespace Cert.PrepRun

open Cert.PrepIdeal Cert.PrepIdeal.Gen Cert.PrepIdeal.Value Idealize.ShloMosaic Idealize.ShloMosaic.TcCoe Idealize.SL.Sem

variable {F : FTy → Type} [FloatOps F]
variable (m : (ℓ : Loc nD τ sig) → Buf (Elt F) ℓ) (ρ : Dev nD → PrngReg)

theorem V_v0 (c : Dev nD) : V m c main_v0 = shapeCast _ (m ((c : Thread nD τ).loc main_arg0)) shapeCasts_S2x1024x64_S2048x64 := by
  unfold V
  simp only [hostOps0, List.flatten_cons, List.flatten_nil, List.append_nil, List.cons_append, List.nil_append]
  after_results
  rfl
theorem V_v1 (c : Dev nD) : V m c main_v1 = shapeCast _ (m ((c : Thread nD τ).loc main_arg2)) shapeCasts_S32_S1x32 := by
  unfold V
  simp only [hostOps0, List.flatten_cons, List.flatten_nil, List.append_nil, List.cons_append, List.nil_append]
  after_results
  rfl
theorem V_v2 (c : Dev nD) : V m c main_v2 = shapeCast _ (m ((c : Thread nD τ).loc main_arg3)) shapeCasts_S32_S1x32 := by
  unfold V
  simp only [hostOps0, List.flatten_cons, List.flatten_nil, List.append_nil, List.cons_append, List.nil_append]
  after_results
  rfl
theorem V_v3 (c : Dev nD) : V m c main_v3 = shapeCast _ (m ((c : Thread nD τ).loc main_arg4)) shapeCasts_S32_S1x32 := by
  unfold V
  simp only [hostOps0, List.flatten_cons, List.flatten_nil, List.append_nil, List.cons_append, List.nil_append]
  after_results
  rfl
theorem V_v4 (c : Dev nD) : V m c main_v4 = shapeCast _ (m ((c : Thread nD τ).loc main_arg6)) shapeCasts_S32_S1x32 := by
  unfold V
  simp only [hostOps0, List.flatten_cons, List.flatten_nil, List.append_nil, List.cons_append, List.nil_append]
  after_results
  rfl

theorem idx_zero0 : ∀ t : Fin cfg0.N, win0_0.index t (0 : Fin 2) = 0 ∧ win0_0.index t (1 : Fin 2) = 0 := (by decide +kernel : ∀ t : Fin grid0.N, _)
theorem idx_zero1 : ∀ t : Fin cfg0.N, win0_1.index t (0 : Fin 2) = 0 ∧ win0_1.index t (1 : Fin 2) = 0 := (by decide +kernel : ∀ t : Fin grid0.N, _)
theorem idx_zero2 : ∀ t : Fin cfg0.N, win0_2.index t (0 : Fin 2) = 0 ∧ win0_2.index t (1 : Fin 2) = 0 := (by decide +kernel : ∀ t : Fin grid0.N, _)
theorem idx_zero3 : ∀ t : Fin cfg0.N, win0_3.index t (0 : Fin 2) = 0 ∧ win0_3.index t (1 : Fin 2) = 0 := (by decide +kernel : ∀ t : Fin grid0.N, _)
theorem idx_zero4 : ∀ t : Fin cfg0.N, win0_4.index t (0 : Fin 2) = 0 ∧ win0_4.index t (1 : Fin 2) = 0 := (by decide +kernel : ∀ t : Fin grid0.N, _)
theorem idx_zero5 : ∀ t : Fin cfg0.N, win0_5.index t (0 : Fin 2) = 0 ∧ win0_5.index t (1 : Fin 2) = 0 := (by decide +kernel : ∀ t : Fin grid0.N, _)
theorem idx_zero6 : ∀ t : Fin cfg0.N, win0_6.index t (0 : Fin 2) = 0 ∧ win0_6.index t (1 : Fin 2) = 0 := (by decide +kernel : ∀ t : Fin grid0.N, _)
theorem idx_zero7 : ∀ t : Fin cfg0.N, win0_7.index t (0 : Fin 2) = 0 ∧ win0_7.index t (1 : Fin 2) = 0 := (by decide +kernel : ∀ t : Fin grid0.N, _)

theorem iblk0 (c : Dev nD) (t : Fin cfg0.N) : iblk m c 0 t = V m c main_v0 := by
  obtain ⟨e0, e1⟩ := idx_zero0 t
  funext j; show V m c main_v0 (((cfg0.win 0).blk t).view.emb j) = V m c main_v0 j
  refine congrArg _ (funext fun a => Fin.ext ?_)
  match a with
  | ⟨0, _⟩ => show win0_0.index t (0 : Fin 2) * 2048 + 1 * (j 0).val = (j 0).val; omega
  | ⟨1, _⟩ => show win0_0.index t (1 : Fin 2) * 64 + 1 * (j 1).val = (j 1).val; omega
theorem iblk1 (c : Dev nD) (t : Fin cfg0.N) : iblk m c 1 t = V m c main_arg1 := by
  obtain ⟨e0, e1⟩ := idx_zero1 t
  funext j; show V m c main_arg1 (((cfg0.win 1).blk t).view.emb j) = V m c main_arg1 j
  refine congrArg _ (funext fun a => Fin.ext ?_)
  match a with
  | ⟨0, _⟩ => show win0_1.index t (0 : Fin 2) * 64 + 1 * (j 0).val = (j 0).val; omega
  | ⟨1, _⟩ => show win0_1.index t (1 : Fin 2) * 32 + 1 * (j 1).val = (j 1).val; omega
theorem iblk2 (c : Dev nD) (t : Fin cfg0.N) : iblk m c 2 t = V m c main_v1 := by
  obtain ⟨e0, e1⟩ := idx_zero2 t
  funext j; show V m c main_v1 (((cfg0.win 2).blk t).view.emb j) = V m c main_v1 j
  refine congrArg _ (funext fun a => Fin.ext ?_)
  match a with
  | ⟨0, _⟩ => show win0_2.index t (0 : Fin 2) * 1 + 1 * (j 0).val = (j 0).val; omega
  | ⟨1, _⟩ => show win0_2.index t (1 : Fin 2) * 32 + 1 * (j 1).val = (j 1).val; omega
theorem iblk3 (c : Dev nD) (t : Fin cfg0.N) : iblk m c 3 t = V m c main_v2 := by
  obtain ⟨e0, e1⟩ := idx_zero3 t
  funext j; show V m c main_v2 (((cfg0.win 3).blk t).view.emb j) = V m c main_v2 j
  refine congrArg _ (funext fun a => Fin.ext ?_)
  match a with
  | ⟨0, _⟩ => show win0_3.index t (0 : Fin 2) * 1 + 1 * (j 0).val = (j 0).val; omega
  | ⟨1, _⟩ => show win0_3.index t (1 : Fin 2) * 32 + 1 * (j 1).val = (j 1).val; omega
theorem iblk4 (c : Dev nD) (t : Fin cfg0.N) : iblk m c 4 t = V m c main_v3 := by
  obtain ⟨e0, e1⟩ := idx_zero4 t
  funext j; show V m c main_v3 (((cfg0.win 4).blk t).view.emb j) = V m c main_v3 j
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 32 + 1 * (j 1).val = (j 1).val; omega
theorem iblk5 (c : Dev nD) (t : Fin cfg0.N) : iblk m c 5 t = V m c main_arg5 := by
  obtain ⟨e0, e1⟩ := idx_zero5 t
  funext j; show V m c main_arg5 (((cfg0.win 5).blk t).view.emb j) = V m c main_arg5 j
  refine congrArg _ (funext fun a => Fin.ext ?_)
  match a with
  | ⟨0, _⟩ => show win0_5.index t (0 : Fin 2) * 32 + 1 * (j 0).val = (j 0).val; omega
  | ⟨1, _⟩ => show win0_5.index t (1 : Fin 2) * 32 + 1 * (j 1).val = (j 1).val; omega
theorem iblk6 (c : Dev nD) (t : Fin cfg0.N) : iblk m c 6 t = V m c main_v4 := by
  obtain ⟨e0, e1⟩ := idx_zero6 t
  funext j; show V m c main_v4 (((cfg0.win 6).blk t).view.emb j) = V m c main_v4 j
  refine congrArg _ (funext fun a => Fin.ext ?_)
  match a with
  | ⟨0, _⟩ => show win0_6.index t (0 : Fin 2) * 1 + 1 * (j 0).val = (j 0).val; omega
  | ⟨1, _⟩ => show win0_6.index t (1 : Fin 2) * 32 + 1 * (j 1).val = (j 1).val; omega

theorem emb7 (t : Fin cfg0.N) (j : S2048x32.Idx) : ((cfg0.win 7).blk t).view.emb j = j := by
  obtain ⟨e0, e1⟩ := idx_zero7 t
  funext a; apply Fin.ext
  match a with
  | ⟨0, _⟩ => show win0_7.index t (0 : Fin 2) * 2048 + 1 * (j 0).val = (j 0).val; omega
  | ⟨1, _⟩ => show win0_7.index t (1 : Fin 2) * 32 + 1 * (j 1).val = (j 1).val; omega

theorem cut7_eq (t : Fin cfg0.N) (X : Vec F S2048x32 .f32) :
    (cfg0.win 7).cut (grid0.coords t) X = ((cfg0.win 7).blk t).view.read (Elt F) X := by
  funext j
  show X j = X (((cfg0.win 7).blk t).view.emb j)
  rw [emb7]

/-- The result as one function of the arguments. -/
def result (x : S2x1024x64.Idx → F .f32) (ws : S64x32.Idx → F .f32) (bs g be : S32.Idx → F .f32) (wm : S32x32.Idx → F .f32)
    (bm : S32.Idx → F .f32) : S2048x32.Idx → F .f32 :=
  k0_pay1 (k0_pay2 (shapeCast S2048x64 x shapeCasts_S2x1024x64_S2048x64) ws (shapeCast S1x32 bs shapeCasts_S32_S1x32)
    (shapeCast S1x32 g shapeCasts_S32_S1x32) (shapeCast S1x32 be shapeCasts_S32_S1x32) wm) (shapeCast S1x32 bm shapeCasts_S32_S1x32)

theorem hz : (![0, 0] : Fin 2 → Nat) = fun _ => 0 := funext fun a => by fin_cases a <;> rfl

theorem out_eq (P0 : Vec F S2048x64 .f32) (P1 : Vec F S64x32 .f32) (P2 P3 P4 : Vec F S1x32 .f32) (P5 : Vec F S32x32 .f32) (P6 : Vec F S1x32 .f32) :
    out0_7 P0 P1 P2 P3 P4 P5 P6 = k0_pay1 (k0_pay2 P0 P1 P2 P3 P4 P5) P6 := by
  unfold out0_7
  rw [View.canon_unit_zero hz]
  simp only [View.ld_unit_zero (S := S2048x64) hz, View.ld_unit_zero (S := S64x32) hz, View.ld_unit_zero (S := S1x32) hz, View.ld_unit_zero (S := S32x32) hz]

abbrev resultAt (c : Dev nD) : S2048x32.Idx → F .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem flushed7_eq (c : Dev nD) (t : Fin cfg0.N) :
    (dats m 0 c).flushed 7 t = ((cfg0.win 7).blk t).view.read (Elt F) (resultAt m c) := by
  rw [flushed7, out_eq, iblk0, iblk1, iblk2, iblk3, iblk4, iblk5, iblk6, V_v0, V_v1, V_v2, V_v3, V_v4, V_main_arg1, V_main_arg5]
  exact cut7_eq t _

theorem covered7 (i : S2048x32.Idx) :
    ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩

/-- The result array after the run. -/
theorem final7 (c : Dev nD) : (dats m 0 c).arrAt 7 cfg0.N = resultAt m c :=
  (dats m 0 c).arrAt_eq_of_cover 7 (resultAt m c) (fun t _ => flushed7_eq m c t) covered7

/-- At the ideal values the result is the reference's. -/
theorem result_eq (x : S2x1024x64.Idx → Ideal .f32) (ws : S64x32.Idx → Ideal .f32) (bs g be : S32.Idx → Ideal .f32)
    (wm : S32x32.Idx → Ideal .f32) (bm : S32.Idx → Ideal .f32) :
    result (F := Ideal) x ws bs g be wm bm = Cert.PrepRef.refOut x ws bs g be wm bm := by
  refine (Cert.PrepKernel.pay_eq _ _ _ _ _ _ _).trans ?_
  unfold Cert.PrepRef.refOut
  rw [← Cert.PrepEqual.hidden_eq, ← Cert.PrepEqual.active_eq, ← Cert.PrepEqual.layer_eq]

end Cert.PrepRun

end
-- ==== Proof.KnnSort.lean ====
/- The stable sort of a column of extended reals: its first three positions are the three successive least ones. -/
module

public import Idealize.ShloMosaic.PureOps
public import Idealize.ShloMosaic.PureOps.Ideal

@[expose] public section

noncomputable section

namespace Cert.KnnSort

open Idealize.ShloMosaic

variable {n : Nat}

/-- Position `i` comes before position `j`: its value is less, or equal and `i` is the lower position. -/
def R (d : Fin n → EReal) (i j : Fin n) : Prop := d i < d j ∨ (d i = d j ∧ i < j)

theorem R_irrefl (d : Fin n → EReal) (i : Fin n) : ¬ R d i i := by
  rintro (h | ⟨_, h⟩) <;> exact lt_irrefl _ h

theorem R_asymm (d : Fin n → EReal) {i j : Fin n} (h : R d i j) : ¬ R d j i := by
  rintro (h' | ⟨e', h'⟩)
  · rcases h with h | ⟨e, h⟩
    · exact lt_asymm h h'
    · exact absurd h' (by rw [e]; exact lt_irrefl _)
  · rcases h with h | ⟨e, h⟩
    · exact absurd h (by rw [e']; exact lt_irrefl _)
    · exact lt_asymm h h'

/-- `i` is the position of `S` that comes before every other position of `S`. -/
def Least (d : Fin n → EReal) (S : Fin n → Prop) (i : Fin n) : Prop := S i ∧ ∀ j, S j → j ≠ i → R d i j

theorem Least.unique {d : Fin n → EReal} {S : Fin n → Prop} {i j : Fin n} (hi : Least d S i) (hj : Least d S j) : i = j := by
  by_contra h
  exact R_asymm d (hi.2 j hj.1 (fun e => h e.symm)) (hj.2 i hi.1 h)

theorem insertBefore_perm {ι : Type} (before : ι → ι → Bool) (a : ι) (l : List ι) : (insertBefore before a l).Perm (a :: l) := by
  induction l with
  | nil => exact List.Perm.refl _
  | cons b l ih =>
    unfold insertBefore
    split
    · exact (ih.cons b).trans (List.Perm.swap a b l)
    · exact List.Perm.refl _

theorem stableSort_perm {ι : Type} (before : ι → ι → Bool) (l : List ι) : (stableSort before l).Perm l := by
  induction l with
  | nil => exact List.Perm.refl _
  | cons a l ih => exact (insertBefore_perm before a _).trans (ih.cons a)

variable (d : Fin n → EReal) (before : Fin n → Fin n → Bool) (hb : ∀ i j, before i j = true ↔ d i < d j)
include hb

theorem insertBefore_pairwise (a : Fin n) (l : List (Fin n)) (hl : l.Pairwise (R d)) (ha : ∀ b ∈ l, a < b) :
    (insertBefore before a l).Pairwise (R d) := by
  induction l with
  | nil => simp [insertBefore]
  | cons b l ih =>
    rw [List.pairwise_cons] at hl
    unfold insertBefore
    split
    · rename_i h
      rw [List.pairwise_cons]
      refine ⟨fun x hx => ?_, ih hl.2 (fun y hy => ha y (List.mem_cons_of_mem _ hy))⟩
      rcases List.mem_cons.1 ((insertBefore_perm before a l).mem_iff.1 hx) with rfl | hx
      · exact Or.inl ((hb _ _).1 h)
      · exact hl.1 x hx
    · rename_i h
      have hle : d a ≤ d b := not_lt.1 (fun e => h ((hb _ _).2 e))
      rw [List.pairwise_cons]
      refine ⟨fun x hx => ?_, List.pairwise_cons.2 hl⟩
      have hax := ha x hx
      have hdx : d a ≤ d x := by
        rcases List.mem_cons.1 hx with rfl | hx
        · exact hle
        · rcases hl.1 x hx with h | ⟨h, _⟩
          · exact hle.trans h.le
          · exact hle.trans h.le
      rcases lt_or_eq_of_le hdx with h | h
      · exact Or.inl h
      · exact Or.inr ⟨h, hax⟩

theorem stableSort_pairwise (l : List (Fin n)) (hl : l.Pairwise (· < ·)) : (stableSort before l).Pairwise (R d) := by
  induction l with
  | nil => simp [stableSort]
  | cons a l ih =>
    rw [List.pairwise_cons] at hl
    exact insertBefore_pairwise d before hb a _ (ih hl.2) (fun b hbm => hl.1 b ((stableSort_perm before l).mem_iff.1 hbm))

theorem sortPositions_pairwise : (sortPositions n before).Pairwise (R d) :=
  stableSort_pairwise d before hb _ (List.pairwise_lt_finRange n)

omit hb in
theorem sortedFrom_surj (j : Fin n) : ∃ k, sortedFrom before k = j := by
  have hm : j ∈ sortPositions n before := (stableSort_perm before _).mem_iff.2 (List.mem_finRange j)
  obtain ⟨k, hk⟩ := List.get_of_mem hm
  exact ⟨k.cast (length_sortPositions n before), hk⟩

theorem sortedFrom_R {k l : Fin n} (h : k < l) : R d (sortedFrom before k) (sortedFrom before l) :=
  List.pairwise_iff_get.1 (sortPositions_pairwise d before hb) _ _ h

theorem sortedFrom_inj {k l : Fin n} (h : sortedFrom before k = sortedFrom before l) : k = l := by
  rcases lt_trichotomy k l with hl | hl | hl
  · exact absurd (sortedFrom_R d before hb hl) (by rw [h]; exact R_irrefl d _)
  · exact hl
  · exact absurd (sortedFrom_R d before hb hl) (by rw [h]; exact R_irrefl d _)

/-- The sort's position `k` is the least one of those that are not at an earlier place. -/
theorem sortedFrom_least (k : Fin n) : Least d (fun j => ∀ l, l < k → j ≠ sortedFrom before l) (sortedFrom before k) := by
  refine ⟨fun l hl e => ?_, fun j hj hne => ?_⟩
  · exact absurd (sortedFrom_inj d before hb e) (ne_of_gt hl)
  · obtain ⟨l, rfl⟩ := sortedFrom_surj before j
    rcases lt_trichotomy l k with hl | hl | hl
    · exact absurd rfl (hj l hl)
    · exact absurd (by rw [hl]) hne
    · exact sortedFrom_R d before hb hl

end Cert.KnnSort

end
-- ==== Proof.KnnRounds.lean ====
/- Three rounds of taking a column's least value, its first position, and masking that position with infinity: they give
   the first three entries of the column's stable sort, when no entry of the column is infinity. -/
module

public import proofs.«01_k».proof.Proof.KnnSort
public import Idealize.ShloMosaic.Lib.SortNet.Extract
public import Idealize.ShloMosaic.Lib.Pointwise
public import Idealize.ShloMosaic.Lib.IdealHost

@[expose] public section

set_option maxRecDepth 16384

noncomputable section

namespace Cert.KnnRounds

open Idealize.ShloMosaic Cert.KnnSort

theorem inf_eq : Ideal.ofBits FTy.f32 2139095040#32 = (⊤ : EReal) := by
  simp [Ideal.ofBits, Ideal.ieee]

/-- The least value of a column. -/
def minOf (e : Fin 1024 → EReal) : EReal := Finset.univ.fold min (Ideal.ofBits FTy.f32 2139095040#32) (fun k => e k)

/-- The first position of the least value, as a word. -/
def argOf (e : Fin 1024 → EReal) : BitVec 32 :=
  Finset.univ.fold IntOp.minsi (2147483647#32)
    (fun k : Fin 1024 => Scalar.select (FloatOps.cmpf (F := Ideal) (φ := .f32) .oeq (e k) (minOf e)) (BitVec.ofNat 32 k.val) 1073741824#32)

/-- The column with the entry at `w` set to infinity. -/
def maskOf (e : Fin 1024 → EReal) (w : BitVec 32) : Fin 1024 → EReal :=
  fun k => Scalar.select (IntOp.cmpi .eq (BitVec.ofNat 32 k.val) w) (Ideal.ofBits FTy.f32 2139095040#32) (e k)

theorem select_ofBool {α : Type} (b : Bool) (x y : α) : Scalar.select (BitVec.ofBool b) x y = if b = true then x else y := by
  cases b <;> rfl

theorem exists_least (d : Fin 1024 → EReal) (S : Fin 1024 → Prop) (hS : ∃ k, S k) : ∃ i, Least d S i := by
  classical
  obtain ⟨k0, hk0⟩ := hS
  obtain ⟨m, hm, hmin⟩ := Finset.exists_min_image (Finset.univ.filter S) d ⟨k0, by simp [hk0]⟩
  have hm' : S m := (Finset.mem_filter.1 hm).2
  obtain ⟨i, hi, himin⟩ := Finset.exists_min_image (Finset.univ.filter fun k => S k ∧ d k = d m) id ⟨m, by simp [hm']⟩
  have hi' := (Finset.mem_filter.1 hi).2
  refine ⟨i, hi'.1, fun j hj hne => ?_⟩
  have hle : d i ≤ d j := by rw [hi'.2]; exact hmin j (by simp [hj])
  rcases lt_or_eq_of_le hle with h | h
  · exact Or.inl h
  · refine Or.inr ⟨h, lt_of_le_of_ne (himin j ?_) (fun e => hne e.symm)⟩
    simp only [Finset.mem_filter, Finset.mem_univ, true_and]
    exact ⟨hj, by rw [← h, hi'.2]⟩

theorem Least.le {d : Fin 1024 → EReal} {S : Fin 1024 → Prop} {i : Fin 1024} (h : Least d S i) (j : Fin 1024) (hj : S j) : d i ≤ d j := by
  by_cases e : j = i
  · rw [e]
  · rcases h.2 j hj e with h | ⟨h, _⟩ <;> exact h.le

theorem minOf_eq (d : Fin 1024 → EReal) (S : Fin 1024 → Prop) (e : Fin 1024 → EReal)
    (he : ∀ k, S k → e k = d k) (he' : ∀ k, ¬ S k → e k = ⊤) (i : Fin 1024) (hi : Least d S i) : minOf e = d i := by
  unfold minOf
  rw [inf_eq]
  apply le_antisymm
  · exact (Finset.fold_min_le _).2 (Or.inr ⟨i, Finset.mem_univ _, (he i hi.1).le⟩)
  · refine (Finset.le_fold_min _).2 ⟨le_top, fun k _ => ?_⟩
    by_cases hk : S k
    · rw [he k hk]; exact Least.le hi k hk
    · rw [he' k hk]; exact le_top

theorem argOf_eq (d : Fin 1024 → EReal) (hd : ∀ k, d k < ⊤) (S : Fin 1024 → Prop) (e : Fin 1024 → EReal)
    (he : ∀ k, S k → e k = d k) (he' : ∀ k, ¬ S k → e k = ⊤) (i : Fin 1024) (hi : Least d S i) :
    argOf e = BitVec.ofNat 32 i.val := by
  have hm := minOf_eq d S e he he' i hi
  unfold argOf
  have hsel : ∀ k : Fin 1024, Scalar.select (FloatOps.cmpf (F := Ideal) (φ := .f32) .oeq (e k) (minOf e)) (BitVec.ofNat 32 k.val) 1073741824#32
      = if e k = minOf e then BitVec.ofNat 32 k.val else 1073741824#32 := fun k => by
    show Scalar.select (BitVec.ofBool (decide (e k = minOf e))) _ _ = _
    rw [select_ofBool]
    simp only [decide_eq_true_eq]
  have hT : ∀ k : Fin 1024, (BitVec.ofNat 32 k.val).toInt = k.val := fun k => by
    have := k.isLt
    rw [BitVec.toInt_eq_toNat_cond, BitVec.toNat_ofNat, Nat.mod_eq_of_lt (by omega), if_pos (by omega)]
  apply BitVec.eq_of_toInt_eq
  rw [← Finset.fold_hom (op := IntOp.minsi) (op' := min) (m := BitVec.toInt) (fun a b => Idealize.ShloMosaic.SortNet.toInt_minsi a b)]
  simp only [hsel]
  rw [hT]
  have hL : (2147483647#32).toInt = 2147483647 := by decide
  have hG : (1073741824#32).toInt = 1073741824 := by decide
  have hi1024 := i.isLt
  apply le_antisymm
  · refine (Finset.fold_min_le _).2 (Or.inr ⟨i, Finset.mem_univ _, ?_⟩)
    rw [if_pos (by rw [he i hi.1, hm]), hT]
  · refine (Finset.le_fold_min _).2 ⟨by rw [hL]; omega, fun k _ => ?_⟩
    split
    · rename_i h
      rw [hT]
      by_cases hk : S k
      · by_cases hki : k = i
        · rw [hki]
        · rw [he k hk, hm] at h
          rcases hi.2 k hk hki with h' | ⟨_, h'⟩
          · rw [h] at h'; exact absurd h' (lt_irrefl _)
          · exact_mod_cast h'.le
      · rw [he' k hk, hm] at h
        exact absurd (hd i) (by rw [← h]; exact lt_irrefl _)
    · rw [hG]; omega

theorem maskOf_eq (e : Fin 1024 → EReal) (i k : Fin 1024) : maskOf e (BitVec.ofNat 32 i.val) k = if k = i then ⊤ else e k := by
  unfold maskOf
  rw [inf_eq]
  show Scalar.select (BitVec.ofBool (BitVec.ofNat 32 k.val == BitVec.ofNat 32 i.val)) _ _ = _
  rw [select_ofBool]
  have hk := k.isLt
  have hi := i.isLt
  by_cases h : k = i
  · rw [if_pos h, if_pos (by rw [h]; exact beq_self_eq_true _)]
  · rw [if_neg h, if_neg]
    intro e
    refine h (Fin.ext ?_)
    have := congrArg BitVec.toNat (eq_of_beq e)
    rw [BitVec.toNat_ofNat, BitVec.toNat_ofNat, Nat.mod_eq_of_lt (by omega), Nat.mod_eq_of_lt (by omega)] at this
    exact this

/-- The position the column's stable sort puts at place `r`. -/
def place (d : Fin 1024 → EReal) (r : Fin 1024) : Fin 1024 := sortedFrom (fun k k' => decide (d k < d k')) r

theorem place_least (d : Fin 1024 → EReal) (r : Fin 1024) : Least d (fun j => ∀ l, l < r → j ≠ place d l) (place d r) :=
  sortedFrom_least d _ (fun _ _ => decide_eq_true_iff) r

def col1 (d : Fin 1024 → EReal) : Fin 1024 → EReal := maskOf d (argOf d)
def col2 (d : Fin 1024 → EReal) : Fin 1024 → EReal := maskOf (col1 d) (argOf (col1 d))

section
variable (d : Fin 1024 → EReal) (hd : ∀ k, d k < ⊤)

theorem min0 : minOf d = d (place d 0) :=
  minOf_eq d _ d (fun _ _ => rfl) (fun k hk => absurd (fun l hl => absurd hl (by simp)) hk) _ (place_least d 0)

include hd

theorem arg0 : argOf d = BitVec.ofNat 32 (place d 0).val :=
  argOf_eq d hd _ d (fun _ _ => rfl) (fun k hk => absurd (fun l hl => absurd hl (by simp)) hk) _ (place_least d 0)

theorem col1_eq (k : Fin 1024) : col1 d k = if k = place d 0 then ⊤ else d k := by
  unfold col1; rw [arg0 d hd, maskOf_eq]

theorem col1_mem (k : Fin 1024) (h : ∀ l, l < (1 : Fin 1024) → k ≠ place d l) : col1 d k = d k := by
  rw [col1_eq d hd, if_neg (h 0 (by decide))]

theorem col1_not (k : Fin 1024) (h : ¬ ∀ l, l < (1 : Fin 1024) → k ≠ place d l) : col1 d k = ⊤ := by
  rw [col1_eq d hd, if_pos]
  by_contra e
  refine h fun l hl => ?_
  have : l = 0 := Fin.ext (by have h1 : l.val < 1 := hl; show l.val = 0; omega)
  rwa [this]

theorem min1 : minOf (col1 d) = d (place d 1) :=
  minOf_eq d _ _ (col1_mem d hd) (col1_not d hd) _ (place_least d 1)

theorem arg1 : argOf (col1 d) = BitVec.ofNat 32 (place d 1).val :=
  argOf_eq d hd _ _ (col1_mem d hd) (col1_not d hd) _ (place_least d 1)

theorem col2_eq (k : Fin 1024) : col2 d k = if k = place d 1 then ⊤ else col1 d k := by
  unfold col2; rw [arg1 d hd, maskOf_eq]

theorem col2_mem (k : Fin 1024) (h : ∀ l, l < (2 : Fin 1024) → k ≠ place d l) : col2 d k = d k := by
  rw [col2_eq d hd, if_neg (h 1 (by decide)), col1_eq d hd, if_neg (h 0 (by decide))]

theorem col2_not (k : Fin 1024) (h : ¬ ∀ l, l < (2 : Fin 1024) → k ≠ place d l) : col2 d k = ⊤ := by
  rw [col2_eq d hd, col1_eq d hd]
  by_contra e
  refine h fun l hl => ?_
  have h2 : l.val < 2 := hl
  intro hk
  rcases (show l = 0 ∨ l = 1 by
    rcases Nat.lt_or_ge l.val 1 with h | h
    · exact Or.inl (Fin.ext (by show l.val = 0; omega))
    · exact Or.inr (Fin.ext (by show l.val = 1; omega))) with rfl | rfl
  · apply e; rw [if_pos hk]; split <;> rfl
  · apply e; rw [if_pos hk]

theorem min2 : minOf (col2 d) = d (place d 2) :=
  minOf_eq d _ _ (col2_mem d hd) (col2_not d hd) _ (place_least d 2)

theorem arg2 : argOf (col2 d) = BitVec.ofNat 32 (place d 2).val :=
  argOf_eq d hd _ _ (col2_mem d hd) (col2_not d hd) _ (place_least d 2)

end

end Cert.KnnRounds

end
-- ==== Proof.KnnKernel.lean ====
/- The nearest-neighbour kernel's stores, read at a query. -/
module

public import proofs.«01_k».proof.Proof.Gen.KnnIdeal.Frame
public import proofs.«01_k».proof.Proof.KnnRounds
public import Idealize.ShloMosaic.Lib.Pointwise.IndexBridge

@[expose] public section

set_option maxRecDepth 16384

noncomputable section

namespace Cert.KnnKernel

open Idealize.ShloMosaic Idealize.SL.Sem
open Cert.KnnIdeal Cert.KnnIdeal.Gen Cert.KnnRounds

/-- The positions of the rows, as words. -/
abbrev pos : IVec S1024x1024 32 := iota .tc S1024x1024 32 [0] iota_S1024x1024_d0_w32

theorem min_read (w : S1024x1024.Idx → Ideal .f32) (q : Fin 1024) :
    (shapeCast S1x1024 (multiReduction (F := Ideal) (φ := .f32) .minimumf [0] S1024 w 0x7F800000#32 reduces_S1024x1024_S1024 (.inl rfl) rfl) shapeCasts_S1024_S1x1024) (ix2 (0 : Fin 1) q)
      = minOf (fun k => w (ix2 k q)) := by
  pointwise [minOf]

theorem arg_read (w : S1024x1024.Idx → Ideal .f32) (z : S1x1024.Idx → Ideal .f32) (q : Fin 1024) (hz : z (ix2 (0 : Fin 1) q) = minOf (fun k => w (ix2 k q))) :
    (shapeCast S1x1024 (multiReductionI .minsi [0] S1024 (select (cmpf (F := Ideal) (φ := .f32) .oeq w (broadcastTo S1024x1024 z broadcasts_S1x1024_S1024x1024)) pos (broadcast S1024x1024 1073741824#32)) 2147483647#32 reduces_S1024x1024_S1024 rfl) shapeCasts_S1024_S1x1024) (ix2 (0 : Fin 1) q)
      = argOf (fun k => w (ix2 k q)) := by
  unfold argOf
  rw [← hz]
  pointwise []
theorem word_read (v : IVec S1024x1024 32) (q : Fin 1024) : k0_pay2 (F := Ideal) v (ix3 (0 : Fin 1) (0 : Fin 1) q)
    = FloatOps.sitofp (F := Ideal) FTy.f32 (IntOp.muli ((shapeCast S1x1024 (multiReductionI .minsi [0] S1024 v 2147483647#32 reduces_S1024x1024_S1024 rfl) shapeCasts_S1024_S1x1024) (ix2 (0 : Fin 1) q)) 33#32) := by
  pointwise [k0_pay2]

section
variable (P0 : S1x1024x3.Idx → Ideal .f32) (P1 : S1x3x1024.Idx → Ideal .f32)

theorem pay5_eq (k q : Fin 1024) : k0_pay5 (F := Ideal) P0 P1 (ix2 k q) = max (Ideal.ofBits FTy.f32 619091349#32)
      (Ideal.ofBits FTy.f32 3221225472#32 * ∑ x, P0 (ix3 0 k x) * P1 (ix3 0 x q) + ∑ x, P1 (ix3 0 x q) * P1 (ix3 0 x q) +
        ∑ x, P0 (ix3 0 k x) * P0 (ix3 0 k x)) := by
  pointwise [k0_pay5]

theorem pay6_eq (q : Fin 1024) : k0_pay6 (F := Ideal) P0 P1 (ix2 (0 : Fin 1) q) = minOf (fun k => k0_pay5 (F := Ideal) P0 P1 (ix2 k q)) := by
  unfold k0_pay6
  exact min_read _ q

theorem pay7_eq (q : Fin 1024) : k0_pay7 (F := Ideal) P0 P1 (ix2 (0 : Fin 1) q) = argOf (fun k => k0_pay5 (F := Ideal) P0 P1 (ix2 k q)) := by
  unfold k0_pay7
  exact arg_read _ _ q (pay6_eq P0 P1 q)

theorem pay8_eq (q : Fin 1024) : k0_pay8 (F := Ideal) P0 P1 (ix3 (0 : Fin 1) (0 : Fin 1) q) = Ideal.div 1 (minOf (fun k => k0_pay5 (F := Ideal) P0 P1 (ix2 k q))) := by
  have h := pay6_eq P0 P1 q
  unfold k0_pay8
  generalize k0_pay6 (F := Ideal) P0 P1 = v at h
  pointwise []
  rw [h]

theorem pay10_eq (q : Fin 1024) : k0_pay10 (k0_pay9 (F := Ideal) P0 P1) (ix3 (0 : Fin 1) (0 : Fin 1) q)
    = FloatOps.sitofp (F := Ideal) FTy.f32 (IntOp.muli (argOf (fun k => k0_pay5 (F := Ideal) P0 P1 (ix2 k q))) 33#32) := by
  have h := pay7_eq P0 P1 q
  unfold k0_pay10 k0_pay9
  generalize k0_pay7 (F := Ideal) P0 P1 = v at h
  pointwise []
  rw [h]
end

section
variable (d : S1024x1024.Idx → Ideal .f32) (v : IVec S1x1024 32) (q : Fin 1024)
  (hv : v (ix2 (0 : Fin 1) q) = argOf (fun k => d (ix2 k q)))
include hv

theorem pay11_eq (k : Fin 1024) : k0_pay11 (F := Ideal) d pos v (ix2 k q) = col1 (fun k => d (ix2 k q)) k := by
  pointwise [k0_pay11]
  rw [hv]
  rfl

theorem pay12_eq : k0_pay12 (F := Ideal) d pos v (ix2 (0 : Fin 1) q) = minOf (col1 (fun k => d (ix2 k q))) := by
  unfold k0_pay12
  exact (min_read _ q).trans (congrArg minOf (funext fun k => pay11_eq d v q hv k))

theorem pay13_eq : k0_pay13 (F := Ideal) d pos v (ix2 (0 : Fin 1) q) = argOf (col1 (fun k => d (ix2 k q))) := by
  unfold k0_pay13
  refine (arg_read _ _ q ((pay12_eq d v q hv).trans ?_)).trans (congrArg argOf (funext fun k => pay11_eq d v q hv k))
  exact congrArg minOf (funext fun k => (pay11_eq d v q hv k).symm)

theorem pay14_eq : k0_pay14 (F := Ideal) d pos v (ix3 (0 : Fin 1) (0 : Fin 1) q) = Ideal.div 1 (minOf (col1 (fun k => d (ix2 k q)))) := by
  have h := pay12_eq d v q hv
  unfold k0_pay14
  generalize k0_pay12 (F := Ideal) d pos v = z at h
  pointwise []
  rw [h]

theorem pay15_eq : k0_pay15 (F := Ideal) d pos v (ix3 (0 : Fin 1) (0 : Fin 1) q)
    = FloatOps.sitofp (F := Ideal) FTy.f32 (IntOp.muli (argOf (col1 (fun k => d (ix2 k q)))) 33#32) := by
  have h := pay13_eq d v q hv
  unfold k0_pay15
  generalize k0_pay13 (F := Ideal) d pos v = z at h
  pointwise []
  rw [h]

theorem pay16_eq (k : Fin 1024) : k0_pay16 (F := Ideal) d pos v (ix2 k q) = col2 (fun k => d (ix2 k q)) k := by
  have h := pay11_eq d v q hv
  have h' := pay13_eq d v q hv
  unfold k0_pay16
  generalize k0_pay13 (F := Ideal) d pos v = z at h'
  generalize k0_pay11 (F := Ideal) d pos v = w at h
  pointwise []
  rw [h, h']
  rfl

theorem pay17_eq : k0_pay17 (F := Ideal) d pos v (ix2 (0 : Fin 1) q) = minOf (col2 (fun k => d (ix2 k q))) := by
  unfold k0_pay17
  exact (min_read _ q).trans (congrArg minOf (funext fun k => pay16_eq d v q hv k))

theorem pay1_eq : k0_pay1 (F := Ideal) (k0_pay17 (F := Ideal) d pos v) (ix3 (0 : Fin 1) (0 : Fin 1) q)
    = Ideal.div 1 (minOf (col2 (fun k => d (ix2 k q)))) := by
  have h := pay17_eq d v q hv
  generalize k0_pay17 (F := Ideal) d pos v = z at h
  pointwise [k0_pay1]
  rw [h]

theorem pay2_eq : k0_pay2 (F := Ideal) (k0_pay18 (F := Ideal) d pos v) (ix3 (0 : Fin 1) (0 : Fin 1) q)
    = FloatOps.sitofp (F := Ideal) FTy.f32 (IntOp.muli (argOf (col2 (fun k => d (ix2 k q)))) 33#32) := by
  refine (word_read _ q).trans ?_
  unfold k0_pay18
  refine congrArg (fun w => FloatOps.sitofp (F := Ideal) FTy.f32 (IntOp.muli w 33#32)) ?_
  refine (arg_read _ _ q ((pay17_eq d v q hv).trans ?_)).trans (congrArg argOf (funext fun k => pay16_eq d v q hv k))
  exact congrArg minOf (funext fun k => (pay16_eq d v q hv k).symm)

end

theorem pay3_eq (q : Fin 1024) : k0_pay3 (F := Ideal) (ix3 (0 : Fin 1) (0 : Fin 1) q) = 0 := by
  pointwise [k0_pay3]

theorem pay4_eq (q : Fin 1024) : k0_pay4 (F := Ideal) (ix3 (0 : Fin 1) (0 : Fin 1) q) = 0 := by
  pointwise [k0_pay4]

end Cert.KnnKernel

end
-- ==== Proof.KnnRef.lean ====
/- The reference of the nearest-neighbour call, read at an index. -/
module

public import proofs.«01_k».proof.Proof.Gen.KnnReferenceIdeal.Run
public import proofs.«01_k».proof.Proof.KnnRounds
public import Idealize.ShloMosaic.Lib.Pointwise.IndexBridge

@[expose] public section

set_option maxRecDepth 16384

noncomputable section

namespace Cert.KnnRef

open Idealize.ShloMosaic Idealize.SL.Sem
open Cert.KnnReferenceIdeal Cert.KnnReferenceIdeal.Gen

/-- The squared distances, kept above a small constant. -/
def dist (p : S2x8192x3.Idx → Ideal .f32) (s : S2x1024x3.Idx → Ideal .f32) : S2x8192x1024.Idx → Ideal .f32 :=
  maximumf (broadcastInDim S2x8192x1024 ![] bcast_S_S2x8192x1024 (id (constant S_ .f32 0x24E69595#32))) (addf (addf (mulf (broadcastInDim S2x8192x1024 ![] bcast_S_S2x8192x1024 (constant S_ .f32 0xC0000000#32)) (Host.dotGeneral dot_S2x8192x3_S2x3x1024_S2x8192x1024_2_1_1_2_0_0 none p (transpose S2x3x1024 [0, 2, 1] s transposes_S2x1024x3_S2x3x1024_0_2_1))) (broadcastInDim S2x8192x1024 ![0, 1, 2] bcast_S2x8192x1_S2x8192x1024_0_1_2 (broadcastInDim S2x8192x1 ![0, 1] bcast_S2x8192_S2x8192x1_0_1 (Host.reduceAdd (mulf p p) (constant S_ .f32 0x00000000#32) reducesTo_S2x8192x3_S2x8192_d2 h_S_)))) (broadcastInDim S2x8192x1024 ![0, 1, 2] bcast_S2x1x1024_S2x8192x1024_0_1_2 (broadcastInDim S2x1x1024 ![0, 2] bcast_S2x1024_S2x1x1024_0_2 (Host.reduceAdd (mulf s s) (constant S_ .f32 0x00000000#32) reducesTo_S2x1024x3_S2x1024_d2 h_S_))))

/-- The three nearest, their negated distances and their positions. -/
def nearest (d : S2x8192x1024.Idx → Ideal .f32) : (S2x8192x3.Idx → Ideal .f32) × IVec S2x8192x3 32 :=
  Host.topK S2x8192x3 2 (FloatOps.cmpfTotal .gt) (Host.negf d) sliceFits_S2x8192x1024_S2x8192x3

/-- The three rows of reciprocals of the distances, the three rows of word indices and two rows of zeros. -/
def rows (t : (S2x8192x3.Idx → Ideal .f32) × IVec S2x8192x3 32) : S2x8x8192.Idx → Ideal .f32 :=
  concatenate S2x8x8192 1 [⟨S2x3x8192, transpose S2x3x8192 [0, 2, 1] (Host.divf (F := Ideal) (φ := .f32) (broadcastInDim S2x8192x3 ![] bcast_S_S2x8192x3 (constant S_ .f32 0x3F800000#32)) (Host.negf t.1)) transposes_S2x8192x3_S2x3x8192_0_2_1⟩,
    ⟨S2x3x8192, sitofp (F := Ideal) .f32 (transpose S2x3x8192 [0, 2, 1] (muli t.2 (broadcastInDim S2x8192x3 ![] bcast_S_S2x8192x3 (constantI S_ 32 33#32))) transposes_S2x8192x3_S2x3x8192_0_2_1)⟩,
    ⟨S2x2x8192, broadcastInDim S2x2x8192 ![] bcast_S_S2x2x8192 (constant (F := Ideal) S_ .f32 0x00000000#32)⟩] concatenates_S2x3x8192_S2x3x8192_S2x2x8192_S2x8x8192_d1

def refOut (p : S2x8192x3.Idx → Ideal .f32) (s : S2x1024x3.Idx → Ideal .f32) : S2x8x8192.Idx → Ideal .f32 :=
  rows (nearest (dist p s))

/-- The column of distances of one query. -/
def column (p : S2x8192x3.Idx → Ideal .f32) (s : S2x1024x3.Idx → Ideal .f32) (b : Fin 2) (q : Fin 8192) : Fin 1024 → EReal :=
  fun k => dist p s (ix3 b q k)

theorem column_eq (p : S2x8192x3.Idx → Ideal .f32) (s : S2x1024x3.Idx → Ideal .f32) (b : Fin 2) (q : Fin 8192) (k : Fin 1024) :
    column p s b q k = max (Ideal.ofBits FTy.f32 619091349#32)
      (Ideal.ofBits FTy.f32 3221225472#32 * ∑ x, p (ix3 b q x) * s (ix3 b k x) + ∑ x, p (ix3 b q x) * p (ix3 b q x) +
        ∑ x, s (ix3 b k x) * s (ix3 b k x)) := by
  unfold column
  pointwise [Cert.KnnRef.dist]
  rfl

theorem small_eq : ∃ r : ℝ, Ideal.ofBits FTy.f32 619091349#32 = (r : EReal) :=
  ⟨_, by simp [Ideal.ofBits, Ideal.ieee, -EReal.coe_mul]; rfl⟩

theorem two_eq : Ideal.ofBits FTy.f32 3221225472#32 = ((-2 : ℝ) : EReal) := by
  simp [Ideal.ofBits, Ideal.ieee, -EReal.coe_mul]; norm_num

/-- With finite coordinates every distance is finite. -/
theorem column_lt_top (p : S2x8192x3.Idx → Ideal .f32) (s : S2x1024x3.Idx → Ideal .f32)
    (hp : ∀ i, ∃ r : ℝ, p i = (r : EReal)) (hs : ∀ i, ∃ r : ℝ, s i = (r : EReal)) (b : Fin 2) (q : Fin 8192) (k : Fin 1024) :
    column p s b q k < ⊤ := by
  rw [column_eq, two_eq]
  obtain ⟨c, hc⟩ := small_eq
  choose p' hp' using hp
  choose s' hs' using hs
  simp only [hp', hs', hc, Fin.sum_univ_three, ← EReal.coe_mul, ← EReal.coe_add]
  exact max_lt (EReal.coe_lt_top _) (EReal.coe_lt_top _)

theorem along_eq (b : Fin 2) (q : Fin 8192) (r k : Fin 1024) :
    (ix3 b q r : S2x8192x1024.Idx).along (2 : Fin 3) k = ix3 b q k := by
  funext a
  match a with
  | ⟨0, _⟩ => rfl
  | ⟨1, _⟩ => rfl
  | ⟨2, _⟩ => rfl

theorem before_eq (x y : EReal) : ((FloatOps.cmpfTotal (F := Ideal) (φ := .f32) CmpDirection.gt (-x) (-y) == 1#1) : Bool) = decide (x < y) := by
  show (BitVec.ofBool (decide (-y < -x)) == 1#1) = _
  simp only [EReal.neg_lt_neg_iff]
  cases decide (x < y) <;> rfl

theorem nearest_pos (d : S2x8192x1024.Idx → Ideal .f32) (b : Fin 2) (q : Fin 8192) (r : Fin 3) (r' : Fin 1024) (hr : r'.val = r.val) :
    (nearest d).2 (ix3 b q r) = BitVec.ofNat 32 (Cert.KnnRounds.place (fun k => d (ix3 b q k)) r').val := by
  have e : (⟨r.val, by omega⟩ : Fin 1024) = r' := Fin.ext hr.symm
  unfold nearest
  pointwise [Host.topK, Host.sort2]
  simp only [along_eq, before_eq]
  rw [e]
  rfl

theorem nearest_val (d : S2x8192x1024.Idx → Ideal .f32) (b : Fin 2) (q : Fin 8192) (r : Fin 3) (r' : Fin 1024) (hr : r'.val = r.val) :
    (nearest d).1 (ix3 b q r) = - d (ix3 b q (Cert.KnnRounds.place (fun k => d (ix3 b q k)) r')) := by
  have e : (⟨r.val, by omega⟩ : Fin 1024) = r' := Fin.ext hr.symm
  unfold nearest
  pointwise [Host.topK, Host.sort2]
  simp only [along_eq, before_eq]
  rw [e]
  rfl

theorem rows_eq (t : (S2x8192x3.Idx → Ideal .f32) × IVec S2x8192x3 32) (b : Fin 2) (r : Fin 8) (q : Fin 8192) :
    rows t (ix3 b r q) = if h : r.val < 3 then Ideal.div 1 (-t.1 (ix3 b q ⟨r.val, by omega⟩))
    else if h : r.val - 3 < 3 then FloatOps.sitofp (F := Ideal) FTy.f32 (IntOp.muli (t.2 (ix3 b q ⟨r.val - 3, by omega⟩)) 33#32) else 0 := by
  unfold rows
  pointwise []

/-- A reciprocal row. -/
theorem refOut_val (p : S2x8192x3.Idx → Ideal .f32) (s : S2x1024x3.Idx → Ideal .f32) (b : Fin 2) (r : Fin 8) (q : Fin 8192)
    (r' : Fin 1024) (hr : r.val < 3) (e : r'.val = r.val) :
    refOut p s (ix3 b r q) = Ideal.div 1 (column p s b q (Cert.KnnRounds.place (column p s b q) r')) := by
  unfold refOut
  rw [rows_eq, dif_pos hr, nearest_val _ b q _ r' e, neg_neg]
  rfl

/-- A row of word indices. -/
theorem refOut_pos (p : S2x8192x3.Idx → Ideal .f32) (s : S2x1024x3.Idx → Ideal .f32) (b : Fin 2) (r : Fin 8) (q : Fin 8192)
    (r' : Fin 1024) (hr : 3 ≤ r.val) (hr' : r.val < 6) (e : r'.val = r.val - 3) :
    refOut p s (ix3 b r q) = FloatOps.sitofp (F := Ideal) FTy.f32 (IntOp.muli (BitVec.ofNat 32 (Cert.KnnRounds.place (column p s b q) r').val) 33#32) := by
  unfold refOut
  rw [rows_eq, dif_neg (by omega), dif_pos (by omega), nearest_pos _ b q _ r' e]
  rfl

/-- A row of zeros. -/
theorem refOut_zero (p : S2x8192x3.Idx → Ideal .f32) (s : S2x1024x3.Idx → Ideal .f32) (b : Fin 2) (r : Fin 8) (q : Fin 8192)
    (hr : 6 ≤ r.val) : refOut p s (ix3 b r q) = 0 := by
  unfold refOut
  rw [rows_eq, dif_neg (by omega), dif_neg (by omega)]

end Cert.KnnRef

end
-- ==== Proof.KnnRun.lean ====
/- The nearest-neighbour call's result array is its reference's. -/
module

public import proofs.«01_k».proof.Proof.Gen.KnnIdeal.Value
public import proofs.«01_k».proof.Proof.KnnKernel
public import proofs.«01_k».proof.Proof.KnnRef

@[expose] public section

set_option maxRecDepth 16384

noncomputable section

namespace Cert.KnnRun

open Cert.KnnIdeal Cert.KnnIdeal.Gen Cert.KnnIdeal.Value Idealize.ShloMosaic Idealize.ShloMosaic.TcCoe Idealize.SL.Sem Cert.KnnRounds

theorem emb_r9 (q : Fin 1024) : r0_9.emb (ix3 (0 : Fin 1) (0 : Fin 1) q) = (ix3 (0 : Fin 1) (7 : Fin 8) q : S1x8x1024.Idx) := by
  funext a; apply Fin.ext
  match a with
  | ⟨0, _⟩ => rfl
  | ⟨1, _⟩ => rfl
  | ⟨2, _⟩ => show 0 + 1 * q.val = q.val; omega

theorem emb_r8 (q : Fin 1024) : r0_8.emb (ix3 (0 : Fin 1) (0 : Fin 1) q) = (ix3 (0 : Fin 1) (6 : Fin 8) q : S1x8x1024.Idx) := by
  funext a; apply Fin.ext
  match a with
  | ⟨0, _⟩ => rfl
  | ⟨1, _⟩ => rfl
  | ⟨2, _⟩ => show 0 + 1 * q.val = q.val; omega

theorem emb_r7 (q : Fin 1024) : r0_7.emb (ix3 (0 : Fin 1) (0 : Fin 1) q) = (ix3 (0 : Fin 1) (5 : Fin 8) q : S1x8x1024.Idx) := by
  funext a; apply Fin.ext
  match a with
  | ⟨0, _⟩ => rfl
  | ⟨1, _⟩ => rfl
  | ⟨2, _⟩ => show 0 + 1 * q.val = q.val; omega

theorem emb_r6 (q : Fin 1024) : r0_6.emb (ix3 (0 : Fin 1) (0 : Fin 1) q) = (ix3 (0 : Fin 1) (2 : Fin 8) q : S1x8x1024.Idx) := by
  funext a; apply Fin.ext
  match a with
  | ⟨0, _⟩ => rfl
  | ⟨1, _⟩ => rfl
  | ⟨2, _⟩ => show 0 + 1 * q.val = q.val; omega

theorem emb_r5 (q : Fin 1024) : r0_5.emb (ix3 (0 : Fin 1) (0 : Fin 1) q) = (ix3 (0 : Fin 1) (4 : Fin 8) q : S1x8x1024.Idx) := by
  funext a; apply Fin.ext
  match a with
  | ⟨0, _⟩ => rfl
  | ⟨1, _⟩ => rfl
  | ⟨2, _⟩ => show 0 + 1 * q.val = q.val; omega

theorem emb_r4 (q : Fin 1024) : r0_4.emb (ix3 (0 : Fin 1) (0 : Fin 1) q) = (ix3 (0 : Fin 1) (1 : Fin 8) q : S1x8x1024.Idx) := by
  funext a; apply Fin.ext
  match a with
  | ⟨0, _⟩ => rfl
  | ⟨1, _⟩ => rfl
  | ⟨2, _⟩ => show 0 + 1 * q.val = q.val; omega

theorem emb_r3 (q : Fin 1024) : r0_3.emb (ix3 (0 : Fin 1) (0 : Fin 1) q) = (ix3 (0 : Fin 1) (3 : Fin 8) q : S1x8x1024.Idx) := by
  funext a; apply Fin.ext
  match a with
  | ⟨0, _⟩ => rfl
  | ⟨1, _⟩ => rfl
  | ⟨2, _⟩ => show 0 + 1 * q.val = q.val; omega

theorem emb_r2 (q : Fin 1024) : r0_2.emb (ix3 (0 : Fin 1) (0 : Fin 1) q) = (ix3 (0 : Fin 1) (0 : Fin 8) q : S1x8x1024.Idx) := by
  funext a; apply Fin.ext
  match a with
  | ⟨0, _⟩ => rfl
  | ⟨1, _⟩ => rfl
  | ⟨2, _⟩ => show 0 + 1 * q.val = q.val; omega

/-- One block of the reference's result. -/
def blockOf (p : S2x8192x3.Idx → Ideal .f32) (s : S2x1024x3.Idx → Ideal .f32) (b : Fin 2) (qi : Fin 1024 → Fin 8192) : S1x8x1024.Idx → Elt Ideal .f32 :=
  fun y => Cert.KnnRef.refOut p s (ix3 b (y 1) (qi (y 2)))

/-- One block of the result, from one block of the points and one of the queries, is the reference's: `b` is the batch and `qi` gives
    the block's queries. -/
theorem out_eq (P0 : Vec Ideal S1x1024x3 .f32) (P1 : Vec Ideal S1x3x1024 .f32)
    (p : S2x8192x3.Idx → Ideal .f32) (s : S2x1024x3.Idx → Ideal .f32) (b : Fin 2) (qi : Fin 1024 → Fin 8192)
    (h0 : ∀ (k : Fin 1024) (x : Fin 3), P0 (ix3 (0 : Fin 1) k x) = s (ix3 b k x))
    (h1 : ∀ (x : Fin 3) (q : Fin 1024), P1 (ix3 (0 : Fin 1) x q) = p (ix3 b (qi q) x))
    (hd : ∀ (q : Fin 8192) (k : Fin 1024), Cert.KnnRef.column p s b q k < ⊤)
    (y : S1x8x1024.Idx) : out0_2 (F := Ideal) P0 P1 y = blockOf p s b qi y := by
  have hz : (![0, 0, 0] : Fin 3 → Nat) = fun _ => 0 := funext fun a => by fin_cases a <;> rfl
  have hcol : ∀ q : Fin 1024, (fun k => k0_pay5 (F := Ideal) P0 P1 (ix2 k q)) = Cert.KnnRef.column p s b (qi q) := fun q => funext fun k => by
    rw [Cert.KnnKernel.pay5_eq, Cert.KnnRef.column_eq]
    simp only [h0, h1, mul_comm]
  have hv : ∀ q : Fin 1024, k0_pay7 (F := Ideal) P0 P1 (ix2 (0 : Fin 1) q) = argOf (fun k => k0_pay5 (F := Ideal) P0 P1 (ix2 k q)) :=
    Cert.KnnKernel.pay7_eq P0 P1
  have e19 : k0_pay19 P0 P1 = Cert.KnnKernel.pos := rfl
  unfold out0_2
  refine View.canon_apply_of_pieces (Val := Elt Ideal) (S := S1x8x1024) (e := .f32) (blockOf p s b qi) _ ?_ y (cover0_2 _ _ _ _ _ _ _ _ y)
  rw [e19]
  unfold k0_pay20 k0_pay21
  simp only [View.ld_unit_zero (S := S1x1024x3) hz, View.ld_unit_zero (S := S1x3x1024) hz]
  have hx : ∀ x : S1x1x1024.Idx, ∃ q : Fin 1024, x = ix3 (0 : Fin 1) (0 : Fin 1) q := fun x => ⟨x 2, (eq_ix3 x).trans (by
    congr 1 <;> exact Subsingleton.elim _ _)⟩
  simp only [List.mem_cons, List.not_mem_nil, or_false, forall_eq_or_imp, forall_eq]
  have word : ∀ w w' : BitVec 32, w = w' → FloatOps.sitofp (F := Ideal) FTy.f32 (IntOp.muli w 33#32) = FloatOps.sitofp (F := Ideal) FTy.f32 (IntOp.muli w' 33#32) :=
    fun w w' e => by rw [e]
  refine ⟨?_, ?_, ?_, ?_, ?_, ?_, ?_, ?_⟩ <;> intro (x : S1x1x1024.Idx) <;> obtain ⟨q, rfl⟩ := hx x
  · refine Eq.trans ?_ (congrArg (blockOf p s b qi) (emb_r9 q)).symm
    show _ = Cert.KnnRef.refOut p s (ix3 b (7 : Fin 8) (qi q))
    refine Eq.trans (Cert.KnnKernel.pay4_eq q) ?_
    exact (Cert.KnnRef.refOut_zero p s b 7 (qi q) (by decide)).symm
  · refine Eq.trans ?_ (congrArg (blockOf p s b qi) (emb_r8 q)).symm
    show _ = Cert.KnnRef.refOut p s (ix3 b (6 : Fin 8) (qi q))
    refine Eq.trans (Cert.KnnKernel.pay3_eq q) ?_
    exact (Cert.KnnRef.refOut_zero p s b 6 (qi q) (by decide)).symm
  · refine Eq.trans ?_ (congrArg (blockOf p s b qi) (emb_r7 q)).symm
    show _ = Cert.KnnRef.refOut p s (ix3 b (5 : Fin 8) (qi q))
    refine Eq.trans (Cert.KnnKernel.pay2_eq _ _ q (hv q)) ?_
    refine Eq.trans ?_ (Cert.KnnRef.refOut_pos p s b 5 (qi q) 2 (by decide) (by decide) rfl).symm
    rw [hcol q]
    exact word _ _ (arg2 _ (hd (qi q)))
  · refine Eq.trans ?_ (congrArg (blockOf p s b qi) (emb_r6 q)).symm
    show _ = Cert.KnnRef.refOut p s (ix3 b (2 : Fin 8) (qi q))
    refine Eq.trans (Cert.KnnKernel.pay1_eq _ _ q (hv q)) ?_
    refine Eq.trans ?_ (Cert.KnnRef.refOut_val p s b 2 (qi q) 2 (by decide) rfl).symm
    rw [hcol q]
    exact congrArg (Ideal.div 1) (min2 _ (hd (qi q)))
  · refine Eq.trans ?_ (congrArg (blockOf p s b qi) (emb_r5 q)).symm
    show _ = Cert.KnnRef.refOut p s (ix3 b (4 : Fin 8) (qi q))
    refine Eq.trans (Cert.KnnKernel.pay15_eq _ _ q (hv q)) ?_
    refine Eq.trans ?_ (Cert.KnnRef.refOut_pos p s b 4 (qi q) 1 (by decide) (by decide) rfl).symm
    rw [hcol q]
    exact word _ _ (arg1 _ (hd (qi q)))
  · refine Eq.trans ?_ (congrArg (blockOf p s b qi) (emb_r4 q)).symm
    show _ = Cert.KnnRef.refOut p s (ix3 b (1 : Fin 8) (qi q))
    refine Eq.trans (Cert.KnnKernel.pay14_eq _ _ q (hv q)) ?_
    refine Eq.trans ?_ (Cert.KnnRef.refOut_val p s b 1 (qi q) 1 (by decide) rfl).symm
    rw [hcol q]
    exact congrArg (Ideal.div 1) (min1 _ (hd (qi q)))
  · refine Eq.trans ?_ (congrArg (blockOf p s b qi) (emb_r3 q)).symm
    show _ = Cert.KnnRef.refOut p s (ix3 b (3 : Fin 8) (qi q))
    refine Eq.trans (Cert.KnnKernel.pay10_eq P0 P1 q) ?_
    refine Eq.trans ?_ (Cert.KnnRef.refOut_pos p s b 3 (qi q) 0 (by decide) (by decide) rfl).symm
    rw [hcol q]
    exact word _ _ (arg0 _ (hd (qi q)))
  · refine Eq.trans ?_ (congrArg (blockOf p s b qi) (emb_r2 q)).symm
    show _ = Cert.KnnRef.refOut p s (ix3 b (0 : Fin 8) (qi q))
    refine Eq.trans (Cert.KnnKernel.pay8_eq P0 P1 q) ?_
    refine Eq.trans ?_ (Cert.KnnRef.refOut_val p s b 0 (qi q) 0 (by decide) rfl).symm
    rw [hcol q]
    exact congrArg (Ideal.div 1) (min0 _)

variable (m : (ℓ : Loc nD τ sig) → Buf (Elt Ideal) ℓ)

theorem V_v0 (c : Dev nD) : V m c main_v0 = transpose S2x3x8192 [0, 2, 1] (m ((c : Thread nD τ).loc main_arg0)) transposes_S2x8192x3_S2x3x8192_0_2_1 := by
  unfold V
  simp only [hostOps0, List.flatten_cons, List.flatten_nil, List.append_nil, List.cons_append, List.nil_append]
  after_results
  try rfl

theorem turn (p : S2x8192x3.Idx → Ideal .f32) (b : Fin 2) (x : Fin 3) (q : Fin 8192) :
    transpose S2x3x8192 [0, 2, 1] p transposes_S2x8192x3_S2x3x8192_0_2_1 (ix3 b x q) = p (ix3 b q x) := by
  pointwise []

/-- The batch of a grid point. -/
def batch (t : Fin cfg0.N) : Fin 2 := ⟨t.val / 8, by have : t.val < 16 := t.isLt; omega⟩

/-- The query a grid point's block holds at `q`. -/
def query (t : Fin cfg0.N) (q : Fin 1024) : Fin 8192 := ⟨t.val % 8 * 1024 + q.val, by omega⟩

theorem idx0 : ∀ t : Fin cfg0.N, win0_0.index t (0 : Fin 3) = t.val / 8 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val / 8 ∧ win0_1.index t (1 : Fin 3) = 0 ∧ win0_1.index t (2 : Fin 3) = t.val % 8 :=
  (by decide +kernel : ∀ t : Fin grid0.N, _)
theorem idx2 : ∀ t : Fin cfg0.N, win0_2.index t (0 : Fin 3) = t.val / 8 ∧ win0_2.index t (1 : Fin 3) = 0 ∧ win0_2.index t (2 : Fin 3) = t.val % 8 :=
  (by decide +kernel : ∀ t : Fin grid0.N, _)

theorem iblk0 (c : Dev nD) (t : Fin cfg0.N) (k : Fin 1024) (x : Fin 3) :
    (iblk m c 0 t : Vec Ideal S1x1024x3 .f32) (ix3 (0 : Fin 1) k x) = (m ((c : Thread nD τ).loc main_arg1) : S2x1024x3.Idx → Ideal .f32) (ix3 (batch t) k x) := by
  obtain ⟨e0, e1, e2⟩ := idx0 t
  refine Eq.trans (b := V m c main_arg1 (((cfg0.win 0).blk t).view.emb (ix3 (0 : Fin 1) k x))) rfl ?_
  rw [V_main_arg1]
  refine congrArg _ (funext fun a => Fin.ext ?_)
  match a with
  | ⟨0, _⟩ => show win0_0.index t (0 : Fin 3) * 1 + 1 * 0 = t.val / 8; omega
  | ⟨1, _⟩ => show win0_0.index t (1 : Fin 3) * 1024 + 1 * k.val = k.val; omega
  | ⟨2, _⟩ => show win0_0.index t (2 : Fin 3) * 3 + 1 * x.val = x.val; omega

theorem iblk1 (c : Dev nD) (t : Fin cfg0.N) (x : Fin 3) (q : Fin 1024) :
    (iblk m c 1 t : Vec Ideal S1x3x1024 .f32) (ix3 (0 : Fin 1) x q) = (m ((c : Thread nD τ).loc main_arg0) : S2x8192x3.Idx → Ideal .f32) (ix3 (batch t) (query t q) x) := by
  obtain ⟨e0, e1, e2⟩ := idx1 t
  have e : ((cfg0.win 1).blk t).view.emb (ix3 (0 : Fin 1) x q) = (ix3 (batch t) x (query t q) : S2x3x8192.Idx) := by
    refine funext fun a => Fin.ext ?_
    match a with
    | ⟨0, _⟩ => show win0_1.index t (0 : Fin 3) * 1 + 1 * 0 = t.val / 8; omega
    | ⟨1, _⟩ => show win0_1.index t (1 : Fin 3) * 3 + 1 * x.val = x.val; omega
    | ⟨2, _⟩ => show win0_1.index t (2 : Fin 3) * 1024 + 1 * q.val = t.val % 8 * 1024 + q.val; omega
  refine Eq.trans (b := V m c main_v0 (((cfg0.win 1).blk t).view.emb (ix3 (0 : Fin 1) x q))) rfl ?_
  rw [V_v0]
  exact (congrArg _ e).trans (turn _ _ _ _)

theorem emb2 (t : Fin cfg0.N) (y : S1x8x1024.Idx) :
    ((cfg0.win 2).blk t).view.emb y = (ix3 (batch t) (y 1) (query t (y 2)) : S2x8x8192.Idx) := by
  obtain ⟨e0, e1, e2⟩ := idx2 t
  refine funext fun a => Fin.ext ?_
  match a with
  | ⟨0, _⟩ =>
    have h : (y 0).val < 1 := (y 0).isLt
    show win0_2.index t (0 : Fin 3) * 1 + 1 * (y 0).val = t.val / 8; omega
  | ⟨1, _⟩ => show win0_2.index t (1 : Fin 3) * 8 + 1 * (y 1).val = (y 1).val; omega
  | ⟨2, _⟩ => show win0_2.index t (2 : Fin 3) * 1024 + 1 * (y 2).val = t.val % 8 * 1024 + (y 2).val; omega

/-- The reference's result at the call's arguments. -/
abbrev resultAt (c : Dev nD) : S2x8x8192.Idx → Ideal .f32 :=
  Cert.KnnRef.refOut (m ((c : Thread nD τ).loc main_arg0)) (m ((c : Thread nD τ).loc main_arg1))

/-- Every distance at the call's arguments is finite. -/
abbrev Finite (c : Dev nD) : Prop :=
  ∀ (b : Fin 2) (q : Fin 8192) (k : Fin 1024), Cert.KnnRef.column (m ((c : Thread nD τ).loc main_arg0)) (m ((c : Thread nD τ).loc main_arg1)) b q k < ⊤

theorem flushed2_eq (c : Dev nD) (h : Finite m c) (t : Fin cfg0.N) :
    (dats m 0 c).flushed 2 t = ((cfg0.win 2).blk t).view.read (Elt Ideal) (resultAt m c) := by
  rw [flushed2]
  funext y
  refine (out_eq (iblk m c 0 t) (iblk m c 1 t) (m ((c : Thread nD τ).loc main_arg0)) (m ((c : Thread nD τ).loc main_arg1)) (batch t) (query t)
    (iblk0 m c t) (iblk1 m c t) (h (batch t)) y).trans ?_
  exact (congrArg (resultAt m c) (emb2 t y)).symm

theorem point (b : Fin 2) (n : Fin 8192) : ∃ (t : Fin cfg0.N) (q : Fin 1024), batch t = b ∧ query t q = n := by
  have hb := b.isLt
  have hn := n.isLt
  have ht : b.val * 8 + n.val / 1024 < 16 := by omega
  refine ⟨⟨b.val * 8 + n.val / 1024, ht⟩, ⟨n.val % 1024, by omega⟩, Fin.ext ?_, Fin.ext ?_⟩
  · show (b.val * 8 + n.val / 1024) / 8 = b.val; omega
  · show (b.val * 8 + n.val / 1024) % 8 * 1024 + n.val % 1024 = n.val; omega

theorem mem_blk (t : Fin cfg0.N) (r : Fin 8) (q : Fin 1024) :
    (ix3 (batch t) r (query t q) : S2x8x8192.Idx) ∈ ((cfg0.win 2).blk t).view.set := by
  have h := ((cfg0.win 2).blk t).view.emb_mem_set (ix3 (0 : Fin 1) r q : S1x8x1024.Idx)
  rw [emb2] at h
  exact h

theorem covered2 (i : S2x8x8192.Idx) :
    ∃ t : Fin cfg0.N, (cfg0.win 2).flush t = true ∧ i ∈ ((cfg0.win 2).blk t).view.set := by
  obtain ⟨t, q, e0, e2⟩ := point (i 0) (i 2)
  refine ⟨t, flush0_2 t, ?_⟩
  have h := mem_blk t (i 1) q
  rw [e0, e2] at h
  rw [eq_ix3 i]
  exact h

/-- The result array after the run. -/
theorem final2 (c : Dev nD) (h : Finite m c) : (dats m 0 c).arrAt 2 cfg0.N = resultAt m c :=
  (dats m 0 c).arrAt_eq_of_cover 2 (resultAt m c) (fun t _ => flushed2_eq m c h t) covered2

end Cert.KnnRun

end
-- ==== Proof.KnnPre.lean ====
/- What the precondition says of the coordinates: each is a real number. -/
module

public import proofs.«01_k».proof.Pre_finite
public import proofs.«01_k».proof.Proof.Gen.Pre_finite
public import proofs.«01_k».proof.Proof.KnnRounds
public import Idealize.ShloMosaic.Lib.ReduceAll
public import Idealize.ShloMosaic.Lib.Affine

@[expose] public section

noncomputable section

namespace Cert.KnnPre

open Idealize.ShloMosaic Cert.Pre_finite

theorem real_of_abs_lt (x : EReal) (h : max x (-x) < ⊤) : ∃ r : ℝ, x = (r : EReal) := by
  obtain ⟨h1, h2⟩ := max_lt_iff.1 h
  have hb : x ≠ ⊥ := by rintro rfl; simp at h2
  exact ⟨x.toReal, (EReal.coe_toReal h1.ne hb).symm⟩

theorem real_of_word (x : Ideal .f32)
    (h : FloatOps.cmpf (F := Ideal) (φ := .f32) .olt (FloatOps.hostAbsf x) (Ideal.ofBits FTy.f32 2139095040#32) = 1#1) : ∃ r : ℝ, x = (r : EReal) := by
  rw [Cert.KnnRounds.inf_eq] at h
  have h' : BitVec.ofBool (decide (max (x : EReal) (-x) < ⊤)) = 1#1 := h
  apply real_of_abs_lt
  by_contra e
  rw [decide_eq_false e] at h'
  exact absurd h' (by decide)

instance : Subsingleton S_.Idx := ⟨fun a b => funext fun x => x.elim0⟩

theorem real0 (p : S2x8192x3.Idx → Ideal .f32) (s : S2x1024x3.Idx → Ideal .f32)
    (h : Cert.Pre_finite.fn (F := Ideal) p s = fun _ => 1#1) : ∀ i, ∃ r : ℝ, p i = (r : EReal) := fun i =>
  real_of_word _ (Host.reduce_andi_all _ _ _ _ (fun x => x.elim0) (IntOp.andi_eq_one.1 (congrFun h (fun x => x.elim0))).1 i)

theorem real1 (p : S2x8192x3.Idx → Ideal .f32) (s : S2x1024x3.Idx → Ideal .f32)
    (h : Cert.Pre_finite.fn (F := Ideal) p s = fun _ => 1#1) : ∀ i, ∃ r : ℝ, s i = (r : EReal) := fun i =>
  real_of_word _ (Host.reduce_andi_all _ _ _ _ (fun x => x.elim0) (IntOp.andi_eq_one.1 (congrFun h (fun x => x.elim0))).2 i)

end Cert.KnnPre

end
-- ==== Proof.KernelFold.lean ====
/- One trip of the interpolation loop, as a recursion over the output rows. -/
module

public import proofs.«01_k».proof.Proof.Gen.KernelIdeal
public import proofs.«01_k».proof.Proof.Gen.KernelIdeal.Skeleton

@[expose] public section

noncomputable section

namespace Cert.KernelIdeal.Fold

open Idealize.ShloMosaic Idealize.SL.Sem Cert.KernelIdeal Cert.KernelIdeal.Gen

variable {F : FTy → Type} [FloatOps F]

/-- Where one trip's sixteen columns start in row `d`. -/
def off (d : Nat) (t : Fin k2_t1_loop.trips) : Fin 2 → Nat :=
  ![d, (Scalar.indexCast (Scalar.muli (Scf.iv 0#32 1#32 t) 16#32)).toNat]

theorem off_eq (d : Nat) (t : Fin k2_t1_loop.trips) : off d t = ![d, 16 * t.val] := by
  have h := k2_off9_eq t
  have h1 : (k2_off9 t) 1 = 16 * t.val := by rw [h]; rfl
  unfold off
  congr 2

theorem off_inb {d : Nat} (hd : d < 32) (t : Fin k2_t1_loop.trips) :
    ∀ a, off d t a + S1x16.size a ≤ S32x512.size a := by
  have ht : t.val < 32 := t.isLt
  rw [off_eq]
  intro a
  match a with
  | 0 => show d + 1 ≤ 32; omega
  | 1 => show 16 * t.val + 16 ≤ 512; omega

/-- The table positions of output row `d`: the first words, moved on by `d`. -/
def posn (v : IVec S16 32) (d : Nat) : IVec S16 32 := addi v (broadcast S16 (BitVec.ofNat 32 d))

section
variable (i : grid2.Coords) (arg6 : Memref sig .scVector .vmem S33792 .f32) (arg7 : Memref sig .scVector .vmem S32x512 .f32)

/-- What one trip does for output row `d`: three gathers from the table, the weighted sum, the store. -/
def row (v17 v21 v25 : IVec S16 32) (v30 v31 v32 : FVec F S16 .f32) (t : Fin k2_t1_loop.trips) (d : Nat) (hd : d < 32) :
    Prog (TpuEff nD τ sig (Elt F) Λ₀ (.scVector ((i 0).castLE hcore2) ((i 1).castLE hsub2))) PUnit := do
  have h1 : k2_chk1 (posn v17 d) := (← Prog.lift (TpuEff.assume (k2_chk1 (posn v17 d)) (k2_chk1.dec (posn v17 d)))).down
  let g1 : Vec F S16 .f32 ← SparseCore.vectorLoadIdx arg6 ![posn v17 d] (k2_idx1_inb _ h1) (View.loads_vmem h_S33792)
  have h2 : k2_chk1 (posn v21 d) := (← Prog.lift (TpuEff.assume (k2_chk1 (posn v21 d)) (k2_chk1.dec (posn v21 d)))).down
  let g2 : Vec F S16 .f32 ← SparseCore.vectorLoadIdx arg6 ![posn v21 d] (k2_idx1_inb _ h2) (View.loads_vmem h_S33792)
  have h3 : k2_chk1 (posn v25 d) := (← Prog.lift (TpuEff.assume (k2_chk1 (posn v25 d)) (k2_chk1.dec (posn v25 d)))).down
  let g3 : Vec F S16 .f32 ← SparseCore.vectorLoadIdx arg6 ![posn v25 d] (k2_idx1_inb _ h3) (View.loads_vmem h_S33792)
  let _ : Vec F S1x16 .f32 ← Prog.lift (.load arg7 (Rect.unit (s := S32x512) (off d t) S1x16.size (off_inb hd t)).toLoadRect (View.loadsAt_vmem h_S1x16))
  Prog.lift (.store arg7 (Rect.unit (s := S32x512) (off d t) S1x16.size (off_inb hd t))
    (shapeCast S1x16 (addf (addf (mulf v30 g1) (mulf v31 g2)) (mulf v32 g3)) shapeCasts_S16_S1x16) Finset.univ
    (View.stores_vmem_bits_univ h_S1x16 rfl) (.inl rfl))

/-- The rows from `d` on, `n` of them. -/
def rows (v17 v21 v25 : IVec S16 32) (v30 v31 v32 : FVec F S16 .f32) (t : Fin k2_t1_loop.trips) : (n d : Nat) → d + n ≤ 32 →
    Prog (TpuEff nD τ sig (Elt F) Λ₀ (.scVector ((i 0).castLE hcore2) ((i 1).castLE hsub2))) PUnit
  | 0, _, _ => pure ⟨⟩
  | n + 1, d, h => do
    row i arg6 arg7 v17 v21 v25 v30 v31 v32 t d (by omega)
    rows v17 v21 v25 v30 v31 v32 t n (d + 1) (by omega)

end

/-- The whole trip: the sixteen queries' weights and first words, then every output row. -/
def trip (i : grid2.Coords) (arg5 : Memref sig .scVector .vmem S8x512 .f32) (arg6 : Memref sig .scVector .vmem S33792 .f32)
    (arg7 : Memref sig .scVector .vmem S32x512 .f32) (t : Fin k2_t1_loop.trips) :
    Prog (TpuEff nD τ sig (Elt F) Λ₀ (.scVector ((i 0).castLE hcore2) ((i 1).castLE hsub2))) PUnit := do
  let a0 : Vec F S1x16 .f32 ← Prog.lift (.load arg5 (Rect.unit (s := S8x512) (k2_off3 t) S1x16.size (k2_off3_inb t)).toLoadRect (View.loadsAt_vmem h_S1x16))
  let a1 : Vec F S1x16 .f32 ← Prog.lift (.load arg5 (Rect.unit (s := S8x512) (k2_off4 t) S1x16.size (k2_off4_inb t)).toLoadRect (View.loadsAt_vmem h_S1x16))
  let a2 : Vec F S1x16 .f32 ← Prog.lift (.load arg5 (Rect.unit (s := S8x512) (k2_off5 t) S1x16.size (k2_off5_inb t)).toLoadRect (View.loadsAt_vmem h_S1x16))
  let a3 : Vec F S1x16 .f32 ← Prog.lift (.load arg5 (Rect.unit (s := S8x512) (k2_off6 t) S1x16.size (k2_off6_inb t)).toLoadRect (View.loadsAt_vmem h_S1x16))
  let a4 : Vec F S1x16 .f32 ← Prog.lift (.load arg5 (Rect.unit (s := S8x512) (k2_off7 t) S1x16.size (k2_off7_inb t)).toLoadRect (View.loadsAt_vmem h_S1x16))
  let a5 : Vec F S1x16 .f32 ← Prog.lift (.load arg5 (Rect.unit (s := S8x512) (k2_off8 t) S1x16.size (k2_off8_inb t)).toLoadRect (View.loadsAt_vmem h_S1x16))
  have w0 : FVec F S16 .f32 := shapeCast S16 a0 shapeCasts_S1x16_S16
  have w1 : FVec F S16 .f32 := shapeCast S16 a1 shapeCasts_S1x16_S16
  have w2 : FVec F S16 .f32 := shapeCast S16 a2 shapeCasts_S1x16_S16
  have r : FVec F S16 .f32 := divf (broadcast S16 (Scalar.ofBits .f32 0x3F800000#32)) (addf (addf w0 w1) w2)
  rows i arg6 arg7 (fptosi 32 (shapeCast S16 a3 shapeCasts_S1x16_S16 : FVec F S16 .f32)) (fptosi 32 (shapeCast S16 a4 shapeCasts_S1x16_S16 : FVec F S16 .f32))
    (fptosi 32 (shapeCast S16 a5 shapeCasts_S1x16_S16 : FVec F S16 .f32)) (mulf w0 r) (mulf w1 r) (mulf w2 r) t 32 0 (by omega)

set_option maxRecDepth 100000 in
set_option maxHeartbeats 4000000 in
/-- The printed trip is that recursion. -/
theorem body_eq (i : grid2.Coords) (arg2 : Memref sig .scVector .hbm S2x8x8192 .f32) (harg2 : arg2.IsWhole) (arg3 : Memref sig .scVector .hbm S67584 .f32) (harg3 : arg3.IsWhole) (arg4 : Memref sig .scVector .hbm S2x32x8192 .f32) (harg4 : arg4.IsWhole) (arg5 : Memref sig .scVector .vmem S8x512 .f32) (harg5 : arg5.IsWhole) (arg6 : Memref sig .scVector .vmem S33792 .f32) (harg6 : arg6.IsWhole) (arg7 : Memref sig .scVector .vmem S32x512 .f32) (harg7 : arg7.IsWhole) (v3_r0 v3_r1 v3_r2 : DmaSems sig S_)
    (t : Fin k2_t1_loop.trips) (x : Unit) :
    k2_t1_body (F := F) i arg2 harg2 arg3 harg3 arg4 harg4 arg5 harg5 arg6 harg6 arg7 harg7 v3_r0 v3_r1 v3_r2 t x = trip i arg5 arg6 arg7 t := rfl

end Cert.KernelIdeal.Fold

end
-- ==== Proof.KernelTrip.lean ====
/- What one trip of the interpolation loop leaves in the tile's result rows. -/
module

public import proofs.«01_k».proof.Proof.KernelFold
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Writes
public import Idealize.ShloMosaic.Lib.ValueLayout

@[expose] public section

noncomputable section

namespace Cert.KernelIdeal.Trip

open Cert.KernelIdeal Cert.KernelIdeal.Gen Cert.KernelIdeal.Fold
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The result, element by element -/

/-- A table position's value; a position past the table reads its first word. -/
def tab {N : Nat} (hN : 0 < N) (z : (⟨1, ![N]⟩ : Shape).Idx → F .f32) (b : BitVec 32) : F .f32 :=
  if h : b.toNat < N then z (ix1 ⟨b.toNat, h⟩) else z (ix1 ⟨0, hN⟩)

/-- One interpolated value from three weights, the three first words and the table. -/
def mix (w0 w1 w2 : F .f32) (p0 p1 p2 : BitVec 32) (z : BitVec 32 → F .f32) (d : Nat) : F .f32 :=
  let r := FloatOps.divf (FloatOps.ofBits .f32 0x3F800000#32) (FloatOps.addf (FloatOps.addf w0 w1) w2)
  FloatOps.addf (FloatOps.addf (FloatOps.mulf (FloatOps.mulf w0 r) (z (p0 + BitVec.ofNat 32 d)))
    (FloatOps.mulf (FloatOps.mulf w1 r) (z (p1 + BitVec.ofNat 32 d)))) (FloatOps.mulf (FloatOps.mulf w2 r) (z (p2 + BitVec.ofNat 32 d)))

theorem pos33792 : 0 < 33792 := by decide

/-- A tile's results from its weights' slice and its table. -/
def tileOut (w : S8x512.Idx → F .f32) (z : S33792.Idx → F .f32) (y : S32x512.Idx) : F .f32 :=
  mix (w (ix2 (0 : Fin 8) (y 1))) (w (ix2 (1 : Fin 8) (y 1))) (w (ix2 (2 : Fin 8) (y 1)))
    (FloatOps.fptosi 32 (w (ix2 (3 : Fin 8) (y 1)))) (FloatOps.fptosi 32 (w (ix2 (4 : Fin 8) (y 1)))) (FloatOps.fptosi 32 (w (ix2 (5 : Fin 8) (y 1))))
    (tab pos33792 z) (y 0).val

/-- Every first word leaves its row inside the table. -/
def FirstOk (w : S8x512.Idx → F .f32) : Prop := ∀ (k : Fin 8) (n : Fin 512), 3 ≤ k.val → k.val < 6 →
  (FloatOps.fptosi 32 (w (ix2 k n)) : BitVec 32).toNat ≤ 33760

theorem posn_lt {v : IVec S16 32} {d : Nat} (hd : d < 32) (h : ∀ x, (v x).toNat ≤ 33760) :
    k2_chk1 (posn v d) := by
  intro a x
  have ha : a = (0 : Fin 1) := Subsingleton.elim _ _
  subst ha
  show ((v x) + BitVec.ofNat 32 d).toNat < 33792
  have := h x
  rw [BitVec.toNat_add, BitVec.toNat_ofNat]
  omega

/-! ## The stores -/

/-- The tile's scratches: its weights' slice, its table, its results. -/
abbrev sW : Memref sig .scVector .vmem S8x512 .f32 := Memref.whole cc2_scratch0
abbrev sZ : Memref sig .scVector .vmem S33792 .f32 := Memref.whole cc2_scratch1
abbrev sO : Memref sig .scVector .vmem S32x512 .f32 := Memref.whole cc2_scratch2

abbrev rowRect (d : Nat) (hd : d < 32) (t : Fin k2_t1_loop.trips) : Rect S32x512 :=
  Rect.unit (s := S32x512) (off d t) S1x16.size (off_inb hd t)

/-- The results written so far: the columns of the earlier trips, and of this one the rows below `d`. -/
def Written (G f : S32x512.Idx → F .f32) (t d : Nat) : Prop :=
  ∀ y : S32x512.Idx, ((y 1).val < 16 * t ∨ ((y 1).val < 16 * t + 16 ∧ (y 0).val < d)) → f y = G y

theorem written_next {G f : S32x512.Idx → F .f32} {t : Nat} (h : Written G f t 32) : Written G f (t + 1) 0 := by
  intro y hy
  have h0 : (y 0).val < 32 := (y 0).isLt
  exact h y (by omega)

theorem written_row (G f : S32x512.Idx → F .f32) (t : Fin k2_t1_loop.trips) (d : Nat) (hd : d < 32) (h : Written G f t d)
    (w : S1x16.Idx → F .f32)
    (hw : ∀ (x : Fin 16), w (ix2 (0 : Fin 1) x) = G (ix2 ⟨d, hd⟩ ⟨16 * t.val + x.val, by have := t.isLt; have : k2_t1_loop.trips = 32 := rfl; have := x.isLt; omega⟩)) :
    Written G (sO.view.writes (Elt F) f [⟨rowRect d hd t, w⟩]) t (d + 1) := by
  intro y hy
  have hlt : (y 1).val < 512 := (y 1).isLt
  show sO.view.read (Elt F) (sO.view.writes (Elt F) f [⟨rowRect d hd t, w⟩]) y = G y
  have o0 : off d t 0 = d := by rw [off_eq]; rfl
  have o1 : off d t 1 = 16 * t.val := by rw [off_eq]; rfl
  by_cases hc : (y 0).val = d ∧ 16 * t.val ≤ (y 1).val ∧ (y 1).val < 16 * t.val + 16
  · obtain ⟨h0, h1, h2⟩ := hc
    have hx : (y 1).val - 16 * t.val < 16 := by omega
    refine (View.read_writes_cons_hit_of_coords (Val := Elt F) sO.view f (rowRect d hd t) w [] (ix2 (0 : Fin 1) (⟨(y 1).val - 16 * t.val, hx⟩ : Fin 16)) y ?_).trans ?_
    · intro a
      match a with
      | 0 => show (y 0).val = off d t 0 + 1 * 0; omega
      | 1 => show (y 1).val = off d t 1 + 1 * ((y 1).val - 16 * t.val); omega
    · refine (hw _).trans (congrArg G ?_)
      refine Eq.trans ?_ (eq_ix2 y).symm
      congr 1
      · exact Fin.ext h0.symm
      · exact Fin.ext (by show 16 * t.val + ((y 1).val - 16 * t.val) = (y 1).val; omega)
  · have hold : f y = G y := h y (by omega)
    by_cases h0 : (y 0).val = d
    · refine (View.read_writes_cons_miss_of_axis (Val := Elt F) sO.view f ⟨rowRect d hd t, w⟩ [] y 1 (16 * t.val) 16 o1 rfl rfl (by omega)).trans hold
    · refine (View.read_writes_cons_miss_of_axis (Val := Elt F) sO.view f ⟨rowRect d hd t, w⟩ [] y 0 d 1 o0 rfl rfl (by omega)).trans hold

/-- A gathered value is the table's at the first word moved on by the row. -/
theorem gather_eq (z : S33792.Idx → F .f32) (v : IVec S16 32) (d : Nat) (h : k2_chk1 (posn v d)) (x : Fin 16) :
    loadIdx (F := F) (e := .f32) z ![posn v d] (k2_idx1_inb _ h) (ix1 x) = tab pos33792 z (v (ix1 x) + BitVec.ofNat 32 d) := by
  have hx : (v (ix1 x) + BitVec.ofNat 32 d).toNat < 33792 := h 0 (ix1 x)
  unfold tab
  rw [dif_pos hx]
  refine congrArg z (funext fun a => ?_)
  match a with
  | ⟨0, _⟩ => rfl

/-- A load of sixteen of the slice's values, at one of them. -/
theorem load_eq (w : S8x512.Idx → F .f32) (k : Fin 8) (t : Fin k2_t1_loop.trips) (o : Fin 2 → Nat) (ho : o = ![k.val, 16 * t.val])
    (inb : ∀ a, o a + S1x16.size a ≤ S8x512.size a) (x : Fin 16) (hx : 16 * t.val + x.val < 512) :
    (shapeCast S16 (sW.view.readAt (Elt F) (Rect.unit (s := S8x512) o S1x16.size inb).toLoadRect w) shapeCasts_S1x16_S16 : FVec F S16 .f32) (ix1 x)
      = w (ix2 k ⟨16 * t.val + x.val, hx⟩) := by
  subst ho
  refine (shapeCast_1a_a_apply _ _ x).trans (congrArg w (funext fun a => Fin.ext ?_))
  match a with
  | ⟨0, _⟩ => show k.val + 1 * 0 = k.val; omega
  | ⟨1, _⟩ => show 16 * t.val + 1 * x.val = 16 * t.val + x.val; omega

/-! ## One row, every row -/

abbrev 𝒱₀ : Variants := Variants.none
abbrev UU : Type := URounds (GSem nD τ sig) ℕ × (URounds (GSem nD τ sig) Unit × Counters)

local notation "𝕄" => MT nD τ sig (HIx 1) (Elt F) ℕ UU ℕ
/-- The tile at grid coordinates `i` of device `e`. -/
abbrev at_ (e : Dev nD) (i : grid2.Coords) : Thread nD τ := V e ((i 0).castLE hcore2) ((i 1).castLE hsub2)

section
variable (e : Dev nD) (i : grid2.Coords) (E : Set ℕ)

theorem wp_row (Q : PUnit.{1} → sProp 𝕄) (G f : S32x512.Idx → F .f32) (z : S33792.Idx → F .f32) (v17 v21 v25 : IVec S16 32) (v30 v31 v32 : FVec F S16 .f32)
    (t : Fin k2_t1_loop.trips) (d : Nat) (hd : d < 32) (h17 : ∀ x, (v17 x).toNat ≤ 33760) (h21 : ∀ x, (v21 x).toNat ≤ 33760) (h25 : ∀ x, (v25 x).toNat ≤ 33760)
    (hG : ∀ x : Fin 16, FloatOps.addf (FloatOps.addf (FloatOps.mulf (v30 (ix1 x)) (tab pos33792 z (v17 (ix1 x) + BitVec.ofNat 32 d)))
        (FloatOps.mulf (v31 (ix1 x)) (tab pos33792 z (v21 (ix1 x) + BitVec.ofNat 32 d)))) (FloatOps.mulf (v32 (ix1 x)) (tab pos33792 z (v25 (ix1 x) + BitVec.ofNat 32 d)))
      = G (ix2 ⟨d, hd⟩ ⟨16 * t.val + x.val, by have := t.isLt; have : k2_t1_loop.trips = 32 := rfl; have := x.isLt; omega⟩))
    (hf : Written G f t d) (k : PUnit.{1} → Prog (TpuEff nD τ sig (Elt F) Λ₀ (.scVector ((i 0).castLE hcore2) ((i 1).castLE hsub2))) PUnit) :
    iprop((sZ.view.loc (at_ e i) ↦[Finset.univ]{fullShare} z) ∗ (sO.view.loc (at_ e i) ↦[Finset.univ]{fullShare} f))
      ⊢ iprop((∀ f' : S32x512.Idx → F .f32, ⌜Written G f' t (d + 1)⌝ -∗ (sZ.view.loc (at_ e i) ↦[Finset.univ]{fullShare} z)
            -∗ (sO.view.loc (at_ e i) ↦[Finset.univ]{fullShare} f') -∗ wp frame (wpE (defs₀ (F := F)) 𝒱₀ (at_ e i) none) E (k ⟨⟩) Q)
          -∗ wp frame (wpE (defs₀ (F := F)) 𝒱₀ (at_ e i) none) E (row i sZ sO v17 v21 v25 v30 v31 v32 t d hd >>= k) Q) := by
  have c17 := posn_lt hd h17
  have c21 := posn_lt hd h21
  have c25 := posn_lt hd h25
  iintro ⟨Hz, Ho⟩ Hk
  unfold row
  simp only [Prog.lift, Prog.bind_op, Prog.bind_ret, Prog.pure_eq_ret, Prog.bind_assoc]
  rw [wp_assume_of _ _ _ _ c17]
  iapply (SparseCore.wp_vectorLoadIdx 𝒱₀ (at_ e i) none E (base := sZ) (S := Finset.univ) (q := fullShare) (Finset.subset_univ _)) $$ Hz; iintro Hz
  rw [wp_assume_of _ _ _ _ c21]
  iapply (SparseCore.wp_vectorLoadIdx 𝒱₀ (at_ e i) none E (base := sZ) (S := Finset.univ) (q := fullShare) (Finset.subset_univ _)) $$ Hz; iintro Hz
  rw [wp_assume_of _ _ _ _ c25]
  iapply (SparseCore.wp_vectorLoadIdx 𝒱₀ (at_ e i) none E (base := sZ) (S := Finset.univ) (q := fullShare) (Finset.subset_univ _)) $$ Hz; iintro Hz
  iapply (wp_load 𝒱₀ (at_ e i) none E (m := sO) (S := Finset.univ) (Finset.subset_univ _)) $$ Ho; iintro Ho
  iapply (wp_store_writes₀ 𝒱₀ (at_ e i) none E (m := sO) (r := rowRect d hd t) (S := Finset.univ) (Finset.subset_univ _)) $$ Ho; iintro Ho
  iapply Hk $$ [] Hz Ho
  ipureintro
  refine written_row G f t d hd hf (shapeCast S1x16 _ shapeCasts_S16_S1x16) fun x => ?_
  refine (shapeCast_a_1a_apply _ _ 0 x).trans (Eq.trans ?_ (hG x))
  rw [← gather_eq z v17 d c17 x, ← gather_eq z v21 d c21 x, ← gather_eq z v25 d c25 x]
  have hz : (sZ.access (Rect.whole S33792)).read (Elt F) z = z := Memref.read_access_whole (Elt F) cc2_scratch1 z
  rw [hz]
  rfl

theorem wp_rows (Q : PUnit.{1} → sProp 𝕄) (G : S32x512.Idx → F .f32) (z : S33792.Idx → F .f32) (v17 v21 v25 : IVec S16 32) (v30 v31 v32 : FVec F S16 .f32)
    (t : Fin k2_t1_loop.trips) (h17 : ∀ x, (v17 x).toNat ≤ 33760) (h21 : ∀ x, (v21 x).toNat ≤ 33760) (h25 : ∀ x, (v25 x).toNat ≤ 33760)
    (hG : ∀ (d : Nat) (hd : d < 32) (x : Fin 16), FloatOps.addf (FloatOps.addf (FloatOps.mulf (v30 (ix1 x)) (tab pos33792 z (v17 (ix1 x) + BitVec.ofNat 32 d)))
        (FloatOps.mulf (v31 (ix1 x)) (tab pos33792 z (v21 (ix1 x) + BitVec.ofNat 32 d)))) (FloatOps.mulf (v32 (ix1 x)) (tab pos33792 z (v25 (ix1 x) + BitVec.ofNat 32 d)))
      = G (ix2 ⟨d, hd⟩ ⟨16 * t.val + x.val, by have := t.isLt; have : k2_t1_loop.trips = 32 := rfl; have := x.isLt; omega⟩)) :
    ∀ (n d : Nat) (h : d + n ≤ 32) (f : S32x512.Idx → F .f32), Written G f t d →
    iprop((sZ.view.loc (at_ e i) ↦[Finset.univ]{fullShare} z) ∗ (sO.view.loc (at_ e i) ↦[Finset.univ]{fullShare} f))
      ⊢ iprop((∀ f' : S32x512.Idx → F .f32, ⌜Written G f' t (d + n)⌝ -∗ (sZ.view.loc (at_ e i) ↦[Finset.univ]{fullShare} z)
            -∗ (sO.view.loc (at_ e i) ↦[Finset.univ]{fullShare} f') -∗ Q ⟨⟩)
          -∗ wp frame (wpE (defs₀ (F := F)) 𝒱₀ (at_ e i) none) E (rows i sZ sO v17 v21 v25 v30 v31 v32 t n d h) Q) := by
  intro n
  induction n with
  | zero =>
    intro d h f hf
    iintro ⟨Hz, Ho⟩ Hk
    unfold rows
    rw [Prog.pure_eq_ret, wp_ret]
    imodintro
    iapply Hk $$ [] Hz Ho
    ipureintro
    exact hf
  | succ n ih =>
    intro d h f hf
    iintro ⟨Hz, Ho⟩ Hk
    unfold rows
    iapply (wp_row e i E Q G f z v17 v21 v25 v30 v31 v32 t d (Nat.lt_of_lt_of_le (Nat.lt_add_of_pos_right (Nat.succ_pos n)) h) h17 h21 h25 (hG d _) hf _) $$ [Hz Ho]
    · isplitl [Hz]; · iexact Hz
      iexact Ho
    iintro %f' %hf' Hz Ho
    iapply (ih (d + 1) _ f' hf') $$ [Hz Ho]
    · isplitl [Hz]; · iexact Hz
      iexact Ho
    rw [show d + 1 + n = d + (n + 1) by omega]
    iexact Hk

/-! ## One trip -/

/-- Before trip `t`: the slice and the table as they are, the results' earlier columns written. -/
def inv (w : S8x512.Idx → F .f32) (z : S33792.Idx → F .f32) (t : Nat) (_ : Unit) : sProp 𝕄 :=
  iprop((sW.view.loc (at_ e i) ↦[Finset.univ]{fullShare} w) ∗ (sZ.view.loc (at_ e i) ↦[Finset.univ]{fullShare} z)
    ∗ ∃ f : S32x512.Idx → F .f32, ⌜Written (tileOut w z) f t 0⌝ ∗ (sO.view.loc (at_ e i) ↦[Finset.univ]{fullShare} f))

theorem wp_trip (w : S8x512.Idx → F .f32) (z : S33792.Idx → F .f32) (hw : FirstOk w) (t : Fin k2_t1_loop.trips) (x : Unit) :
    inv e i w z t.val x ⊢ wp frame (wpE (defs₀ (F := F)) 𝒱₀ (at_ e i) none) E (trip i sW sZ sO t) (fun _ => inv e i w z (t.val + 1) ⟨⟩) := by
  have h32 : t.val < 32 := t.isLt
  have hc : ∀ x : Fin 16, 16 * t.val + x.val < 512 := fun x => by have := x.isLt; omega
  have l0 := fun x => load_eq w 0 t _ (k2_off3_eq t) (k2_off3_inb t) x (hc x)
  have l1 := fun x => load_eq w 1 t _ (k2_off4_eq t) (k2_off4_inb t) x (hc x)
  have l2 := fun x => load_eq w 2 t _ (k2_off5_eq t) (k2_off5_inb t) x (hc x)
  have l3 := fun x => load_eq w 3 t _ (k2_off6_eq t) (k2_off6_inb t) x (hc x)
  have l4 := fun x => load_eq w 4 t _ (k2_off7_eq t) (k2_off7_inb t) x (hc x)
  have l5 := fun x => load_eq w 5 t _ (k2_off8_eq t) (k2_off8_inb t) x (hc x)
  unfold inv
  iintro ⟨Hw, Hz, %f, %hf, Ho⟩
  unfold trip
  simp only [Prog.lift, Prog.bind_op, Prog.bind_ret, Prog.pure_eq_ret, Prog.bind_assoc]
  iapply (wp_load 𝒱₀ (at_ e i) none E (m := sW) (S := Finset.univ) (Finset.subset_univ _)) $$ Hw; iintro Hw
  iapply (wp_load 𝒱₀ (at_ e i) none E (m := sW) (S := Finset.univ) (Finset.subset_univ _)) $$ Hw; iintro Hw
  iapply (wp_load 𝒱₀ (at_ e i) none E (m := sW) (S := Finset.univ) (Finset.subset_univ _)) $$ Hw; iintro Hw
  iapply (wp_load 𝒱₀ (at_ e i) none E (m := sW) (S := Finset.univ) (Finset.subset_univ _)) $$ Hw; iintro Hw
  iapply (wp_load 𝒱₀ (at_ e i) none E (m := sW) (S := Finset.univ) (Finset.subset_univ _)) $$ Hw; iintro Hw
  iapply (wp_load 𝒱₀ (at_ e i) none E (m := sW) (S := Finset.univ) (Finset.subset_univ _)) $$ Hw; iintro Hw
  have hR := fun v17 v21 v25 v30 v31 v32 a b c g =>
    wp_rows (F := F) e i E (fun _ => inv e i w z (t.val + 1) ⟨⟩) (tileOut w z) z v17 v21 v25 v30 v31 v32 t a b c g 32 0 (by omega) f hf
  iapply (hR _ _ _ _ _ _ ?a ?b ?c ?g) $$ [Hz Ho]
  case a => intro x; rw [eq_ix1 x]; exact (congrArg (fun b : F .f32 => (FloatOps.fptosi 32 b : BitVec 32).toNat) (l3 (x 0))).trans_le (hw 3 _ (by decide) (by decide))
  case b => intro x; rw [eq_ix1 x]; exact (congrArg (fun b : F .f32 => (FloatOps.fptosi 32 b : BitVec 32).toNat) (l4 (x 0))).trans_le (hw 4 _ (by decide) (by decide))
  case c => intro x; rw [eq_ix1 x]; exact (congrArg (fun b : F .f32 => (FloatOps.fptosi 32 b : BitVec 32).toNat) (l5 (x 0))).trans_le (hw 5 _ (by decide) (by decide))
  case g =>
    intro d hd x
    show _ = mix (w (ix2 0 ⟨16 * t.val + x.val, hc x⟩)) (w (ix2 1 ⟨16 * t.val + x.val, hc x⟩)) (w (ix2 2 ⟨16 * t.val + x.val, hc x⟩))
      (FloatOps.fptosi 32 (w (ix2 3 ⟨16 * t.val + x.val, hc x⟩))) (FloatOps.fptosi 32 (w (ix2 4 ⟨16 * t.val + x.val, hc x⟩)))
      (FloatOps.fptosi 32 (w (ix2 5 ⟨16 * t.val + x.val, hc x⟩))) (tab pos33792 z) d
    rw [← l0 x, ← l1 x, ← l2 x, ← l3 x, ← l4 x, ← l5 x]
    rfl
  · isplitl [Hz]; · iexact Hz
    iexact Ho
  iintro %f' %hf' Hz Ho
  unfold inv
  isplitl [Hw]; · iexact Hw
  isplitl [Hz]; · iexact Hz
  iexists f'
  isplitr
  · ipureintro
    exact written_next hf'
  · iexact Ho

end

end Cert.KernelIdeal.Trip

end
-- ==== Proof.KernelTile.lean ====
/- One tile's task: its weights and its table copied in, the rows computed, its block of the result copied out. -/
module

public import proofs.«01_k».proof.Proof.KernelTrip

@[expose] public section

noncomputable section

namespace Cert.KernelIdeal.Tile

open Cert.KernelIdeal Cert.KernelIdeal.Gen Cert.KernelIdeal.Fold Cert.KernelIdeal.Trip
open Idealize.ShloMosaic Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What the call computes -/

/-- Batch `b`'s table in the flat array of both. -/
def tabOf (z : S67584.Idx → F .f32) (b : Fin 2) : S33792.Idx → F .f32 :=
  fun p => z (ix1 ⟨33792 * b.val + (p 0).val, by have := b.isLt; have : (p 0).val < 33792 := (p 0).isLt; omega⟩)

/-- A tile's columns of the weights. -/
def colsOf (w : S2x8x8192.Idx → F .f32) (b : Fin 2) (s : Fin 16) : S8x512.Idx → F .f32 :=
  fun p => w (ix3 b (p 0) ⟨512 * s.val + (p 1).val, by have := s.isLt; have : (p 1).val < 512 := (p 1).isLt; omega⟩)

/-- The call's result. -/
def interpOut [FloatOps F] (w : S2x8x8192.Idx → F .f32) (z : S67584.Idx → F .f32) (y : S2x32x8192.Idx) : F .f32 :=
  mix (w (ix3 (y 0) (0 : Fin 8) (y 2))) (w (ix3 (y 0) (1 : Fin 8) (y 2))) (w (ix3 (y 0) (2 : Fin 8) (y 2)))
    (FloatOps.fptosi 32 (w (ix3 (y 0) (3 : Fin 8) (y 2)))) (FloatOps.fptosi 32 (w (ix3 (y 0) (4 : Fin 8) (y 2))))
    (FloatOps.fptosi 32 (w (ix3 (y 0) (5 : Fin 8) (y 2)))) (tab pos33792 (tabOf z (y 0))) (y 1).val

/-- Every first word of the weights' array leaves its row inside the table. -/
def WordsOk [FloatOps F] (w : S2x8x8192.Idx → F .f32) : Prop := ∀ (b : Fin 2) (k : Fin 8) (n : Fin 8192), 3 ≤ k.val → k.val < 6 →
  (FloatOps.fptosi 32 (w (ix3 b k n)) : BitVec 32).toNat ≤ 33760

theorem firstOk [FloatOps F] {w : S2x8x8192.Idx → F .f32} (h : WordsOk w) (b : Fin 2) (s : Fin 16) : FirstOk (colsOf w b s) :=
  fun k n h3 h6 => h b k _ h3 h6

/-! ## The tile's slices -/

variable (d : Dev nD) (L : grid2.Coords)

abbrev cV (L : grid2.Coords) : Fin τ.nSC := (L 0).castLE hcore2
abbrev jV (L : grid2.Coords) : Fin τ.nSub := (L 1).castLE hsub2
abbrev bL (L : grid2.Coords) : Fin 2 := Fin.cast (show grid2.bound 0 = 2 from rfl) (L 0)
abbrev sL (L : grid2.Coords) : Fin 16 := Fin.cast (show grid2.bound 1 = 16 from rfl) (L 1)

abbrev wV : Memref sig .scVector .hbm S2x8x8192 .f32 := Memref.whole main_v7_scv
abbrev zV : Memref sig .scVector .hbm S67584 .f32 := Memref.whole main_v10_scv
abbrev oV : Memref sig .scVector .hbm S2x32x8192 .f32 := Memref.whole main_v11_scv

abbrev wSl : Memref sig .scVector .hbm S8x512 .f32 :=
  (wV.slice (Rect.unit (s := S2x8x8192) (k2_off1 L) S1x8x512.size (k2_off1_inb L)) (fun _ => rfl)).squeeze S8x512 squeezes_S1x8x512_S8x512
abbrev zSl : Memref sig .scVector .hbm S33792 .f32 :=
  zV.slice (Rect.unit (s := S67584) (k2_off2 L) S33792.size (k2_off2_inb L)) (fun _ => rfl)
abbrev oSl : Memref sig .scVector .hbm S32x512 .f32 :=
  (oV.slice (Rect.unit (s := S2x32x8192) (k2_off41 L) S1x32x512.size (k2_off41_inb L)) (fun _ => rfl)).squeeze S32x512 squeezes_S1x32x512_S32x512

abbrev wLoc (d : Dev nD) : Loc nD τ sig := (SparseCore.T d).loc main_v7
abbrev zLoc (d : Dev nD) : Loc nD τ sig := (SparseCore.T d).loc main_v10
abbrev oLoc (d : Dev nD) : Loc nD τ sig := (SparseCore.T d).loc main_v11

/-- The tile's block of the result. -/
abbrev oSet : Finset S2x32x8192.Idx := (oSl L).view.set

theorem wSl_emb (k : Fin 8) (n : Fin 512) :
    (wSl L).view.emb (ix2 k n) = ix3 (bL L) k ⟨512 * (sL L).val + n.val, by have := (sL L).isLt; have := n.isLt; omega⟩ := by
  show (Rect.unit (s := S2x8x8192) (k2_off1 L) S1x8x512.size (k2_off1_inb L)).emb (Shape.reshapeEquiv _ (ix2 k n)) = _
  rw [reshapeEquiv_ix2_1ab]
  funext a
  apply Fin.ext
  have e := congrFun (k2_off1_eq L) a
  match a with
  | 0 => show k2_off1 L 0 + 1 * 0 = _; rw [e]; rfl
  | 1 => show k2_off1 L 1 + 1 * k.val = _; rw [e]; show 0 + 1 * k.val = k.val; omega
  | 2 => show k2_off1 L 2 + 1 * n.val = _; rw [e]; show 512 * (L 1).val + 1 * n.val = 512 * (L 1).val + n.val; omega

theorem oSl_emb (k : Fin 32) (n : Fin 512) :
    (oSl L).view.emb (ix2 k n) = ix3 (bL L) k ⟨512 * (sL L).val + n.val, by have := (sL L).isLt; have := n.isLt; omega⟩ := by
  show (Rect.unit (s := S2x32x8192) (k2_off41 L) S1x32x512.size (k2_off41_inb L)).emb (Shape.reshapeEquiv _ (ix2 k n)) = _
  rw [reshapeEquiv_ix2_1ab]
  funext a
  apply Fin.ext
  have e := congrFun (k2_off41_eq L) a
  match a with
  | 0 => show k2_off41 L 0 + 1 * 0 = _; rw [e]; rfl
  | 1 => show k2_off41 L 1 + 1 * k.val = _; rw [e]; show 0 + 1 * k.val = k.val; omega
  | 2 => show k2_off41 L 2 + 1 * n.val = _; rw [e]; show 512 * (L 1).val + 1 * n.val = 512 * (L 1).val + n.val; omega

theorem zSl_emb (p : Fin 33792) :
    (zSl L).view.emb (ix1 p) = ix1 ⟨33792 * (bL L).val + p.val, by have := (bL L).isLt; have := p.isLt; omega⟩ := by
  show (Rect.unit (s := S67584) (k2_off2 L) S33792.size (k2_off2_inb L)).emb (ix1 p) = _
  funext a
  apply Fin.ext
  have e := congrFun (k2_off2_eq L) a
  match a with
  | 0 => show k2_off2 L 0 + 1 * p.val = _; rw [e]; show 33792 * (L 0).val + 1 * p.val = 33792 * (L 0).val + p.val; omega

theorem read_wSl (w : S2x8x8192.Idx → F .f32) : (wSl L).view.read (Elt F) w = colsOf w (bL L) (sL L) := by
  funext x
  rw [eq_ix2 x]
  exact ((View.read_apply _ _).trans (cast_eq _ _)).trans (congrArg w (wSl_emb L (x 0) (x 1)))

theorem read_zSl (z : S67584.Idx → F .f32) : (zSl L).view.read (Elt F) z = tabOf z (bL L) := by
  funext x
  rw [eq_ix1 x]
  exact ((View.read_apply _ _).trans (cast_eq _ _)).trans (congrArg z (zSl_emb L (x 0)))

/-! ## The tile's own cells and buffers -/

abbrev cell0 (d : Dev nD) (L : grid2.Coords) : GSem nD τ sig := (at_ d L, .dma cc2_scoped0.sem)
abbrev cell1 (d : Dev nD) (L : grid2.Coords) : GSem nD τ sig := (at_ d L, .dma cc2_scoped1.sem)
abbrev cell2 (d : Dev nD) (L : grid2.Coords) : GSem nD τ sig := (at_ d L, .dma cc2_scoped2.sem)

theorem ownSems0_at :
    (ownSems0 (at_ d L) : sProp 𝕄)
      = iprop(semVal (cell0 d L) 0 ∗ semVal (cell1 d L) 0 ∗ semVal (cell2 d L) 0
          ∗ bigSep ((((ownCells (at_ d L)).erase (cell0 d L)).erase (cell1 d L)).erase (cell2 d L)) fun g => semVal g 0) := by
  have h10 : cell1 d L ≠ cell0 d L := fun e => absurd (congrArg Prod.snd e) (show (SemLoc.dma cc2_scoped1.sem : SemLoc sig) ≠ .dma cc2_scoped0.sem by decide)
  have h20 : cell2 d L ≠ cell0 d L := fun e => absurd (congrArg Prod.snd e) (show (SemLoc.dma cc2_scoped2.sem : SemLoc sig) ≠ .dma cc2_scoped0.sem by decide)
  have h21 : cell2 d L ≠ cell1 d L := fun e => absurd (congrArg Prod.snd e) (show (SemLoc.dma cc2_scoped2.sem : SemLoc sig) ≠ .dma cc2_scoped1.sem by decide)
  have m0 : cell0 d L ∈ ownCells (at_ d L) := mem_ownCells.mpr ⟨rfl, show (SemLoc.dma cc2_scoped0.sem : SemLoc sig).isScoped .scVector = true by decide⟩
  have m1 : cell1 d L ∈ ownCells (at_ d L) := mem_ownCells.mpr ⟨rfl, show (SemLoc.dma cc2_scoped1.sem : SemLoc sig).isScoped .scVector = true by decide⟩
  have m2 : cell2 d L ∈ ownCells (at_ d L) := mem_ownCells.mpr ⟨rfl, show (SemLoc.dma cc2_scoped2.sem : SemLoc sig).isScoped .scVector = true by decide⟩
  unfold SparseCore.Cfg.ownSems0
  rw [SparseCore.bigSep_erase' m0, SparseCore.bigSep_erase' (Finset.mem_erase.mpr ⟨h10, m1⟩),
    SparseCore.bigSep_erase' (Finset.mem_erase.mpr ⟨h21, Finset.mem_erase.mpr ⟨h20, m2⟩⟩)]

abbrev ref0 (L : grid2.Coords) : DevRef τ sig := (Proc.scVector (cV L) (jV L)).devRef cc2_scratch0
abbrev ref1 (L : grid2.Coords) : DevRef τ sig := (Proc.scVector (cV L) (jV L)).devRef cc2_scratch1
abbrev ref2 (L : grid2.Coords) : DevRef τ sig := (Proc.scVector (cV L) (jV L)).devRef cc2_scratch2

theorem ownBufs_at :
    (ownBufs (at_ d L) : sProp 𝕄)
      = iprop((∃ f, (at_ d L).loc cc2_scratch0 ↦{fullShare} f) ∗ (∃ f, (at_ d L).loc cc2_scratch1 ↦{fullShare} f)
          ∗ (∃ f, (at_ d L).loc cc2_scratch2 ↦{fullShare} f)
          ∗ bigSep ((((ownRefs (τ := τ) (.scVector (cV L) (jV L))).erase (ref0 L)).erase (ref1 L)).erase (ref2 L))
              fun b => iprop(∃ f, ((d, b) : Loc nD τ sig) ↦{fullShare} f)) := by
  have h10 : ref1 L ≠ ref0 L := fun e => absurd (Proc.devRef_injective _ e) (show (cc2_scratch1 : Ref sig .scVector) ≠ cc2_scratch0 by decide)
  have h20 : ref2 L ≠ ref0 L := fun e => absurd (Proc.devRef_injective _ e) (show (cc2_scratch2 : Ref sig .scVector) ≠ cc2_scratch0 by decide)
  have h21 : ref2 L ≠ ref1 L := fun e => absurd (Proc.devRef_injective _ e) (show (cc2_scratch2 : Ref sig .scVector) ≠ cc2_scratch1 by decide)
  have m0 : ref0 L ∈ ownRefs (τ := τ) (.scVector (cV L) (jV L)) := SparseCore.Cfg.mem_ownRefs_of_owner (p := Proc.scVector (cV L) (jV L)) (b := ref0 L) rfl
  have m1 : ref1 L ∈ ownRefs (τ := τ) (.scVector (cV L) (jV L)) := SparseCore.Cfg.mem_ownRefs_of_owner (p := Proc.scVector (cV L) (jV L)) (b := ref1 L) rfl
  have m2 : ref2 L ∈ ownRefs (τ := τ) (.scVector (cV L) (jV L)) := SparseCore.Cfg.mem_ownRefs_of_owner (p := Proc.scVector (cV L) (jV L)) (b := ref2 L) rfl
  unfold SparseCore.Cfg.ownBufs
  refine (SparseCore.bigSep_erase' m0).trans ?_
  rw [SparseCore.bigSep_erase' (Finset.mem_erase.mpr ⟨h10, m1⟩),
    SparseCore.bigSep_erase' (Finset.mem_erase.mpr ⟨h21, Finset.mem_erase.mpr ⟨h20, m2⟩⟩)]

/-! ## The task -/

theorem set_wV : wV.view.set = Finset.univ := View.set_whole _

variable [FloatOps F]

/-- What a task takes: shares of the weights and the tables, its own block of the result. -/
abbrev goes (d : Dev nD) (q : PosShare TreeShare) (I : Finset S2x32x8192.Idx) (w : S2x8x8192.Idx → F .f32) (z : S67584.Idx → F .f32)
    (o : S2x32x8192.Idx → F .f32) : sProp 𝕄 :=
  iprop((wLoc d ↦{q} w) ∗ (zLoc d ↦{q} z) ∗ (oLoc d ↦[I]{fullShare} o))

theorem written_zero (G f : S32x512.Idx → F .f32) : Written G f 0 0 := fun y h => by
  rcases h with h | ⟨-, h⟩
  · exact absurd h (by omega)
  · exact absurd h (by omega)

theorem written_all {G f : S32x512.Idx → F .f32} (h : Written G f 32 0) : f = G := by
  funext y
  refine h y ?_
  have : (y 1).val < 512 := (y 1).isLt
  omega

theorem write_oSl (w : S2x8x8192.Idx → F .f32) (z : S67584.Idx → F .f32) (o : S2x32x8192.Idx → F .f32) (p : S32x512.Idx → F .f32)
    (hp : p = tileOut (colsOf w (bL L) (sL L)) (tabOf z (bL L))) (y : S2x32x8192.Idx) (hy : y ∈ oSet L) :
    (oSl L).view.writes (Elt F) o [⟨Rect.whole S32x512, p⟩] y = interpOut w z y := by
  subst hp
  obtain ⟨x, -, rfl⟩ := Finset.mem_map.mp hy
  have h := View.read_writes_cons_emb (Val := Elt F) (oSl L).view o (Rect.whole S32x512) (tileOut (colsOf w (bL L) (sL L)) (tabOf z (bL L))) [] x
  rw [show (Rect.whole S32x512).emb x = x from Rect.emb_whole_apply S32x512 x] at h
  refine (((View.read_apply _ _).trans (cast_eq _ _)).symm.trans h).trans ?_
  rw [eq_ix2 x]
  exact (congrArg (interpOut w z) (oSl_emb L (x 0) (x 1))).symm

set_option maxRecDepth 16384 in
set_option maxHeartbeats 4000000 in
theorem tile_body (w : S2x8x8192.Idx → F .f32) (z : S67584.Idx → F .f32) (o : S2x32x8192.Idx → F .f32) (hw : WordsOk w) (q : PosShare TreeShare)
    (O : CellTallies nD τ sig (HIx 1)) (W : Waits sig (HIx 1)) :
    iprop(Transfers.MayWaits (at_ d L) (default : HIx 1) O ∗ goes d q (oSet L) w z o ∗ ownBufs (at_ d L) ∗ ownSems0 (at_ d L) ∗ owes (at_ d L) O W)
      ⊢ wp frame (wpE (defs₀ (F := F)) 𝒱₀ (at_ d L) none) Set.univ
          (cc2__sc_interp_body L wV (Memref.isWhole_whole _) zV (Memref.isWhole_whole _) oV (Memref.isWhole_whole _)
            sW (Memref.isWhole_whole _) sZ (Memref.isWhole_whole _) sO (Memref.isWhole_whole _) cc2_scoped0 cc2_scoped1 cc2_scoped2)
          fun _ => iprop(goes d q (oSet L) w z (interpOut w z) ∗ ownBufs (at_ d L) ∗ ownSems0 (at_ d L)
            ∗ ∃ W', ⌜∀ p ∈ W', p ∈ W ∨ p.2 = none⌝ ∗ owes (at_ d L) O W') := by
  simp only [cc2__sc_interp_body_eq_skeleton]; unfold cc2__sc_interp_body_skel
  rw [ownSems0_at, ownBufs_at]
  iintro ⟨Hmw, ⟨Hw, Hz, Ho⟩, ⟨⟨%f0, H0⟩, ⟨%f1, H1⟩, ⟨%f2, H2⟩, Hbufs⟩, ⟨HsA, HsB, HsC, Hsems⟩, HO⟩
  ihave Hw := (Entails.of_eq (show (wLoc d ↦{q} w : sProp 𝕄) = (wV.view.loc (at_ d L) ↦{q} w) from rfl)) $$ Hw
  ihave Hz := (Entails.of_eq (show (zLoc d ↦{q} z : sProp 𝕄) = (zV.view.loc (at_ d L) ↦{q} z) from rfl)) $$ Hz
  ihave Ho := (Entails.of_eq (show (oLoc d ↦[oSet L]{fullShare} o : sProp 𝕄) = ((oSl L).view.loc (at_ d L) ↦[(oSl L).view.set]{fullShare} o) from rfl)) $$ Ho
  ihave H0 := (Entails.of_eq (show ((at_ d L).loc cc2_scratch0 ↦{fullShare} f0 : sProp 𝕄) = (sW.view.loc (at_ d L) ↦{fullShare} f0) from rfl)) $$ H0
  ihave H1 := (Entails.of_eq (show ((at_ d L).loc cc2_scratch1 ↦{fullShare} f1 : sProp 𝕄) = (sZ.view.loc (at_ d L) ↦{fullShare} f1) from rfl)) $$ H1
  ihave H2 := (Entails.of_eq (show ((at_ d L).loc cc2_scratch2 ↦{fullShare} f2 : sProp 𝕄) = (sO.view.loc (at_ d L) ↦{fullShare} f2) from rfl)) $$ H2
  sl_exec
  ihave H0 := (Entails.of_eq (show (sW.view.loc (at_ d L) ↦{fullShare} View.write (Elt F) sW.view f0 (tile_body.sl.dma0 L w) Finset.univ : sProp 𝕄)
      = (sW.view.loc (at_ d L) ↦[Finset.univ]{fullShare} colsOf w (bL L) (sL L)) by
    rw [← read_wSl L w]; exact congrArg (fun f => (sW.view.loc (at_ d L) ↦{fullShare} f : sProp 𝕄)) (View.write_whole_univ _ _ _))) $$ H0
  ihave H1 := (Entails.of_eq (show (sZ.view.loc (at_ d L) ↦{fullShare} View.write (Elt F) sZ.view f1 (tile_body.sl.dma0_1 L z) Finset.univ : sProp 𝕄)
      = (sZ.view.loc (at_ d L) ↦[Finset.univ]{fullShare} tabOf z (bL L)) by
    rw [← read_zSl L z]; exact congrArg (fun f => (sZ.view.loc (at_ d L) ↦{fullShare} f : sProp 𝕄)) (View.write_whole_univ _ _ _))) $$ H1
  sl_for (inv d L (colsOf w (bL L) (sL L)) (tabOf z (bL L))) $$ [H0 H1 H2]
  case region =>
    intro k acc
    show _ ⊢ wp _ _ _ (k2_t1_body L wV (Memref.isWhole_whole _) zV (Memref.isWhole_whole _) oV (Memref.isWhole_whole _)
      sW (Memref.isWhole_whole _) sZ (Memref.isWhole_whole _) sO (Memref.isWhole_whole _) cc2_scoped0 cc2_scoped1 cc2_scoped2 k acc) _
    rw [body_eq]
    exact wp_trip d L Set.univ _ _ (firstOk hw _ _) k acc
  · unfold Trip.inv
    isplitl [H0]; · iexact H0
    isplitl [H1]; · iexact H1
    iexists f2
    isplitr
    · ipureintro; exact written_zero _ _
    · iexact H2
  iintro %acc HI
  unfold Trip.inv
  icases HI with ⟨H0, H1, %f, %hf, H2⟩
  have hfe : f = tileOut (colsOf w (bL L) (sL L)) (tabOf z (bL L)) := written_all hf
  subst hfe
  sl_exec
  sl_step
  isplitl [Hw Hz Ho]
  · isplitl [Hw]; · iexact Hw
    isplitl [Hz]; · iexact Hz
    iapply (Entails.of_eq (show ((oSl L).view.loc (at_ d L) ↦[(oSl L).view.set]{fullShare} _ : sProp 𝕄) = (oLoc d ↦[oSet L]{fullShare} interpOut w z)
      from pointsTo_congr fun y hy => write_oSl L w z o (tile_body.sl.dma0_2 L w z) rfl y hy)) $$ Ho
  isplitl [H0 H1 H2 Hbufs]
  · isplitl [H0]; · iexists _; iexact H0
    isplitl [H1]; · iexists _; iexact H1
    isplitl [H2]; · iexists _; iexact H2
    iexact Hbufs
  isplitl [HsA HsB HsC Hsems]
  · isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.KernelIdeal.Tile

end
-- ==== Proof.KernelLaunch.lean ====
/- The SparseCore call as the launch sees it: what its handshakes carry, its tasks' obligation, its operands' split. -/
module

public import proofs.«01_k».proof.Proof.KernelTile
public import proofs.«01_k».proof.Proof.Gen.KernelIdeal.Launch

@[expose] public section

noncomputable section

namespace Cert.KernelIdeal.Launch

open Cert.KernelIdeal Cert.KernelIdeal.Gen Cert.KernelIdeal.Trip Cert.KernelIdeal.Tile
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTok shareTokN pointsTo_toks)

variable {F : FTy → Type}

/-! ## The program -/

abbrev Regions : Nat := 2
abbrev ΛP : Labels := Pipeline.Sig Λ₀ (Fin Regions) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb (URounds (GSem nD τ sig) ℕ) (MT nD τ sig (HIx 1) (Elt F) ℕ UU ℕ) := embL

/-- The pipelines' own rounds. -/
abbrev EP : Emb (URounds (GSem nD τ sig) Unit) (MT nD τ sig (HIx 1) (Elt F) ℕ UU ℕ) := (Emb.inl : Emb (URounds (GSem nD τ sig) Unit) (URounds (GSem nD τ sig) Unit × Counters)).trans embR

/-! ## The result's blocks -/

/-- A tile's grid point. -/
def pt (c : Fin 2) (s : Fin 16) : grid2.Coords :=
  fun | 0 => c | 1 => s | ⟨_ + 2, h⟩ => absurd h (Nat.not_lt.2 (Nat.le_add_left _ _))

theorem mem_oSet (c : Fin 2) (s : Fin 16) (y : S2x32x8192.Idx) : y ∈ oSet (pt c s) ↔ y 0 = c ∧ (y 2).val / 512 = s.val := by
  have h2 : (y 2).val < 8192 := (y 2).isLt
  have h1 : (y 1).val < 32 := (y 1).isLt
  constructor
  · intro hy
    obtain ⟨x, -, rfl⟩ := Finset.mem_map.mp hy
    rw [eq_ix2 x]
    erw [oSl_emb (pt c s) (x 0) (x 1)]
    have hx : (x 1).val < 512 := (x 1).isLt
    refine ⟨rfl, ?_⟩
    show (512 * s.val + (x 1).val) / 512 = s.val
    omega
  · rintro ⟨h0, hs⟩
    refine Finset.mem_map.mpr ⟨ix2 (⟨(y 1).val, h1⟩ : Fin 32) (⟨(y 2).val - 512 * s.val, by omega⟩ : Fin 512), Finset.mem_univ _, ?_⟩
    refine (oSl_emb (pt c s) _ _).trans ?_
    refine Eq.trans ?_ (eq_ix3 y).symm
    congr 1
    · exact h0.symm
    · apply Fin.ext
      show 512 * s.val + ((y 2).val - 512 * s.val) = (y 2).val
      omega

/-- The share of the weights and the tables that a tile reads. -/
abbrev tok (c : Fin 2) (s : Fin 16) : PosShare TreeShare := shareTokN fullShare (finProdFinEquiv (c, s)).val

theorem toks_eq {ℓ : Loc nD τ sig} (f : Buf (Elt F) ℓ) :
    (ℓ ↦{fullShare} f : sProp 𝕄) = iprop((ℓ ↦{shareDrop fullShare 32} f)
      ∗ bigSep Finset.univ fun p : Fin 2 × Fin 16 => ℓ ↦{tok p.1 p.2} f) := by
  rw [BI.Entails.antisymm (pointsTo_toks (S := Finset.univ) (f := f) fullShare 32).1 (pointsTo_toks (S := Finset.univ) (f := f) fullShare 32).2,
    bigSep_univ_equiv (finProdFinEquiv : Fin 2 × Fin 16 ≃ Fin 32)]

theorem blocks_eq (d : Dev nD) (f : Buf (Elt F) (oLoc d)) :
    (oLoc d ↦{fullShare} f : sProp 𝕄) = bigSep Finset.univ fun p : Fin 2 × Fin 16 => oLoc d ↦[oSet (pt p.1 p.2)]{fullShare} f := by
  have hcov : (Finset.univ : Finset (Fin 2 × Fin 16)).biUnion (fun p => oSet (pt p.1 p.2)) = Finset.univ := by
    refine Finset.eq_univ_iff_forall.mpr fun y => Finset.mem_biUnion.mpr ?_
    have h2 : (y 2).val < 8192 := (y 2).isLt
    exact ⟨(y 0, ⟨(y 2).val / 512, by omega⟩), Finset.mem_univ _, (mem_oSet _ _ _).mpr ⟨rfl, rfl⟩⟩
  have hdis : ∀ p ∈ (Finset.univ : Finset (Fin 2 × Fin 16)), ∀ p' ∈ (Finset.univ : Finset (Fin 2 × Fin 16)), p ≠ p' →
      Disjoint (oSet (pt p.1 p.2)) (oSet (pt p'.1 p'.2)) := by
    intro p _ p' _ hne
    refine Finset.disjoint_left.mpr fun y h h' => hne ?_
    obtain ⟨a, b⟩ := (mem_oSet _ _ _).mp h
    obtain ⟨a', b'⟩ := (mem_oSet _ _ _).mp h'
    exact Prod.ext (a.symm.trans a') (Fin.ext (b.symm.trans b'))
  rw [← pointsTo_biUnion Finset.univ (ℓ := oLoc d) (fun p : Fin 2 × Fin 16 => oSet (pt p.1 p.2)) hdis, hcov]

variable [FloatOps F]

/-! ## What the handshakes carry -/

variable (w : Dev nD → S2x8x8192.Idx → F .f32) (z : Dev nD → S67584.Idx → F .f32) (o : Dev nD → S2x32x8192.Idx → F .f32)

abbrev piece (d : Dev nD) (c : Fin 2) (s : Fin 16) (f : S2x32x8192.Idx → F .f32) : sProp 𝕄 :=
  goes d (tok c s) (oSet (pt c s)) (w d) (z d) f

abbrev core (c : Fin ((K (F := F)).nCore 0)) : Fin 2 := ⟨c.val, c.isLt⟩
abbrev sub (i : Fin ((K (F := F)).nSub 0)) : Fin 16 := ⟨i.val, i.isLt⟩

abbrev pieces (d : Dev nD) (c : Fin ((K (F := F)).nCore 0)) (f : S2x32x8192.Idx → F .f32) : sProp 𝕄 :=
  bigSep Finset.univ fun i : Fin ((K (F := F)).nSub 0) => piece w z d (core c) (sub i) f

/-- Each SparseCore takes its tiles' pieces together, each tile its own, and brings back its block computed. -/
def P : (K (F := F)).Pay (nD := nD) (Val := Elt F) (Name := ℕ) (U := UU) where
  st := fun q d c => match q with | 0 => pieces w z d c (o d)
  dn := fun q d c => match q with | 0 => pieces w z d c (interpOut (w d) (z d))
  go := fun q d c i => match q with | 0 => piece w z d (core c) (sub i) (o d)
  td := fun q d c i => match q with | 0 => piece w z d (core c) (sub i) (interpOut (w d) (z d))
  x := fun _ _ => iprop(emp)

instance P_storable : (P (F := F) w z o).IsStorable where
  st q d c := match q with | 0 => (inferInstance : BI.Storable (upEmb : UEmb _ 𝕄) (pieces w z d c (o d)))
  dn q d c := match q with | 0 => (inferInstance : BI.Storable (upEmb : UEmb _ 𝕄) (pieces w z d c (interpOut (w d) (z d))))
  go q d c i := match q with | 0 => (inferInstance : BI.Storable (upEmb : UEmb _ 𝕄) (piece w z d (core c) (sub i) (o d)))
  td q d c i := match q with | 0 => (inferInstance : BI.Storable (upEmb : UEmb _ 𝕄) (piece w z d (core c) (sub i) (interpOut (w d) (z d))))

/-! ## The tasks -/

theorem defs₀_vector (c : Fin τ.nSC) (s : Fin τ.nSub) :
    defs₀ (F := F) (.scVector c s) 2 ()
      = SparseCore.onTile hcore2 hsub2 (fun c s => cc2__sc_interp_body (pt c s)
          wV (Memref.isWhole_whole _) zV (Memref.isWhole_whole _) oV (Memref.isWhole_whole _)
          sW (Memref.isWhole_whole _) sZ (Memref.isWhole_whole _) sO (Memref.isWhole_whole _) cc2_scoped0 cc2_scoped1 cc2_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task with what the launch gives a subcore beside it. -/
theorem tile_task (d : Dev nD) (c : Fin 2) (s : Fin 16) (hF : (K (F := F)).Facts) (hw : ∀ d, WordsOk (w d)) (O : CellTallies nD τ sig (HIx 1))
    (W : Waits sig (HIx 1)) (hO : ∀ g, O g none = 0) :
    iprop(levAts (K (F := F)).L (K (F := F)).lev ∗ emp ∗ piece w z d c s (o d)
        ∗ scopedBufs (at_ d (pt c s)) ∗ scopedSems0 (at_ d (pt c s)) ∗ owes (at_ d (pt c s)) O W)
      ⊢ wp frame (wpE (defs₀ (F := F)) 𝒱₀ (at_ d (pt c s)) none) Set.univ
          (cc2__sc_interp_body (pt c s) wV (Memref.isWhole_whole _) zV (Memref.isWhole_whole _) oV (Memref.isWhole_whole _)
            sW (Memref.isWhole_whole _) sZ (Memref.isWhole_whole _) sO (Memref.isWhole_whole _) cc2_scoped0 cc2_scoped1 cc2_scoped2)
          fun _ => iprop(piece w z d c s (interpOut (w d) (z d)) ∗ scopedBufs (at_ d (pt c s)) ∗ scopedSems0 (at_ d (pt c s))
            ∗ ∃ W', ⌜∀ p ∈ W', p ∈ W ∨ p.2 = none⌝ ∗ owes (at_ d (pt c s)) O W') := by
  rw [(K (F := F)).scopedBufs_V hF d (cV (pt c s)) (jV (pt c s)), SparseCore.Cfg.scopedSems0_V (Val := Elt F) d (cV (pt c s)) (jV (pt c s))]
  refine BIBase.Entails.trans ?_ (tile_body d (pt c s) (w d) (z d) (o d) (hw d) (tok c s) O W)
  iintro ⟨#Hlv, -, Hp, Hb, Hs, HO⟩
  isplitr
  · iapply (show levAts (K (F := F)).L (K (F := F)).lev ⊢ Transfers.MayWaits (at_ d (pt c s)) (default : HIx 1) O from
      (K (F := F)).mayWaits_none (thr := at_ d (pt c s)) hO)
    iexact Hlv
  isplitl [Hp]; · iexact Hp
  isplitl [Hb]; · iexact Hb
  isplitl [Hs]; · iexact Hs
  iexact HO

set_option maxRecDepth 16384 in
theorem tileObl (hF : (K (F := F)).Facts) (hw : ∀ d, WordsOk (w d)) : (K (F := F)).TileObl (D (F := F)) 𝒱 (P w z o) v₀ 0 := by
  intro d c i O W hO _ _
  simp only [show (P w z o).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task w z o d (core c) (sub i) hF hw O W hO).trans (wp_mono frame _ _ fun _ => obl_post)

theorem vecSplit : (K (F := F)).VecSplit' (P w z o) 0 := by
  intro d c
  show pieces w z d c (o d) ⊢ |={Set.univ}=> iprop(pieces w z d c (o d) ∗ (pieces w z d c (interpOut (w d) (z d)) -∗ pieces w z d c (interpOut (w d) (z d))))
  iintro H; imodintro
  isplitl [H]; · iexact H
  iintro H; iexact H

/-! ## The operands dealt to the tiles and joined again -/

theorem pieces_all (d : Dev nD) (f : S2x32x8192.Idx → F .f32) :
    (bigSep Finset.univ fun c : Fin ((K (F := F)).nCore 0) => pieces w z d c f)
      = iprop((bigSep Finset.univ fun p : Fin 2 × Fin 16 => wLoc d ↦{tok p.1 p.2} w d)
          ∗ (bigSep Finset.univ fun p : Fin 2 × Fin 16 => zLoc d ↦{tok p.1 p.2} z d)
          ∗ bigSep Finset.univ fun p : Fin 2 × Fin 16 => oLoc d ↦[oSet (pt p.1 p.2)]{fullShare} f) := by
  rw [← bigSep_sep', ← bigSep_sep', bigSep_univ_prod]

/-- What stays behind while the call runs. -/
abbrev rest (d : Dev nD) : sProp 𝕄 := iprop((wLoc d ↦{shareDrop fullShare 32} w d) ∗ (zLoc d ↦{shareDrop fullShare 32} z d))

theorem deal (d : Dev nD) : iprop((wLoc d ↦{fullShare} w d) ∗ (zLoc d ↦{fullShare} z d) ∗ (oLoc d ↦{fullShare} o d))
    ⊢ iprop(rest w z d ∗ bigSep Finset.univ fun c : Fin ((K (F := F)).nCore 0) => (P w z o).st 0 d c) := by
  show _ ⊢ iprop(rest w z d ∗ bigSep Finset.univ fun c : Fin ((K (F := F)).nCore 0) => pieces w z d c (o d))
  rw [pieces_all, toks_eq (F := F) (ℓ := wLoc d), toks_eq (F := F) (ℓ := zLoc d), blocks_eq]
  iintro ⟨⟨Hw, Hws⟩, ⟨Hz, Hzs⟩, Ho⟩
  isplitl [Hw Hz]
  · isplitl [Hw] <;> iassumption
  isplitl [Hws]; · iexact Hws
  isplitl [Hzs]; · iexact Hzs
  iexact Ho

theorem join (d : Dev nD) : iprop(rest w z d ∗ bigSep Finset.univ fun c : Fin ((K (F := F)).nCore 0) => (P w z o).dn 0 d c)
    ⊢ iprop((wLoc d ↦{fullShare} w d) ∗ (zLoc d ↦{fullShare} z d) ∗ (oLoc d ↦{fullShare} interpOut (w d) (z d))) := by
  show iprop(rest w z d ∗ bigSep Finset.univ fun c : Fin ((K (F := F)).nCore 0) => pieces w z d c (interpOut (w d) (z d))) ⊢ _
  rw [pieces_all, toks_eq (F := F) (ℓ := wLoc d), toks_eq (F := F) (ℓ := zLoc d), blocks_eq]
  iintro ⟨⟨Hw, Hz⟩, Hws, Hzs, Ho⟩
  isplitl [Hw Hws]
  · isplitl [Hw] <;> iassumption
  isplitl [Hz Hzs]
  · isplitl [Hz] <;> iassumption
  iexact Ho

/-! ## The ghost state at launch -/

def u₀ : UU := (initOf (K (F := F)).hsCells (K (F := F)).hsToks,
  initOf (Pipeline.cells cfgs cellOf_inj) (Pipeline.launchToks cfgs cellOf_inj), 1)

/-- What a device's @main is dealt of the two pipelines' ghost state. -/
abbrev G (d : Dev nD) : sProp 𝕄 :=
  iprop((bigSep Finset.univ fun p : Fin 2 => Pipeline.cellsGhost cfgs EP p d)
    ∗ bigSep Finset.univ fun p : Fin 2 => Pipeline.toksInit cfgs EP p d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P w z o).x q thr) := by
  have hx : (bigSep Finset.univ fun thr : Thread nD τ => bigSep Finset.univ fun q : Fin 1 => (P (F := F) w z o).x q thr) = (iprop(emp) : sProp 𝕄) :=
    (bigSep_congr fun _ _ => bigSep_univ_of_subsingleton (0 : Fin 1)).trans (bigSep_emp_const _)
  unfold u₀
  rw [hx, bigSep_sep']
  iintro Hu
  ihave H := (ownU_pair (initOf (K (F := F)).hsCells (K (F := F)).hsToks)
    (initOf (Pipeline.cells cfgs cellOf_inj) (Pipeline.launchToks cfgs cellOf_inj), (1 : Counters))) $$ Hu
  icases H with ⟨HH, HR⟩
  ihave H := (own_pair_emb embR (initOf (Pipeline.cells cfgs cellOf_inj) (Pipeline.launchToks cfgs cellOf_inj)) (1 : Counters)) $$ HR
  icases H with ⟨HP, -⟩
  imod (Pipeline.fund_ghost cfgs EP cellOf_inj) $$ HP with ⟨Hg, Ht⟩
  imodintro
  isplitl [HH]; · iexact HH
  isplitl [Hg Ht]
  · isplitl [Hg] <;> iassumption
  iempintro

end Cert.KernelIdeal.Launch

end
-- ==== Proof.KernelRegion.lean ====
/- A TensorCore call of the whole program as a region of its @main: what it is entered from and what it leaves. -/
module

public import proofs.«01_k».proof.Proof.KernelLaunch
public import Idealize.ShloMosaic.Lib.Pipeline.RegionArraysS

@[expose] public section

noncomputable section

namespace Cert.KernelIdeal.Region

open Cert.KernelIdeal Cert.KernelIdeal.Gen Cert.KernelIdeal.Trip Cert.KernelIdeal.Launch
open Idealize.ShloMosaic
open Idealize.ShloMosaic.SparseCore (S V T)
open Idealize.ShloMosaic.SparseCore.Cfg (HIx)
open Idealize.ShloMosaic.StableHlo (held)
open Idealize.ShloMosaic.Pipeline (Dat RegionSeg BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The waits a TensorCore may have recorded before it starts the SparseCore call. -/
def low (c : Dev nD) : Set (SemLoc sig × HIx 1) := {p | (K (F := F)).lev (T c, p.1) p.2 ≤ 8 * SparseCore.Cfg.Blocks.fst (Q := 1) (N := 1) 0}

/-- What the TensorCore owes before the SparseCore call. -/
abbrev due (c : Dev nD) : CellTallies nD τ sig (HIx 1) := (K (F := F)).Otc c 0

/-- The arrays of @main at the contents `W`, and what the TensorCore owes. -/
abbrev st (A : Finset (DevRef τ sig)) (W : Valuation τ sig (Elt F)) (c : Dev nD) : sProp 𝕄 :=
  iprop(held (T c) A W ∗ ∃ w, ⌜(K (F := F)).WBelow (T c) w (8 * SparseCore.Cfg.Blocks.fst (Q := 1) (N := 1) 0)⌝ ∗ owes (T c) (due (F := F) c) w)

abbrev adm : (p : Fin 2) → (pcfgs (F := F) p).Adm := fun p => (cfgs p).toPCfg_adm

variable (pdats : (p : Fin 2) → (c : Dev nD) → Dat τ (Elt F) (HIx 1) ℕ UU ℕ (cfgs p) c)

theorem bound_low (p : Fin 2) (c : Dev nD) (t) (hrec : (pdats p c).recorded t = low (F := F) c) (w : Waits sig (HIx 1)) :
    (↑w ⊆ (pdats p c).bound none t) ↔ (K (F := F)).WBelow (T c) w (8 * SparseCore.Cfg.Blocks.fst (Q := 1) (N := 1) 0) := by
  unfold Dat.bound
  rw [hrec]
  constructor
  · intro h q hq
    rcases h hq with h | ⟨v, s, rfl⟩
    · exact h
    · exact Nat.zero_le _
  · exact fun h q hq => Or.inl (h q hq)

/-- A TensorCore call as a region: all of @main's arrays ride along, and the call's result is what its proof data say. -/
def seg (p : Fin 2) (kit : Pipeline.LaunchFacts (nD := nD) (τ := τ) cfgs p)
    (hbody : ∀ c, BodyObligationLoose (pdats p c) (defs₀ (F := F)) 𝒱₀ none Set.univ)
    (howed : ∀ c t, (pdats p c).owed t = due (F := F) c) (hrec : ∀ c t, (pdats p c).recorded t = low (F := F) c)
    (hshare : ∀ c w, (pdats p c).share w = fullShare)
    (hΦ : ∀ c t, (pdats p c).Φ t = Pipeline.scopedRest (cfgs p).spec c)
    (A : Finset (DevRef τ sig)) (hA : Pipeline.arrRefs (cfgs p).spec ⊆ A) (W : Dev nD → Valuation τ sig (Elt F))
    (hW : ∀ c w, (pdats p c).arrAt w 0 = W c (Proc.devRef .tc (Pipeline.arrRef (cfgs p).spec w))) :
    RegionSeg (pcfgs (F := F)) adm pdats none (defs₀ (F := F)) 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.cellsWaits_of_cut cfgs pdats none p c (8 * SparseCore.Cfg.Blocks.fst (Q := 1) (N := 1) 0) (due (F := F) c) (howed c)
    (fun _ _ => Finset.mem_univ _) (fun _ _ => Nat.zero_le _)
    (fun _ _ h => ⟨Finset.mem_univ _, (SparseCore.Cfg.lev_of_Otc_pos h)⟩)
  pre c := st A (W c) c
  post c := st A (Pipeline.afterRegion (pdats p c) (W c)) c
  X _ := iprop(emp)
  Y _ := iprop(emp)
  Z c := held (T c) (A \ Pipeline.arrRefs (cfgs p).spec) (W c)
  hentry c := by
    show iprop(iprop(held (T c) A (W c) ∗ _) ∗ _ ∗ _) ⊢ _
    rw [Pipeline.ownSems0_none, Pipeline.prefHeld_of_none _ rfl, StableHlo.held_sub_split (T c) hA (W c),
      ← Pipeline.arrays_held pcfgs adm pdats p kit.toP c (hshare c) ((pdats p c).arrAt · 0) (W c) (hW c)]
    iintro ⟨⟨⟨Ha, Hu⟩, %w, %hw, HO⟩, -, -⟩
    imodintro
    isplitl [Ha]; · iexact Ha
    isplitr; · iempintro
    isplitl [HO]
    · unfold Dat.owesAt Pipeline.owesWithin
      rw [howed c 0]
      iexists w; isplitr
      · ipureintro; exact (bound_low pdats p c 0 (hrec c 0) w).mpr hw
      iexact HO
    isplitr; · iempintro
    iexact Hu
  hin c := by
    rw [hΦ c 0]
    iintro ⟨-, -, Hr⟩
    iexact Hr
  hout c := by
    rw [hΦ c _, Pipeline.ownSems0_none]
    iintro Hr
    isplitr; · iempintro
    isplitr; · iempintro
    iexact Hr
  hexit c := by
    show _ ⊢ iprop(|={Set.univ}=> iprop(held (T c) A (Pipeline.afterRegion (pdats p c) (W c)) ∗ _))
    rw [StableHlo.held_sub_split (T c) hA (Pipeline.afterRegion (pdats p c) (W c)),
      StableHlo.held_congr (T c) (S := A \ Pipeline.arrRefs (cfgs p).spec) (V := Pipeline.afterRegion (pdats p c) (W c)) (V' := W c)
        (Pipeline.afterRegion_off (pdats p c) (W c) A),
      ← Pipeline.arrays_held pcfgs adm pdats p kit.toP c (hshare c) ((pdats p c).arrAt · (cfgs p).N) (Pipeline.afterRegion (pdats p c) (W c))
        (fun w => (Pipeline.afterRegion_arr (pdats p c) (W c) kit.win.arr_inj w).symm)]
    iintro ⟨Ha, HO, -, Hu⟩
    imodintro
    isplitl [Ha Hu]
    · isplitl [Ha] <;> iassumption
    unfold Dat.owesAt Pipeline.owesWithin
    rw [howed c (Fin.last _)]
    icases HO with ⟨%w, %hw, HO⟩
    iexists w; isplitr
    · ipureintro; exact (bound_low pdats p c (Fin.last _) (hrec c _) w).mp hw
    iexact HO

/-- The call's step of @main. -/
theorem wp_seg [∀ e, Nonempty (Elt F e)] {p : Fin 2}
    (R : RegionSeg (pcfgs (F := F)) adm pdats none (defs₀ (F := F)) 𝒱₀ (K (F := F)).L (K (F := F)).lev p) (c : Dev nD) (Q : PUnit → sProp 𝕄) :
    iprop((iprop(boundary (T c) ∗ R.post c) -∗ Q ⟨⟩) ∗ boundary (T c) ∗ R.pre c ∗ levAts (K (F := F)).L (K (F := F)).lev
        ∗ Pipeline.cellsGhost cfgs EP p c ∗ Pipeline.toksInit cfgs EP p c)
      ⊢ wp frame (wpE ((K (F := F)).defs (D (F := F))) 𝒱 (T c) none) Set.univ (Prog.lift (.customCall (SparseCore.inner (Pipeline.entry p)) ())) Q := by
  refine BI.Entails.trans ?_ ((K (F := F)).wp_liftProg (D (F := F)) 𝒱 (T c) Set.univ none (Prog.lift (.customCall (Pipeline.entry p) ())) Q)
  refine BI.Entails.trans ?_ (RegionSeg.wp (pcfgs (F := F)) adm pdats none cellOf_inj EP (defs₀ (F := F)) 𝒱₀ (K (F := F)).L (K (F := F)).lev R c none
    (fun _ h => nomatch h) (fun r => .ret r) Q)
  show iprop(iprop(iprop(boundary (T c) ∗ R.post c) -∗ Q ⟨⟩) ∗ boundary (T c) ∗ R.pre c ∗ levAts (K (F := F)).L (K (F := F)).lev
        ∗ Pipeline.cellsGhost cfgs EP p c ∗ Pipeline.toksInit cfgs EP p c)
    ⊢ iprop(iprop(iprop(boundary (T c) ∗ R.post c) -∗ wp frame (wpE (D (F := F)) 𝒱 (T c) none) Set.univ (.ret ⟨⟩) Q) ∗ boundary (T c) ∗ R.pre c
        ∗ levAts (K (F := F)).L (K (F := F)).lev ∗ Pipeline.cellsGhost cfgs EP p c ∗ Pipeline.toksInit cfgs EP p c)
  iintro ⟨Hk, Hb, Hp, Hl, Hg, Ht⟩
  isplitl [Hk]
  · iintro H
    rw [wp_ret]
    imodintro
    iapply Hk; iexact H
  isplitl [Hb]; · iexact Hb
  isplitl [Hp]; · iexact Hp
  isplitl [Hl]; · iexact Hl
  isplitl [Hg] <;> iassumption

end Cert.KernelIdeal.Region

end
-- ==== Proof.KernelPrep.lean ====
/- The whole program's first TensorCore call as a region: its proof data from the contents it finds, and its body. -/
module

public import proofs.«01_k».proof.Proof.KernelRegion
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.KernelIdeal.Prep

open Cert.KernelIdeal Cert.KernelIdeal.Gen Cert.KernelIdeal.Trip Cert.KernelIdeal.Launch Cert.KernelIdeal.Region
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

abbrev r0 : Rect S2048x64 := Rect.unit (s := S2048x64) ![0, 0] S2048x64.size inb_S2048x64_S2048x64_0_0
abbrev r1 : Rect S64x32 := Rect.unit (s := S64x32) ![0, 0] S64x32.size inb_S64x32_S64x32_0_0
abbrev r2 : Rect S1x32 := Rect.unit (s := S1x32) ![0, 0] S1x32.size inb_S1x32_S1x32_0_0
abbrev r3 : Rect S32x32 := Rect.unit (s := S32x32) ![0, 0] S32x32.size inb_S32x32_S32x32_0_0
abbrev r4 : Rect S2048x32 := Rect.unit (s := S2048x32) ![0, 0] S2048x32.size inb_S2048x32_S2048x32_0_0

/-- What the body leaves in the output's buffer. -/
def out (x0 : Vec F S2048x64 .f32) (x1 : Vec F S64x32 .f32) (x2 : Vec F S1x32 .f32) (x3 : Vec F S1x32 .f32) (x4 : Vec F S1x32 .f32) (x5 : Vec F S32x32 .f32) (x6 : Vec F S1x32 .f32) : Vec F S2048x32 .f32 :=
  View.canon [⟨r4, k0_pay1 (k0_pay2 (View.ld x0 r0) (View.ld x1 r1) (View.ld x2 r2) (View.ld x3 r2) (View.ld x4 r2) (View.ld x5 r3)) (View.ld x6 r2)⟩]

theorem cover (p0 : Vec F S2048x32 .f32) (y : S2048x32.Idx) : ∃ pc ∈ ([⟨r4, p0⟩] : List (View.Piece (Elt F) S2048x32 .f32)), y ∈ pc.1.set :=
  View.cover_of_tiled [⟨r4, p0⟩] S2048x32.size (by rfl) y

set_option maxHeartbeats 1000000 in
/-- The body on its staging buffers: the inputs' stay as they are and the output's is `out` of them. -/
theorem body_wp (c : Dev nD) (E : Set ℕ) (a0 : Memref sig .tc .vmem S2048x64 .f32) (ha0 : a0.IsWhole) (a1 : Memref sig .tc .vmem S64x32 .f32) (ha1 : a1.IsWhole) (a2 : Memref sig .tc .vmem S1x32 .f32) (ha2 : a2.IsWhole) (a3 : Memref sig .tc .vmem S1x32 .f32) (ha3 : a3.IsWhole) (a4 : Memref sig .tc .vmem S1x32 .f32) (ha4 : a4.IsWhole) (a5 : Memref sig .tc .vmem S32x32 .f32) (ha5 : a5.IsWhole) (a6 : Memref sig .tc .vmem S1x32 .f32) (ha6 : a6.IsWhole) (a7 : Memref sig .tc .vmem S2048x32 .f32) (ha7 : a7.IsWhole)
    (x0 : Vec F S2048x64 .f32) (x1 : Vec F S64x32 .f32) (x2 : Vec F S1x32 .f32) (x3 : Vec F S1x32 .f32) (x4 : Vec F S1x32 .f32) (x5 : Vec F S32x32 .f32) (x6 : Vec F S1x32 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (out x0 x1 x2 x3 x4 x5 x6)) -∗ K ⟨⟩))
      ⊢ wp frame (wpE (defs₀ (F := F)) 𝒱₀ c none) E (cc0__tc_prep_body a0 ha0 a1 ha1 a2 ha2 a3 ha3 a4 ha4 a5 ha5 a6 ha6 a7 ha7) K := by
  simp only [cc0__tc_prep_body_eq_skeleton]; unfold cc0__tc_prep_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (cover _)).trans ?_
  rfl

variable (V : Valuation τ sig (Elt F))

/-- A window's block of its array at a point. -/
def iblk (c : Dev nD) (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- The call's proof data, from the contents the call finds. -/
def dat (c : Dev nD) : Dat τ (Elt F) (HIx 1) ℕ UU ℕ cfg0 c where
  A w := V (Proc.devRef .tc (Pipeline.arrRef spec0 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out (iblk V c 0 t) (iblk V c 1 t) (iblk V c 2 t) (iblk V c 3 t) (iblk V c 4 t) (iblk V c 5 t) (iblk V c 6 t)
  Φ _ := Pipeline.scopedRest spec0 c
  q _ := fullShare
  owed _ := due (F := F) c
  recorded _ := low (F := F) c

theorem A_eq (c : Dev nD) (w : Fin cfg0.W) : (dat V c).A w = V (Proc.devRef .tc (Pipeline.arrRef spec0 w)) := by dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = out (iblk V c 0 t) (iblk V c 1 t) (iblk V c 2 t) (iblk V c 3 t) (iblk V c 4 t) (iblk V c 5 t) (iblk V c 6 t) := by dsimp only [dat]

theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dat V c).before 4 t d = iblk V c 4 t :=
  ((dat V c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dat V c).before 5 t d = iblk V c 5 t :=
  ((dat V c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dat V c).before 6 t d = iblk V c 6 t :=
  ((dat V c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

/-- What the body is entered with at a point, window by window, -/
def enters (c : Dev nD) (t : Fin cfg0.N) : sProp 𝕄 :=
  iprop((dat V c).Φ t.castSucc ∗ (dat V c).owesAt none t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it leaves. -/
def leaves (c : Dev nD) (t : Fin cfg0.N) : sProp 𝕄 :=
  iprop((dat V c).Φ t.succ ∗ (dat V c).owesAt none t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

theorem body_at (c : Dev nD) (t : Fin cfg0.N) :
    enters V c t ⊢ wp frame (wpE (defs₀ (F := F)) 𝒱₀ c none) Set.univ (bodyAt0 t) (fun _ => leaves V c t) := by
  unfold enters leaves bodyAt0
  simp only [before0, before1, before2, before3, before4, before5, before6]
  rw [show (dat V c).Φ t.succ = (dat V c).Φ t.castSucc from rfl,
    show (dat V c).owesAt none t.succ = (dat V c).owesAt none t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_wp c Set.univ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row (t : Fin cfg0.N) : defs₀ (F := F) .tc cfg0.body (cfg0.bodyArgs t (cfg0.slots t)) = bodyAt0 t := rfl

theorem obligation (c : Dev nD) : BodyObligation (dat V c) (defs₀ (F := F)) 𝒱₀ none Set.univ := fun t => by
  rw [bigSep_W0, bigSep_W0, row]
  exact triple_restated (body_at V c t) rfl .rfl fun _ => .rfl

end Cert.KernelIdeal.Prep

end
-- ==== Proof.KernelKnn.lean ====
/- The whole program's second TensorCore call as a region: its proof data from the contents it finds, and its body. -/
module

public import proofs.«01_k».proof.Proof.KernelRegion
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.KernelIdeal.Knn

open Cert.KernelIdeal Cert.KernelIdeal.Gen Cert.KernelIdeal.Trip Cert.KernelIdeal.Launch Cert.KernelIdeal.Region
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

abbrev r0 : Rect S1x1024x3 := Rect.unit (s := S1x1024x3) ![0, 0, 0] S1x1024x3.size inb_S1x1024x3_S1x1024x3_0_0_0
abbrev r1 : Rect S1x3x1024 := Rect.unit (s := S1x3x1024) ![0, 0, 0] S1x3x1024.size inb_S1x3x1024_S1x3x1024_0_0_0
abbrev r2 : Rect S1x8x1024 := Rect.unit (s := S1x8x1024) ![0, 0, 0] S1x1x1024.size inb_S1x8x1024_S1x1x1024_0_0_0
abbrev r3 : Rect S1x8x1024 := Rect.unit (s := S1x8x1024) ![0, 3, 0] S1x1x1024.size inb_S1x8x1024_S1x1x1024_0_3_0
abbrev r4 : Rect S1x8x1024 := Rect.unit (s := S1x8x1024) ![0, 1, 0] S1x1x1024.size inb_S1x8x1024_S1x1x1024_0_1_0
abbrev r5 : Rect S1x8x1024 := Rect.unit (s := S1x8x1024) ![0, 4, 0] S1x1x1024.size inb_S1x8x1024_S1x1x1024_0_4_0
abbrev r6 : Rect S1x8x1024 := Rect.unit (s := S1x8x1024) ![0, 2, 0] S1x1x1024.size inb_S1x8x1024_S1x1x1024_0_2_0
abbrev r7 : Rect S1x8x1024 := Rect.unit (s := S1x8x1024) ![0, 5, 0] S1x1x1024.size inb_S1x8x1024_S1x1x1024_0_5_0
abbrev r8 : Rect S1x8x1024 := Rect.unit (s := S1x8x1024) ![0, 6, 0] S1x1x1024.size inb_S1x8x1024_S1x1x1024_0_6_0
abbrev r9 : Rect S1x8x1024 := Rect.unit (s := S1x8x1024) ![0, 7, 0] S1x1x1024.size inb_S1x8x1024_S1x1x1024_0_7_0

/-- What the body leaves in the output's buffer: its eight stores, the last first. -/
def out (x0 : Vec F S1x1024x3 .f32) (x1 : Vec F S1x3x1024 .f32) : Vec F S1x8x1024 .f32 :=
  View.canon [⟨r9, k1_pay4 (F := F)⟩,
    ⟨r8, k1_pay3 (F := F)⟩,
    ⟨r7, k1_pay2 (F := F) (k1_pay18 (k1_pay5 (View.ld x0 r0) (View.ld x1 r1)) (iota .tc S1024x1024 32 [0] iota_S1024x1024_d0_w32) (k1_pay7 (View.ld x0 r0) (View.ld x1 r1)))⟩,
    ⟨r6, k1_pay1 (k1_pay17 (k1_pay5 (View.ld x0 r0) (View.ld x1 r1)) (iota .tc S1024x1024 32 [0] iota_S1024x1024_d0_w32) (k1_pay7 (View.ld x0 r0) (View.ld x1 r1)))⟩,
    ⟨r5, k1_pay15 (k1_pay5 (View.ld x0 r0) (View.ld x1 r1)) (iota .tc S1024x1024 32 [0] iota_S1024x1024_d0_w32) (k1_pay7 (View.ld x0 r0) (View.ld x1 r1))⟩,
    ⟨r4, k1_pay14 (k1_pay5 (View.ld x0 r0) (View.ld x1 r1)) (iota .tc S1024x1024 32 [0] iota_S1024x1024_d0_w32) (k1_pay7 (View.ld x0 r0) (View.ld x1 r1))⟩,
    ⟨r3, k1_pay10 (k1_pay9 (View.ld x0 r0) (View.ld x1 r1))⟩,
    ⟨r2, k1_pay8 (View.ld x0 r0) (View.ld x1 r1)⟩]

/-- Its stores cover the buffer. -/
theorem cover (p0 p1 p2 p3 p4 p5 p6 p7 : Vec F S1x1x1024 .f32) (y : S1x8x1024.Idx) :
    ∃ pc ∈ ([⟨r9, p0⟩, ⟨r8, p1⟩, ⟨r7, p2⟩, ⟨r6, p3⟩, ⟨r5, p4⟩, ⟨r4, p5⟩, ⟨r3, p6⟩, ⟨r2, p7⟩] : List (View.Piece (Elt F) S1x8x1024 .f32)), y ∈ pc.1.set :=
  View.cover_of_tiled [⟨r9, p0⟩, ⟨r8, p1⟩, ⟨r7, p2⟩, ⟨r6, p3⟩, ⟨r5, p4⟩, ⟨r4, p5⟩, ⟨r3, p6⟩, ⟨r2, p7⟩] S1x1x1024.size (by rfl) y

set_option maxHeartbeats 1000000 in
/-- The body on its staging buffers: the inputs' stay as they are and the output's is `out` of them. -/
theorem body_wp (c : Dev nD) (E : Set ℕ) (i : grid1.Coords) (a0 : Memref sig .tc .vmem S1x1024x3 .f32) (ha0 : a0.IsWhole) (a1 : Memref sig .tc .vmem S1x3x1024 .f32) (ha1 : a1.IsWhole) (a2 : Memref sig .tc .vmem S1x8x1024 .f32) (ha2 : a2.IsWhole)
    (x0 : Vec F S1x1024x3 .f32) (x1 : Vec F S1x3x1024 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out x0 x1)) -∗ K ⟨⟩))
      ⊢ wp frame (wpE (defs₀ (F := F)) 𝒱₀ c none) E (cc1__tc_knn_body i a0 ha0 a1 ha1 a2 ha2) K := by
  simp only [cc1__tc_knn_body_eq_skeleton]; unfold cc1__tc_knn_body_skel
  simp only [k1_part1_eq_skeleton, k1_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover _ _ _ _ _ _ _ _)).trans ?_
  rfl

variable (V : Valuation τ sig (Elt F))

/-- A window's block of its array at a point. -/
def iblk (c : Dev nD) (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- The call's proof data, from the contents the call finds. -/
def dat (c : Dev nD) : Dat τ (Elt F) (HIx 1) ℕ UU ℕ cfg1 c where
  A w := V (Proc.devRef .tc (Pipeline.arrRef spec1 w))
  after w t := match w with
    | ⟨0, _⟩ => iblk V c 0 t
    | ⟨1, _⟩ => iblk V c 1 t
    | ⟨2, _⟩ => out (iblk V c 0 t) (iblk V c 1 t)
  Φ _ := Pipeline.scopedRest spec1 c
  q _ := fullShare
  owed _ := due (F := F) c
  recorded _ := low (F := F) c

theorem A_eq (c : Dev nD) (w : Fin cfg1.W) : (dat V c).A w = V (Proc.devRef .tc (Pipeline.arrRef spec1 w)) := by dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = out (iblk V c 0 t) (iblk V c 1 t) := by dsimp only [dat]

theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-- What the body is entered with at a point, window by window, -/
def enters (c : Dev nD) (t : Fin cfg1.N) : sProp 𝕄 :=
  iprop((dat V c).Φ t.castSucc ∗ (dat V c).owesAt none t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it leaves. -/
def leaves (c : Dev nD) (t : Fin cfg1.N) : sProp 𝕄 :=
  iprop((dat V c).Φ t.succ ∗ (dat V c).owesAt none t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem body_at (c : Dev nD) (t : Fin cfg1.N) :
    enters V c t ⊢ wp frame (wpE (defs₀ (F := F)) 𝒱₀ c none) Set.univ (bodyAt1 t) (fun _ => leaves V c t) := by
  unfold enters leaves bodyAt1
  simp only [before0, before1]
  rw [show (dat V c).Φ t.succ = (dat V c).Φ t.castSucc from rfl,
    show (dat V c).owesAt none t.succ = (dat V c).owesAt none t.castSucc from rfl,
    after0, after1, after2]
  iintro ⟨HΦ, Ho, ⟨%d0, H0⟩, ⟨%d1, H1⟩, ⟨%d2, H2⟩⟩
  iapply (body_wp c Set.univ (grid1.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row (t : Fin cfg1.N) : defs₀ (F := F) .tc cfg1.body (cfg1.bodyArgs t (cfg1.slots t)) = bodyAt1 t := rfl

theorem obligation (c : Dev nD) : BodyObligation (dat V c) (defs₀ (F := F)) 𝒱₀ none Set.univ := fun t => by
  rw [bigSep_W1, bigSep_W1, row]
  exact triple_restated (body_at V c t) rfl .rfl fun _ => .rfl

end Cert.KernelIdeal.Knn

end
-- ==== Proof.KernelRun.lean ====
/- The whole program: @main on the TensorCore, through its two TensorCore calls and its SparseCore call, and the whole run. -/
module

public import proofs.«01_k».proof.Proof.KernelPrep
public import proofs.«01_k».proof.Proof.KernelKnn

@[expose] public section

noncomputable section

namespace Cert.KernelIdeal.Run

open Cert.KernelIdeal Cert.KernelIdeal.Gen Cert.KernelIdeal.Trip Cert.KernelIdeal.Tile Cert.KernelIdeal.Launch Cert.KernelIdeal.Region
open Idealize.ShloMosaic Idealize.ShloMosaic.ValueIdx
open Idealize.ShloMosaic.SparseCore (S V)
open Idealize.ShloMosaic.SparseCore.Cfg (HIx)
open Idealize.ShloMosaic.StableHlo (held)
open Idealize.ShloMosaic.Pipeline (Dat ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations -/

abbrev ops0 : List (HloOp τ sig (Elt F)) :=
  [StableHlo.reshape main_arg1 main_v0 (rfl : (.f32 : EltTy) = .f32) shapeCasts_S2x1024x64_S2048x64,
   StableHlo.reshape main_arg5 main_v1 (rfl : (.f32 : EltTy) = .f32) shapeCasts_S32_S1x32,
   StableHlo.reshape main_arg6 main_v2 (rfl : (.f32 : EltTy) = .f32) shapeCasts_S32_S1x32,
   StableHlo.reshape main_arg7 main_v3 (rfl : (.f32 : EltTy) = .f32) shapeCasts_S32_S1x32,
   StableHlo.reshape main_arg9 main_v4 (rfl : (.f32 : EltTy) = .f32) shapeCasts_S32_S1x32]

abbrev ops1 : List (HloOp τ sig (Elt F)) :=
  [StableHlo.unary main_arg2 main_v6 ((transpose S2x3x8192 [0, 2, 1] · transposes_S2x8192x3_S2x3x8192_0_2_1) : (⟨S2x8192x3, .f32⟩ : BufTy).Contents (Elt F) → (⟨S2x3x8192, .f32⟩ : BufTy).Contents (Elt F))]

abbrev ops2 : List (HloOp τ sig (Elt F)) :=
  [StableHlo.reshape main_v5 main_v8 (rfl : (.f32 : EltTy) = .f32) shapeCasts_S2048x32_S2x1024x32,
   StableHlo.nullary main_c (constantI S_ 32 0#32),
   StableHlo.TRef.unary (.of main_c : StableHlo.TRef sig ⟨S_, .i32⟩) main_call0.v0 (sitofp .f32),
   StableHlo.TRef.binary (.of main_v8 : StableHlo.TRef sig ⟨S2x1024x32, .f32⟩) main_call0.v0 main_call0.v1
     (fun x v => pad S2x1024x33 ![0, 0, 0] ![0, 0, 1] ![0, 0, 0] x v pads_S2x1024x32_S2x1024x33_000_000_010 h_S_),
   StableHlo.reshape main_v9 main_v10 (rfl : (.f32 : EltTy) = .f32) shapeCasts_S2x1024x33_S67584]

abbrev ops3 : List (HloOp τ sig (Elt F)) :=
  [StableHlo.unary main_v11 main_v12 ((transpose S2x8192x32 [0, 2, 1] · transposes_S2x32x8192_S2x8192x32_0_2_1) : (⟨S2x32x8192, .f32⟩ : BufTy).Contents (Elt F) → (⟨S2x8192x32, .f32⟩ : BufTy).Contents (Elt F))]

theorem main_eq (d : Dev nD) : main (F := F) d
    = (StableHlo.seq (ops0 (F := F)) >>= fun _ => Prog.lift (.customCall (SparseCore.inner (Pipeline.entry 0)) ()) >>= fun _ =>
        StableHlo.seq (ops1 (F := F)) >>= fun _ => Prog.lift (.customCall (SparseCore.inner (Pipeline.entry 1)) ()) >>= fun _ =>
        StableHlo.seq (ops2 (F := F)) >>= fun _ => (K (F := F)).run d 0 >>= fun _ =>
        StableHlo.seq (ops3 (F := F)) >>= fun _ => pure ⟨⟩) := rfl

theorem sub0 : ∀ op ∈ ops0 (F := F), op.bufs ⊆ ucRefs τ sig := fun op h => Pipeline.sub_ucRefs op (by
  simp only [ops0, List.mem_cons, List.not_mem_nil, or_false] at h
  rcases h with rfl | rfl | rfl | rfl | rfl <;> exact StableHlo.reshape_bufs_sub _ _ _ _ _ _)
theorem sub1 : ∀ op ∈ ops1 (F := F), op.bufs ⊆ ucRefs τ sig := fun op h => Pipeline.sub_ucRefs op (by
  simp only [ops1, List.mem_cons, List.not_mem_nil, or_false] at h
  subst h; exact StableHlo.unary_bufs_sub _ _ _ _ _)
theorem sub2 : ∀ op ∈ ops2 (F := F), op.bufs ⊆ ucRefs τ sig := fun op h => Pipeline.sub_ucRefs op (by
  simp only [ops2, List.mem_cons, List.not_mem_nil, or_false] at h
  rcases h with rfl | rfl | rfl | rfl | rfl
  · exact StableHlo.reshape_bufs_sub _ _ _ _ _ _
  · exact StableHlo.nullary_bufs_sub _ _ _
  · exact StableHlo.unary_bufs_sub _ _ _ _ _
  · exact StableHlo.binary_bufs_sub _ _ _ _ _ _ _
  · exact StableHlo.reshape_bufs_sub _ _ _ _ _ _)
theorem sub3 : ∀ op ∈ ops3 (F := F), op.bufs ⊆ ucRefs τ sig := fun op h => Pipeline.sub_ucRefs op (by
  simp only [ops3, List.mem_cons, List.not_mem_nil, or_false] at h
  subst h; exact StableHlo.unary_bufs_sub _ _ _ _ _)

theorem fresh0 : ∀ op ∈ ops0 (F := F), op.fresh = ∅ := fun op h => by
  simp only [ops0, List.mem_cons, List.not_mem_nil, or_false] at h
  rcases h with rfl | rfl | rfl | rfl | rfl <;> rfl
theorem fresh1 : ∀ op ∈ ops1 (F := F), op.fresh = ∅ := fun op h => by
  simp only [ops1, List.mem_cons, List.not_mem_nil, or_false] at h
  subst h; rfl
theorem fresh2 : ∀ op ∈ ops2 (F := F), op.fresh = ∅ := fun op h => by
  simp only [ops2, List.mem_cons, List.not_mem_nil, or_false] at h
  rcases h with rfl | rfl | rfl | rfl | rfl <;> rfl
theorem fresh3 : ∀ op ∈ ops3 (F := F), op.fresh = ∅ := fun op h => by
  simp only [ops3, List.mem_cons, List.not_mem_nil, or_false] at h
  subst h; rfl

/-! ## The arrays' contents along @main -/

abbrev r (b : Ref sig .tc) : DevRef τ sig := Proc.devRef .tc b

/-- At launch; -/
def V0 (d : Dev nD) : Valuation τ sig (Elt F) := fun b => m (d, b)
/-- before the first call; -/
def V1 (d : Dev nD) : Valuation τ sig (Elt F) := StableHlo.after (ops0 (F := F)) (V0 m d)
/-- after it; -/
def V2 (d : Dev nD) : Valuation τ sig (Elt F) := Pipeline.afterRegion (Prep.dat (V1 m d) d) (V1 m d)
/-- before the second call; -/
def V3 (d : Dev nD) : Valuation τ sig (Elt F) := StableHlo.after (ops1 (F := F)) (V2 m d)
/-- after it; -/
def V4 (d : Dev nD) : Valuation τ sig (Elt F) := Pipeline.afterRegion (Knn.dat (V3 m d) d) (V3 m d)
/-- before the SparseCore call; -/
def V5 (d : Dev nD) : Valuation τ sig (Elt F) := StableHlo.after (ops2 (F := F)) (V4 m d)

def wF (d : Dev nD) : S2x8x8192.Idx → F .f32 := V5 m d (r main_v7)
def zF (d : Dev nD) : S67584.Idx → F .f32 := V5 m d (r main_v10)
def oF (d : Dev nD) : S2x32x8192.Idx → F .f32 := V5 m d (r main_v11)

/-- after it; -/
def V6 (d : Dev nD) : Valuation τ sig (Elt F) := Function.update (V5 m d) (r main_v11) (interpOut (wF m d) (zF m d))
/-- and at the end. -/
def V7 (d : Dev nD) : Valuation τ sig (Elt F) := StableHlo.after (ops3 (F := F)) (V6 m d)

/-- The two TensorCore calls' proof data. -/
def pdats : (p : Fin 2) → (c : Dev nD) → Dat τ (Elt F) (HIx 1) ℕ UU ℕ (cfgs p) c
  | 0 => fun c => Prep.dat (V1 m c) c
  | 1 => fun c => Knn.dat (V3 m c) c

def seg0 : Pipeline.RegionSeg (pcfgs (F := F)) adm (pdats m) none (defs₀ (F := F)) 𝒱₀ (K (F := F)).L (K (F := F)).lev 0 :=
  seg (pdats m) 0 launch0 (fun c => (Prep.obligation (V1 m c) c).loose) (fun _ _ => rfl) (fun _ _ => rfl)
    (fun c => (Prep.dat (V1 m c) c).share_full fun _ => rfl) (fun _ _ => rfl) (ucRefs τ sig)
    (Pipeline.arrRefs_sub_ucRefs _ launch0.win.arr_unscoped) (V1 m) (fun c w => Prep.A_eq (V1 m c) c w)

def seg1 : Pipeline.RegionSeg (pcfgs (F := F)) adm (pdats m) none (defs₀ (F := F)) 𝒱₀ (K (F := F)).L (K (F := F)).lev 1 :=
  seg (pdats m) 1 launch1 (fun c => (Knn.obligation (V3 m c) c).loose) (fun _ _ => rfl) (fun _ _ => rfl)
    (fun c => (Knn.dat (V3 m c) c).share_full fun _ => rfl) (fun _ _ => rfl) (ucRefs τ sig)
    (Pipeline.arrRefs_sub_ucRefs _ launch1.win.arr_unscoped) (V3 m) (fun c w => Knn.A_eq (V3 m c) c w)

theorem seg0_pre (c : Dev nD) : (seg0 m).pre c = st (ucRefs τ sig) (V1 m c) c := rfl
theorem seg0_post (c : Dev nD) : (seg0 m).post c = st (ucRefs τ sig) (V2 m c) c := rfl
theorem seg1_pre (c : Dev nD) : (seg1 m).pre c = st (ucRefs τ sig) (V3 m c) c := rfl
theorem seg1_post (c : Dev nD) : (seg1 m).post c = st (ucRefs τ sig) (V4 m c) c := rfl

/-! ## The SparseCore call's operands -/

abbrev three : Finset (DevRef τ sig) := {r main_v7, r main_v10, r main_v11}

theorem three_sub : three ⊆ ucRefs τ sig := by
  intro b hb
  simp only [three, Finset.mem_insert, Finset.mem_singleton] at hb
  rcases hb with rfl | rfl | rfl <;> exact Finset.mem_filter.mpr ⟨StableHlo.devRef_mem_tcRefs _, by decide⟩

theorem held_three (d : Dev nD) (W : Valuation τ sig (Elt F)) :
    (held (SparseCore.T d) (ucRefs τ sig) W : sProp 𝕄)
      = iprop(((wLoc d ↦{fullShare} W (r main_v7)) ∗ (zLoc d ↦{fullShare} W (r main_v10)) ∗ (oLoc d ↦{fullShare} W (r main_v11)))
          ∗ held (SparseCore.T d) (ucRefs τ sig \ three) W) := by
  rw [StableHlo.held_sub_split (SparseCore.T d) three_sub W]
  congr 1
  unfold held three
  rw [SparseCore.bigSep_insert' (by decide), SparseCore.bigSep_insert' (by decide), bigSep_singleton]

theorem held_V5 (d : Dev nD) :
    (held (SparseCore.T d) (ucRefs τ sig) (StableHlo.after (ops2 (F := F)) (V4 m d)) : sProp 𝕄)
      = iprop(((wLoc d ↦{fullShare} wF m d) ∗ (zLoc d ↦{fullShare} zF m d) ∗ (oLoc d ↦{fullShare} oF m d))
          ∗ held (SparseCore.T d) (ucRefs τ sig \ three) (V5 m d)) := held_three d (V5 m d)

theorem V6_ne (d : Dev nD) {b : DevRef τ sig} (h : b ≠ r main_v11) : V6 m d b = V5 m d b := Function.update_of_ne h _ _
theorem V6_o (d : Dev nD) : V6 m d (r main_v11) = interpOut (wF m d) (zF m d) := Function.update_self _ _ _

theorem held_V6 (d : Dev nD) :
    (held (SparseCore.T d) (ucRefs τ sig) (V6 m d) : sProp 𝕄)
      = iprop(((wLoc d ↦{fullShare} wF m d) ∗ (zLoc d ↦{fullShare} zF m d) ∗ (oLoc d ↦{fullShare} interpOut (wF m d) (zF m d)))
          ∗ held (SparseCore.T d) (ucRefs τ sig \ three) (V5 m d)) := by
  rw [held_three d (V6 m d), V6_o, V6_ne m d (b := r main_v7) (by decide), V6_ne m d (b := r main_v10) (by decide),
    StableHlo.held_congr (SparseCore.T d) (S := ucRefs τ sig \ three) (V := V6 m d) (V' := V5 m d) (fun b hb => V6_ne m d (fun e =>
      (Finset.mem_sdiff.mp hb).2 (by rw [e]; simp [three])))]
  rfl

/-! ## @main on the TensorCore -/

abbrev FIN (d : Dev nD) : sProp 𝕄 := held (SparseCore.T d) (ucRefs τ sig) (V7 m d)

abbrev PP := P (F := F) (wF m) (zF m) (oF m)

theorem tcSt_split (d : Dev nD) : ∃ R : sProp 𝕄, (K (F := F)).tcSt EH d 0
    = iprop((∃ w, ⌜(K (F := F)).WBelow (SparseCore.T d) w (8 * SparseCore.Cfg.Blocks.fst (Q := 1) (N := 1) 0)⌝ ∗ owes (SparseCore.T d) (due (F := F) d) w) ∗ R) :=
  ⟨_, rfl⟩

theorem start_held (d : Dev nD) : (unscopedBufs d (fun b => m ((SparseCore.T d).loc b)) : sProp 𝕄) = held (SparseCore.T d) (ucRefs τ sig) (V0 m d) :=
  Pipeline.unscopedBufs_held d (V0 m d)

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_split (F := F) d
  unfold SparseCore.Cfg.tcRes SparseCore.Cfg.tcEnd G
  rw [start_held, main_eq, hR, Ring.bigSep_fin2, Ring.bigSep_fin2]
  iintro ⟨#Hctx, ⟨HO, HR⟩, ⟨Hb, Hheld, Hts, -⟩, ⟨Hg0, Hg1⟩, ⟨Ht0, Ht1⟩⟩
  iapply (StableHlo.wp_seq 𝒱 none Set.univ d (ucRefs τ sig) _ (ops0 (F := F)) sub0 fresh0 (V0 m d)) $$ [Hb Hheld]
  · isplitl [Hb] <;> iassumption
  iintro ⟨Hb, Hheld⟩
  rw [wp_bind]
  iapply (wp_seg (pdats m) (seg0 m) d _) $$ [HR Hts Hg1 Ht1 Hg0 Ht0 HO Hb Hheld]
  isplitr [HO Hb Hheld Hg0 Ht0]
  swap
  · isplitl [Hb]; · iexact Hb
    isplitl [HO Hheld]
    · rw [seg0_pre]
      isplitl [Hheld]; · iexact Hheld
      iexact HO
    isplitr
    · iapply (SparseCore.Cfg.ctx_levAts κ); iexact Hctx
    isplitl [Hg0] <;> iassumption
  rw [seg0_post]
  iintro ⟨Hb, Hheld, HO⟩
  iapply (StableHlo.wp_seq 𝒱 none Set.univ d (ucRefs τ sig) _ (ops1 (F := F)) sub1 fresh1 (V2 m d)) $$ [Hb Hheld]
  · isplitl [Hb] <;> iassumption
  iintro ⟨Hb, Hheld⟩
  rw [wp_bind]
  iapply (wp_seg (pdats m) (seg1 m) d _) $$ [HR Hts Hg1 Ht1 HO Hb Hheld]
  isplitr [HO Hb Hheld Hg1 Ht1]
  swap
  · isplitl [Hb]; · iexact Hb
    isplitl [HO Hheld]
    · rw [seg1_pre]
      isplitl [Hheld]; · iexact Hheld
      iexact HO
    isplitr
    · iapply (SparseCore.Cfg.ctx_levAts κ); iexact Hctx
    isplitl [Hg1] <;> iassumption
  rw [seg1_post]
  iintro ⟨Hb, Hheld, HO⟩
  iapply (StableHlo.wp_seq 𝒱 none Set.univ d (ucRefs τ sig) _ (ops2 (F := F)) sub2 fresh2 (V4 m d)) $$ [Hb Hheld]
  · isplitl [Hb] <;> iassumption
  iintro ⟨Hb, Hheld⟩
  ihave Hh := (Entails.of_eq (held_V5 m d)) $$ Hheld
  icases Hh with ⟨⟨Hw, Hz, Ho⟩, Hh⟩
  ihave Hd := (deal (wF m) (zF m) (oF m) d) $$ [Hw Hz Ho]
  · isplitl [Hw]; · iexact Hw
    isplitl [Hz] <;> iassumption
  icases Hd with ⟨Hrest, Hops⟩
  rw [wp_bind]
  iapply ((K (F := F)).wp_run (D (F := F)) 𝒱 (EH := EH) (P := PP m) κ d 0) $$ [HO HR Hops Hrest Hb Hh Hts]
  isplitr; · iexact Hctx
  isplitl [HO HR]
  · iapply (Entails.of_eq hR.symm)
    isplitl [HO] <;> iassumption
  isplitl [Hops]; · iexact Hops
  iintro ⟨Hst, Hdn⟩
  ihave Hj := (join (wF m) (zF m) (oF m) d) $$ [Hrest Hdn]
  · isplitl [Hrest] <;> iassumption
  icases Hj with ⟨Hw, Hz, Ho⟩
  iapply (StableHlo.wp_seq 𝒱 none Set.univ d (ucRefs τ sig) _ (ops3 (F := F)) sub3 fresh3 (V6 m d)) $$ [Hb Hw Hz Ho Hh]
  · isplitl [Hb]; · iexact Hb
    iapply (Entails.of_eq (held_V6 m d).symm)
    isplitl [Hw Hz Ho]
    · isplitl [Hw]; · iexact Hw
      isplitl [Hz] <;> iassumption
    iexact Hh
  iintro ⟨Hb, Hheld⟩
  rw [wp_pure]; imodintro
  isplitl [Hst]; · iexact Hst
  isplitl [Hheld]; · iexact Hheld
  isplitl [Hb] <;> iassumption

/-- What the final state of device `d` is. -/
def fq (d : Dev nD) (s' : Phys nD τ sig (Elt F)) : Prop := ∀ b ∈ ucRefs τ sig, s'.mem.mem (d, b) = V7 m d b

theorem hfin (d : Dev nD) (s' : Phys nD τ sig (Elt F)) : iprop(FIN m d ∗ SI s') ⊢ (⌜fq m d s'⌝ : sProp 𝕄) := by
  unfold fq
  refine (forall_intro fun b => (forall_intro fun hb => ?_ : _ ⊢ iprop(∀ _ : b ∈ ucRefs τ sig, ⌜s'.mem.mem (d, b) = V7 m d b⌝)).trans pure_forall.2).trans pure_forall.2
  unfold FIN held
  refine (sep_mono_left (bigSep_elim hb)).trans ?_
  iintro ⟨H, HSI⟩
  ihave HH := (SI_pointsTo_agree (st := s') (ℓ := (d, b)) (I := Finset.univ) (q := fullShare) (f := V7 m d b)) $$ [HSI H]
  · isplitl [HSI] <;> iassumption
  icases HH with %h
  ipureintro
  exact funext fun i => h i (Finset.mem_univ i)

/-- What every run ends with. -/
def QC : PUnit × MemSt nD τ sig (Elt F) → Prop := fun r =>
  (∀ (c : Dev nD), ∀ b ∈ ucRefs τ sig, r.2.mem (c, b) = V7 m c b) ∧ r.2.sem = fun _ => 0

theorem run_main [∀ e, Nonempty (Elt F e)] (hw : ∀ d, WordsOk (wF m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (wF m) (zF m) (oF m) facts hw)
    (fun q _ => match q with | 0 => SparseCore.Cfg.VecSplit.of_plain (vecSplit (wF m) (zF m) (oF m)))
    m ρ main (fun d => G (F := F) d) (FIN m) (u₀ (F := F)) (sep_elim_left.trans (hu₀ (wF m) (zF m) (oF m))) (hmain m ρ) (fq m) (hfin m) (QC m) (fun _ h hz => ⟨h, hz⟩)

end Cert.KernelIdeal.Run

end
-- ==== Proof.KernelWords.lean ====
/- The whole program's neighbour rows, whatever the coordinates: each row is one of three rounds over the column of distances, and the
   word numbers they hold lie in the table. -/
module

public import proofs.«01_k».proof.Proof.KernelRun
public import proofs.«01_k».proof.Proof.KnnRun
public import Idealize.ShloMosaic.Lib.Pipeline.RegionArraysS

@[expose] public section

set_option maxRecDepth 16384

noncomputable section

namespace Cert.KernelWords

open Cert.KernelIdeal Cert.KernelIdeal.Gen Cert.KernelIdeal.Run Idealize.ShloMosaic Idealize.ShloMosaic.TcCoe Idealize.SL.Sem Cert.KnnRounds
open Idealize.ShloMosaic.Pipeline (ucRefs)

/-- The word number stored for a position. -/
abbrev wordOf (w : BitVec 32) : Ideal .f32 := FloatOps.sitofp (F := Ideal) FTy.f32 (IntOp.muli w 33#32)

/-- The eight rows of one query, from its column of distances. -/
def rowOf (d : Fin 1024 → EReal) : Fin 8 → EReal
  | ⟨0, _⟩ => Ideal.div 1 (minOf d)
  | ⟨1, _⟩ => Ideal.div 1 (minOf (col1 d))
  | ⟨2, _⟩ => Ideal.div 1 (minOf (col2 d))
  | ⟨3, _⟩ => wordOf (argOf d)
  | ⟨4, _⟩ => wordOf (argOf (col1 d))
  | ⟨5, _⟩ => wordOf (argOf (col2 d))
  | ⟨_, _⟩ => 0

theorem rowOf0 (d : Fin 1024 → EReal) : rowOf d 0 = Ideal.div 1 (minOf d) := rfl
theorem rowOf1 (d : Fin 1024 → EReal) : rowOf d 1 = Ideal.div 1 (minOf (col1 d)) := rfl
theorem rowOf2 (d : Fin 1024 → EReal) : rowOf d 2 = Ideal.div 1 (minOf (col2 d)) := rfl

/-- The neighbour rows of all queries. -/
def rows (p : S2x8192x3.Idx → Ideal .f32) (s : S2x1024x3.Idx → Ideal .f32) : S2x8x8192.Idx → Ideal .f32 :=
  fun i => rowOf (Cert.KnnRef.column p s (i 0) (i 2)) (i 1)

/-- One block of them. -/
def blockOf (p : S2x8192x3.Idx → Ideal .f32) (s : S2x1024x3.Idx → Ideal .f32) (b : Fin 2) (qi : Fin 1024 → Fin 8192) : S1x8x1024.Idx → Elt Ideal .f32 :=
  fun y => rows p s (ix3 b (y 1) (qi (y 2)))

theorem out_eq (P0 : Vec Ideal S1x1024x3 .f32) (P1 : Vec Ideal S1x3x1024 .f32)
    (p : S2x8192x3.Idx → Ideal .f32) (s : S2x1024x3.Idx → Ideal .f32) (b : Fin 2) (qi : Fin 1024 → Fin 8192)
    (h0 : ∀ (k : Fin 1024) (x : Fin 3), P0 (ix3 (0 : Fin 1) k x) = s (ix3 b k x))
    (h1 : ∀ (x : Fin 3) (q : Fin 1024), P1 (ix3 (0 : Fin 1) x q) = p (ix3 b (qi q) x))
    (y : S1x8x1024.Idx) : Cert.KernelIdeal.Knn.out (F := Ideal) P0 P1 y = blockOf p s b qi y := by
  have hz : (![0, 0, 0] : Fin 3 → Nat) = fun _ => 0 := funext fun a => by fin_cases a <;> rfl
  have hcol : ∀ q : Fin 1024, (fun k => Cert.KnnIdeal.Gen.k0_pay5 (F := Ideal) P0 P1 (ix2 k q)) = Cert.KnnRef.column p s b (qi q) := fun q => funext fun k => by
    rw [Cert.KnnKernel.pay5_eq, Cert.KnnRef.column_eq]
    simp only [h0, h1, mul_comm]
  have hv : ∀ q : Fin 1024, Cert.KnnIdeal.Gen.k0_pay7 (F := Ideal) P0 P1 (ix2 (0 : Fin 1) q) = argOf (fun k => Cert.KnnIdeal.Gen.k0_pay5 (F := Ideal) P0 P1 (ix2 k q)) :=
    Cert.KnnKernel.pay7_eq P0 P1
  have hcol' : ∀ q : Fin 1024, (fun k => k1_pay5 (F := Ideal) P0 P1 (ix2 k q)) = Cert.KnnRef.column p s b (qi q) := hcol
  unfold Cert.KernelIdeal.Knn.out
  refine View.canon_apply_of_pieces (Val := Elt Ideal) (S := S1x8x1024) (e := .f32) (blockOf p s b qi) _ ?_ y (Cert.KernelIdeal.Knn.cover _ _ _ _ _ _ _ _ y)
  simp only [View.ld_unit_zero (S := S1x1024x3) hz, View.ld_unit_zero (S := S1x3x1024) hz]
  have hx : ∀ x : S1x1x1024.Idx, ∃ q : Fin 1024, x = ix3 (0 : Fin 1) (0 : Fin 1) q := fun x => ⟨x 2, (eq_ix3 x).trans (by
    congr 1 <;> exact Subsingleton.elim _ _)⟩
  simp only [List.mem_cons, List.not_mem_nil, or_false, forall_eq_or_imp, forall_eq]
  refine ⟨?_, ?_, ?_, ?_, ?_, ?_, ?_, ?_⟩ <;> intro (x : S1x1x1024.Idx) <;> obtain ⟨q, rfl⟩ := hx x
  · refine Eq.trans ?_ (congrArg (blockOf p s b qi) (Cert.KnnRun.emb_r9 q)).symm
    exact Cert.KnnKernel.pay4_eq q
  · refine Eq.trans ?_ (congrArg (blockOf p s b qi) (Cert.KnnRun.emb_r8 q)).symm
    exact Cert.KnnKernel.pay3_eq q
  · refine Eq.trans ?_ (congrArg (blockOf p s b qi) (Cert.KnnRun.emb_r7 q)).symm
    refine Eq.trans (Cert.KnnKernel.pay2_eq _ _ q (hv q)) ?_
    rw [hcol' q]; rfl
  · refine Eq.trans ?_ (congrArg (blockOf p s b qi) (Cert.KnnRun.emb_r6 q)).symm
    refine Eq.trans (Cert.KnnKernel.pay1_eq _ _ q (hv q)) ?_
    rw [hcol' q]; exact (rowOf2 _).symm
  · refine Eq.trans ?_ (congrArg (blockOf p s b qi) (Cert.KnnRun.emb_r5 q)).symm
    refine Eq.trans (Cert.KnnKernel.pay15_eq _ _ q (hv q)) ?_
    rw [hcol' q]; rfl
  · refine Eq.trans ?_ (congrArg (blockOf p s b qi) (Cert.KnnRun.emb_r4 q)).symm
    refine Eq.trans (Cert.KnnKernel.pay14_eq _ _ q (hv q)) ?_
    rw [hcol' q]; exact (rowOf1 _).symm
  · refine Eq.trans ?_ (congrArg (blockOf p s b qi) (Cert.KnnRun.emb_r3 q)).symm
    refine Eq.trans (Cert.KnnKernel.pay10_eq P0 P1 q) ?_
    rw [hcol q]; rfl
  · refine Eq.trans ?_ (congrArg (blockOf p s b qi) (Cert.KnnRun.emb_r2 q)).symm
    refine Eq.trans (Cert.KnnKernel.pay8_eq P0 P1 q) ?_
    rw [hcol q]; exact (rowOf0 _).symm

/-! ## The word numbers -/

/-- The first position of a column's least value is a position. -/
theorem argOf_small (e : Fin 1024 → EReal) : ∃ i : Fin 1024, argOf e = BitVec.ofNat 32 i.val := by
  obtain ⟨i, hi⟩ := exists_least e (fun _ => True) ⟨0, trivial⟩
  have hm := minOf_eq e (fun _ => True) e (fun _ _ => rfl) (fun k hk => absurd trivial hk) i hi
  refine ⟨i, ?_⟩
  unfold argOf
  have hsel : ∀ k : Fin 1024, Scalar.select (FloatOps.cmpf (F := Ideal) (φ := .f32) .oeq (e k) (minOf e)) (BitVec.ofNat 32 k.val) 1073741824#32
      = if e k = e i then BitVec.ofNat 32 k.val else 1073741824#32 := fun k => by
    show Scalar.select (BitVec.ofBool (decide (e k = minOf e))) _ _ = _
    rw [select_ofBool, hm]
    simp only [decide_eq_true_eq]
  have hT : ∀ k : Fin 1024, (BitVec.ofNat 32 k.val).toInt = k.val := fun k => by
    have := k.isLt
    rw [BitVec.toInt_eq_toNat_cond, BitVec.toNat_ofNat, Nat.mod_eq_of_lt (by omega), if_pos (by omega)]
  have hL : (2147483647#32).toInt = 2147483647 := by decide
  have hG : (1073741824#32).toInt = 1073741824 := by decide
  have h1024 := i.isLt
  apply BitVec.eq_of_toInt_eq
  rw [← Finset.fold_hom (op := IntOp.minsi) (op' := min) (m := BitVec.toInt) (fun a b => Idealize.ShloMosaic.SortNet.toInt_minsi a b)]
  simp only [hsel]
  rw [hT]
  apply le_antisymm
  · exact (Finset.fold_min_le _).2 (Or.inr ⟨i, Finset.mem_univ _, by rw [if_pos rfl, hT]⟩)
  · refine (Finset.le_fold_min _).2 ⟨by rw [hL]; omega, fun k _ => ?_⟩
    split
    · rename_i h
      rw [hT]
      by_cases hki : k = i
      · rw [hki]
      · rcases hi.2 k trivial hki with h' | ⟨_, h'⟩
        · exact absurd h' (by rw [h]; exact lt_irrefl _)
        · exact_mod_cast h'.le
    · rw [hG]; omega

/-- A position's word number, stored and read back. -/
theorem word_back (i : Fin 1024) : (FloatOps.fptosi (F := Ideal) (φ := .f32) 32 (wordOf (BitVec.ofNat 32 i.val)) : BitVec 32) = BitVec.ofNat 32 (i.val * 33) := by
  have hi := i.isLt
  have e : IntOp.muli (BitVec.ofNat 32 i.val) 33#32 = BitVec.ofNat 32 (i.val * 33) := by
    apply BitVec.eq_of_toNat_eq
    show (BitVec.ofNat 32 i.val * 33#32).toNat = _
    rw [BitVec.toNat_mul, BitVec.toNat_ofNat, BitVec.toNat_ofNat, BitVec.toNat_ofNat]
    omega
  have hT : (BitVec.ofNat 32 (i.val * 33)).toInt = ((i.val * 33 : ℕ) : ℤ) := by
    rw [BitVec.toInt_eq_toNat_cond, BitVec.toNat_ofNat, Nat.mod_eq_of_lt (by omega), if_pos (by omega)]
  show Ideal.fptosi 32 (FloatOps.sitofp (F := Ideal) FTy.f32 (IntOp.muli (BitVec.ofNat 32 i.val) 33#32)) = _
  rw [e]
  show Ideal.fptosi 32 ((((BitVec.ofNat 32 (i.val * 33)).toInt : ℝ) : EReal)) = _
  rw [hT]
  unfold Ideal.fptosi
  rw [Ideal.toIntClamped_coe, if_pos (by positivity), Int.floor_intCast]
  have hm : max (-((2 ^ (32 - 1) : ℕ) : ℤ)) (min (((2 ^ (32 - 1) : ℕ) : ℤ) - 1) ((i.val * 33 : ℕ) : ℤ)) = ((i.val * 33 : ℕ) : ℤ) := by
    norm_num
    omega
  rw [hm]
  apply BitVec.eq_of_toInt_eq
  rw [hT, BitVec.toInt_ofInt]
  simp only [Int.bmod]
  omega

/-! ## The call's windows -/

/-- The batch of a grid point. -/
def batch (t : Fin cfg1.N) : Fin 2 := ⟨t.val / 8, by have : t.val < 16 := t.isLt; omega⟩

/-- The query a grid point's block holds at `q`. -/
def query (t : Fin cfg1.N) (q : Fin 1024) : Fin 8192 := ⟨t.val % 8 * 1024 + q.val, by omega⟩

theorem idx0 : ∀ t : Fin cfg1.N, win1_0.index t (0 : Fin 3) = t.val / 8 ∧ win1_0.index t (1 : Fin 3) = 0 ∧ win1_0.index t (2 : Fin 3) = 0 :=
  (by decide +kernel : ∀ t : Fin grid1.N, _)
theorem idx1 : ∀ t : Fin cfg1.N, win1_1.index t (0 : Fin 3) = t.val / 8 ∧ win1_1.index t (1 : Fin 3) = 0 ∧ win1_1.index t (2 : Fin 3) = t.val % 8 :=
  (by decide +kernel : ∀ t : Fin grid1.N, _)
theorem idx2 : ∀ t : Fin cfg1.N, win1_2.index t (0 : Fin 3) = t.val / 8 ∧ win1_2.index t (1 : Fin 3) = 0 ∧ win1_2.index t (2 : Fin 3) = t.val % 8 :=
  (by decide +kernel : ∀ t : Fin grid1.N, _)

variable (V : Valuation τ sig (Elt Ideal))

theorem iblk0 (c : Dev nD) (t : Fin cfg1.N) (k : Fin 1024) (x : Fin 3) :
    (Cert.KernelIdeal.Knn.iblk V c 0 t : Vec Ideal S1x1024x3 .f32) (ix3 (0 : Fin 1) k x) = (V (r main_arg3) : S2x1024x3.Idx → Ideal .f32) (ix3 (batch t) k x) := by
  obtain ⟨e0, e1, e2⟩ := idx0 t
  refine Eq.trans (b := (V (r main_arg3) : S2x1024x3.Idx → Ideal .f32) (((cfg1.win 0).blk t).view.emb (ix3 (0 : Fin 1) k x))) rfl ?_
  refine congrArg _ (funext fun a => Fin.ext ?_)
  match a with
  | ⟨0, _⟩ => show win1_0.index t (0 : Fin 3) * 1 + 1 * 0 = t.val / 8; omega
  | ⟨1, _⟩ => show win1_0.index t (1 : Fin 3) * 1024 + 1 * k.val = k.val; omega
  | ⟨2, _⟩ => show win1_0.index t (2 : Fin 3) * 3 + 1 * x.val = x.val; omega

theorem iblk1 (c : Dev nD) (t : Fin cfg1.N) (x : Fin 3) (q : Fin 1024) :
    (Cert.KernelIdeal.Knn.iblk V c 1 t : Vec Ideal S1x3x1024 .f32) (ix3 (0 : Fin 1) x q) = (V (r main_v6) : S2x3x8192.Idx → Ideal .f32) (ix3 (batch t) x (query t q)) := by
  obtain ⟨e0, e1, e2⟩ := idx1 t
  refine Eq.trans (b := (V (r main_v6) : S2x3x8192.Idx → Ideal .f32) (((cfg1.win 1).blk t).view.emb (ix3 (0 : Fin 1) x q))) rfl ?_
  refine congrArg _ (funext fun a => Fin.ext ?_)
  match a with
  | ⟨0, _⟩ => show win1_1.index t (0 : Fin 3) * 1 + 1 * 0 = t.val / 8; omega
  | ⟨1, _⟩ => show win1_1.index t (1 : Fin 3) * 3 + 1 * x.val = x.val; omega
  | ⟨2, _⟩ => show win1_1.index t (2 : Fin 3) * 1024 + 1 * q.val = t.val % 8 * 1024 + q.val; omega

theorem emb2 (t : Fin cfg1.N) (y : S1x8x1024.Idx) :
    ((cfg1.win 2).blk t).view.emb y = (ix3 (batch t) (y 1) (query t (y 2)) : S2x8x8192.Idx) := by
  obtain ⟨e0, e1, e2⟩ := idx2 t
  refine funext fun a => Fin.ext ?_
  match a with
  | ⟨0, _⟩ =>
    have h : (y 0).val < 1 := (y 0).isLt
    show win1_2.index t (0 : Fin 3) * 1 + 1 * (y 0).val = t.val / 8; omega
  | ⟨1, _⟩ => show win1_2.index t (1 : Fin 3) * 8 + 1 * (y 1).val = (y 1).val; omega
  | ⟨2, _⟩ => show win1_2.index t (2 : Fin 3) * 1024 + 1 * (y 2).val = t.val % 8 * 1024 + (y 2).val; omega

theorem flushed2_eq (c : Dev nD) (p : S2x8192x3.Idx → Ideal .f32)
    (hp : V (r main_v6) = transpose S2x3x8192 [0, 2, 1] p transposes_S2x8192x3_S2x3x8192_0_2_1) (t : Fin cfg1.N) :
    (Cert.KernelIdeal.Knn.dat V c).flushed 2 t = ((cfg1.win 2).blk t).view.read (Elt Ideal) (rows p (V (r main_arg3))) := by
  funext y
  have hf : (Cert.KernelIdeal.Knn.dat V c).flushed 2 t y
      = Cert.KernelIdeal.Knn.out (Cert.KernelIdeal.Knn.iblk V c 0 t) (Cert.KernelIdeal.Knn.iblk V c 1 t) y := by
    rw [← Cert.KernelIdeal.Knn.after2]
  rw [hf]
  refine (out_eq (Cert.KernelIdeal.Knn.iblk V c 0 t) (Cert.KernelIdeal.Knn.iblk V c 1 t) p (V (r main_arg3)) (batch t) (query t)
    (iblk0 V c t) (fun x q => (iblk1 V c t x q).trans ((congrFun hp _).trans (Cert.KnnRun.turn p _ _ _))) y).trans ?_
  exact (congrArg (rows p (V (r main_arg3))) (emb2 t y)).symm

theorem point (b : Fin 2) (n : Fin 8192) : ∃ (t : Fin cfg1.N) (q : Fin 1024), batch t = b ∧ query t q = n := by
  have hb := b.isLt
  have hn := n.isLt
  have ht : b.val * 8 + n.val / 1024 < 16 := by omega
  refine ⟨⟨b.val * 8 + n.val / 1024, ht⟩, ⟨n.val % 1024, by omega⟩, Fin.ext ?_, Fin.ext ?_⟩
  · show (b.val * 8 + n.val / 1024) / 8 = b.val; omega
  · show (b.val * 8 + n.val / 1024) % 8 * 1024 + n.val % 1024 = n.val; omega

theorem mem_blk (t : Fin cfg1.N) (k : Fin 8) (q : Fin 1024) :
    (ix3 (batch t) k (query t q) : S2x8x8192.Idx) ∈ ((cfg1.win 2).blk t).view.set := by
  have h := ((cfg1.win 2).blk t).view.emb_mem_set (ix3 (0 : Fin 1) k q : S1x8x1024.Idx)
  rw [emb2] at h
  exact h

theorem covered2 (i : S2x8x8192.Idx) : ∃ t : Fin cfg1.N, (cfg1.win 2).flush t = true ∧ i ∈ ((cfg1.win 2).blk t).view.set := by
  obtain ⟨t, q, e0, e2⟩ := point (i 0) (i 2)
  refine ⟨t, flush1_2 t, ?_⟩
  have h := mem_blk t (i 1) q
  rw [e0, e2] at h
  rw [eq_ix3 i]
  exact h

theorem final2 (c : Dev nD) (p : S2x8192x3.Idx → Ideal .f32)
    (hp : V (r main_v6) = transpose S2x3x8192 [0, 2, 1] p transposes_S2x8192x3_S2x3x8192_0_2_1) :
    (Cert.KernelIdeal.Knn.dat V c).arrAt 2 cfg1.N = rows p (V (r main_arg3)) :=
  (Cert.KernelIdeal.Knn.dat V c).arrAt_eq_of_cover 2 (rows p (V (r main_arg3))) (fun t _ => flushed2_eq V c p hp t) covered2

end Cert.KernelWords

end
-- ==== Proof.KernelFrame.lean ====
/- The whole program's run at the reals: no condition is needed for it to end, with its arguments as they were. -/
module

public import proofs.«01_k».proof.Proof.KernelWords
public import Idealize.ShloMosaic.Lib.StableHlo.RunRead

@[expose] public section

set_option maxRecDepth 16384

noncomputable section

namespace Cert.KernelFrame

open Cert.KernelIdeal Cert.KernelIdeal.Gen Cert.KernelIdeal.Run Cert.KernelWords Idealize.ShloMosaic Idealize.ShloMosaic.TcCoe Idealize.SL.Sem
open Idealize.ShloMosaic.Pipeline (ucRefs)

variable (m : (ℓ : Loc nD τ sig) → Buf (Elt Ideal) ℓ) (ρ : Dev nD → PrngReg)

/-! ## What each part of @main writes -/

abbrev W0 : List (Ref sig .tc) := [main_v0, main_v1, main_v2, main_v3, main_v4]
abbrev W1 : List (Ref sig .tc) := [main_v6]
abbrev W2 : List (Ref sig .tc) := [main_v8, main_c, main_call0_v0, main_v9, main_v10]
abbrev W3 : List (Ref sig .tc) := [main_v12]

theorem V1_keeps (d : Dev nD) {b : Ref sig .tc} (h : b ∉ W0) : V1 m d (r b) = V0 m d (r b) :=
  StableHlo.after_unwritten (ops := ops0 (F := Ideal)) W0 rfl h (V0 m d)
theorem V2_keeps (d : Dev nD) {b : Ref sig .tc} (h : ∀ w, Pipeline.arrRef spec0 w = b → (cfg0.win w).isOut = false) : V2 m d (r b) = V1 m d (r b) :=
  Pipeline.afterRegion_keeps (Prep.dat (V1 m d) d) (V1 m d) launch0.win.arr_inj (Prep.A_eq (V1 m d) d) b h
theorem V3_keeps (d : Dev nD) {b : Ref sig .tc} (h : b ∉ W1) : V3 m d (r b) = V2 m d (r b) :=
  StableHlo.after_unwritten (ops := ops1 (F := Ideal)) W1 rfl h (V2 m d)
theorem V4_keeps (d : Dev nD) {b : Ref sig .tc} (h : ∀ w, Pipeline.arrRef spec1 w = b → (cfg1.win w).isOut = false) : V4 m d (r b) = V3 m d (r b) :=
  Pipeline.afterRegion_keeps (Knn.dat (V3 m d) d) (V3 m d) launch1.win.arr_inj (Knn.A_eq (V3 m d) d) b h
theorem V5_keeps (d : Dev nD) {b : Ref sig .tc} (h : b ∉ W2) : V5 m d (r b) = V4 m d (r b) :=
  StableHlo.after_unwritten (ops := ops2 (F := Ideal)) W2 rfl h (V4 m d)
theorem V7_keeps (d : Dev nD) {b : Ref sig .tc} (h : b ∉ W3) : V7 m d (r b) = V6 m d (r b) :=
  StableHlo.after_unwritten (ops := ops3 (F := Ideal)) W3 rfl h (V6 m d)

theorem kept (d : Dev nD) {b : Ref sig .tc} (h : b ∉ W0 ++ W1 ++ W2 ++ W3 ++ [main_v11])
    (h0 : ∀ w, Pipeline.arrRef spec0 w = b → (cfg0.win w).isOut = false) (h1 : ∀ w, Pipeline.arrRef spec1 w = b → (cfg1.win w).isOut = false) :
    V7 m d (r b) = V0 m d (r b) := by
  simp only [List.mem_append, not_or] at h
  obtain ⟨⟨⟨⟨a0, a1⟩, a2⟩, a3⟩, a4⟩ := h
  rw [V7_keeps m d a3, V6_ne m d (b := r b) (fun e => a4 (List.mem_singleton.mpr (Proc.devRef_injective _ e))), V5_keeps m d a2, V4_keeps m d h1, V3_keeps m d a1, V2_keeps m d h0, V1_keeps m d a0]

/-! ## The neighbour rows -/

theorem V3_pos (d : Dev nD) : V3 m d (r main_v6) = transpose S2x3x8192 [0, 2, 1] (V0 m d (r main_arg2)) transposes_S2x8192x3_S2x3x8192_0_2_1 := by
  have h : V3 m d (r main_v6) = transpose S2x3x8192 [0, 2, 1] (V2 m d (r main_arg2)) transposes_S2x8192x3_S2x3x8192_0_2_1 := by
    unfold V3
    after_results
  rw [h, V2_keeps m d (b := main_arg2) (by decide), V1_keeps m d (b := main_arg2) (by decide)]

theorem V3_sub (d : Dev nD) : V3 m d (r main_arg3) = V0 m d (r main_arg3) := by
  rw [V3_keeps m d (b := main_arg3) (by decide), V2_keeps m d (b := main_arg3) (by decide), V1_keeps m d (b := main_arg3) (by decide)]

theorem wF_eq (d : Dev nD) : wF m d = rows (V0 m d (r main_arg2)) (V0 m d (r main_arg3)) := by
  have h : V4 m d (r main_v7) = (Knn.dat (V3 m d) d).arrAt 2 cfg1.N :=
    Pipeline.afterRegion_arr (Knn.dat (V3 m d) d) (V3 m d) launch1.win.arr_inj 2
  unfold wF
  rw [V5_keeps m d (b := main_v7) (by decide), h, final2 (V3 m d) d _ (V3_pos m d), V3_sub]

theorem words_ok (p : S2x8192x3.Idx → Ideal .f32) (s : S2x1024x3.Idx → Ideal .f32) : Cert.KernelIdeal.Tile.WordsOk (F := Ideal) (rows p s) := by
  have small : ∀ e : Fin 1024 → EReal, (FloatOps.fptosi (F := Ideal) (φ := .f32) 32 (wordOf (Cert.KnnRounds.argOf e)) : BitVec 32).toNat ≤ 33760 := fun e => by
    obtain ⟨i, hi⟩ := argOf_small e
    have := i.isLt
    rw [hi, word_back, BitVec.toNat_ofNat, Nat.mod_eq_of_lt (by omega)]
    omega
  intro b k n h3 h6
  obtain ⟨k, hk⟩ := k
  have h3' : 3 ≤ k := h3
  have h6' : k < 6 := h6
  interval_cases k
  · exact small _
  · exact small _
  · exact small _

theorem run : θ_run (Cert.KernelIdeal.defs (F := Ideal)) (Cert.KernelIdeal.threads (F := Ideal)) ⟨m, fun _ => 0, ρ⟩ (QC m) :=
  run_main m ρ fun d => by
    rw [wF_eq]
    exact words_ok _ _

/-- An argument's contents at the end. -/
theorem arg_kept {R : PUnit × MemSt nD τ sig (Elt Ideal)} (h : QC m R) (c : Dev nD) (b : Ref sig .tc) (hb : r b ∈ ucRefs τ sig)
    (hw : b ∉ W0 ++ W1 ++ W2 ++ W3 ++ [main_v11])
    (h0 : ∀ w, Pipeline.arrRef spec0 w = b → (cfg0.win w).isOut = false) (h1 : ∀ w, Pipeline.arrRef spec1 w = b → (cfg1.win w).isOut = false) :
    R.2.mem (c.tc.loc b) = m (c.tc.loc b) := (h.1 c (r b) hb).trans (kept m c hw h0 h1)

theorem args {R : PUnit × MemSt nD τ sig (Elt Ideal)} (h : QC m R) (c : Dev nD) :
    R.2.mem (c.tc.loc main_arg0) = m (c.tc.loc main_arg0) ∧ R.2.mem (c.tc.loc main_arg1) = m (c.tc.loc main_arg1)
    ∧ R.2.mem (c.tc.loc main_arg2) = m (c.tc.loc main_arg2) ∧ R.2.mem (c.tc.loc main_arg3) = m (c.tc.loc main_arg3)
    ∧ R.2.mem (c.tc.loc main_arg4) = m (c.tc.loc main_arg4) ∧ R.2.mem (c.tc.loc main_arg5) = m (c.tc.loc main_arg5)
    ∧ R.2.mem (c.tc.loc main_arg6) = m (c.tc.loc main_arg6) ∧ R.2.mem (c.tc.loc main_arg7) = m (c.tc.loc main_arg7)
    ∧ R.2.mem (c.tc.loc main_arg8) = m (c.tc.loc main_arg8) ∧ R.2.mem (c.tc.loc main_arg9) = m (c.tc.loc main_arg9) := by
  refine ⟨?_, ?_, ?_, ?_, ?_, ?_, ?_, ?_, ?_, ?_⟩ <;>
    exact arg_kept m h c _ (Finset.mem_filter.mpr ⟨StableHlo.devRef_mem_tcRefs _, by decide⟩) (by decide) (by decide) (by decide)

end Cert.KernelFrame

end
-- ==== Proof.WholeRef.lean ====
/- The reference of the whole, its operations named and read at an element. -/
module

public import proofs.«01_k».proof.Proof.Gen.ReferenceIdeal
public import proofs.«01_k».proof.Proof.Gen.ReferenceIdeal.Run
public import proofs.«01_k».proof.Proof.PrepRef
public import proofs.«01_k».proof.Proof.KnnRef
public import proofs.«01_k».proof.Proof.InterpValue

@[expose] public section

set_option maxRecDepth 16384

noncomputable section

namespace Cert.WholeRef

open Idealize.ShloMosaic Idealize.SL.Sem
open Cert.ReferenceIdeal Cert.ReferenceIdeal.Gen

/-- The coarse features, batch by batch. -/
def coarse (a : S2048x32.Idx → Ideal .f32) : S2x1024x32.Idx → Ideal .f32 := shapeCast _ a shapeCasts_S2048x32_S2x1024x32

/-- A position, counted from the end when negative. -/
def wrapped (i : IVec S2x8192x3x1 32) : IVec S2x8192x3x1 32 :=
  select (cmpi .slt i (broadcastInDim S2x8192x3x1 ![] bcast_S_S2x8192x3x1 (constantI S_ 32 0#32)))
    (addi i (broadcastInDim S2x8192x3x1 ![] bcast_S_S2x8192x3x1 (constantI S_ 32 1024#32))) i

/-- Which positions lie in the table. -/
def inside (i : IVec S2x8192x3x1 32) : IVec S2x8192x3 1 :=
  Host.reduce IntOp.andi (andi (cmpi .sge (wrapped i) (broadcastInDim S2x8192x3x1 ![] bcast_S_S2x8192x3x1 (constantI S_ 32 0#32)))
    (cmpi .sle (wrapped i) (broadcastInDim S2x8192x3x1 ![0, 1, 2, 3] bcast_S1x1x1x1_S2x8192x3x1_0_1_2_3 (broadcastInDim S1x1x1x1 ![3] bcast_S1_S1x1x1x1_3 (constantI S1 32 1023#32)))))
    (constantI S_ 1 1#1) reducesTo_S2x8192x3x1_S2x8192x3_d3 h_S_

/-- The three neighbours' features. -/
def taken (x : S2x1024x32.Idx → Ideal .f32) (t : IVec S2x8192x3 32) : S2x8192x3x32.Idx → Ideal .f32 :=
  select (broadcastInDim S2x8192x3x32 ![0, 1, 2] bcast_S2x8192x3_S2x8192x3x32_0_1_2 (inside (broadcastInDim S2x8192x3x1 ![0, 1, 2] bcast_S2x8192x3_S2x8192x3x1_0_1_2 t)))
    (Host.gather gather_S2x1024x32_S2x8192x3x1_S2x8192x3x32_3_1_0_0_1_3_1132
      (shapeCast _ (broadcastInDim S2x1x1024x32 ![0, 2, 3] bcast_S2x1024x32_S2x1x1024x32_0_2_3 x) shapeCasts_S2x1x1024x32_S2x1024x32)
      (wrapped (broadcastInDim S2x8192x3x1 ![0, 1, 2] bcast_S2x8192x3_S2x8192x3x1_0_1_2 t)))
    (broadcastInDim S2x8192x3x32 ![] bcast_S_S2x8192x3x32 (constant S_ .f32 0x7FC00000#32))

/-- The three neighbours' weights. -/
def weight (v : S2x8192x3.Idx → Ideal .f32) : S2x8192x3.Idx → Ideal .f32 :=
  Host.divf (F := Ideal) (φ := .f32) (broadcastInDim S2x8192x3 ![] bcast_S_S2x8192x3 (constant S_ .f32 0x3F800000#32)) (Host.negf v)

/-- The weighted mean of three. -/
def mixed (y : S2x8192x3x32.Idx → Ideal .f32) (w : S2x8192x3.Idx → Ideal .f32) : S2x8192x32.Idx → Ideal .f32 :=
  Host.divf (F := Ideal) (φ := .f32) (Host.reduceAdd (mulf y (broadcastInDim S2x8192x3x32 ![0, 1, 2, 3] bcast_S2x8192x3x1_S2x8192x3x32_0_1_2_3 (broadcastInDim S2x8192x3x1 ![0, 1, 2] bcast_S2x8192x3_S2x8192x3x1_0_1_2 w)))
      (constant S_ .f32 0x00000000#32) reducesTo_S2x8192x3x32_S2x8192x32_d2 h_S_)
    (broadcastInDim S2x8192x32 ![0, 1, 2] bcast_S2x8192x1_S2x8192x32_0_1_2 (broadcastInDim S2x8192x1 ![0, 1] bcast_S2x8192_S2x8192x1_0_1
      (Host.reduceAdd w (constant S_ .f32 0x00000000#32) reducesTo_S2x8192x3_S2x8192_d2 h_S_)))

/-- The last linear layer. -/
def layer (y : S2x8192x32.Idx → Ideal .f32) (wm : S32x32.Idx → Ideal .f32) (bm : S32.Idx → Ideal .f32) : S2x8192x32.Idx → Ideal .f32 :=
  shapeCast _ (addf (Host.dotGeneral dot_S16384x32_S32x32_S16384x32_1_0_0_1_n_n none (shapeCast _ y shapeCasts_S2x8192x32_S16384x32 : S16384x32.Idx → Ideal .f32) wm)
    (broadcastInDim S16384x32 ![0, 1] bcast_S1x32_S16384x32_0_1 (broadcastInDim S1x32 ![1] bcast_S32_S1x32_1 bm))) shapeCasts_S16384x32_S2x8192x32

/-- From the coarse features and the distances on. -/
def tail (a : S2048x32.Idx → Ideal .f32) (d : S2x8192x1024.Idx → Ideal .f32) (wm : S32x32.Idx → Ideal .f32) (bm : S32.Idx → Ideal .f32) : S2x8192x32.Idx → Ideal .f32 :=
  layer (mixed (taken (coarse a) (Cert.KnnRef.nearest d).2) (weight (Cert.KnnRef.nearest d).1)) wm bm

def refOut (x : S2x1024x64.Idx → Ideal .f32) (p : S2x8192x3.Idx → Ideal .f32) (s : S2x1024x3.Idx → Ideal .f32) (ws : S64x32.Idx → Ideal .f32)
    (bs g be : S32.Idx → Ideal .f32) (wm : S32x32.Idx → Ideal .f32) (bm : S32.Idx → Ideal .f32) : S2x8192x32.Idx → Ideal .f32 :=
  tail (Cert.PrepRef.active (Cert.PrepRef.hidden x ws bs) g be) (Cert.KnnRef.dist p s) wm bm

set_option maxHeartbeats 4000000 in
theorem res_eq (m : (ℓ : Loc nD τ sig) → Buf (Elt Ideal) ℓ) (c : Dev nD) :
    Cert.ReferenceIdeal.Value.res_main_v62 m c
      = refOut (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) := rfl

end Cert.WholeRef

end
-- ==== Proof.WholeValue.lean ====
/- The reference of the whole read at an element. -/
module

public import proofs.«01_k».proof.Proof.WholeRef
public import Idealize.ShloMosaic.Lib.Pointwise
public import Idealize.ShloMosaic.Lib.Pointwise.IndexBridge
public import Idealize.ShloMosaic.Lib.IdealHost

@[expose] public section

set_option maxRecDepth 16384

noncomputable section

namespace Cert.WholeRef

open Idealize.ShloMosaic Idealize.SL.Sem
open Cert.ReferenceIdeal Cert.ReferenceIdeal.Gen

theorem weight_apply (v : S2x8192x3.Idx → Ideal .f32) (b : Fin 2) (n : Fin 8192) (k : Fin 3) :
    weight v (ix3 b n k) = Ideal.div 1 (-(v (ix3 b n k))) := by
  unfold weight
  pointwise []
  try rfl

theorem mixed_apply (y : S2x8192x3x32.Idx → Ideal .f32) (w : S2x8192x3.Idx → Ideal .f32) (b : Fin 2) (n : Fin 8192) (j : Fin 32) :
    mixed y w (ix3 b n j) = Ideal.div (∑ k : Fin 3, y (ix4 b n k j) * w (ix3 b n k)) (∑ k : Fin 3, w (ix3 b n k)) := by
  unfold mixed
  pointwise []
  try rfl

theorem flat_apply (y : S2x8192x32.Idx → Ideal .f32) (b : Fin 2) (n : Fin 8192) (j : Fin 32) :
    (shapeCast S16384x32 y shapeCasts_S2x8192x32_S16384x32 : S16384x32.Idx → Ideal .f32) (ix2 (⟨b.val * 8192 + n.val, by omega⟩ : Fin 16384) j) = y (ix3 b n j) := by
  show y (Shape.reshapeEquiv _ _) = _
  refine congrArg y (Shape.reshapeEquiv_eq_of_rowMajor _ ?_)
  rw [Shape.rowMajor_val_three, Shape.rowMajor_val_two]
  rfl

theorem unflat_apply (y : S16384x32.Idx → Ideal .f32) (b : Fin 2) (n : Fin 8192) (j : Fin 32) :
    (shapeCast S2x8192x32 y shapeCasts_S16384x32_S2x8192x32 : S2x8192x32.Idx → Ideal .f32) (ix3 b n j) = y (ix2 (⟨b.val * 8192 + n.val, by omega⟩ : Fin 16384) j) := by
  show y (Shape.reshapeEquiv _ _) = _
  refine congrArg y (Shape.reshapeEquiv_eq_of_rowMajor _ ?_)
  rw [Shape.rowMajor_val_three, Shape.rowMajor_val_two]
  rfl

theorem coarse_apply (a : S2048x32.Idx → Ideal .f32) (b : Fin 2) (k : Fin 1024) (j : Fin 32) :
    coarse a (ix3 b k j) = a (ix2 (⟨b.val * 1024 + k.val, by omega⟩ : Fin 2048) j) := by
  show a (Shape.reshapeEquiv _ _) = _
  refine congrArg a (Shape.reshapeEquiv_eq_of_rowMajor _ ?_)
  rw [Shape.rowMajor_val_three, Shape.rowMajor_val_two]
  rfl

theorem product_apply (y : S16384x32.Idx → Ideal .f32) (wm : S32x32.Idx → Ideal .f32) (bm : S32.Idx → Ideal .f32) (q : Fin 16384) (d : Fin 32) :
    addf (Host.dotGeneral dot_S16384x32_S32x32_S16384x32_1_0_0_1_n_n none y wm)
      (broadcastInDim S16384x32 ![0, 1] bcast_S1x32_S16384x32_0_1 (broadcastInDim S1x32 ![1] bcast_S32_S1x32_1 bm)) (ix2 q d)
      = ∑ j : Fin 32, y (ix2 q j) * wm (ix2 j d) + bm (ix1 d) := by
  pointwise []
  try rfl

theorem layer_apply (y : S2x8192x32.Idx → Ideal .f32) (wm : S32x32.Idx → Ideal .f32) (bm : S32.Idx → Ideal .f32) (b : Fin 2) (n : Fin 8192) (d : Fin 32) :
    layer y wm bm (ix3 b n d) = ∑ j : Fin 32, y (ix3 b n j) * wm (ix2 j d) + bm (ix1 d) := by
  unfold layer
  rw [unflat_apply, product_apply]
  simp only [flat_apply]

theorem prep_layer_apply (a : S2048x32.Idx → Ideal .f32) (wm : S32x32.Idx → Ideal .f32) (bm : S32.Idx → Ideal .f32) (q : Fin 2048) (d : Fin 32) :
    Cert.PrepRef.layer a wm bm (ix2 q d) = ∑ j : Fin 32, a (ix2 q j) * wm (ix2 j d) + bm (ix1 d) := by
  unfold Cert.PrepRef.layer
  pointwise []
  try rfl

theorem active_nonneg (h : S2048x32.Idx → Ideal .f32) (g be : S32.Idx → Ideal .f32) (i : S2048x32.Idx) : (0 : EReal) ≤ Cert.PrepRef.active h g be i := by
  unfold Cert.PrepRef.active
  generalize (addf _ _ : S2048x32.Idx → Ideal .f32) = y
  show (0 : EReal) ≤ max (y i) (Ideal.ofBits .f32 0x00000000#32)
  rw [Ideal.ofBits_zero_f32]
  exact le_max_right _ _

/-! ## The neighbours' features -/

/-- The batched gather of rows, read at an element. -/
theorem gather_apply {α : Type} (v : S2x1024x32.Idx → α) (idx : IVec S2x8192x3x1 32) (b : Fin 2) (n : Fin 8192) (k : Fin 3) (j : Fin 32) :
    Host.gather gather_S2x1024x32_S2x8192x3x1_S2x8192x3x32_3_1_0_0_1_3_1132 v idx (ix4 b n k j)
      = v (ix3 b (⟨min (idx (ix4 b n k 0)).toInt.toNat (1024 - 1), by omega⟩ : Fin 1024) j) := by
  unfold Host.gather
  congr 1
  funext a
  refine Fin.ext ?_
  show (gather_S2x1024x32_S2x8192x3x1_S2x8192x3x32_3_1_0_0_1_3_1132).start (ix4 b n k j) idx a + (gather_S2x1024x32_S2x8192x3x1_S2x8192x3x32_3_1_0_0_1_3_1132).batchCoord (ix4 b n k j) a
      + (gather_S2x1024x32_S2x8192x3x1_S2x8192x3x32_3_1_0_0_1_3_1132).offCoord (ix4 b n k j) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (gather_S2x1024x32_S2x8192x3x1_S2x8192x3x32_3_1_0_0_1_3_1132).operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (gather_S2x1024x32_S2x8192x3x1_S2x8192x3x32_3_1_0_0_1_3_1132).startIndexMap from List.mem_singleton.mpr rfl)]
    have hsi : (gather_S2x1024x32_S2x8192x3x1_S2x8192x3x32_3_1_0_0_1_3_1132).siIdx (ix4 b n k j) ⟨List.idxOf (1 : Fin 3) (gather_S2x1024x32_S2x8192x3x1_S2x8192x3x32_3_1_0_0_1_3_1132).startIndexMap,
        List.idxOf_lt_length_iff.2 (List.mem_singleton.mpr rfl)⟩ = ix4 b n k 0 := by
      funext b; refine Fin.ext ?_
      match b with
      | ⟨0, _⟩ => rfl
      | ⟨1, _⟩ => rfl
      | ⟨2, _⟩ => rfl
      | ⟨3, _⟩ => rfl
    rw [hsi]
    rfl
  · rw [GatherDims.batchCoord_eq_zero _ _ _ (fun h => absurd (List.mem_singleton.mp h) (by decide))]
    have hs : (gather_S2x1024x32_S2x8192x3x1_S2x8192x3x32_3_1_0_0_1_3_1132).start (ix4 b n k j) idx 2 = 0 := by
      unfold GatherDims.start
      rw [dif_neg (show ¬ (2 : Fin 3) ∈ (gather_S2x1024x32_S2x8192x3x1_S2x8192x3x32_3_1_0_0_1_3_1132).startIndexMap from fun h => absurd (List.mem_singleton.mp h) (by decide))]
    rw [hs]
    simp only [Nat.zero_add, Nat.add_zero]
    unfold GatherDims.offCoord
    rw [dif_pos ((GatherDims.mem_sKept _ _).mpr ⟨fun h => absurd (List.mem_singleton.mp h) (by decide), fun h => absurd (List.mem_singleton.mp h) (by decide)⟩)]
    rfl

theorem spread_apply (t : IVec S2x8192x3 32) (b : Fin 2) (n : Fin 8192) (k : Fin 3) (z : Fin 1) :
    broadcastInDim S2x8192x3x1 ![0, 1, 2] bcast_S2x8192x3_S2x8192x3x1_0_1_2 t (ix4 b n k z) = t (ix3 b n k) := by
  pointwise []

theorem wrapped_eq (i : IVec S2x8192x3x1 32) (h : ∀ q, (i q).toNat ≤ 1023) : wrapped i = i := by
  unfold wrapped
  funext q
  have hq := h q
  show Scalar.select (IntOp.cmpi .slt (i q) 0#32) (IntOp.addi (i q) 1024#32) (i q) = i q
  have hc : IntOp.cmpi .slt (i q) 0#32 = 0#1 := by
    generalize i q = v at hq ⊢
    simp only [IntOp.cmpi, BitVec.slt_eq_decide, BitVec.toInt_eq_toNat_cond, BitVec.toNat_ofNat, Nat.reducePow, Nat.reduceMod]
    rw [decide_eq_false (by omega)]
    rfl
  rw [hc]
  rfl

theorem inside_eq (i : IVec S2x8192x3x1 32) (h : ∀ q, (i q).toNat ≤ 1023) : inside i = fun _ => 1#1 := by
  unfold inside
  rw [wrapped_eq i h]
  have e : andi (cmpi .sge i (broadcastInDim S2x8192x3x1 ![] bcast_S_S2x8192x3x1 (constantI S_ 32 0#32)))
    (cmpi .sle i (broadcastInDim S2x8192x3x1 ![0, 1, 2, 3] bcast_S1x1x1x1_S2x8192x3x1_0_1_2_3 (broadcastInDim S1x1x1x1 ![3] bcast_S1_S1x1x1x1_3 (constantI S1 32 1023#32))))
      = fun _ => 1#1 := by
    funext q
    have hq := h q
    show IntOp.andi (IntOp.cmpi .sge (i q) 0#32) (IntOp.cmpi .sle (i q) 1023#32) = 1#1
    generalize i q = v at hq ⊢
    simp only [IntOp.cmpi, BitVec.sle_eq_decide, BitVec.toInt_eq_toNat_cond, BitVec.toNat_ofNat, Nat.reducePow, Nat.reduceMod]
    rw [decide_eq_true (by omega), decide_eq_true (by omega)]
    rfl
  rw [e]
  funext j
  rw [Host.reduce_eq_fold]
  exact Cert.InterpRef.fold_ones _

theorem across_eq (x : S2x1024x32.Idx → Ideal .f32) (b : Fin 2) (k : Fin 1024) (j : Fin 32) :
    (shapeCast S2x1024x32 (broadcastInDim S2x1x1024x32 ![0, 2, 3] bcast_S2x1024x32_S2x1x1024x32_0_2_3 x) shapeCasts_S2x1x1024x32_S2x1024x32 : S2x1024x32.Idx → Ideal .f32) (ix3 b k j) = x (ix3 b k j) := by
  have e : (broadcastInDim S2x1x1024x32 ![0, 2, 3] bcast_S2x1024x32_S2x1x1024x32_0_2_3 x) (ix4 b (0 : Fin 1) k j) = x (ix3 b k j) := by pointwise []
  rw [← e]
  show (broadcastInDim S2x1x1024x32 ![0, 2, 3] bcast_S2x1024x32_S2x1x1024x32_0_2_3 x) (Shape.reshapeEquiv _ _) = _
  refine congrArg _ (Shape.reshapeEquiv_eq_of_rowMajor _ ?_)
  rw [Shape.rowMajor_val_three, Shape.rowMajor_val_four]
  show ((b.val * 1 + 0) * 1024 + k.val) * 32 + j.val = (b.val * 1024 + k.val) * 32 + j.val
  omega

/-- A neighbour's features, its position a row of the table. -/
theorem taken_apply (x : S2x1024x32.Idx → Ideal .f32) (t : IVec S2x8192x3 32) (u : Fin 2 → Fin 8192 → Fin 3 → Fin 1024)
    (h : ∀ b n k, t (ix3 b n k) = BitVec.ofNat 32 (u b n k).val) (b : Fin 2) (n : Fin 8192) (k : Fin 3) (j : Fin 32) :
    taken x t (ix4 b n k j) = x (ix3 b (u b n k) j) := by
  have hs : ∀ q : S2x8192x3x1.Idx, (broadcastInDim S2x8192x3x1 ![0, 1, 2] bcast_S2x8192x3_S2x8192x3x1_0_1_2 t q).toNat ≤ 1023 := fun q => by
    have e : broadcastInDim S2x8192x3x1 ![0, 1, 2] bcast_S2x8192x3_S2x8192x3x1_0_1_2 t q = BitVec.ofNat 32 (u (q 0) (q 1) (q 2)).val :=
      (congrArg (broadcastInDim S2x8192x3x1 ![0, 1, 2] bcast_S2x8192x3_S2x8192x3x1_0_1_2 t) (eq_ix4 q)).trans ((spread_apply t (q 0) (q 1) (q 2) (q 3)).trans (h _ _ _))
    rw [e, BitVec.toNat_ofNat]
    have := (u (q 0) (q 1) (q 2)).isLt
    exact (Nat.mod_le _ _).trans (by omega)
  unfold taken
  have ho : broadcastInDim S2x8192x3x32 ![0, 1, 2] bcast_S2x8192x3_S2x8192x3x32_0_1_2 (fun _ : S2x8192x3.Idx => (1#1 : BitVec 1)) = fun _ => 1#1 := rfl
  rw [inside_eq _ hs, wrapped_eq _ hs, ho, Cert.InterpRef.ones_select, gather_apply, across_eq]
  have hu := (u b n k).isLt
  refine congrArg x (congrArg (fun z => ix3 b z j) (Fin.ext ?_))
  show min (broadcastInDim S2x8192x3x1 ![0, 1, 2] bcast_S2x8192x3_S2x8192x3x1_0_1_2 t (ix4 b n k 0)).toInt.toNat (1024 - 1) = (u b n k).val
  rw [spread_apply, h, BitVec.toInt_eq_toNat_cond, BitVec.toNat_ofNat, Nat.mod_eq_of_lt (by omega), if_pos (by omega)]
  omega

end Cert.WholeRef

end
-- ==== Proof.WholeMath.lean ====
/- The weighted mean of three passes through the last linear layer. -/
module

public import Idealize.ShloMosaic.PureOps.Ideal

@[expose] public section

noncomputable section

namespace Cert.WholeMath

open Idealize.ShloMosaic

/-- A factor goes over a sum of nonnegative terms, whatever the factor. -/
theorem sum_mul {ι : Type} (s : Finset ι) (f : ι → EReal) (hf : ∀ i, 0 ≤ f i) (c : EReal) : (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

/-- A nonnegative real factor goes over any sum. -/
theorem sum_mul_real {ι : Type} (s : Finset ι) (f : ι → EReal) (v : ℝ) (hv : 0 ≤ v) : (∑ i ∈ s, f i) * (v : EReal) = ∑ i ∈ s, f i * (v : EReal) := by
  classical
  induction s using Finset.induction_on with
  | empty => simp
  | insert a s ha ih =>
    rw [Finset.sum_insert ha, Finset.sum_insert ha, EReal.right_distrib_of_nonneg_of_ne_top (EReal.coe_nonneg.mpr hv) (EReal.coe_ne_top v), ih]

theorem div_one (d : ℝ) (hd : 0 < d) : Ideal.div 1 (d : EReal) = ((d⁻¹ : ℝ) : EReal) := by
  unfold Ideal.div
  rw [if_neg (by exact_mod_cast hd.ne'), one_mul, EReal.coe_inv]

theorem div_real (x : EReal) (d : ℝ) (hd : 0 < d) : Ideal.div x (d : EReal) = x * ((d⁻¹ : ℝ) : EReal) := by
  unfold Ideal.div
  rw [if_neg (by exact_mod_cast hd.ne'), EReal.coe_inv]

theorem mean_layer (a : Fin 3 → Fin 32 → EReal) (ha : ∀ r j, 0 ≤ a r j) (W : Fin 32 → EReal) (b : EReal) (d : Fin 3 → ℝ) (hd : ∀ r, 0 < d r) :
    ∑ r : Fin 3, (∑ j : Fin 32, a r j * W j + b) * (Ideal.div 1 (d r : EReal) * Ideal.div 1 (∑ k : Fin 3, Ideal.div 1 (d k : EReal)))
      = ∑ j : Fin 32, Ideal.div (∑ r : Fin 3, a r j * Ideal.div 1 (d r : EReal)) (∑ k : Fin 3, Ideal.div 1 (d k : EReal)) * W j + b := by
  have hw : ∀ r, 0 < (d r)⁻¹ := fun r => inv_pos.mpr (hd r)
  obtain ⟨s, hs⟩ : ∃ s : ℝ, s = (d 0)⁻¹ + (d 1)⁻¹ + (d 2)⁻¹ := ⟨_, rfl⟩
  have hs0 : 0 < s := by rw [hs]; have := hw 0; have := hw 1; have := hw 2; positivity
  have hsum : ∑ k : Fin 3, Ideal.div 1 (d k : EReal) = (s : EReal) := by
    simp only [div_one _ (hd _), Fin.sum_univ_three, ← EReal.coe_add, hs]
  have hv : ∀ r, 0 ≤ (d r)⁻¹ * s⁻¹ := fun r => (mul_pos (hw r) (inv_pos.mpr hs0)).le
  have hone : (d 0)⁻¹ * s⁻¹ + (d 1)⁻¹ * s⁻¹ + (d 2)⁻¹ * s⁻¹ = 1 := by
    rw [← add_mul, ← add_mul, ← hs, mul_inv_cancel₀ hs0.ne']
  have hb : ∑ r : Fin 3, b * (((d r)⁻¹ * s⁻¹ : ℝ) : EReal) = b := by
    have h := sum_mul Finset.univ (fun r : Fin 3 => (((d r)⁻¹ * s⁻¹ : ℝ) : EReal)) (fun r => EReal.coe_nonneg.mpr (hv r)) b
    have h1 : ∑ r : Fin 3, (((d r)⁻¹ * s⁻¹ : ℝ) : EReal) = 1 := by
      rw [Fin.sum_univ_three, ← EReal.coe_add, ← EReal.coe_add, hone, EReal.coe_one]
    rw [h1, one_mul] at h
    rw [show ∑ r : Fin 3, b * (((d r)⁻¹ * s⁻¹ : ℝ) : EReal) = ∑ r : Fin 3, (((d r)⁻¹ * s⁻¹ : ℝ) : EReal) * b from Finset.sum_congr rfl fun r _ => mul_comm _ _]
    exact h.symm
  rw [hsum]
  simp only [div_one _ (hd _), div_one _ hs0, div_real _ _ hs0, ← EReal.coe_mul]
  have hl : ∀ r : Fin 3, (∑ j : Fin 32, a r j * W j + b) * (((d r)⁻¹ * s⁻¹ : ℝ) : EReal)
      = ∑ j : Fin 32, a r j * (((d r)⁻¹ * s⁻¹ : ℝ) : EReal) * W j + b * (((d r)⁻¹ * s⁻¹ : ℝ) : EReal) := fun r => by
    rw [EReal.right_distrib_of_nonneg_of_ne_top (EReal.coe_nonneg.mpr (hv r)) (EReal.coe_ne_top _), sum_mul_real _ _ _ (hv r)]
    congr 1
    exact Finset.sum_congr rfl fun j _ => mul_right_comm _ _ _
  have hr : ∀ j : Fin 32, (∑ r : Fin 3, a r j * (((d r)⁻¹ : ℝ) : EReal)) * ((s⁻¹ : ℝ) : EReal) * W j
      = ∑ r : Fin 3, a r j * (((d r)⁻¹ * s⁻¹ : ℝ) : EReal) * W j := fun j => by
    rw [sum_mul_real _ _ _ (inv_pos.mpr hs0).le]
    have e : ∀ r : Fin 3, a r j * (((d r)⁻¹ : ℝ) : EReal) * ((s⁻¹ : ℝ) : EReal) = a r j * (((d r)⁻¹ * s⁻¹ : ℝ) : EReal) := fun r => by
      rw [mul_assoc, EReal.coe_mul]
    simp only [e]
    exact sum_mul _ _ (fun r => mul_nonneg (ha r j) (EReal.coe_nonneg.mpr (hv r))) _
  simp only [hl, hr, Finset.sum_add_distrib, hb]
  rw [Finset.sum_comm]

end Cert.WholeMath

end
-- ==== Proof.WholeEqual.lean ====
/- The weighted mean of the last layer's rows is the last layer of the weighted mean. -/
module

public import proofs.«01_k».proof.Proof.WholeValue
public import proofs.«01_k».proof.Proof.WholeMath
public import proofs.«01_k».proof.Proof.KernelFrame
public import proofs.«01_k».proof.Proof.InterpEqual
public import proofs.«01_k».proof.Proof.PrepRun
public import Idealize.ShloMosaic.Lib.KernelVsHost

@[expose] public section

set_option maxRecDepth 16384

noncomputable section

namespace Cert.WholeEqual

open Idealize.ShloMosaic Idealize.SL.Sem Cert.KnnRounds
open Cert.ReferenceIdeal Cert.ReferenceIdeal.Gen

/-- A round's position in the order of distances. -/
def round (k : Fin 3) : Fin 1024 := ⟨k.val, by omega⟩

section Rows

variable (e : Fin 1024 → EReal) (hd : ∀ k, e k < ⊤)
include hd

theorem row_weight (k : Fin 3) : Cert.KernelWords.rowOf e (⟨k.val, by omega⟩ : Fin 8) = Ideal.div 1 (e (place e (round k))) := by
  match k with
  | ⟨0, _⟩ => exact congrArg (Ideal.div 1) (min0 e)
  | ⟨1, _⟩ => exact congrArg (Ideal.div 1) (min1 e hd)
  | ⟨2, _⟩ => exact congrArg (Ideal.div 1) (min2 e hd)

theorem row_word (k : Fin 3) : Cert.KernelWords.rowOf e (⟨3 + k.val, by omega⟩ : Fin 8) = Cert.KernelWords.wordOf (BitVec.ofNat 32 (place e (round k)).val) := by
  match k with
  | ⟨0, _⟩ => exact congrArg Cert.KernelWords.wordOf (arg0 e hd)
  | ⟨1, _⟩ => exact congrArg Cert.KernelWords.wordOf (arg1 e hd)
  | ⟨2, _⟩ => exact congrArg Cert.KernelWords.wordOf (arg2 e hd)

end Rows

/-- The padded table at a word of a row is the row there. -/
theorem table_at (x : S2x1024x32.Idx → Ideal .f32) (b : Fin 2) (i : Fin 1024) (d : Fin 32) (h : i.val * 33 + d.val < 33792) :
    Cert.InterpRef.table x (ix2 b (⟨i.val * 33 + d.val, h⟩ : Fin 33792)) = x (ix3 b i d) := by
  have hd : d.val < 33 := by omega
  unfold Cert.InterpRef.table
  refine Eq.trans (b := (pad Cert.InterpReferenceIdeal.S2x1024x33 ![0, 0, 0] ![0, 0, 1] ![0, 0, 0] x (sitofp .f32 (constantI Cert.InterpReferenceIdeal.S_ 32 0#32))
    Cert.InterpReferenceIdeal.Gen.pads_S2x1024x32_S2x1024x33_000_000_010 Cert.InterpReferenceIdeal.Gen.h_S_) (ix3 b i (⟨d.val, hd⟩ : Fin 33))) ?_ ?_
  · show (pad Cert.InterpReferenceIdeal.S2x1024x33 ![0, 0, 0] ![0, 0, 1] ![0, 0, 0] x (sitofp .f32 (constantI Cert.InterpReferenceIdeal.S_ 32 0#32))
      Cert.InterpReferenceIdeal.Gen.pads_S2x1024x32_S2x1024x33_000_000_010 Cert.InterpReferenceIdeal.Gen.h_S_) (Shape.reshapeEquiv _ _) = _
    refine congrArg _ (Shape.reshapeEquiv_eq_of_rowMajor _ ?_)
    rw [Shape.rowMajor_val_three, Shape.rowMajor_val_two]
    show (b.val * 1024 + i.val) * 33 + d.val = b.val * 33792 + (i.val * 33 + d.val)
    omega
  · refine pad_apply_of_inside _ _ _ _ _ _ _ _ (ix3 b i d) fun a => ?_
    match a with
    | ⟨0, _⟩ => show b.val = 0 + b.val * (0 + 1); omega
    | ⟨1, _⟩ => show i.val = 0 + i.val * (0 + 1); omega
    | ⟨2, _⟩ => show d.val = 0 + d.val * (0 + 1); omega

section Elements

variable (p : S2x8192x3.Idx → Ideal .f32) (s : S2x1024x3.Idx → Ideal .f32)
variable (hf : ∀ (b : Fin 2) (q : Fin 8192) (k : Fin 1024), Cert.KnnRef.column p s b q k < ⊤)

/-- A neighbour of a query. -/
def near (b : Fin 2) (n : Fin 8192) (k : Fin 3) : Fin 1024 := place (Cert.KnnRef.column p s b n) (round k)

/-- Its distance. -/
def far (b : Fin 2) (n : Fin 8192) (k : Fin 3) : EReal := Cert.KnnRef.column p s b n (near p s b n k)

theorem column_pos (b : Fin 2) (q : Fin 8192) (k : Fin 1024) : 0 < Cert.KnnRef.column p s b q k := by
  rw [Cert.KnnRef.column_eq]
  refine lt_of_lt_of_le ?_ (le_max_left _ _)
  simp [Ideal.ofBits, Ideal.ieee, -EReal.coe_mul]
  try positivity

include hf in
theorem far_real (b : Fin 2) (n : Fin 8192) (k : Fin 3) : ∃ r : ℝ, 0 < r ∧ far p s b n k = (r : EReal) := by
  have h0 := column_pos p s b n (near p s b n k)
  have h1 := hf b n (near p s b n k)
  refine ⟨(far p s b n k).toReal, ?_, (EReal.coe_toReal h1.ne (ne_bot_of_gt h0)).symm⟩
  exact EReal.toReal_pos h0 h1.ne

include hf in
theorem weight_eq (b : Fin 2) (n : Fin 8192) (k : Fin 3) :
    Cert.InterpRef.weight (Cert.KernelWords.rows p s) (ix3 b k n) = Ideal.div 1 (far p s b n k) * Ideal.div 1 (∑ j : Fin 3, Ideal.div 1 (far p s b n j)) := by
  have e : ∀ k : Fin 3, Cert.KernelWords.rows p s (ix3 b (⟨k.val, by omega⟩ : Fin 8) n) = Ideal.div 1 (far p s b n k) :=
    fun k => row_weight _ (hf b n) k
  rw [Cert.InterpRef.weight_apply]
  simp only [e]

include hf in
theorem word_eq (b : Fin 2) (n : Fin 8192) (k : Fin 3) :
    (FloatOps.fptosi 32 (Cert.KernelWords.rows p s (ix3 b (⟨3 + k.val, by omega⟩ : Fin 8) n)) : BitVec 32) = BitVec.ofNat 32 ((near p s b n k).val * 33) := by
  have e : Cert.KernelWords.rows p s (ix3 b (⟨3 + k.val, by omega⟩ : Fin 8) n) = Cert.KernelWords.wordOf (BitVec.ofNat 32 (near p s b n k).val) :=
    row_word _ (hf b n) k
  rw [e]
  exact Cert.KernelWords.word_back _

include hf in
theorem taken_eq (x : S2x1024x32.Idx → Ideal .f32) (b : Fin 2) (n : Fin 8192) (k : Fin 3) (d : Fin 32) :
    Cert.InterpRef.taken (Cert.KernelWords.rows p s) x (ix2 b (⟨k.val * 262144 + n.val * 32 + d.val, by omega⟩ : Fin 786432)) = x (ix3 b (near p s b n k) d) := by
  have hn := (near p s b n k).isLt
  have h' : ∀ (b : Fin 2) (k : Fin 3) (n : Fin 8192), (FloatOps.fptosi 32 (Cert.KernelWords.rows p s (ix3 b (⟨3 + k.val, by omega⟩ : Fin 8) n)) : BitVec 32).toNat ≤ 33760 :=
    fun b k n => by
      have := (near p s b n k).isLt
      rw [word_eq p s hf, BitVec.toNat_ofNat, Nat.mod_eq_of_lt (by omega)]
      omega
  have hl := Cert.InterpRef.line_le _ h'
  have hv : (Cert.InterpRef.line (Cert.KernelWords.rows p s) (ix2 b (⟨k.val * 262144 + n.val * 32 + d.val, by omega⟩ : Fin 786432))).toNat = (near p s b n k).val * 33 + d.val := by
    rw [Cert.InterpRef.line_apply, Cert.InterpRef.words_apply, word_eq p s hf, BitVec.toNat_add, BitVec.toNat_ofNat, BitVec.toNat_ofNat]
    omega
  rw [Cert.InterpRef.taken_apply _ x hl, ← table_at x b (near p s b n k) d (by omega)]
  exact congrArg (Cert.InterpRef.table x) (congrArg (ix2 b) (Fin.ext hv))

include hf in
/-- The two sides at an element. -/
theorem element (a : S2048x32.Idx → Ideal .f32) (ha : ∀ i, (0 : EReal) ≤ a i) (wm : S32x32.Idx → Ideal .f32) (bm : S32.Idx → Ideal .f32)
    (b : Fin 2) (n : Fin 8192) (d : Fin 32) :
    Cert.InterpRef.refOut (Cert.KernelWords.rows p s) (Cert.WholeRef.coarse (Cert.PrepRef.layer a wm bm)) (ix3 b n d)
      = Cert.WholeRef.tail a (Cert.KnnRef.dist p s) wm bm (ix3 b n d) := by
  have hr := far_real p s hf b n
  choose r hr0 hr using hr
  have hpos : ∀ b n k, (Cert.KnnRef.nearest (Cert.KnnRef.dist p s)).2 (ix3 b n k) = BitVec.ofNat 32 (near p s b n k).val :=
    fun b n k => Cert.KnnRef.nearest_pos _ b n k (round k) rfl
  have hval : ∀ k, Cert.WholeRef.weight (Cert.KnnRef.nearest (Cert.KnnRef.dist p s)).1 (ix3 b n k) = Ideal.div 1 (r k : EReal) := fun k => by
    rw [Cert.WholeRef.weight_apply, Cert.KnnRef.nearest_val _ b n k (round k) rfl, neg_neg]
    exact congrArg (Ideal.div 1) (hr k)
  have hL : Cert.InterpRef.refOut (Cert.KernelWords.rows p s) (Cert.WholeRef.coarse (Cert.PrepRef.layer a wm bm)) (ix3 b n d)
      = ∑ k : Fin 3, (∑ j : Fin 32, a (ix2 (⟨b.val * 1024 + (near p s b n k).val, by omega⟩ : Fin 2048) j) * wm (ix2 j d) + bm (ix1 d))
        * (Ideal.div 1 (r k : EReal) * Ideal.div 1 (∑ k : Fin 3, Ideal.div 1 (r k : EReal))) := by
    rw [Cert.InterpRef.refOut_sum]
    refine Finset.sum_congr rfl fun k _ => ?_
    rw [taken_eq p s hf, weight_eq p s hf, Cert.WholeRef.coarse_apply, Cert.WholeRef.prep_layer_apply]
    simp only [hr]
  have hR : Cert.WholeRef.tail a (Cert.KnnRef.dist p s) wm bm (ix3 b n d)
      = ∑ j : Fin 32, Ideal.div (∑ k : Fin 3, a (ix2 (⟨b.val * 1024 + (near p s b n k).val, by omega⟩ : Fin 2048) j) * Ideal.div 1 (r k : EReal))
          (∑ k : Fin 3, Ideal.div 1 (r k : EReal)) * wm (ix2 j d) + bm (ix1 d) := by
    unfold Cert.WholeRef.tail
    rw [Cert.WholeRef.layer_apply]
    congr 1
    refine Finset.sum_congr rfl fun j _ => ?_
    rw [Cert.WholeRef.mixed_apply]
    simp only [hval, Cert.WholeRef.taken_apply _ _ (near p s) hpos, Cert.WholeRef.coarse_apply]
  rw [hL, hR]
  exact Cert.WholeMath.mean_layer (fun k j => a (ix2 (⟨b.val * 1024 + (near p s b n k).val, by omega⟩ : Fin 2048) j)) (fun k j => ha _)
    (fun j => wm (ix2 j d)) (bm (ix1 d)) r hr0

include hf in
theorem tail_eq (a : S2048x32.Idx → Ideal .f32) (ha : ∀ i, (0 : EReal) ≤ a i) (wm : S32x32.Idx → Ideal .f32) (bm : S32.Idx → Ideal .f32) :
    Cert.InterpRef.refOut (Cert.KernelWords.rows p s) (Cert.WholeRef.coarse (Cert.PrepRef.layer a wm bm)) = Cert.WholeRef.tail a (Cert.KnnRef.dist p s) wm bm :=
  funext fun i => (congrArg (Cert.InterpRef.refOut (Cert.KernelWords.rows p s) (Cert.WholeRef.coarse (Cert.PrepRef.layer a wm bm))) (eq_ix3 i)).trans
    ((element p s hf a ha wm bm (i 0) (i 1) (i 2)).trans (congrArg (Cert.WholeRef.tail a (Cert.KnnRef.dist p s) wm bm) (eq_ix3 i)).symm)

/-- The call's result on the rows and the features: the reference of the whole. -/
theorem whole_eq (x : S2x1024x64.Idx → Ideal .f32) (ws : S64x32.Idx → Ideal .f32) (bs g be : S32.Idx → Ideal .f32) (wm : S32x32.Idx → Ideal .f32)
    (bm : S32.Idx → Ideal .f32) (hf : ∀ (b : Fin 2) (q : Fin 8192) (k : Fin 1024), Cert.KnnRef.column p s b q k < ⊤) :
    Cert.InterpIdeal.Run.result (F := Ideal) (Cert.KernelWords.rows p s) (Cert.WholeRef.coarse (Cert.PrepRun.result x ws bs g be wm bm))
      = Cert.WholeRef.refOut x p s ws bs g be wm bm := by
  rw [Cert.InterpRef.result_eq _ _ (Cert.KernelFrame.words_ok p s), Cert.PrepRun.result_eq]
  exact tail_eq p s hf _ (Cert.WholeRef.active_nonneg _ g be) wm bm

end Elements

end Cert.WholeEqual

end
-- ==== Proof.KernelValue.lean ====
/- What the whole program leaves in its result: the first call's array, the table it makes, and the SparseCore call's result. -/
module

public import proofs.«01_k».proof.Proof.KernelFrame
public import proofs.«01_k».proof.Proof.WholeEqual

@[expose] public section

set_option maxRecDepth 16384

noncomputable section

namespace Cert.KernelValue

open Cert.KernelIdeal Cert.KernelIdeal.Gen Cert.KernelIdeal.Run Idealize.ShloMosaic Idealize.ShloMosaic.TcCoe Idealize.SL.Sem
open Cert.KernelFrame

/-! ## The first call's windows: each is its whole array -/

theorem zero0 : ∀ t : Fin cfg0.N, win0_0.index t (0 : Fin 2) = 0 ∧ win0_0.index t (1 : Fin 2) = 0 := (by decide +kernel : ∀ t : Fin grid0.N, _)
theorem zero1 : ∀ t : Fin cfg0.N, win0_1.index t (0 : Fin 2) = 0 ∧ win0_1.index t (1 : Fin 2) = 0 := (by decide +kernel : ∀ t : Fin grid0.N, _)
theorem zero2 : ∀ t : Fin cfg0.N, win0_2.index t (0 : Fin 2) = 0 ∧ win0_2.index t (1 : Fin 2) = 0 := (by decide +kernel : ∀ t : Fin grid0.N, _)
theorem zero3 : ∀ t : Fin cfg0.N, win0_3.index t (0 : Fin 2) = 0 ∧ win0_3.index t (1 : Fin 2) = 0 := (by decide +kernel : ∀ t : Fin grid0.N, _)
theorem zero4 : ∀ t : Fin cfg0.N, win0_4.index t (0 : Fin 2) = 0 ∧ win0_4.index t (1 : Fin 2) = 0 := (by decide +kernel : ∀ t : Fin grid0.N, _)
theorem zero5 : ∀ t : Fin cfg0.N, win0_5.index t (0 : Fin 2) = 0 ∧ win0_5.index t (1 : Fin 2) = 0 := (by decide +kernel : ∀ t : Fin grid0.N, _)
theorem zero6 : ∀ t : Fin cfg0.N, win0_6.index t (0 : Fin 2) = 0 ∧ win0_6.index t (1 : Fin 2) = 0 := (by decide +kernel : ∀ t : Fin grid0.N, _)
theorem zero7 : ∀ t : Fin cfg0.N, win0_7.index t (0 : Fin 2) = 0 ∧ win0_7.index t (1 : Fin 2) = 0 := (by decide +kernel : ∀ t : Fin grid0.N, _)

section Blocks

variable (V : Valuation τ sig (Elt Ideal))

theorem iblk0 (c : Dev nD) (t : Fin cfg0.N) : Prep.iblk V c 0 t = V (r main_v0) := by
  obtain ⟨e0, e1⟩ := zero0 t
  funext j; show V (r main_v0) (((cfg0.win 0).blk t).view.emb j) = V (r main_v0) j
  refine congrArg _ (funext fun a => Fin.ext ?_)
  match a with
  | ⟨0, _⟩ => show win0_0.index t (0 : Fin 2) * 2048 + 1 * (j 0).val = (j 0).val; omega
  | ⟨1, _⟩ => show win0_0.index t (1 : Fin 2) * 64 + 1 * (j 1).val = (j 1).val; omega
theorem iblk1 (c : Dev nD) (t : Fin cfg0.N) : Prep.iblk V c 1 t = V (r main_arg4) := by
  obtain ⟨e0, e1⟩ := zero1 t
  funext j; show V (r main_arg4) (((cfg0.win 1).blk t).view.emb j) = V (r main_arg4) j
  refine congrArg _ (funext fun a => Fin.ext ?_)
  match a with
  | ⟨0, _⟩ => show win0_1.index t (0 : Fin 2) * 64 + 1 * (j 0).val = (j 0).val; omega
  | ⟨1, _⟩ => show win0_1.index t (1 : Fin 2) * 32 + 1 * (j 1).val = (j 1).val; omega
theorem iblk2 (c : Dev nD) (t : Fin cfg0.N) : Prep.iblk V c 2 t = V (r main_v1) := by
  obtain ⟨e0, e1⟩ := zero2 t
  funext j; show V (r main_v1) (((cfg0.win 2).blk t).view.emb j) = V (r main_v1) j
  refine congrArg _ (funext fun a => Fin.ext ?_)
  match a with
  | ⟨0, _⟩ => show win0_2.index t (0 : Fin 2) * 1 + 1 * (j 0).val = (j 0).val; omega
  | ⟨1, _⟩ => show win0_2.index t (1 : Fin 2) * 32 + 1 * (j 1).val = (j 1).val; omega
theorem iblk3 (c : Dev nD) (t : Fin cfg0.N) : Prep.iblk V c 3 t = V (r main_v2) := by
  obtain ⟨e0, e1⟩ := zero3 t
  funext j; show V (r main_v2) (((cfg0.win 3).blk t).view.emb j) = V (r main_v2) j
  refine congrArg _ (funext fun a => Fin.ext ?_)
  match a with
  | ⟨0, _⟩ => show win0_3.index t (0 : Fin 2) * 1 + 1 * (j 0).val = (j 0).val; omega
  | ⟨1, _⟩ => show win0_3.index t (1 : Fin 2) * 32 + 1 * (j 1).val = (j 1).val; omega
theorem iblk4 (c : Dev nD) (t : Fin cfg0.N) : Prep.iblk V c 4 t = V (r main_v3) := by
  obtain ⟨e0, e1⟩ := zero4 t
  funext j; show V (r main_v3) (((cfg0.win 4).blk t).view.emb j) = V (r main_v3) j
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 32 + 1 * (j 1).val = (j 1).val; omega
theorem iblk5 (c : Dev nD) (t : Fin cfg0.N) : Prep.iblk V c 5 t = V (r main_arg8) := by
  obtain ⟨e0, e1⟩ := zero5 t
  funext j; show V (r main_arg8) (((cfg0.win 5).blk t).view.emb j) = V (r main_arg8) j
  refine congrArg _ (funext fun a => Fin.ext ?_)
  match a with
  | ⟨0, _⟩ => show win0_5.index t (0 : Fin 2) * 32 + 1 * (j 0).val = (j 0).val; omega
  | ⟨1, _⟩ => show win0_5.index t (1 : Fin 2) * 32 + 1 * (j 1).val = (j 1).val; omega
theorem iblk6 (c : Dev nD) (t : Fin cfg0.N) : Prep.iblk V c 6 t = V (r main_v4) := by
  obtain ⟨e0, e1⟩ := zero6 t
  funext j; show V (r main_v4) (((cfg0.win 6).blk t).view.emb j) = V (r main_v4) j
  refine congrArg _ (funext fun a => Fin.ext ?_)
  match a with
  | ⟨0, _⟩ => show win0_6.index t (0 : Fin 2) * 1 + 1 * (j 0).val = (j 0).val; omega
  | ⟨1, _⟩ => show win0_6.index t (1 : Fin 2) * 32 + 1 * (j 1).val = (j 1).val; omega

theorem emb7 (t : Fin cfg0.N) (j : S2048x32.Idx) : ((cfg0.win 7).blk t).view.emb j = j := by
  obtain ⟨e0, e1⟩ := zero7 t
  funext a; apply Fin.ext
  match a with
  | ⟨0, _⟩ => show win0_7.index t (0 : Fin 2) * 2048 + 1 * (j 0).val = (j 0).val; omega
  | ⟨1, _⟩ => show win0_7.index t (1 : Fin 2) * 32 + 1 * (j 1).val = (j 1).val; omega

theorem out_eq (P0 : Vec Ideal S2048x64 .f32) (P1 : Vec Ideal S64x32 .f32) (P2 P3 P4 : Vec Ideal S1x32 .f32) (P5 : Vec Ideal S32x32 .f32) (P6 : Vec Ideal S1x32 .f32) :
    Prep.out P0 P1 P2 P3 P4 P5 P6 = k0_pay1 (k0_pay2 P0 P1 P2 P3 P4 P5) P6 := by
  have hz : (![0, 0] : Fin 2 → Nat) = fun _ => 0 := funext fun a => by fin_cases a <;> rfl
  unfold Prep.out
  rw [View.canon_unit_zero hz]
  simp only [View.ld_unit_zero (S := S2048x64) hz, View.ld_unit_zero (S := S64x32) hz, View.ld_unit_zero (S := S1x32) hz, View.ld_unit_zero (S := S32x32) hz]

/-- What the call leaves, of the arrays it finds. -/
abbrev found : S2048x32.Idx → Ideal .f32 :=
  k0_pay1 (F := Ideal) (k0_pay2 (V (r main_v0)) (V (r main_arg4)) (V (r main_v1)) (V (r main_v2)) (V (r main_v3)) (V (r main_arg8))) (V (r main_v4))

theorem flushed7_eq (c : Dev nD) (t : Fin cfg0.N) :
    (Prep.dat V c).flushed 7 t = ((cfg0.win 7).blk t).view.read (Elt Ideal) (found V) := by
  have hf : (Prep.dat V c).flushed 7 t
      = (cfg0.win 7).cut (grid0.coords t) (Prep.out (Prep.iblk V c 0 t) (Prep.iblk V c 1 t) (Prep.iblk V c 2 t) (Prep.iblk V c 3 t) (Prep.iblk V c 4 t) (Prep.iblk V c 5 t) (Prep.iblk V c 6 t)) := by
    rw [← Prep.after7]
  rw [hf, out_eq, iblk0, iblk1, iblk2, iblk3, iblk4, iblk5, iblk6]
  funext j
  exact (congrArg (found V) (emb7 t j)).symm

theorem covered7 (i : S2048x32.Idx) : ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩

theorem final7 (c : Dev nD) : (Prep.dat V c).arrAt 7 cfg0.N = found V :=
  (Prep.dat V c).arrAt_eq_of_cover 7 (found V) (fun t _ => flushed7_eq V c t) covered7

end Blocks

variable (m : (ℓ : Loc nD τ sig) → Buf (Elt Ideal) ℓ)

/-- What the first call finds. -/
theorem V1_v0 (d : Dev nD) : V1 m d (r main_v0) = shapeCast S2048x64 (V0 m d (r main_arg1)) shapeCasts_S2x1024x64_S2048x64 := by
  unfold V1
  after_results
  try rfl
theorem V1_v1 (d : Dev nD) : V1 m d (r main_v1) = shapeCast S1x32 (V0 m d (r main_arg5)) shapeCasts_S32_S1x32 := by
  unfold V1
  after_results
  try rfl
theorem V1_v2 (d : Dev nD) : V1 m d (r main_v2) = shapeCast S1x32 (V0 m d (r main_arg6)) shapeCasts_S32_S1x32 := by
  unfold V1
  after_results
  try rfl
theorem V1_v3 (d : Dev nD) : V1 m d (r main_v3) = shapeCast S1x32 (V0 m d (r main_arg7)) shapeCasts_S32_S1x32 := by
  unfold V1
  after_results
  try rfl
theorem V1_v4 (d : Dev nD) : V1 m d (r main_v4) = shapeCast S1x32 (V0 m d (r main_arg9)) shapeCasts_S32_S1x32 := by
  unfold V1
  after_results
  try rfl

/-- The first call's result, of the arguments. -/
theorem V2_z (d : Dev nD) : V2 m d (r main_v5)
    = Cert.PrepRun.result (F := Ideal) (V0 m d (r main_arg1)) (V0 m d (r main_arg4)) (V0 m d (r main_arg5)) (V0 m d (r main_arg6)) (V0 m d (r main_arg7))
      (V0 m d (r main_arg8)) (V0 m d (r main_arg9)) := by
  have h : V2 m d (r main_v5) = (Prep.dat (V1 m d) d).arrAt 7 cfg0.N :=
    Pipeline.afterRegion_arr (Prep.dat (V1 m d) d) (V1 m d) launch0.win.arr_inj 7
  rw [h, final7]
  unfold found
  rw [V1_v0, V1_v1, V1_v2, V1_v3, V1_v4, V1_keeps m d (b := main_arg4) (by decide), V1_keeps m d (b := main_arg8) (by decide)]
  rfl

/-- The table the SparseCore call reads. -/
theorem zF_eq (d : Dev nD) : zF m d = Cert.InterpIdeal.Run.flat (F := Ideal) (Cert.WholeRef.coarse (V2 m d (r main_v5))) := by
  have h : zF m d = Cert.InterpIdeal.Run.flat (F := Ideal) (Cert.WholeRef.coarse (V4 m d (r main_v5))) := by
    unfold zF V5
    after_results
    try rfl
  rw [h, V4_keeps m d (b := main_v5) (by decide), V3_keeps m d (b := main_v5) (by decide)]

/-- The result of the whole, of the arguments. -/
theorem V7_out (d : Dev nD) : V7 m d (r main_v12)
    = Cert.InterpIdeal.Run.result (F := Ideal) (Cert.KernelWords.rows (V0 m d (r main_arg2)) (V0 m d (r main_arg3)))
      (Cert.WholeRef.coarse (Cert.PrepRun.result (F := Ideal) (V0 m d (r main_arg1)) (V0 m d (r main_arg4)) (V0 m d (r main_arg5)) (V0 m d (r main_arg6)) (V0 m d (r main_arg7))
        (V0 m d (r main_arg8)) (V0 m d (r main_arg9)))) := by
  have h : V7 m d (r main_v12) = transpose S2x8192x32 [0, 2, 1] (V6 m d (r main_v11)) transposes_S2x32x8192_S2x8192x32_0_2_1 := by
    unfold V7
    after_results
    try rfl
  rw [h, V6_o, wF_eq, zF_eq, V2_z]
  rfl

/-- Finite coordinates make it the reference's. -/
theorem out_ref (d : Dev nD) (hf : ∀ (b : Fin 2) (q : Fin 8192) (k : Fin 1024), Cert.KnnRef.column (V0 m d (r main_arg2)) (V0 m d (r main_arg3)) b q k < ⊤) :
    V7 m d (r main_v12) = Cert.WholeRef.refOut (V0 m d (r main_arg1)) (V0 m d (r main_arg2)) (V0 m d (r main_arg3)) (V0 m d (r main_arg4)) (V0 m d (r main_arg5))
      (V0 m d (r main_arg6)) (V0 m d (r main_arg7)) (V0 m d (r main_arg8)) (V0 m d (r main_arg9)) :=
  (V7_out m d).trans (Cert.WholeEqual.whole_eq _ _ _ _ _ _ _ _ _ hf)

end Cert.KernelValue

end
-- ==== Proof.KernelPre.lean ====
/- What the precondition on the whole says of the coordinates: each is a real number. -/
module

public import proofs.«01_k».proof.Pre_positions_finite
public import proofs.«01_k».proof.Proof.Gen.Pre_positions_finite
public import proofs.«01_k».proof.Proof.KnnPre

@[expose] public section

noncomputable section

namespace Cert.KernelPre

open Idealize.ShloMosaic Cert.Pre_positions_finite

instance : Subsingleton S_.Idx := ⟨fun a b => funext fun x => x.elim0⟩

variable (a0 : FVec Ideal S2x8192x32 .f32) (a1 : FVec Ideal S2x1024x64 .f32) (p : FVec Ideal S2x8192x3 .f32) (s : FVec Ideal S2x1024x3 .f32)
variable (a4 : FVec Ideal S64x32 .f32) (a5 a6 a7 : FVec Ideal S32 .f32) (a8 : FVec Ideal S32x32 .f32) (a9 : FVec Ideal S32 .f32)
variable (h : Cert.Pre_positions_finite.fn (F := Ideal) a0 a1 p s a4 a5 a6 a7 a8 a9 = fun _ => 1#1)
include h

theorem real2 : ∀ i, ∃ r : ℝ, p i = (r : EReal) := fun i =>
  Cert.KnnPre.real_of_word _ (Host.reduce_andi_all _ _ _ _ (fun x => x.elim0) (IntOp.andi_eq_one.1 (congrFun h (fun x => x.elim0))).1 i)

theorem real3 : ∀ i, ∃ r : ℝ, s i = (r : EReal) := fun i =>
  Cert.KnnPre.real_of_word _ (Host.reduce_andi_all _ _ _ _ (fun x => x.elim0) (IntOp.andi_eq_one.1 (congrFun h (fun x => x.elim0))).2 i)

end Cert.KernelPre

end
-- ==== Proof.lean ====
module

public import proofs.«01_k».proof.Defs
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_positions_finite
public import proofs.«01_k».proof.Proof.Gen.Interp
public import proofs.«01_k».proof.Proof.Gen.InterpIdeal
public import proofs.«01_k».proof.Proof.Gen.InterpReferenceIdeal
public import proofs.«01_k».proof.Proof.Gen.InterpReferenceIdeal.Run
public import proofs.«01_k».proof.Proof.Gen.Pre_first_words_in_table
public import proofs.«01_k».proof.Proof.Gen.Prep
public import proofs.«01_k».proof.Proof.Gen.PrepIdeal
public import proofs.«01_k».proof.Proof.Gen.PrepReferenceIdeal
public import proofs.«01_k».proof.Proof.Gen.Prep.Frame
public import proofs.«01_k».proof.Proof.Gen.PrepIdeal.Value
public import proofs.«01_k».proof.Proof.Gen.PrepReferenceIdeal.Run
public import proofs.«01_k».proof.Proof.Gen.Knn
public import proofs.«01_k».proof.Proof.Gen.KnnIdeal
public import proofs.«01_k».proof.Proof.Gen.KnnReferenceIdeal
public import proofs.«01_k».proof.Proof.Gen.Knn.Frame
public import proofs.«01_k».proof.Proof.Gen.KnnIdeal.Value
public import proofs.«01_k».proof.Proof.Gen.KnnReferenceIdeal.Run
public import proofs.«01_k».proof.Proof.Gen.Pre_finite
public import proofs.«01_k».proof.Proof.InterpRun
public import proofs.«01_k».proof.Proof.InterpIdealRun
public import proofs.«01_k».proof.Proof.InterpPre
public import proofs.«01_k».proof.Proof.InterpEqual
public import proofs.«01_k».proof.Proof.PrepRun
public import proofs.«01_k».proof.Proof.KnnRun
public import proofs.«01_k».proof.Proof.KnnPre
public import proofs.«01_k».proof.Proof.KernelFrame
public import proofs.«01_k».proof.Proof.KernelValue
public import proofs.«01_k».proof.Proof.KernelPre
public import proofs.«01_k».proof.Proof.WholeRef
public import Idealize.ShloMosaic.Adequacy
public import Idealize.ShloMosaic.Init

@[expose] public section

noncomputable section

namespace Cert.Proof

open Idealize.ShloMosaic Idealize.SL.Sem

/-- The call runs from any memory under the precondition, its arguments unchanged, every counter back at zero. -/
theorem frame_p : Cert.quiescent_Interp := fun m ρ hpre =>
  (θ_run Cert.Interp.defs _ _).mono (fun _ h => ⟨fun c => ⟨(h.1 c).1, (h.1 c).2.1⟩, h.2⟩)
    (Cert.Interp.Run.run_main (F := Bits) m ρ (fun d => Cert.InterpPre.word_le _ _ (hpre d)))

/-- The same for the idealized call. -/
theorem frame_pi : Cert.quiescent_InterpIdeal := fun m ρ hpre =>
  (θ_run Cert.InterpIdeal.defs _ _).mono (fun _ h => ⟨fun c => ⟨(h.1 c).1, (h.1 c).2.1⟩, h.2⟩)
    (Cert.InterpIdeal.Run.run_main (F := Ideal) m ρ (fun d => Cert.InterpPre.word_le _ _ (hpre d)))

/-- The reference runs, its arguments unchanged; it declares no semaphore. -/
theorem frame_ri : Cert.quiescent_InterpReferenceIdeal := fun m ρ _ =>
  (θ_run Cert.InterpReferenceIdeal.defs _ _).mono
    (fun r h => ⟨fun c => (h c).2, Idealize.ShloMosaic.sem_eq_zero_of_no_sems (by decide) r.2⟩)
    (Cert.InterpReferenceIdeal.Value.run (F := Ideal) m ρ)

/-- The idealized call ends with its result and its arguments unchanged. -/
theorem run_pi (m : (ℓ : Loc Cert.InterpIdeal.nD Cert.InterpIdeal.τ Cert.InterpIdeal.sig) → Buf (Elt Ideal) ℓ) (ρ : Dev Cert.InterpIdeal.nD → PrngReg)
    (hw : ∀ d, Cert.InterpIdeal.Tile.WordsOk (F := Ideal) (m (Cert.InterpIdeal.Tile.wLoc d))) :
    θ_run (Cert.InterpIdeal.defs (F := Ideal)) (Cert.InterpIdeal.threads (F := Ideal)) ⟨m, fun _ => 0, ρ⟩ (fun r => ∀ c : Dev Cert.InterpIdeal.nD,
      r.2.mem (Cert.InterpIdeal.Run.rLoc c) = Cert.InterpIdeal.Run.result (F := Ideal) (m (Cert.InterpIdeal.Tile.wLoc c)) (m (Cert.InterpIdeal.Run.aLoc c))
      ∧ r.2.mem (Cert.InterpIdeal.Tile.wLoc c) = m (Cert.InterpIdeal.Tile.wLoc c)
      ∧ r.2.mem (Cert.InterpIdeal.Run.aLoc c) = m (Cert.InterpIdeal.Run.aLoc c)) :=
  (θ_run Cert.InterpIdeal.defs _ _).mono (fun _ h c => ⟨(h.1 c).2.2, (h.1 c).1, (h.1 c).2.1⟩) (Cert.InterpIdeal.Run.run_main (F := Ideal) m ρ hw)

/-- From equal arguments the reference's result is the call's. -/
theorem res_eq (m' : (ℓ : Loc Cert.InterpReferenceIdeal.nD Cert.InterpReferenceIdeal.τ Cert.InterpReferenceIdeal.sig) → Buf (Elt Ideal) ℓ)
    (c : Dev Cert.InterpReferenceIdeal.nD)
    (w : Cert.InterpReferenceIdeal.S2x8x8192.Idx → Ideal .f32) (x : Cert.InterpReferenceIdeal.S2x1024x32.Idx → Ideal .f32)
    (hw : Cert.InterpIdeal.Tile.WordsOk w)
    (e0 : m' ((c.tc : Thread Cert.InterpReferenceIdeal.nD Cert.InterpReferenceIdeal.τ).loc Cert.InterpReferenceIdeal.main_arg0) = w)
    (e1 : m' ((c.tc : Thread Cert.InterpReferenceIdeal.nD Cert.InterpReferenceIdeal.τ).loc Cert.InterpReferenceIdeal.main_arg1) = x) :
    Cert.InterpReferenceIdeal.Value.res_main_v23 m' c = Cert.InterpIdeal.Run.result w x :=
  (Cert.InterpRef.res_eq m' c).trans ((congrArg₂ Cert.InterpRef.refOut e0 e1).trans (Cert.InterpRef.result_eq w x hw).symm)

/-- The call's result and the reference's are equal. -/
theorem algebraic : Cert.algebraic_InterpIdeal_InterpReferenceIdeal := fun m ρ m' ρ' hpre hagree =>
  have hw : ∀ d, Cert.InterpIdeal.Tile.WordsOk (F := Ideal) (m (Cert.InterpIdeal.Tile.wLoc d)) := fun d => Cert.InterpPre.word_le _ _ (hpre d)
  ⟨fun c => Cert.InterpIdeal.Run.result (F := Ideal) (m (Cert.InterpIdeal.Tile.wLoc c)) (m (Cert.InterpIdeal.Run.aLoc c)), run_pi m ρ hw,
    (θ_run Cert.InterpReferenceIdeal.defs _ _).mono (fun _ h c => ⟨(h c).1.trans (res_eq m' c _ _ (hw c) (hagree c).1 (hagree c).2), (h c).2⟩)
      (Cert.InterpReferenceIdeal.Value.run (F := Ideal) m' ρ')⟩

/-- The preparing call runs, its arguments unchanged, every counter back at zero. -/
theorem frame_prep : Cert.quiescent_Prep := fun m ρ _ => Cert.Prep.Gen.frame m ρ

theorem frame_prep_ideal : Cert.quiescent_PrepIdeal := fun m ρ _ => Cert.PrepIdeal.Gen.frame m ρ

theorem frame_prep_ref : Cert.quiescent_PrepReferenceIdeal := fun m ρ _ =>
  (θ_run Cert.PrepReferenceIdeal.defs _ _).mono
    (fun r h => ⟨fun c => (h c).2, Idealize.ShloMosaic.sem_eq_zero_of_no_sems (by decide) r.2⟩)
    (Cert.PrepReferenceIdeal.Value.run (F := Ideal) m ρ)

/-- From equal arguments the preparing reference's result is the call's. -/
theorem prep_res_eq (m : (ℓ : Loc Cert.PrepIdeal.nD Cert.PrepIdeal.τ Cert.PrepIdeal.sig) → Buf (Elt Ideal) ℓ)
    (m' : (ℓ : Loc Cert.PrepReferenceIdeal.nD Cert.PrepReferenceIdeal.τ Cert.PrepReferenceIdeal.sig) → Buf (Elt Ideal) ℓ)
    (c : Dev Cert.PrepReferenceIdeal.nD)
    (e0 : m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0))
    (e1 : m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1))
    (e2 : m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2))
    (e3 : m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3))
    (e4 : m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4))
    (e5 : m' ((c.tc : Thread Cert.PrepReferenceIdeal.nD Cert.PrepReferenceIdeal.τ).loc Cert.PrepReferenceIdeal.main_arg5) = m ((c.tc : Thread Cert.PrepIdeal.nD Cert.PrepIdeal.τ).loc Cert.PrepIdeal.main_arg5))
    (e6 : m' ((c.tc : Thread Cert.PrepReferenceIdeal.nD Cert.PrepReferenceIdeal.τ).loc Cert.PrepReferenceIdeal.main_arg6) = m ((c.tc : Thread Cert.PrepIdeal.nD Cert.PrepIdeal.τ).loc Cert.PrepIdeal.main_arg6)) :
    Cert.PrepReferenceIdeal.Value.res_main_v29 m' c = Cert.PrepRun.resultAt (F := Ideal) m c := by
  rw [Cert.PrepRef.res_eq, e0, e1, e2, e3, e4, e5, e6]
  exact (Cert.PrepRun.result_eq _ _ _ _ _ _ _).symm

/-- The preparing call's result and its reference's are equal. -/
theorem algebraic_prep : Cert.algebraic_PrepIdeal_PrepReferenceIdeal := fun m ρ m' ρ' _ hagree =>
  ⟨fun c => Cert.PrepRun.resultAt (F := Ideal) m c,
    (θ_run Cert.PrepIdeal.defs _ _).mono (fun _ h c => ⟨(h c).1.trans (Cert.PrepRun.final7 (F := Ideal) m c), (h c).2⟩)
      (Cert.PrepIdeal.Value.run_blocks (F := Ideal) m ρ),
    (θ_run Cert.PrepReferenceIdeal.defs _ _).mono
      (fun _ h c => ⟨(h c).1.trans (prep_res_eq m m' c (hagree c).1 (hagree c).2.1 (hagree c).2.2.1 (hagree c).2.2.2.1 (hagree c).2.2.2.2.1
        (hagree c).2.2.2.2.2.1 (hagree c).2.2.2.2.2.2), (h c).2⟩)
      (Cert.PrepReferenceIdeal.Value.run (F := Ideal) m' ρ')⟩

/-- The nearest-neighbour call runs, its arguments unchanged, every counter back at zero. -/
theorem frame_knn : Cert.quiescent_Knn := fun m ρ _ => Cert.Knn.Gen.frame m ρ

theorem frame_knn_ideal : Cert.quiescent_KnnIdeal := fun m ρ _ => Cert.KnnIdeal.Gen.frame m ρ

theorem frame_knn_ideal_finite : Cert.quiescent_KnnIdeal_pre_finite := fun m ρ _ => Cert.KnnIdeal.Gen.frame m ρ

theorem frame_knn_ref : Cert.quiescent_KnnReferenceIdeal := fun m ρ _ =>
  (θ_run Cert.KnnReferenceIdeal.defs _ _).mono
    (fun r h => ⟨fun c => (h c).2, Idealize.ShloMosaic.sem_eq_zero_of_no_sems (by decide) r.2⟩)
    (Cert.KnnReferenceIdeal.Value.run (F := Ideal) m ρ)

theorem frame_knn_ref_finite : Cert.quiescent_KnnReferenceIdeal_pre_finite := fun m ρ _ => frame_knn_ref m ρ trivial

/-- The precondition makes every distance finite. -/
theorem knn_finite (m : (ℓ : Loc Cert.KnnIdeal.nD Cert.KnnIdeal.τ Cert.KnnIdeal.sig) → Buf (Elt Ideal) ℓ)
    (hpre : Cert.Pre_KnnIdeal_finite m) (c : Dev Cert.KnnIdeal.nD) : Cert.KnnRun.Finite m c := fun b q k =>
  Cert.KnnRef.column_lt_top _ _ (Cert.KnnPre.real0 _ _ (hpre c)) (Cert.KnnPre.real1 _ _ (hpre c)) b q k

/-- The nearest-neighbour call's result and its reference's are equal. -/
theorem algebraic_knn : Cert.algebraic_KnnIdeal_KnnReferenceIdeal_pre_finite := fun m ρ m' ρ' hpre hagree =>
  ⟨fun c => Cert.KnnRun.resultAt m c,
    (θ_run Cert.KnnIdeal.defs _ _).mono (fun _ h c => ⟨(h c).1.trans (Cert.KnnRun.final2 m c (knn_finite m hpre c)), (h c).2⟩)
      (Cert.KnnIdeal.Value.run_blocks (F := Ideal) m ρ),
    (θ_run Cert.KnnReferenceIdeal.defs _ _).mono
      (fun _ h c => ⟨(h c).1.trans (congrArg₂ Cert.KnnRef.refOut (hagree c).1 (hagree c).2), (h c).2⟩)
      (Cert.KnnReferenceIdeal.Value.run (F := Ideal) m' ρ')⟩

/-- The whole kernel, idealized, runs from any memory, its arguments unchanged, every counter back at zero. -/
theorem frame_whole : Cert.quiescent_KernelIdeal := fun m ρ _ =>
  (θ_run Cert.KernelIdeal.defs _ _).mono (fun _ h => ⟨fun c => Cert.KernelFrame.args m h c, h.2⟩) (Cert.KernelFrame.run m ρ)

theorem frame_whole_finite : Cert.quiescent_KernelIdeal_pre_positions_finite := fun m ρ _ => frame_whole m ρ trivial

theorem frame_whole_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_whole_ref_finite : Cert.quiescent_ReferenceIdeal_pre_positions_finite := fun m ρ _ => frame_whole_ref m ρ trivial

/-- The reference's result of the kernel's arguments. -/
def wholeOut (m : (ℓ : Loc Cert.KernelIdeal.nD Cert.KernelIdeal.τ Cert.KernelIdeal.sig) → Buf (Elt Ideal) ℓ) (c : Dev Cert.KernelIdeal.nD) :
    Cert.KernelIdeal.S2x8192x32.Idx → Ideal .f32 :=
  Cert.WholeRef.refOut
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))

/-- From equal arguments the reference's result is that function of the kernel's. -/
theorem whole_res_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.ReferenceIdeal.nD)
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v62 m' c = wholeOut m c := by
  rw [Cert.WholeRef.res_eq, e1, e2, e3, e4, e5, e6, e7, e8, e9]
  rfl

/-- Finite coordinates make the kernel's result that function of its arguments. -/
theorem whole_out (m : (ℓ : Loc Cert.KernelIdeal.nD Cert.KernelIdeal.τ Cert.KernelIdeal.sig) → Buf (Elt Ideal) ℓ)
    (hpre : Cert.Pre_KernelIdeal_positions_finite m) {R : PUnit × MemSt Cert.KernelIdeal.nD Cert.KernelIdeal.τ Cert.KernelIdeal.sig (Elt Ideal)}
    (h : Cert.KernelIdeal.Run.QC m R) (c : Dev Cert.KernelIdeal.nD) :
    R.2.mem ((c.tc : Thread Cert.KernelIdeal.nD Cert.KernelIdeal.τ).loc Cert.KernelIdeal.main_v12) = wholeOut m c :=
  (h.1 c (Cert.KernelIdeal.Run.r Cert.KernelIdeal.main_v12) (Finset.mem_filter.mpr ⟨StableHlo.devRef_mem_tcRefs _, by decide⟩)).trans
    (Cert.KernelValue.out_ref m c fun b q k =>
      Cert.KnnRef.column_lt_top _ _ (Cert.KernelPre.real2 _ _ _ _ _ _ _ _ _ _ (hpre c)) (Cert.KernelPre.real3 _ _ _ _ _ _ _ _ _ _ (hpre c)) b q k)

/-- The whole kernel's result and the reference's are equal. -/
theorem algebraic_whole : Cert.algebraic_KernelIdeal_ReferenceIdeal_pre_positions_finite := fun m ρ m' ρ' hpre hagree =>
  ⟨fun c => wholeOut m c,
    (θ_run Cert.KernelIdeal.defs _ _).mono (fun _ h c => ⟨whole_out m hpre h c, Cert.KernelFrame.args m h c⟩) (Cert.KernelFrame.run m ρ),
    (θ_run Cert.ReferenceIdeal.defs _ _).mono
      (fun _ h c => ⟨(h c).1.trans (whole_res_eq m m' c (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2), (h c).2⟩)
      (Cert.ReferenceIdeal.Value.run (F := Ideal) m' ρ')⟩

theorem claim : Cert.Claim :=
  ⟨Cert.KernelIdeal.Gen.facts, Cert.ReferenceIdeal.Gen.facts, Cert.Interp.Gen.facts, Cert.InterpIdeal.Gen.facts, Cert.InterpReferenceIdeal.Gen.facts, Cert.Prep.Gen.facts, Cert.PrepIdeal.Gen.facts,
    Cert.PrepReferenceIdeal.Gen.facts, Cert.Knn.Gen.facts, Cert.KnnIdeal.Gen.facts, Cert.KnnReferenceIdeal.Gen.facts,
    Cert.Pre_positions_finite.Gen.facts, Cert.Pre_first_words_in_table.Gen.facts, Cert.Pre_finite.Gen.facts,
    frame_whole, frame_whole_finite, frame_whole_ref, frame_whole_ref_finite, frame_p, frame_pi, frame_ri, frame_prep, frame_prep_ideal, frame_prep_ref, frame_knn, frame_knn_ideal, frame_knn_ideal_finite,
    frame_knn_ref, frame_knn_ref_finite, algebraic_whole, trivial, algebraic, trivial, algebraic_prep, trivial, algebraic_knn⟩

end Cert.Proof

end
